-- ==== Defs.lean ====
def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_scores [hPre_finite_scores : Cert.Pre_finite_scores.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_scores.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_scores [hPre_finite_scores : Cert.Pre_finite_scores.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_scores.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InSampleKernel (m : (ℓ : Loc Cert.InSampleKernel.nD Cert.InSampleKernel.τ Cert.InSampleKernel.sig) → Buf (Elt Bits) ℓ) : Prop :=
  True

def Pre_InSampleKernelIdeal (m : (ℓ : Loc Cert.InSampleKernelIdeal.nD Cert.InSampleKernelIdeal.τ Cert.InSampleKernelIdeal.sig) → Buf (Elt Ideal) ℓ) : Prop :=
  True

def Pre_InSampleReferenceIdeal (m : (ℓ : Loc Cert.InSampleReferenceIdeal.nD Cert.InSampleReferenceIdeal.τ Cert.InSampleReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_QueryKernel (m : (ℓ : Loc Cert.QueryKernel.nD Cert.QueryKernel.τ Cert.QueryKernel.sig) → Buf (Elt Bits) ℓ) : Prop :=
  True

def Pre_QueryKernelIdeal (m : (ℓ : Loc Cert.QueryKernelIdeal.nD Cert.QueryKernelIdeal.τ Cert.QueryKernelIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_ConvSampleKernel (m : (ℓ : Loc Cert.ConvSampleKernel.nD Cert.ConvSampleKernel.τ Cert.ConvSampleKernel.sig) → Buf (Elt Bits) ℓ) : Prop :=
  True

def Pre_ConvSampleKernelIdeal (m : (ℓ : Loc Cert.ConvSampleKernelIdeal.nD Cert.ConvSampleKernelIdeal.τ Cert.ConvSampleKernelIdeal.sig) → Buf (Elt Ideal) ℓ) : Prop :=
  True

def Pre_ConvSampleReferenceIdeal (m : (ℓ : Loc Cert.ConvSampleReferenceIdeal.nD Cert.ConvSampleReferenceIdeal.τ Cert.ConvSampleReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_AttnSampleKernel (m : (ℓ : Loc Cert.AttnSampleKernel.nD Cert.AttnSampleKernel.τ Cert.AttnSampleKernel.sig) → Buf (Elt Bits) ℓ) : Prop :=
  True

def Pre_AttnSampleKernelIdeal (m : (ℓ : Loc Cert.AttnSampleKernelIdeal.nD Cert.AttnSampleKernelIdeal.τ Cert.AttnSampleKernelIdeal.sig) → Buf (Elt Ideal) ℓ) : Prop :=
  True

def Pre_AttnSampleKernelIdeal_finite_sample_scores [hPre_finite_sample_scores : Cert.Pre_finite_sample_scores.Facts] (m : (ℓ : Loc Cert.AttnSampleKernelIdeal.nD Cert.AttnSampleKernelIdeal.τ Cert.AttnSampleKernelIdeal.sig) → Buf (Elt Ideal) ℓ) : Prop :=
  ∀ c : Dev Cert.AttnSampleKernelIdeal.nD,
    (Cert.Pre_finite_sample_scores.fn (F := Ideal) (m ((c.tc : Thread Cert.AttnSampleKernelIdeal.nD Cert.AttnSampleKernelIdeal.τ).loc Cert.AttnSampleKernelIdeal.main_arg0)) (m ((c.tc : Thread Cert.AttnSampleKernelIdeal.nD Cert.AttnSampleKernelIdeal.τ).loc Cert.AttnSampleKernelIdeal.main_arg1)) (m ((c.tc : Thread Cert.AttnSampleKernelIdeal.nD Cert.AttnSampleKernelIdeal.τ).loc Cert.AttnSampleKernelIdeal.main_arg2)) (m ((c.tc : Thread Cert.AttnSampleKernelIdeal.nD Cert.AttnSampleKernelIdeal.τ).loc Cert.AttnSampleKernelIdeal.main_arg3))) = (fun _ => 1#1)

def Pre_AttnSampleReferenceIdeal (m : (ℓ : Loc Cert.AttnSampleReferenceIdeal.nD Cert.AttnSampleReferenceIdeal.τ Cert.AttnSampleReferenceIdeal.sig) → Buf (Elt Ideal) ℓ) : Prop :=
  True

def Pre_AttnSampleReferenceIdeal_finite_sample_scores [hPre_finite_sample_scores : Cert.Pre_finite_sample_scores.Facts] (m : (ℓ : Loc Cert.AttnSampleReferenceIdeal.nD Cert.AttnSampleReferenceIdeal.τ Cert.AttnSampleReferenceIdeal.sig) → Buf (Elt Ideal) ℓ) : Prop :=
  ∀ c : Dev Cert.AttnSampleReferenceIdeal.nD,
    (Cert.Pre_finite_sample_scores.fn (F := Ideal) (m ((c.tc : Thread Cert.AttnSampleReferenceIdeal.nD Cert.AttnSampleReferenceIdeal.τ).loc Cert.AttnSampleReferenceIdeal.main_arg0)) (m ((c.tc : Thread Cert.AttnSampleReferenceIdeal.nD Cert.AttnSampleReferenceIdeal.τ).loc Cert.AttnSampleReferenceIdeal.main_arg1)) (m ((c.tc : Thread Cert.AttnSampleReferenceIdeal.nD Cert.AttnSampleReferenceIdeal.τ).loc Cert.AttnSampleReferenceIdeal.main_arg2)) (m ((c.tc : Thread Cert.AttnSampleReferenceIdeal.nD Cert.AttnSampleReferenceIdeal.τ).loc Cert.AttnSampleReferenceIdeal.main_arg3))) = (fun _ => 1#1)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnKernelIdeal_pre_finite_scores [hAttnKernelIdeal : Cert.AttnKernelIdeal.Facts] [hPre_finite_scores : Cert.Pre_finite_scores.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_scores m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_AttnReferenceIdeal_pre_finite_scores [hAttnReferenceIdeal : Cert.AttnReferenceIdeal.Facts] [hPre_finite_scores : Cert.Pre_finite_scores.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_scores m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_InSampleKernel [hInSampleKernel : Cert.InSampleKernel.Facts] : Prop :=
  ∀ (m : (ℓ : Loc Cert.InSampleKernel.nD Cert.InSampleKernel.τ Cert.InSampleKernel.sig) → Buf (Elt Bits) ℓ) (g : Dev Cert.InSampleKernel.nD → PrngReg), Pre_InSampleKernel m →
    θ_run (Cert.InSampleKernel.defs (F := Bits)) (onTc (τ := Cert.InSampleKernel.τ) (Cert.InSampleKernel.main (F := Bits))) ⟨m, fun _ => 0, g⟩ (fun r => (∀ c : Dev Cert.InSampleKernel.nD,
      r.2.mem ((c.tc : Thread Cert.InSampleKernel.nD Cert.InSampleKernel.τ).loc Cert.InSampleKernel.main_arg0) = m ((c.tc : Thread Cert.InSampleKernel.nD Cert.InSampleKernel.τ).loc Cert.InSampleKernel.main_arg0)
      ∧ r.2.mem ((c.tc : Thread Cert.InSampleKernel.nD Cert.InSampleKernel.τ).loc Cert.InSampleKernel.main_arg1) = m ((c.tc : Thread Cert.InSampleKernel.nD Cert.InSampleKernel.τ).loc Cert.InSampleKernel.main_arg1)
      ∧ r.2.mem ((c.tc : Thread Cert.InSampleKernel.nD Cert.InSampleKernel.τ).loc Cert.InSampleKernel.main_arg2) = m ((c.tc : Thread Cert.InSampleKernel.nD Cert.InSampleKernel.τ).loc Cert.InSampleKernel.main_arg2)
      ∧ r.2.mem ((c.tc : Thread Cert.InSampleKernel.nD Cert.InSampleKernel.τ).loc Cert.InSampleKernel.main_arg3) = m ((c.tc : Thread Cert.InSampleKernel.nD Cert.InSampleKernel.τ).loc Cert.InSampleKernel.main_arg3))
      ∧ r.2.sem = fun _ => 0)

def quiescent_InSampleKernelIdeal [hInSampleKernelIdeal : Cert.InSampleKernelIdeal.Facts] : Prop :=
  ∀ (m : (ℓ : Loc Cert.InSampleKernelIdeal.nD Cert.InSampleKernelIdeal.τ Cert.InSampleKernelIdeal.sig) → Buf (Elt Ideal) ℓ) (g : Dev Cert.InSampleKernelIdeal.nD → PrngReg), Pre_InSampleKernelIdeal m →
    θ_run (Cert.InSampleKernelIdeal.defs (F := Ideal)) (onTc (τ := Cert.InSampleKernelIdeal.τ) (Cert.InSampleKernelIdeal.main (F := Ideal))) ⟨m, fun _ => 0, g⟩ (fun r => (∀ c : Dev Cert.InSampleKernelIdeal.nD,
      r.2.mem ((c.tc : Thread Cert.InSampleKernelIdeal.nD Cert.InSampleKernelIdeal.τ).loc Cert.InSampleKernelIdeal.main_arg0) = m ((c.tc : Thread Cert.InSampleKernelIdeal.nD Cert.InSampleKernelIdeal.τ).loc Cert.InSampleKernelIdeal.main_arg0)
      ∧ r.2.mem ((c.tc : Thread Cert.InSampleKernelIdeal.nD Cert.InSampleKernelIdeal.τ).loc Cert.InSampleKernelIdeal.main_arg1) = m ((c.tc : Thread Cert.InSampleKernelIdeal.nD Cert.InSampleKernelIdeal.τ).loc Cert.InSampleKernelIdeal.main_arg1)
      ∧ r.2.mem ((c.tc : Thread Cert.InSampleKernelIdeal.nD Cert.InSampleKernelIdeal.τ).loc Cert.InSampleKernelIdeal.main_arg2) = m ((c.tc : Thread Cert.InSampleKernelIdeal.nD Cert.InSampleKernelIdeal.τ).loc Cert.InSampleKernelIdeal.main_arg2)
      ∧ r.2.mem ((c.tc : Thread Cert.InSampleKernelIdeal.nD Cert.InSampleKernelIdeal.τ).loc Cert.InSampleKernelIdeal.main_arg3) = m ((c.tc : Thread Cert.InSampleKernelIdeal.nD Cert.InSampleKernelIdeal.τ).loc Cert.InSampleKernelIdeal.main_arg3))
      ∧ r.2.sem = fun _ => 0)

def quiescent_InSampleReferenceIdeal [hInSampleReferenceIdeal : Cert.InSampleReferenceIdeal.Facts] : Prop :=
  ∀ (m : (ℓ : Loc Cert.InSampleReferenceIdeal.nD Cert.InSampleReferenceIdeal.τ Cert.InSampleReferenceIdeal.sig) → Buf (Elt Ideal) ℓ) (g : Dev Cert.InSampleReferenceIdeal.nD → PrngReg), Pre_InSampleReferenceIdeal m →
    θ_run (Cert.InSampleReferenceIdeal.defs (F := Ideal)) (onTc (τ := Cert.InSampleReferenceIdeal.τ) (Cert.InSampleReferenceIdeal.main (F := Ideal))) ⟨m, fun _ => 0, g⟩ (fun r => (∀ c : Dev Cert.InSampleReferenceIdeal.nD,
      r.2.mem ((c.tc : Thread Cert.InSampleReferenceIdeal.nD Cert.InSampleReferenceIdeal.τ).loc Cert.InSampleReferenceIdeal.main_arg0) = m ((c.tc : Thread Cert.InSampleReferenceIdeal.nD Cert.InSampleReferenceIdeal.τ).loc Cert.InSampleReferenceIdeal.main_arg0)
      ∧ r.2.mem ((c.tc : Thread Cert.InSampleReferenceIdeal.nD Cert.InSampleReferenceIdeal.τ).loc Cert.InSampleReferenceIdeal.main_arg1) = m ((c.tc : Thread Cert.InSampleReferenceIdeal.nD Cert.InSampleReferenceIdeal.τ).loc Cert.InSampleReferenceIdeal.main_arg1)
      ∧ r.2.mem ((c.tc : Thread Cert.InSampleReferenceIdeal.nD Cert.InSampleReferenceIdeal.τ).loc Cert.InSampleReferenceIdeal.main_arg2) = m ((c.tc : Thread Cert.InSampleReferenceIdeal.nD Cert.InSampleReferenceIdeal.τ).loc Cert.InSampleReferenceIdeal.main_arg2)
      ∧ r.2.mem ((c.tc : Thread Cert.InSampleReferenceIdeal.nD Cert.InSampleReferenceIdeal.τ).loc Cert.InSampleReferenceIdeal.main_arg3) = m ((c.tc : Thread Cert.InSampleReferenceIdeal.nD Cert.InSampleReferenceIdeal.τ).loc Cert.InSampleReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_QueryKernel [hQueryKernel : Cert.QueryKernel.Facts] : Prop :=
  ∀ (m : (ℓ : Loc Cert.QueryKernel.nD Cert.QueryKernel.τ Cert.QueryKernel.sig) → Buf (Elt Bits) ℓ) (g : Dev Cert.QueryKernel.nD → PrngReg), Pre_QueryKernel m →
    θ_run (Cert.QueryKernel.defs (F := Bits)) (onTc (τ := Cert.QueryKernel.τ) (Cert.QueryKernel.main (F := Bits))) ⟨m, fun _ => 0, g⟩ (fun r => (∀ c : Dev Cert.QueryKernel.nD,
      r.2.mem ((c.tc : Thread Cert.QueryKernel.nD Cert.QueryKernel.τ).loc Cert.QueryKernel.main_arg0) = m ((c.tc : Thread Cert.QueryKernel.nD Cert.QueryKernel.τ).loc Cert.QueryKernel.main_arg0)
      ∧ r.2.mem ((c.tc : Thread Cert.QueryKernel.nD Cert.QueryKernel.τ).loc Cert.QueryKernel.main_arg1) = m ((c.tc : Thread Cert.QueryKernel.nD Cert.QueryKernel.τ).loc Cert.QueryKernel.main_arg1)
      ∧ r.2.mem ((c.tc : Thread Cert.QueryKernel.nD Cert.QueryKernel.τ).loc Cert.QueryKernel.main_arg2) = m ((c.tc : Thread Cert.QueryKernel.nD Cert.QueryKernel.τ).loc Cert.QueryKernel.main_arg2))
      ∧ r.2.sem = fun _ => 0)

def quiescent_QueryKernelIdeal [hQueryKernelIdeal : Cert.QueryKernelIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg), Pre_QueryKernelIdeal m →
    θ_run (Cert.QueryKernelIdeal.defs (F := Ideal)) (onTc (τ := Cert.QueryKernelIdeal.τ) (Cert.QueryKernelIdeal.main (F := Ideal))) ⟨m, fun _ => 0, g⟩ (fun r => (∀ c : Dev Cert.QueryKernelIdeal.nD,
      r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
      ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1)
      ∧ r.2.mem ((c.tc : Thread Cert.QueryKernelIdeal.nD Cert.QueryKernelIdeal.τ).loc Cert.QueryKernelIdeal.main_arg2) = m ((c.tc : Thread Cert.QueryKernelIdeal.nD Cert.QueryKernelIdeal.τ).loc Cert.QueryKernelIdeal.main_arg2))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2))
      ∧ r.2.sem = fun _ => 0)

def quiescent_ConvSampleKernel [hConvSampleKernel : Cert.ConvSampleKernel.Facts] : Prop :=
  ∀ (m : (ℓ : Loc Cert.ConvSampleKernel.nD Cert.ConvSampleKernel.τ Cert.ConvSampleKernel.sig) → Buf (Elt Bits) ℓ) (g : Dev Cert.ConvSampleKernel.nD → PrngReg), Pre_ConvSampleKernel m →
    θ_run (Cert.ConvSampleKernel.defs (F := Bits)) (onTc (τ := Cert.ConvSampleKernel.τ) (Cert.ConvSampleKernel.main (F := Bits))) ⟨m, fun _ => 0, g⟩ (fun r => (∀ c : Dev Cert.ConvSampleKernel.nD,
      r.2.mem ((c.tc : Thread Cert.ConvSampleKernel.nD Cert.ConvSampleKernel.τ).loc Cert.ConvSampleKernel.main_arg0) = m ((c.tc : Thread Cert.ConvSampleKernel.nD Cert.ConvSampleKernel.τ).loc Cert.ConvSampleKernel.main_arg0)
      ∧ r.2.mem ((c.tc : Thread Cert.ConvSampleKernel.nD Cert.ConvSampleKernel.τ).loc Cert.ConvSampleKernel.main_arg1) = m ((c.tc : Thread Cert.ConvSampleKernel.nD Cert.ConvSampleKernel.τ).loc Cert.ConvSampleKernel.main_arg1)
      ∧ r.2.mem ((c.tc : Thread Cert.ConvSampleKernel.nD Cert.ConvSampleKernel.τ).loc Cert.ConvSampleKernel.main_arg2) = m ((c.tc : Thread Cert.ConvSampleKernel.nD Cert.ConvSampleKernel.τ).loc Cert.ConvSampleKernel.main_arg2)
      ∧ r.2.mem ((c.tc : Thread Cert.ConvSampleKernel.nD Cert.ConvSampleKernel.τ).loc Cert.ConvSampleKernel.main_arg3) = m ((c.tc : Thread Cert.ConvSampleKernel.nD Cert.ConvSampleKernel.τ).loc Cert.ConvSampleKernel.main_arg3)
      ∧ r.2.mem ((c.tc : Thread Cert.ConvSampleKernel.nD Cert.ConvSampleKernel.τ).loc Cert.ConvSampleKernel.main_arg4) = m ((c.tc : Thread Cert.ConvSampleKernel.nD Cert.ConvSampleKernel.τ).loc Cert.ConvSampleKernel.main_arg4)
      ∧ r.2.mem ((c.tc : Thread Cert.ConvSampleKernel.nD Cert.ConvSampleKernel.τ).loc Cert.ConvSampleKernel.main_arg5) = m ((c.tc : Thread Cert.ConvSampleKernel.nD Cert.ConvSampleKernel.τ).loc Cert.ConvSampleKernel.main_arg5)
      ∧ r.2.mem ((c.tc : Thread Cert.ConvSampleKernel.nD Cert.ConvSampleKernel.τ).loc Cert.ConvSampleKernel.main_arg6) = m ((c.tc : Thread Cert.ConvSampleKernel.nD Cert.ConvSampleKernel.τ).loc Cert.ConvSampleKernel.main_arg6))
      ∧ r.2.sem = fun _ => 0)

def quiescent_ConvSampleKernelIdeal [hConvSampleKernelIdeal : Cert.ConvSampleKernelIdeal.Facts] : Prop :=
  ∀ (m : (ℓ : Loc Cert.ConvSampleKernelIdeal.nD Cert.ConvSampleKernelIdeal.τ Cert.ConvSampleKernelIdeal.sig) → Buf (Elt Ideal) ℓ) (g : Dev Cert.ConvSampleKernelIdeal.nD → PrngReg), Pre_ConvSampleKernelIdeal m →
    θ_run (Cert.ConvSampleKernelIdeal.defs (F := Ideal)) (onTc (τ := Cert.ConvSampleKernelIdeal.τ) (Cert.ConvSampleKernelIdeal.main (F := Ideal))) ⟨m, fun _ => 0, g⟩ (fun r => (∀ c : Dev Cert.ConvSampleKernelIdeal.nD,
      r.2.mem ((c.tc : Thread Cert.ConvSampleKernelIdeal.nD Cert.ConvSampleKernelIdeal.τ).loc Cert.ConvSampleKernelIdeal.main_arg0) = m ((c.tc : Thread Cert.ConvSampleKernelIdeal.nD Cert.ConvSampleKernelIdeal.τ).loc Cert.ConvSampleKernelIdeal.main_arg0)
      ∧ r.2.mem ((c.tc : Thread Cert.ConvSampleKernelIdeal.nD Cert.ConvSampleKernelIdeal.τ).loc Cert.ConvSampleKernelIdeal.main_arg1) = m ((c.tc : Thread Cert.ConvSampleKernelIdeal.nD Cert.ConvSampleKernelIdeal.τ).loc Cert.ConvSampleKernelIdeal.main_arg1)
      ∧ r.2.mem ((c.tc : Thread Cert.ConvSampleKernelIdeal.nD Cert.ConvSampleKernelIdeal.τ).loc Cert.ConvSampleKernelIdeal.main_arg2) = m ((c.tc : Thread Cert.ConvSampleKernelIdeal.nD Cert.ConvSampleKernelIdeal.τ).loc Cert.ConvSampleKernelIdeal.main_arg2)
      ∧ r.2.mem ((c.tc : Thread Cert.ConvSampleKernelIdeal.nD Cert.ConvSampleKernelIdeal.τ).loc Cert.ConvSampleKernelIdeal.main_arg3) = m ((c.tc : Thread Cert.ConvSampleKernelIdeal.nD Cert.ConvSampleKernelIdeal.τ).loc Cert.ConvSampleKernelIdeal.main_arg3)
      ∧ r.2.mem ((c.tc : Thread Cert.ConvSampleKernelIdeal.nD Cert.ConvSampleKernelIdeal.τ).loc Cert.ConvSampleKernelIdeal.main_arg4) = m ((c.tc : Thread Cert.ConvSampleKernelIdeal.nD Cert.ConvSampleKernelIdeal.τ).loc Cert.ConvSampleKernelIdeal.main_arg4)
      ∧ r.2.mem ((c.tc : Thread Cert.ConvSampleKernelIdeal.nD Cert.ConvSampleKernelIdeal.τ).loc Cert.ConvSampleKernelIdeal.main_arg5) = m ((c.tc : Thread Cert.ConvSampleKernelIdeal.nD Cert.ConvSampleKernelIdeal.τ).loc Cert.ConvSampleKernelIdeal.main_arg5)
      ∧ r.2.mem ((c.tc : Thread Cert.ConvSampleKernelIdeal.nD Cert.ConvSampleKernelIdeal.τ).loc Cert.ConvSampleKernelIdeal.main_arg6) = m ((c.tc : Thread Cert.ConvSampleKernelIdeal.nD Cert.ConvSampleKernelIdeal.τ).loc Cert.ConvSampleKernelIdeal.main_arg6))
      ∧ r.2.sem = fun _ => 0)

def quiescent_ConvSampleReferenceIdeal [hConvSampleReferenceIdeal : Cert.ConvSampleReferenceIdeal.Facts] : Prop :=
  ∀ (m : (ℓ : Loc Cert.ConvSampleReferenceIdeal.nD Cert.ConvSampleReferenceIdeal.τ Cert.ConvSampleReferenceIdeal.sig) → Buf (Elt Ideal) ℓ) (g : Dev Cert.ConvSampleReferenceIdeal.nD → PrngReg), Pre_ConvSampleReferenceIdeal m →
    θ_run (Cert.ConvSampleReferenceIdeal.defs (F := Ideal)) (onTc (τ := Cert.ConvSampleReferenceIdeal.τ) (Cert.ConvSampleReferenceIdeal.main (F := Ideal))) ⟨m, fun _ => 0, g⟩ (fun r => (∀ c : Dev Cert.ConvSampleReferenceIdeal.nD,
      r.2.mem ((c.tc : Thread Cert.ConvSampleReferenceIdeal.nD Cert.ConvSampleReferenceIdeal.τ).loc Cert.ConvSampleReferenceIdeal.main_arg0) = m ((c.tc : Thread Cert.ConvSampleReferenceIdeal.nD Cert.ConvSampleReferenceIdeal.τ).loc Cert.ConvSampleReferenceIdeal.main_arg0)
      ∧ r.2.mem ((c.tc : Thread Cert.ConvSampleReferenceIdeal.nD Cert.ConvSampleReferenceIdeal.τ).loc Cert.ConvSampleReferenceIdeal.main_arg1) = m ((c.tc : Thread Cert.ConvSampleReferenceIdeal.nD Cert.ConvSampleReferenceIdeal.τ).loc Cert.ConvSampleReferenceIdeal.main_arg1)
      ∧ r.2.mem ((c.tc : Thread Cert.ConvSampleReferenceIdeal.nD Cert.ConvSampleReferenceIdeal.τ).loc Cert.ConvSampleReferenceIdeal.main_arg2) = m ((c.tc : Thread Cert.ConvSampleReferenceIdeal.nD Cert.ConvSampleReferenceIdeal.τ).loc Cert.ConvSampleReferenceIdeal.main_arg2)
      ∧ r.2.mem ((c.tc : Thread Cert.ConvSampleReferenceIdeal.nD Cert.ConvSampleReferenceIdeal.τ).loc Cert.ConvSampleReferenceIdeal.main_arg3) = m ((c.tc : Thread Cert.ConvSampleReferenceIdeal.nD Cert.ConvSampleReferenceIdeal.τ).loc Cert.ConvSampleReferenceIdeal.main_arg3)
      ∧ r.2.mem ((c.tc : Thread Cert.ConvSampleReferenceIdeal.nD Cert.ConvSampleReferenceIdeal.τ).loc Cert.ConvSampleReferenceIdeal.main_arg4) = m ((c.tc : Thread Cert.ConvSampleReferenceIdeal.nD Cert.ConvSampleReferenceIdeal.τ).loc Cert.ConvSampleReferenceIdeal.main_arg4)
      ∧ r.2.mem ((c.tc : Thread Cert.ConvSampleReferenceIdeal.nD Cert.ConvSampleReferenceIdeal.τ).loc Cert.ConvSampleReferenceIdeal.main_arg5) = m ((c.tc : Thread Cert.ConvSampleReferenceIdeal.nD Cert.ConvSampleReferenceIdeal.τ).loc Cert.ConvSampleReferenceIdeal.main_arg5)
      ∧ r.2.mem ((c.tc : Thread Cert.ConvSampleReferenceIdeal.nD Cert.ConvSampleReferenceIdeal.τ).loc Cert.ConvSampleReferenceIdeal.main_arg6) = m ((c.tc : Thread Cert.ConvSampleReferenceIdeal.nD Cert.ConvSampleReferenceIdeal.τ).loc Cert.ConvSampleReferenceIdeal.main_arg6))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4)
      ∧ r.2.mem ((c.tc : Thread Cert.ConvKernel.nD Cert.ConvKernel.τ).loc Cert.ConvKernel.main_arg5) = m ((c.tc : Thread Cert.ConvKernel.nD Cert.ConvKernel.τ).loc Cert.ConvKernel.main_arg5)
      ∧ r.2.mem ((c.tc : Thread Cert.ConvKernel.nD Cert.ConvKernel.τ).loc Cert.ConvKernel.main_arg6) = m ((c.tc : Thread Cert.ConvKernel.nD Cert.ConvKernel.τ).loc Cert.ConvKernel.main_arg6)
      ∧ r.2.mem ((c.tc : Thread Cert.ConvKernel.nD Cert.ConvKernel.τ).loc Cert.ConvKernel.main_arg7) = m ((c.tc : Thread Cert.ConvKernel.nD Cert.ConvKernel.τ).loc Cert.ConvKernel.main_arg7))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6)
      ∧ r.2.mem ((c.tc : Thread Cert.ConvKernelIdeal.nD Cert.ConvKernelIdeal.τ).loc Cert.ConvKernelIdeal.main_arg7) = m ((c.tc : Thread Cert.ConvKernelIdeal.nD Cert.ConvKernelIdeal.τ).loc Cert.ConvKernelIdeal.main_arg7))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7))
      ∧ r.2.sem = fun _ => 0)

def quiescent_AttnSampleKernel [hAttnSampleKernel : Cert.AttnSampleKernel.Facts] : Prop :=
  ∀ (m : (ℓ : Loc Cert.AttnSampleKernel.nD Cert.AttnSampleKernel.τ Cert.AttnSampleKernel.sig) → Buf (Elt Bits) ℓ) (g : Dev Cert.AttnSampleKernel.nD → PrngReg), Pre_AttnSampleKernel m →
    θ_run (Cert.AttnSampleKernel.defs (F := Bits)) (onTc (τ := Cert.AttnSampleKernel.τ) (Cert.AttnSampleKernel.main (F := Bits))) ⟨m, fun _ => 0, g⟩ (fun r => (∀ c : Dev Cert.AttnSampleKernel.nD,
      r.2.mem ((c.tc : Thread Cert.AttnSampleKernel.nD Cert.AttnSampleKernel.τ).loc Cert.AttnSampleKernel.main_arg0) = m ((c.tc : Thread Cert.AttnSampleKernel.nD Cert.AttnSampleKernel.τ).loc Cert.AttnSampleKernel.main_arg0)
      ∧ r.2.mem ((c.tc : Thread Cert.AttnSampleKernel.nD Cert.AttnSampleKernel.τ).loc Cert.AttnSampleKernel.main_arg1) = m ((c.tc : Thread Cert.AttnSampleKernel.nD Cert.AttnSampleKernel.τ).loc Cert.AttnSampleKernel.main_arg1)
      ∧ r.2.mem ((c.tc : Thread Cert.AttnSampleKernel.nD Cert.AttnSampleKernel.τ).loc Cert.AttnSampleKernel.main_arg2) = m ((c.tc : Thread Cert.AttnSampleKernel.nD Cert.AttnSampleKernel.τ).loc Cert.AttnSampleKernel.main_arg2)
      ∧ r.2.mem ((c.tc : Thread Cert.AttnSampleKernel.nD Cert.AttnSampleKernel.τ).loc Cert.AttnSampleKernel.main_arg3) = m ((c.tc : Thread Cert.AttnSampleKernel.nD Cert.AttnSampleKernel.τ).loc Cert.AttnSampleKernel.main_arg3))
      ∧ r.2.sem = fun _ => 0)

def quiescent_AttnSampleKernelIdeal [hAttnSampleKernelIdeal : Cert.AttnSampleKernelIdeal.Facts] : Prop :=
  ∀ (m : (ℓ : Loc Cert.AttnSampleKernelIdeal.nD Cert.AttnSampleKernelIdeal.τ Cert.AttnSampleKernelIdeal.sig) → Buf (Elt Ideal) ℓ) (g : Dev Cert.AttnSampleKernelIdeal.nD → PrngReg), Pre_AttnSampleKernelIdeal m →
    θ_run (Cert.AttnSampleKernelIdeal.defs (F := Ideal)) (onTc (τ := Cert.AttnSampleKernelIdeal.τ) (Cert.AttnSampleKernelIdeal.main (F := Ideal))) ⟨m, fun _ => 0, g⟩ (fun r => (∀ c : Dev Cert.AttnSampleKernelIdeal.nD,
      r.2.mem ((c.tc : Thread Cert.AttnSampleKernelIdeal.nD Cert.AttnSampleKernelIdeal.τ).loc Cert.AttnSampleKernelIdeal.main_arg0) = m ((c.tc : Thread Cert.AttnSampleKernelIdeal.nD Cert.AttnSampleKernelIdeal.τ).loc Cert.AttnSampleKernelIdeal.main_arg0)
      ∧ r.2.mem ((c.tc : Thread Cert.AttnSampleKernelIdeal.nD Cert.AttnSampleKernelIdeal.τ).loc Cert.AttnSampleKernelIdeal.main_arg1) = m ((c.tc : Thread Cert.AttnSampleKernelIdeal.nD Cert.AttnSampleKernelIdeal.τ).loc Cert.AttnSampleKernelIdeal.main_arg1)
      ∧ r.2.mem ((c.tc : Thread Cert.AttnSampleKernelIdeal.nD Cert.AttnSampleKernelIdeal.τ).loc Cert.AttnSampleKernelIdeal.main_arg2) = m ((c.tc : Thread Cert.AttnSampleKernelIdeal.nD Cert.AttnSampleKernelIdeal.τ).loc Cert.AttnSampleKernelIdeal.main_arg2)
      ∧ r.2.mem ((c.tc : Thread Cert.AttnSampleKernelIdeal.nD Cert.AttnSampleKernelIdeal.τ).loc Cert.AttnSampleKernelIdeal.main_arg3) = m ((c.tc : Thread Cert.AttnSampleKernelIdeal.nD Cert.AttnSampleKernelIdeal.τ).loc Cert.AttnSampleKernelIdeal.main_arg3))
      ∧ r.2.sem = fun _ => 0)

def quiescent_AttnSampleKernelIdeal_pre_finite_sample_scores [hAttnSampleKernelIdeal : Cert.AttnSampleKernelIdeal.Facts] [hPre_finite_sample_scores : Cert.Pre_finite_sample_scores.Facts] : Prop :=
  ∀ (m : (ℓ : Loc Cert.AttnSampleKernelIdeal.nD Cert.AttnSampleKernelIdeal.τ Cert.AttnSampleKernelIdeal.sig) → Buf (Elt Ideal) ℓ) (g : Dev Cert.AttnSampleKernelIdeal.nD → PrngReg), Pre_AttnSampleKernelIdeal_finite_sample_scores m →
    θ_run (Cert.AttnSampleKernelIdeal.defs (F := Ideal)) (onTc (τ := Cert.AttnSampleKernelIdeal.τ) (Cert.AttnSampleKernelIdeal.main (F := Ideal))) ⟨m, fun _ => 0, g⟩ (fun r => (∀ c : Dev Cert.AttnSampleKernelIdeal.nD,
      r.2.mem ((c.tc : Thread Cert.AttnSampleKernelIdeal.nD Cert.AttnSampleKernelIdeal.τ).loc Cert.AttnSampleKernelIdeal.main_arg0) = m ((c.tc : Thread Cert.AttnSampleKernelIdeal.nD Cert.AttnSampleKernelIdeal.τ).loc Cert.AttnSampleKernelIdeal.main_arg0)
      ∧ r.2.mem ((c.tc : Thread Cert.AttnSampleKernelIdeal.nD Cert.AttnSampleKernelIdeal.τ).loc Cert.AttnSampleKernelIdeal.main_arg1) = m ((c.tc : Thread Cert.AttnSampleKernelIdeal.nD Cert.AttnSampleKernelIdeal.τ).loc Cert.AttnSampleKernelIdeal.main_arg1)
      ∧ r.2.mem ((c.tc : Thread Cert.AttnSampleKernelIdeal.nD Cert.AttnSampleKernelIdeal.τ).loc Cert.AttnSampleKernelIdeal.main_arg2) = m ((c.tc : Thread Cert.AttnSampleKernelIdeal.nD Cert.AttnSampleKernelIdeal.τ).loc Cert.AttnSampleKernelIdeal.main_arg2)
      ∧ r.2.mem ((c.tc : Thread Cert.AttnSampleKernelIdeal.nD Cert.AttnSampleKernelIdeal.τ).loc Cert.AttnSampleKernelIdeal.main_arg3) = m ((c.tc : Thread Cert.AttnSampleKernelIdeal.nD Cert.AttnSampleKernelIdeal.τ).loc Cert.AttnSampleKernelIdeal.main_arg3))
      ∧ r.2.sem = fun _ => 0)

def quiescent_AttnSampleReferenceIdeal [hAttnSampleReferenceIdeal : Cert.AttnSampleReferenceIdeal.Facts] : Prop :=
  ∀ (m : (ℓ : Loc Cert.AttnSampleReferenceIdeal.nD Cert.AttnSampleReferenceIdeal.τ Cert.AttnSampleReferenceIdeal.sig) → Buf (Elt Ideal) ℓ) (g : Dev Cert.AttnSampleReferenceIdeal.nD → PrngReg), Pre_AttnSampleReferenceIdeal m →
    θ_run (Cert.AttnSampleReferenceIdeal.defs (F := Ideal)) (onTc (τ := Cert.AttnSampleReferenceIdeal.τ) (Cert.AttnSampleReferenceIdeal.main (F := Ideal))) ⟨m, fun _ => 0, g⟩ (fun r => (∀ c : Dev Cert.AttnSampleReferenceIdeal.nD,
      r.2.mem ((c.tc : Thread Cert.AttnSampleReferenceIdeal.nD Cert.AttnSampleReferenceIdeal.τ).loc Cert.AttnSampleReferenceIdeal.main_arg0) = m ((c.tc : Thread Cert.AttnSampleReferenceIdeal.nD Cert.AttnSampleReferenceIdeal.τ).loc Cert.AttnSampleReferenceIdeal.main_arg0)
      ∧ r.2.mem ((c.tc : Thread Cert.AttnSampleReferenceIdeal.nD Cert.AttnSampleReferenceIdeal.τ).loc Cert.AttnSampleReferenceIdeal.main_arg1) = m ((c.tc : Thread Cert.AttnSampleReferenceIdeal.nD Cert.AttnSampleReferenceIdeal.τ).loc Cert.AttnSampleReferenceIdeal.main_arg1)
      ∧ r.2.mem ((c.tc : Thread Cert.AttnSampleReferenceIdeal.nD Cert.AttnSampleReferenceIdeal.τ).loc Cert.AttnSampleReferenceIdeal.main_arg2) = m ((c.tc : Thread Cert.AttnSampleReferenceIdeal.nD Cert.AttnSampleReferenceIdeal.τ).loc Cert.AttnSampleReferenceIdeal.main_arg2)
      ∧ r.2.mem ((c.tc : Thread Cert.AttnSampleReferenceIdeal.nD Cert.AttnSampleReferenceIdeal.τ).loc Cert.AttnSampleReferenceIdeal.main_arg3) = m ((c.tc : Thread Cert.AttnSampleReferenceIdeal.nD Cert.AttnSampleReferenceIdeal.τ).loc Cert.AttnSampleReferenceIdeal.main_arg3))
      ∧ r.2.sem = fun _ => 0)

def quiescent_AttnSampleReferenceIdeal_pre_finite_sample_scores [hAttnSampleReferenceIdeal : Cert.AttnSampleReferenceIdeal.Facts] [hPre_finite_sample_scores : Cert.Pre_finite_sample_scores.Facts] : Prop :=
  ∀ (m : (ℓ : Loc Cert.AttnSampleReferenceIdeal.nD Cert.AttnSampleReferenceIdeal.τ Cert.AttnSampleReferenceIdeal.sig) → Buf (Elt Ideal) ℓ) (g : Dev Cert.AttnSampleReferenceIdeal.nD → PrngReg), Pre_AttnSampleReferenceIdeal_finite_sample_scores m →
    θ_run (Cert.AttnSampleReferenceIdeal.defs (F := Ideal)) (onTc (τ := Cert.AttnSampleReferenceIdeal.τ) (Cert.AttnSampleReferenceIdeal.main (F := Ideal))) ⟨m, fun _ => 0, g⟩ (fun r => (∀ c : Dev Cert.AttnSampleReferenceIdeal.nD,
      r.2.mem ((c.tc : Thread Cert.AttnSampleReferenceIdeal.nD Cert.AttnSampleReferenceIdeal.τ).loc Cert.AttnSampleReferenceIdeal.main_arg0) = m ((c.tc : Thread Cert.AttnSampleReferenceIdeal.nD Cert.AttnSampleReferenceIdeal.τ).loc Cert.AttnSampleReferenceIdeal.main_arg0)
      ∧ r.2.mem ((c.tc : Thread Cert.AttnSampleReferenceIdeal.nD Cert.AttnSampleReferenceIdeal.τ).loc Cert.AttnSampleReferenceIdeal.main_arg1) = m ((c.tc : Thread Cert.AttnSampleReferenceIdeal.nD Cert.AttnSampleReferenceIdeal.τ).loc Cert.AttnSampleReferenceIdeal.main_arg1)
      ∧ r.2.mem ((c.tc : Thread Cert.AttnSampleReferenceIdeal.nD Cert.AttnSampleReferenceIdeal.τ).loc Cert.AttnSampleReferenceIdeal.main_arg2) = m ((c.tc : Thread Cert.AttnSampleReferenceIdeal.nD Cert.AttnSampleReferenceIdeal.τ).loc Cert.AttnSampleReferenceIdeal.main_arg2)
      ∧ r.2.mem ((c.tc : Thread Cert.AttnSampleReferenceIdeal.nD Cert.AttnSampleReferenceIdeal.τ).loc Cert.AttnSampleReferenceIdeal.main_arg3) = m ((c.tc : Thread Cert.AttnSampleReferenceIdeal.nD Cert.AttnSampleReferenceIdeal.τ).loc Cert.AttnSampleReferenceIdeal.main_arg3))
      ∧ r.2.sem = fun _ => 0)

def preserves_AttnKernel_AttnKernelIdeal : Prop :=
  IdealRules.named_const.Statement Cert.AttnKernelIdeal.κ "mask" .f32 0xF149F2CA#32 ⊥

def algebraic_AttnKernelIdeal_AttnReferenceIdeal_pre_finite_scores [hAttnKernelIdeal : Cert.AttnKernelIdeal.Facts] [hAttnReferenceIdeal : Cert.AttnReferenceIdeal.Facts] [hPre_finite_scores : Cert.Pre_finite_scores.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_scores m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)) →
    ∃ (v0 : (c : Dev Cert.AttnKernelIdeal.nD) → Buf (Elt Ideal) ((c.tc : Thread Cert.AttnKernelIdeal.nD Cert.AttnKernelIdeal.τ).loc Cert.AttnKernelIdeal.main_v7)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v7) = v0 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v76) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) →
    ∃ (v0 : (c : Dev Cert.InKernelIdeal.nD) → Buf (Elt Ideal) ((c.tc : Thread Cert.InKernelIdeal.nD Cert.InKernelIdeal.τ).loc Cert.InKernelIdeal.main_v6)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v6) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v20) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_InSampleKernel_InSampleKernelIdeal : Prop :=
  True

def algebraic_InSampleKernelIdeal_InSampleReferenceIdeal [hInSampleKernelIdeal : Cert.InSampleKernelIdeal.Facts] [hInSampleReferenceIdeal : Cert.InSampleReferenceIdeal.Facts] : Prop :=
  ∀ (m : (ℓ : Loc Cert.InSampleKernelIdeal.nD Cert.InSampleKernelIdeal.τ Cert.InSampleKernelIdeal.sig) → Buf (Elt Ideal) ℓ) (g : Dev Cert.InSampleKernelIdeal.nD → PrngReg)
    (m' : (ℓ : Loc Cert.InSampleReferenceIdeal.nD Cert.InSampleReferenceIdeal.τ Cert.InSampleReferenceIdeal.sig) → Buf (Elt Ideal) ℓ) (g' : Dev Cert.InSampleReferenceIdeal.nD → PrngReg), Pre_InSampleKernelIdeal m →
    (∀ c : Dev Cert.InSampleKernelIdeal.nD,
      m' ((c.tc : Thread Cert.InSampleReferenceIdeal.nD Cert.InSampleReferenceIdeal.τ).loc Cert.InSampleReferenceIdeal.main_arg0) = m ((c.tc : Thread Cert.InSampleKernelIdeal.nD Cert.InSampleKernelIdeal.τ).loc Cert.InSampleKernelIdeal.main_arg0)
      ∧ m' ((c.tc : Thread Cert.InSampleReferenceIdeal.nD Cert.InSampleReferenceIdeal.τ).loc Cert.InSampleReferenceIdeal.main_arg1) = m ((c.tc : Thread Cert.InSampleKernelIdeal.nD Cert.InSampleKernelIdeal.τ).loc Cert.InSampleKernelIdeal.main_arg1)
      ∧ m' ((c.tc : Thread Cert.InSampleReferenceIdeal.nD Cert.InSampleReferenceIdeal.τ).loc Cert.InSampleReferenceIdeal.main_arg2) = m ((c.tc : Thread Cert.InSampleKernelIdeal.nD Cert.InSampleKernelIdeal.τ).loc Cert.InSampleKernelIdeal.main_arg2)
      ∧ m' ((c.tc : Thread Cert.InSampleReferenceIdeal.nD Cert.InSampleReferenceIdeal.τ).loc Cert.InSampleReferenceIdeal.main_arg3) = m ((c.tc : Thread Cert.InSampleKernelIdeal.nD Cert.InSampleKernelIdeal.τ).loc Cert.InSampleKernelIdeal.main_arg3)) →
    ∃ (v0 : (c : Dev Cert.InSampleKernelIdeal.nD) → Buf (Elt Ideal) ((c.tc : Thread Cert.InSampleKernelIdeal.nD Cert.InSampleKernelIdeal.τ).loc Cert.InSampleKernelIdeal.main_v6)),
      θ_run (Cert.InSampleKernelIdeal.defs (F := Ideal)) (onTc (τ := Cert.InSampleKernelIdeal.τ) (Cert.InSampleKernelIdeal.main (F := Ideal))) ⟨m, fun _ => 0, g⟩ (fun r => ∀ c : Dev Cert.InSampleKernelIdeal.nD,
          r.2.mem ((c.tc : Thread Cert.InSampleKernelIdeal.nD Cert.InSampleKernelIdeal.τ).loc Cert.InSampleKernelIdeal.main_v6) = v0 c
          ∧ r.2.mem ((c.tc : Thread Cert.InSampleKernelIdeal.nD Cert.InSampleKernelIdeal.τ).loc Cert.InSampleKernelIdeal.main_arg0) = m ((c.tc : Thread Cert.InSampleKernelIdeal.nD Cert.InSampleKernelIdeal.τ).loc Cert.InSampleKernelIdeal.main_arg0)
          ∧ r.2.mem ((c.tc : Thread Cert.InSampleKernelIdeal.nD Cert.InSampleKernelIdeal.τ).loc Cert.InSampleKernelIdeal.main_arg1) = m ((c.tc : Thread Cert.InSampleKernelIdeal.nD Cert.InSampleKernelIdeal.τ).loc Cert.InSampleKernelIdeal.main_arg1)
          ∧ r.2.mem ((c.tc : Thread Cert.InSampleKernelIdeal.nD Cert.InSampleKernelIdeal.τ).loc Cert.InSampleKernelIdeal.main_arg2) = m ((c.tc : Thread Cert.InSampleKernelIdeal.nD Cert.InSampleKernelIdeal.τ).loc Cert.InSampleKernelIdeal.main_arg2)
          ∧ r.2.mem ((c.tc : Thread Cert.InSampleKernelIdeal.nD Cert.InSampleKernelIdeal.τ).loc Cert.InSampleKernelIdeal.main_arg3) = m ((c.tc : Thread Cert.InSampleKernelIdeal.nD Cert.InSampleKernelIdeal.τ).loc Cert.InSampleKernelIdeal.main_arg3))
      ∧ θ_run (Cert.InSampleReferenceIdeal.defs (F := Ideal)) (onTc (τ := Cert.InSampleReferenceIdeal.τ) (Cert.InSampleReferenceIdeal.main (F := Ideal))) ⟨m', fun _ => 0, g'⟩ (fun r => ∀ c : Dev Cert.InSampleReferenceIdeal.nD,
          r.2.mem ((c.tc : Thread Cert.InSampleReferenceIdeal.nD Cert.InSampleReferenceIdeal.τ).loc Cert.InSampleReferenceIdeal.main_v20) = v0 c
          ∧ r.2.mem ((c.tc : Thread Cert.InSampleReferenceIdeal.nD Cert.InSampleReferenceIdeal.τ).loc Cert.InSampleReferenceIdeal.main_arg0) = m' ((c.tc : Thread Cert.InSampleReferenceIdeal.nD Cert.InSampleReferenceIdeal.τ).loc Cert.InSampleReferenceIdeal.main_arg0)
          ∧ r.2.mem ((c.tc : Thread Cert.InSampleReferenceIdeal.nD Cert.InSampleReferenceIdeal.τ).loc Cert.InSampleReferenceIdeal.main_arg1) = m' ((c.tc : Thread Cert.InSampleReferenceIdeal.nD Cert.InSampleReferenceIdeal.τ).loc Cert.InSampleReferenceIdeal.main_arg1)
          ∧ r.2.mem ((c.tc : Thread Cert.InSampleReferenceIdeal.nD Cert.InSampleReferenceIdeal.τ).loc Cert.InSampleReferenceIdeal.main_arg2) = m' ((c.tc : Thread Cert.InSampleReferenceIdeal.nD Cert.InSampleReferenceIdeal.τ).loc Cert.InSampleReferenceIdeal.main_arg2)
          ∧ r.2.mem ((c.tc : Thread Cert.InSampleReferenceIdeal.nD Cert.InSampleReferenceIdeal.τ).loc Cert.InSampleReferenceIdeal.main_arg3) = m' ((c.tc : Thread Cert.InSampleReferenceIdeal.nD Cert.InSampleReferenceIdeal.τ).loc Cert.InSampleReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v3) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v19) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_QueryKernel_QueryKernelIdeal : Prop :=
  True

def algebraic_QueryKernelIdeal_QueryReferenceIdeal [hQueryKernelIdeal : Cert.QueryKernelIdeal.Facts] [hQueryReferenceIdeal : Cert.QueryReferenceIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryKernelIdeal m →
    (∀ c : Dev Cert.QueryKernelIdeal.nD,
      m' ((c.tc : Thread Cert.QueryReferenceIdeal.nD Cert.QueryReferenceIdeal.τ).loc Cert.QueryReferenceIdeal.main_arg0) = m ((c.tc : Thread Cert.QueryKernelIdeal.nD Cert.QueryKernelIdeal.τ).loc Cert.QueryKernelIdeal.main_arg0)
      ∧ m' ((c.tc : Thread Cert.QueryReferenceIdeal.nD Cert.QueryReferenceIdeal.τ).loc Cert.QueryReferenceIdeal.main_arg1) = m ((c.tc : Thread Cert.QueryKernelIdeal.nD Cert.QueryKernelIdeal.τ).loc Cert.QueryKernelIdeal.main_arg1)
      ∧ m' ((c.tc : Thread Cert.QueryReferenceIdeal.nD Cert.QueryReferenceIdeal.τ).loc Cert.QueryReferenceIdeal.main_arg2) = m ((c.tc : Thread Cert.QueryKernelIdeal.nD Cert.QueryKernelIdeal.τ).loc Cert.QueryKernelIdeal.main_arg2)) →
    ∃ (v0 : (c : Dev Cert.QueryKernelIdeal.nD) → Buf (Elt Ideal) ((c.tc : Thread Cert.QueryKernelIdeal.nD Cert.QueryKernelIdeal.τ).loc Cert.QueryKernelIdeal.main_v3_0)) (v1 : (c : Dev Cert.QueryKernelIdeal.nD) → Buf (Elt Ideal) ((c.tc : Thread Cert.QueryKernelIdeal.nD Cert.QueryKernelIdeal.τ).loc Cert.QueryKernelIdeal.main_v3_1)),
      θ_run (Cert.QueryKernelIdeal.defs (F := Ideal)) (onTc (τ := Cert.QueryKernelIdeal.τ) (Cert.QueryKernelIdeal.main (F := Ideal))) ⟨m, fun _ => 0, g⟩ (fun r => ∀ c : Dev Cert.QueryKernelIdeal.nD,
          r.2.mem ((c.tc : Thread Cert.QueryKernelIdeal.nD Cert.QueryKernelIdeal.τ).loc Cert.QueryKernelIdeal.main_v3_0) = v0 c
          ∧ r.2.mem ((c.tc : Thread Cert.QueryKernelIdeal.nD Cert.QueryKernelIdeal.τ).loc Cert.QueryKernelIdeal.main_v3_1) = v1 c
          ∧ r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
          ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1)
          ∧ r.2.mem ((c.tc : Thread Cert.QueryKernelIdeal.nD Cert.QueryKernelIdeal.τ).loc Cert.QueryKernelIdeal.main_arg2) = m ((c.tc : Thread Cert.QueryKernelIdeal.nD Cert.QueryKernelIdeal.τ).loc Cert.QueryKernelIdeal.main_arg2))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v15) = v0 c
          ∧ r.2.mem ((c.tc : Thread Cert.QueryReferenceIdeal.nD Cert.QueryReferenceIdeal.τ).loc Cert.QueryReferenceIdeal.main_v17) = v1 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2))

def preserves_ConvSampleKernel_ConvSampleKernelIdeal : Prop :=
  True

def algebraic_ConvSampleKernelIdeal_ConvSampleReferenceIdeal [hConvSampleKernelIdeal : Cert.ConvSampleKernelIdeal.Facts] [hConvSampleReferenceIdeal : Cert.ConvSampleReferenceIdeal.Facts] : Prop :=
  ∀ (m : (ℓ : Loc Cert.ConvSampleKernelIdeal.nD Cert.ConvSampleKernelIdeal.τ Cert.ConvSampleKernelIdeal.sig) → Buf (Elt Ideal) ℓ) (g : Dev Cert.ConvSampleKernelIdeal.nD → PrngReg)
    (m' : (ℓ : Loc Cert.ConvSampleReferenceIdeal.nD Cert.ConvSampleReferenceIdeal.τ Cert.ConvSampleReferenceIdeal.sig) → Buf (Elt Ideal) ℓ) (g' : Dev Cert.ConvSampleReferenceIdeal.nD → PrngReg), Pre_ConvSampleKernelIdeal m →
    (∀ c : Dev Cert.ConvSampleKernelIdeal.nD,
      m' ((c.tc : Thread Cert.ConvSampleReferenceIdeal.nD Cert.ConvSampleReferenceIdeal.τ).loc Cert.ConvSampleReferenceIdeal.main_arg0) = m ((c.tc : Thread Cert.ConvSampleKernelIdeal.nD Cert.ConvSampleKernelIdeal.τ).loc Cert.ConvSampleKernelIdeal.main_arg0)
      ∧ m' ((c.tc : Thread Cert.ConvSampleReferenceIdeal.nD Cert.ConvSampleReferenceIdeal.τ).loc Cert.ConvSampleReferenceIdeal.main_arg1) = m ((c.tc : Thread Cert.ConvSampleKernelIdeal.nD Cert.ConvSampleKernelIdeal.τ).loc Cert.ConvSampleKernelIdeal.main_arg1)
      ∧ m' ((c.tc : Thread Cert.ConvSampleReferenceIdeal.nD Cert.ConvSampleReferenceIdeal.τ).loc Cert.ConvSampleReferenceIdeal.main_arg2) = m ((c.tc : Thread Cert.ConvSampleKernelIdeal.nD Cert.ConvSampleKernelIdeal.τ).loc Cert.ConvSampleKernelIdeal.main_arg2)
      ∧ m' ((c.tc : Thread Cert.ConvSampleReferenceIdeal.nD Cert.ConvSampleReferenceIdeal.τ).loc Cert.ConvSampleReferenceIdeal.main_arg3) = m ((c.tc : Thread Cert.ConvSampleKernelIdeal.nD Cert.ConvSampleKernelIdeal.τ).loc Cert.ConvSampleKernelIdeal.main_arg3)
      ∧ m' ((c.tc : Thread Cert.ConvSampleReferenceIdeal.nD Cert.ConvSampleReferenceIdeal.τ).loc Cert.ConvSampleReferenceIdeal.main_arg4) = m ((c.tc : Thread Cert.ConvSampleKernelIdeal.nD Cert.ConvSampleKernelIdeal.τ).loc Cert.ConvSampleKernelIdeal.main_arg4)
      ∧ m' ((c.tc : Thread Cert.ConvSampleReferenceIdeal.nD Cert.ConvSampleReferenceIdeal.τ).loc Cert.ConvSampleReferenceIdeal.main_arg5) = m ((c.tc : Thread Cert.ConvSampleKernelIdeal.nD Cert.ConvSampleKernelIdeal.τ).loc Cert.ConvSampleKernelIdeal.main_arg5)
      ∧ m' ((c.tc : Thread Cert.ConvSampleReferenceIdeal.nD Cert.ConvSampleReferenceIdeal.τ).loc Cert.ConvSampleReferenceIdeal.main_arg6) = m ((c.tc : Thread Cert.ConvSampleKernelIdeal.nD Cert.ConvSampleKernelIdeal.τ).loc Cert.ConvSampleKernelIdeal.main_arg6)) →
    ∃ (v0 : (c : Dev Cert.ConvSampleKernelIdeal.nD) → Buf (Elt Ideal) ((c.tc : Thread Cert.ConvSampleKernelIdeal.nD Cert.ConvSampleKernelIdeal.τ).loc Cert.ConvSampleKernelIdeal.main_v11_0)) (v1 : (c : Dev Cert.ConvSampleKernelIdeal.nD) → Buf (Elt Ideal) ((c.tc : Thread Cert.ConvSampleKernelIdeal.nD Cert.ConvSampleKernelIdeal.τ).loc Cert.ConvSampleKernelIdeal.main_v11_1)),
      θ_run (Cert.ConvSampleKernelIdeal.defs (F := Ideal)) (onTc (τ := Cert.ConvSampleKernelIdeal.τ) (Cert.ConvSampleKernelIdeal.main (F := Ideal))) ⟨m, fun _ => 0, g⟩ (fun r => ∀ c : Dev Cert.ConvSampleKernelIdeal.nD,
          r.2.mem ((c.tc : Thread Cert.ConvSampleKernelIdeal.nD Cert.ConvSampleKernelIdeal.τ).loc Cert.ConvSampleKernelIdeal.main_v11_0) = v0 c
          ∧ r.2.mem ((c.tc : Thread Cert.ConvSampleKernelIdeal.nD Cert.ConvSampleKernelIdeal.τ).loc Cert.ConvSampleKernelIdeal.main_v11_1) = v1 c
          ∧ r.2.mem ((c.tc : Thread Cert.ConvSampleKernelIdeal.nD Cert.ConvSampleKernelIdeal.τ).loc Cert.ConvSampleKernelIdeal.main_arg0) = m ((c.tc : Thread Cert.ConvSampleKernelIdeal.nD Cert.ConvSampleKernelIdeal.τ).loc Cert.ConvSampleKernelIdeal.main_arg0)
          ∧ r.2.mem ((c.tc : Thread Cert.ConvSampleKernelIdeal.nD Cert.ConvSampleKernelIdeal.τ).loc Cert.ConvSampleKernelIdeal.main_arg1) = m ((c.tc : Thread Cert.ConvSampleKernelIdeal.nD Cert.ConvSampleKernelIdeal.τ).loc Cert.ConvSampleKernelIdeal.main_arg1)
          ∧ r.2.mem ((c.tc : Thread Cert.ConvSampleKernelIdeal.nD Cert.ConvSampleKernelIdeal.τ).loc Cert.ConvSampleKernelIdeal.main_arg2) = m ((c.tc : Thread Cert.ConvSampleKernelIdeal.nD Cert.ConvSampleKernelIdeal.τ).loc Cert.ConvSampleKernelIdeal.main_arg2)
          ∧ r.2.mem ((c.tc : Thread Cert.ConvSampleKernelIdeal.nD Cert.ConvSampleKernelIdeal.τ).loc Cert.ConvSampleKernelIdeal.main_arg3) = m ((c.tc : Thread Cert.ConvSampleKernelIdeal.nD Cert.ConvSampleKernelIdeal.τ).loc Cert.ConvSampleKernelIdeal.main_arg3)
          ∧ r.2.mem ((c.tc : Thread Cert.ConvSampleKernelIdeal.nD Cert.ConvSampleKernelIdeal.τ).loc Cert.ConvSampleKernelIdeal.main_arg4) = m ((c.tc : Thread Cert.ConvSampleKernelIdeal.nD Cert.ConvSampleKernelIdeal.τ).loc Cert.ConvSampleKernelIdeal.main_arg4)
          ∧ r.2.mem ((c.tc : Thread Cert.ConvSampleKernelIdeal.nD Cert.ConvSampleKernelIdeal.τ).loc Cert.ConvSampleKernelIdeal.main_arg5) = m ((c.tc : Thread Cert.ConvSampleKernelIdeal.nD Cert.ConvSampleKernelIdeal.τ).loc Cert.ConvSampleKernelIdeal.main_arg5)
          ∧ r.2.mem ((c.tc : Thread Cert.ConvSampleKernelIdeal.nD Cert.ConvSampleKernelIdeal.τ).loc Cert.ConvSampleKernelIdeal.main_arg6) = m ((c.tc : Thread Cert.ConvSampleKernelIdeal.nD Cert.ConvSampleKernelIdeal.τ).loc Cert.ConvSampleKernelIdeal.main_arg6))
      ∧ θ_run (Cert.ConvSampleReferenceIdeal.defs (F := Ideal)) (onTc (τ := Cert.ConvSampleReferenceIdeal.τ) (Cert.ConvSampleReferenceIdeal.main (F := Ideal))) ⟨m', fun _ => 0, g'⟩ (fun r => ∀ c : Dev Cert.ConvSampleReferenceIdeal.nD,
          r.2.mem ((c.tc : Thread Cert.ConvSampleReferenceIdeal.nD Cert.ConvSampleReferenceIdeal.τ).loc Cert.ConvSampleReferenceIdeal.main_v8) = v0 c
          ∧ r.2.mem ((c.tc : Thread Cert.ConvSampleReferenceIdeal.nD Cert.ConvSampleReferenceIdeal.τ).loc Cert.ConvSampleReferenceIdeal.main_v77) = v1 c
          ∧ r.2.mem ((c.tc : Thread Cert.ConvSampleReferenceIdeal.nD Cert.ConvSampleReferenceIdeal.τ).loc Cert.ConvSampleReferenceIdeal.main_arg0) = m' ((c.tc : Thread Cert.ConvSampleReferenceIdeal.nD Cert.ConvSampleReferenceIdeal.τ).loc Cert.ConvSampleReferenceIdeal.main_arg0)
          ∧ r.2.mem ((c.tc : Thread Cert.ConvSampleReferenceIdeal.nD Cert.ConvSampleReferenceIdeal.τ).loc Cert.ConvSampleReferenceIdeal.main_arg1) = m' ((c.tc : Thread Cert.ConvSampleReferenceIdeal.nD Cert.ConvSampleReferenceIdeal.τ).loc Cert.ConvSampleReferenceIdeal.main_arg1)
          ∧ r.2.mem ((c.tc : Thread Cert.ConvSampleReferenceIdeal.nD Cert.ConvSampleReferenceIdeal.τ).loc Cert.ConvSampleReferenceIdeal.main_arg2) = m' ((c.tc : Thread Cert.ConvSampleReferenceIdeal.nD Cert.ConvSampleReferenceIdeal.τ).loc Cert.ConvSampleReferenceIdeal.main_arg2)
          ∧ r.2.mem ((c.tc : Thread Cert.ConvSampleReferenceIdeal.nD Cert.ConvSampleReferenceIdeal.τ).loc Cert.ConvSampleReferenceIdeal.main_arg3) = m' ((c.tc : Thread Cert.ConvSampleReferenceIdeal.nD Cert.ConvSampleReferenceIdeal.τ).loc Cert.ConvSampleReferenceIdeal.main_arg3)
          ∧ r.2.mem ((c.tc : Thread Cert.ConvSampleReferenceIdeal.nD Cert.ConvSampleReferenceIdeal.τ).loc Cert.ConvSampleReferenceIdeal.main_arg4) = m' ((c.tc : Thread Cert.ConvSampleReferenceIdeal.nD Cert.ConvSampleReferenceIdeal.τ).loc Cert.ConvSampleReferenceIdeal.main_arg4)
          ∧ r.2.mem ((c.tc : Thread Cert.ConvSampleReferenceIdeal.nD Cert.ConvSampleReferenceIdeal.τ).loc Cert.ConvSampleReferenceIdeal.main_arg5) = m' ((c.tc : Thread Cert.ConvSampleReferenceIdeal.nD Cert.ConvSampleReferenceIdeal.τ).loc Cert.ConvSampleReferenceIdeal.main_arg5)
          ∧ r.2.mem ((c.tc : Thread Cert.ConvSampleReferenceIdeal.nD Cert.ConvSampleReferenceIdeal.τ).loc Cert.ConvSampleReferenceIdeal.main_arg6) = m' ((c.tc : Thread Cert.ConvSampleReferenceIdeal.nD Cert.ConvSampleReferenceIdeal.τ).loc Cert.ConvSampleReferenceIdeal.main_arg6))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)
      ∧ m' ((c.tc : Thread Cert.ConvReferenceIdeal.nD Cert.ConvReferenceIdeal.τ).loc Cert.ConvReferenceIdeal.main_arg4) = m ((c.tc : Thread Cert.ConvKernelIdeal.nD Cert.ConvKernelIdeal.τ).loc Cert.ConvKernelIdeal.main_arg4)
      ∧ m' ((c.tc : Thread Cert.ConvReferenceIdeal.nD Cert.ConvReferenceIdeal.τ).loc Cert.ConvReferenceIdeal.main_arg5) = m ((c.tc : Thread Cert.ConvKernelIdeal.nD Cert.ConvKernelIdeal.τ).loc Cert.ConvKernelIdeal.main_arg5)
      ∧ m' ((c.tc : Thread Cert.ConvReferenceIdeal.nD Cert.ConvReferenceIdeal.τ).loc Cert.ConvReferenceIdeal.main_arg6) = m ((c.tc : Thread Cert.ConvKernelIdeal.nD Cert.ConvKernelIdeal.τ).loc Cert.ConvKernelIdeal.main_arg6)
      ∧ m' ((c.tc : Thread Cert.ConvReferenceIdeal.nD Cert.ConvReferenceIdeal.τ).loc Cert.ConvReferenceIdeal.main_arg7) = m ((c.tc : Thread Cert.ConvKernelIdeal.nD Cert.ConvKernelIdeal.τ).loc Cert.ConvKernelIdeal.main_arg7)) →
    ∃ (v0 : (c : Dev Cert.ConvKernelIdeal.nD) → Buf (Elt Ideal) ((c.tc : Thread Cert.ConvKernelIdeal.nD Cert.ConvKernelIdeal.τ).loc Cert.ConvKernelIdeal.main_v10_0)) (v1 : (c : Dev Cert.ConvKernelIdeal.nD) → Buf (Elt Ideal) ((c.tc : Thread Cert.ConvKernelIdeal.nD Cert.ConvKernelIdeal.τ).loc Cert.ConvKernelIdeal.main_v10_1)) (v2 : (c : Dev Cert.ConvKernelIdeal.nD) → Buf (Elt Ideal) ((c.tc : Thread Cert.ConvKernelIdeal.nD Cert.ConvKernelIdeal.τ).loc Cert.ConvKernelIdeal.main_v10_2)) (v3 : (c : Dev Cert.ConvKernelIdeal.nD) → Buf (Elt Ideal) ((c.tc : Thread Cert.ConvKernelIdeal.nD Cert.ConvKernelIdeal.τ).loc Cert.ConvKernelIdeal.main_v10_3)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v10_0) = v0 c
          ∧ r.2.mem ((c.tc : Thread Cert.ConvKernelIdeal.nD Cert.ConvKernelIdeal.τ).loc Cert.ConvKernelIdeal.main_v10_1) = v1 c
          ∧ r.2.mem ((c.tc : Thread Cert.ConvKernelIdeal.nD Cert.ConvKernelIdeal.τ).loc Cert.ConvKernelIdeal.main_v10_2) = v2 c
          ∧ r.2.mem ((c.tc : Thread Cert.ConvKernelIdeal.nD Cert.ConvKernelIdeal.τ).loc Cert.ConvKernelIdeal.main_v10_3) = v3 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
          ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
          ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
          ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6)
          ∧ r.2.mem ((c.tc : Thread Cert.ConvKernelIdeal.nD Cert.ConvKernelIdeal.τ).loc Cert.ConvKernelIdeal.main_arg7) = m ((c.tc : Thread Cert.ConvKernelIdeal.nD Cert.ConvKernelIdeal.τ).loc Cert.ConvKernelIdeal.main_arg7))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v8) = v0 c
          ∧ r.2.mem ((c.tc : Thread Cert.ConvReferenceIdeal.nD Cert.ConvReferenceIdeal.τ).loc Cert.ConvReferenceIdeal.main_v75) = v1 c
          ∧ r.2.mem ((c.tc : Thread Cert.ConvReferenceIdeal.nD Cert.ConvReferenceIdeal.τ).loc Cert.ConvReferenceIdeal.main_v76) = v2 c
          ∧ r.2.mem ((c.tc : Thread Cert.ConvReferenceIdeal.nD Cert.ConvReferenceIdeal.τ).loc Cert.ConvReferenceIdeal.main_v77) = v3 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6)
          ∧ r.2.mem ((c.tc : Thread Cert.ConvReferenceIdeal.nD Cert.ConvReferenceIdeal.τ).loc Cert.ConvReferenceIdeal.main_arg7) = m' ((c.tc : Thread Cert.ConvReferenceIdeal.nD Cert.ConvReferenceIdeal.τ).loc Cert.ConvReferenceIdeal.main_arg7))

def preserves_AttnSampleKernel_AttnSampleKernelIdeal : Prop :=
  True

def algebraic_AttnSampleKernelIdeal_AttnSampleReferenceIdeal_pre_finite_sample_scores [hAttnSampleKernelIdeal : Cert.AttnSampleKernelIdeal.Facts] [hAttnSampleReferenceIdeal : Cert.AttnSampleReferenceIdeal.Facts] [hPre_finite_sample_scores : Cert.Pre_finite_sample_scores.Facts] : Prop :=
  ∀ (m : (ℓ : Loc Cert.AttnSampleKernelIdeal.nD Cert.AttnSampleKernelIdeal.τ Cert.AttnSampleKernelIdeal.sig) → Buf (Elt Ideal) ℓ) (g : Dev Cert.AttnSampleKernelIdeal.nD → PrngReg)
    (m' : (ℓ : Loc Cert.AttnSampleReferenceIdeal.nD Cert.AttnSampleReferenceIdeal.τ Cert.AttnSampleReferenceIdeal.sig) → Buf (Elt Ideal) ℓ) (g' : Dev Cert.AttnSampleReferenceIdeal.nD → PrngReg), Pre_AttnSampleKernelIdeal_finite_sample_scores m →
    (∀ c : Dev Cert.AttnSampleKernelIdeal.nD,
      m' ((c.tc : Thread Cert.AttnSampleReferenceIdeal.nD Cert.AttnSampleReferenceIdeal.τ).loc Cert.AttnSampleReferenceIdeal.main_arg0) = m ((c.tc : Thread Cert.AttnSampleKernelIdeal.nD Cert.AttnSampleKernelIdeal.τ).loc Cert.AttnSampleKernelIdeal.main_arg0)
      ∧ m' ((c.tc : Thread Cert.AttnSampleReferenceIdeal.nD Cert.AttnSampleReferenceIdeal.τ).loc Cert.AttnSampleReferenceIdeal.main_arg1) = m ((c.tc : Thread Cert.AttnSampleKernelIdeal.nD Cert.AttnSampleKernelIdeal.τ).loc Cert.AttnSampleKernelIdeal.main_arg1)
      ∧ m' ((c.tc : Thread Cert.AttnSampleReferenceIdeal.nD Cert.AttnSampleReferenceIdeal.τ).loc Cert.AttnSampleReferenceIdeal.main_arg2) = m ((c.tc : Thread Cert.AttnSampleKernelIdeal.nD Cert.AttnSampleKernelIdeal.τ).loc Cert.AttnSampleKernelIdeal.main_arg2)
      ∧ m' ((c.tc : Thread Cert.AttnSampleReferenceIdeal.nD Cert.AttnSampleReferenceIdeal.τ).loc Cert.AttnSampleReferenceIdeal.main_arg3) = m ((c.tc : Thread Cert.AttnSampleKernelIdeal.nD Cert.AttnSampleKernelIdeal.τ).loc Cert.AttnSampleKernelIdeal.main_arg3)) →
    ∃ (v0 : (c : Dev Cert.AttnSampleKernelIdeal.nD) → Buf (Elt Ideal) ((c.tc : Thread Cert.AttnSampleKernelIdeal.nD Cert.AttnSampleKernelIdeal.τ).loc Cert.AttnSampleKernelIdeal.main_v11)),
      θ_run (Cert.AttnSampleKernelIdeal.defs (F := Ideal)) (onTc (τ := Cert.AttnSampleKernelIdeal.τ) (Cert.AttnSampleKernelIdeal.main (F := Ideal))) ⟨m, fun _ => 0, g⟩ (fun r => ∀ c : Dev Cert.AttnSampleKernelIdeal.nD,
          r.2.mem ((c.tc : Thread Cert.AttnSampleKernelIdeal.nD Cert.AttnSampleKernelIdeal.τ).loc Cert.AttnSampleKernelIdeal.main_v11) = v0 c
          ∧ r.2.mem ((c.tc : Thread Cert.AttnSampleKernelIdeal.nD Cert.AttnSampleKernelIdeal.τ).loc Cert.AttnSampleKernelIdeal.main_arg0) = m ((c.tc : Thread Cert.AttnSampleKernelIdeal.nD Cert.AttnSampleKernelIdeal.τ).loc Cert.AttnSampleKernelIdeal.main_arg0)
          ∧ r.2.mem ((c.tc : Thread Cert.AttnSampleKernelIdeal.nD Cert.AttnSampleKernelIdeal.τ).loc Cert.AttnSampleKernelIdeal.main_arg1) = m ((c.tc : Thread Cert.AttnSampleKernelIdeal.nD Cert.AttnSampleKernelIdeal.τ).loc Cert.AttnSampleKernelIdeal.main_arg1)
          ∧ r.2.mem ((c.tc : Thread Cert.AttnSampleKernelIdeal.nD Cert.AttnSampleKernelIdeal.τ).loc Cert.AttnSampleKernelIdeal.main_arg2) = m ((c.tc : Thread Cert.AttnSampleKernelIdeal.nD Cert.AttnSampleKernelIdeal.τ).loc Cert.AttnSampleKernelIdeal.main_arg2)
          ∧ r.2.mem ((c.tc : Thread Cert.AttnSampleKernelIdeal.nD Cert.AttnSampleKernelIdeal.τ).loc Cert.AttnSampleKernelIdeal.main_arg3) = m ((c.tc : Thread Cert.AttnSampleKernelIdeal.nD Cert.AttnSampleKernelIdeal.τ).loc Cert.AttnSampleKernelIdeal.main_arg3))
      ∧ θ_run (Cert.AttnSampleReferenceIdeal.defs (F := Ideal)) (onTc (τ := Cert.AttnSampleReferenceIdeal.τ) (Cert.AttnSampleReferenceIdeal.main (F := Ideal))) ⟨m', fun _ => 0, g'⟩ (fun r => ∀ c : Dev Cert.AttnSampleReferenceIdeal.nD,
          r.2.mem ((c.tc : Thread Cert.AttnSampleReferenceIdeal.nD Cert.AttnSampleReferenceIdeal.τ).loc Cert.AttnSampleReferenceIdeal.main_v49) = v0 c
          ∧ r.2.mem ((c.tc : Thread Cert.AttnSampleReferenceIdeal.nD Cert.AttnSampleReferenceIdeal.τ).loc Cert.AttnSampleReferenceIdeal.main_arg0) = m' ((c.tc : Thread Cert.AttnSampleReferenceIdeal.nD Cert.AttnSampleReferenceIdeal.τ).loc Cert.AttnSampleReferenceIdeal.main_arg0)
          ∧ r.2.mem ((c.tc : Thread Cert.AttnSampleReferenceIdeal.nD Cert.AttnSampleReferenceIdeal.τ).loc Cert.AttnSampleReferenceIdeal.main_arg1) = m' ((c.tc : Thread Cert.AttnSampleReferenceIdeal.nD Cert.AttnSampleReferenceIdeal.τ).loc Cert.AttnSampleReferenceIdeal.main_arg1)
          ∧ r.2.mem ((c.tc : Thread Cert.AttnSampleReferenceIdeal.nD Cert.AttnSampleReferenceIdeal.τ).loc Cert.AttnSampleReferenceIdeal.main_arg2) = m' ((c.tc : Thread Cert.AttnSampleReferenceIdeal.nD Cert.AttnSampleReferenceIdeal.τ).loc Cert.AttnSampleReferenceIdeal.main_arg2)
          ∧ r.2.mem ((c.tc : Thread Cert.AttnSampleReferenceIdeal.nD Cert.AttnSampleReferenceIdeal.τ).loc Cert.AttnSampleReferenceIdeal.main_arg3) = m' ((c.tc : Thread Cert.AttnSampleReferenceIdeal.nD Cert.AttnSampleReferenceIdeal.τ).loc Cert.AttnSampleReferenceIdeal.main_arg3))

def Claim : Prop :=
  ∃ (hAttnKernel : Cert.AttnKernel.Facts) (hAttnKernelIdeal : Cert.AttnKernelIdeal.Facts) (hAttnReferenceIdeal : Cert.AttnReferenceIdeal.Facts) (hInKernel : Cert.InKernel.Facts) (hInKernelIdeal : Cert.InKernelIdeal.Facts) (hInReferenceIdeal : Cert.InReferenceIdeal.Facts) (hInSampleKernel : Cert.InSampleKernel.Facts) (hInSampleKernelIdeal : Cert.InSampleKernelIdeal.Facts) (hInSampleReferenceIdeal : Cert.InSampleReferenceIdeal.Facts) (hMergeKernel : Cert.MergeKernel.Facts) (hMergeKernelIdeal : Cert.MergeKernelIdeal.Facts) (hMergeReferenceIdeal : Cert.MergeReferenceIdeal.Facts) (hQueryKernel : Cert.QueryKernel.Facts) (hQueryKernelIdeal : Cert.QueryKernelIdeal.Facts) (hQueryReferenceIdeal : Cert.QueryReferenceIdeal.Facts) (hConvSampleKernel : Cert.ConvSampleKernel.Facts) (hConvSampleKernelIdeal : Cert.ConvSampleKernelIdeal.Facts) (hConvSampleReferenceIdeal : Cert.ConvSampleReferenceIdeal.Facts) (hConvKernel : Cert.ConvKernel.Facts) (hConvKernelIdeal : Cert.ConvKernelIdeal.Facts) (hConvReferenceIdeal : Cert.ConvReferenceIdeal.Facts) (hAttnSampleKernel : Cert.AttnSampleKernel.Facts) (hAttnSampleKernelIdeal : Cert.AttnSampleKernelIdeal.Facts) (hAttnSampleReferenceIdeal : Cert.AttnSampleReferenceIdeal.Facts) (hPre_finite_scores : Cert.Pre_finite_scores.Facts) (hPre_finite_sample_scores : Cert.Pre_finite_sample_scores.Facts),
    quiescent_AttnKernel (hAttnKernel := hAttnKernel)
    ∧ quiescent_AttnKernelIdeal (hAttnKernelIdeal := hAttnKernelIdeal)
    ∧ quiescent_AttnKernelIdeal_pre_finite_scores (hAttnKernelIdeal := hAttnKernelIdeal) (hPre_finite_scores := hPre_finite_scores)
    ∧ quiescent_AttnReferenceIdeal (hAttnReferenceIdeal := hAttnReferenceIdeal)
    ∧ quiescent_AttnReferenceIdeal_pre_finite_scores (hAttnReferenceIdeal := hAttnReferenceIdeal) (hPre_finite_scores := hPre_finite_scores)
    ∧ quiescent_InKernel (hInKernel := hInKernel)
    ∧ quiescent_InKernelIdeal (hInKernelIdeal := hInKernelIdeal)
    ∧ quiescent_InReferenceIdeal (hInReferenceIdeal := hInReferenceIdeal)
    ∧ quiescent_InSampleKernel (hInSampleKernel := hInSampleKernel)
    ∧ quiescent_InSampleKernelIdeal (hInSampleKernelIdeal := hInSampleKernelIdeal)
    ∧ quiescent_InSampleReferenceIdeal (hInSampleReferenceIdeal := hInSampleReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_QueryKernel (hQueryKernel := hQueryKernel)
    ∧ quiescent_QueryKernelIdeal (hQueryKernelIdeal := hQueryKernelIdeal)
    ∧ quiescent_QueryReferenceIdeal (hQueryReferenceIdeal := hQueryReferenceIdeal)
    ∧ quiescent_ConvSampleKernel (hConvSampleKernel := hConvSampleKernel)
    ∧ quiescent_ConvSampleKernelIdeal (hConvSampleKernelIdeal := hConvSampleKernelIdeal)
    ∧ quiescent_ConvSampleReferenceIdeal (hConvSampleReferenceIdeal := hConvSampleReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_AttnSampleKernel (hAttnSampleKernel := hAttnSampleKernel)
    ∧ quiescent_AttnSampleKernelIdeal (hAttnSampleKernelIdeal := hAttnSampleKernelIdeal)
    ∧ quiescent_AttnSampleKernelIdeal_pre_finite_sample_scores (hAttnSampleKernelIdeal := hAttnSampleKernelIdeal) (hPre_finite_sample_scores := hPre_finite_sample_scores)
    ∧ quiescent_AttnSampleReferenceIdeal (hAttnSampleReferenceIdeal := hAttnSampleReferenceIdeal)
    ∧ quiescent_AttnSampleReferenceIdeal_pre_finite_sample_scores (hAttnSampleReferenceIdeal := hAttnSampleReferenceIdeal) (hPre_finite_sample_scores := hPre_finite_sample_scores)
    ∧ preserves_AttnKernel_AttnKernelIdeal
    ∧ algebraic_AttnKernelIdeal_AttnReferenceIdeal_pre_finite_scores (hAttnKernelIdeal := hAttnKernelIdeal) (hAttnReferenceIdeal := hAttnReferenceIdeal) (hPre_finite_scores := hPre_finite_scores)
    ∧ preserves_InKernel_InKernelIdeal
    ∧ algebraic_InKernelIdeal_InReferenceIdeal (hInKernelIdeal := hInKernelIdeal) (hInReferenceIdeal := hInReferenceIdeal)
    ∧ preserves_InSampleKernel_InSampleKernelIdeal
    ∧ algebraic_InSampleKernelIdeal_InSampleReferenceIdeal (hInSampleKernelIdeal := hInSampleKernelIdeal) (hInSampleReferenceIdeal := hInSampleReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_QueryKernel_QueryKernelIdeal
    ∧ algebraic_QueryKernelIdeal_QueryReferenceIdeal (hQueryKernelIdeal := hQueryKernelIdeal) (hQueryReferenceIdeal := hQueryReferenceIdeal)
    ∧ preserves_ConvSampleKernel_ConvSampleKernelIdeal
    ∧ algebraic_ConvSampleKernelIdeal_ConvSampleReferenceIdeal (hConvSampleKernelIdeal := hConvSampleKernelIdeal) (hConvSampleReferenceIdeal := hConvSampleReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_AttnSampleKernel_AttnSampleKernelIdeal
    ∧ algebraic_AttnSampleKernelIdeal_AttnSampleReferenceIdeal_pre_finite_sample_scores (hAttnSampleKernelIdeal := hAttnSampleKernelIdeal) (hAttnSampleReferenceIdeal := hAttnSampleReferenceIdeal) (hPre_finite_sample_scores := hPre_finite_sample_scores)
-- ==== Pre_finite_sample_scores.lean ====
abbrev S1024x10240 : Shape := ⟨2, ![1024, 10240]⟩
abbrev S1x32x512x16x128 : Shape := ⟨5, ![1, 32, 512, 16, 128]⟩
abbrev S1x16x513 : Shape := ⟨3, ![1, 16, 513]⟩
abbrev S1024x4096 : Shape := ⟨2, ![1024, 4096]⟩
abbrev S_ : Shape := ⟨0, ![]⟩

class Facts : Prop where
  slices_S1024x10240_S1024x4096_0_4096 : S1024x10240.Slices ![0, 4096] S1024x4096
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S1x32x512x16x128 : S_.BroadcastsInDim S1x32x512x16x128 (![] : Fin 0 → Fin S1x32x512x16x128.rank)
  reducesTo_S1x32x512x16x128_S_d0_1_2_3_4 : S1x32x512x16x128.ReducesTo [0, 1, 2, 3, 4] S_
  bcast_S_S1x16x513 : S_.BroadcastsInDim S1x16x513 (![] : Fin 0 → Fin S1x16x513.rank)
  reducesTo_S1x16x513_S_d0_1_2 : S1x16x513.ReducesTo [0, 1, 2] S_

variable [Facts]

def fn {F : FTy → Type} [FloatOps F] (main_arg0 : FVec F S1024x10240 .f32) (main_arg1 : FVec F S1x32x512x16x128 .f32) (main_arg2 : FVec F S1x32x512x16x128 .f32) (main_arg3 : FVec F S1x16x513 .f32) : IVec S_ 1 :=
  let main_v0 : FVec F S1024x4096 .f32 := (extractStridedSlice S1024x4096 ![0, 4096] · slices_S1024x10240_S1024x4096_0_4096) main_arg0
  let main_v1 : FVec F S1024x4096 .f32 := Host.absf main_v0
  let main_cst : FVec F S_ .f32 := constant S_ .f32 0x7F800000#32
  let main_v2 : FVec F S1024x4096 .f32 := broadcastInDim S1024x4096 ![] bcast_S_S1024x4096 main_cst
  let main_v3 : IVec S1024x4096 1 := cmpf .olt main_v1 main_v2
  let main_c : IVec S_ 1 := constantI S_ 1 1#1
  let main_v4 : IVec S_ 1 := (fun x v => Host.reduce IntOp.andi x v reducesTo_S1024x4096_S_d0_1 h_S_) main_v3 main_c
  let main_v5 : FVec F S1x32x512x16x128 .f32 := Host.absf main_arg1
  let main_cst_0 : FVec F S_ .f32 := constant S_ .f32 0x7F800000#32
  let main_v6 : FVec F S1x32x512x16x128 .f32 := broadcastInDim S1x32x512x16x128 ![] bcast_S_S1x32x512x16x128 main_cst_0
  let main_v7 : IVec S1x32x512x16x128 1 := cmpf .olt main_v5 main_v6
  let main_c_1 : IVec S_ 1 := constantI S_ 1 1#1
  let main_v8 : IVec S_ 1 := (fun x v => Host.reduce IntOp.andi x v reducesTo_S1x32x512x16x128_S_d0_1_2_3_4 h_S_) main_v7 main_c_1
  let main_v9 : IVec S_ 1 := andi main_v4 main_v8
  let main_v10 : FVec F S1x16x513 .f32 := Host.absf main_arg3
  let main_cst_2 : FVec F S_ .f32 := constant S_ .f32 0x7F800000#32
  let main_v11 : FVec F S1x16x513 .f32 := broadcastInDim S1x16x513 ![] bcast_S_S1x16x513 main_cst_2
  let main_v12 : IVec S1x16x513 1 := cmpf .olt main_v10 main_v11
  let main_c_3 : IVec S_ 1 := constantI S_ 1 1#1
  let main_v13 : IVec S_ 1 := (fun x v => Host.reduce IntOp.andi x v reducesTo_S1x16x513_S_d0_1_2 h_S_) main_v12 main_c_3
  let main_v14 : IVec S_ 1 := andi main_v9 main_v13
  main_v14
-- ==== Pre_finite_scores.lean ====
abbrev S8192x10240 : Shape := ⟨2, ![8192, 10240]⟩
abbrev S1x16x513 : Shape := ⟨3, ![1, 16, 513]⟩
abbrev S8192x4096 : Shape := ⟨2, ![8192, 4096]⟩
abbrev S_ : Shape := ⟨0, ![]⟩

class Facts : Prop where
  slices_S8192x10240_S8192x4096_0_4096 : S8192x10240.Slices ![0, 4096] S8192x4096
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x16x513 : S_.BroadcastsInDim S1x16x513 (![] : Fin 0 → Fin S1x16x513.rank)
  reducesTo_S1x16x513_S_d0_1_2 : S1x16x513.ReducesTo [0, 1, 2] S_

variable [Facts]

def fn {F : FTy → Type} [FloatOps F] (main_arg0 : FVec F S8192x10240 .f32) (main_arg1 : FVec F S1x16x513 .f32) : IVec S_ 1 :=
  let main_v0 : FVec F S8192x4096 .f32 := (extractStridedSlice S8192x4096 ![0, 4096] · slices_S8192x10240_S8192x4096_0_4096) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S1x16x513 .f32 := Host.absf main_arg1
  let main_cst_0 : FVec F S_ .f32 := constant S_ .f32 0x7F800000#32
  let main_v6 : FVec F S1x16x513 .f32 := broadcastInDim S1x16x513 ![] bcast_S_S1x16x513 main_cst_0
  let main_v7 : IVec S1x16x513 1 := cmpf .olt main_v5 main_v6
  let main_c_1 : IVec S_ 1 := constantI S_ 1 1#1
  let main_v8 : IVec S_ 1 := (fun x v => Host.reduce IntOp.andi x v reducesTo_S1x16x513_S_d0_1_2 h_S_) main_v7 main_c_1
  let main_v9 : IVec S_ 1 := andi main_v4 main_v8
  main_v9
-- ==== AttnKernel.lean ====
abbrev S8192x10240 : Shape := ⟨2, ![8192, 10240]⟩
abbrev S1x16x513 : Shape := ⟨3, ![1, 16, 513]⟩
abbrev S1024 : Shape := ⟨1, ![1024]⟩
abbrev S16x513 : Shape := ⟨2, ![16, 513]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S8192x2048 : Shape := ⟨2, ![8192, 2048]⟩
abbrev S2048x128 : Shape := ⟨2, ![2048, 128]⟩
abbrev S8192x128 : Shape := ⟨2, ![8192, 128]⟩
abbrev S1x1x1024 : Shape := ⟨3, ![1, 1, 1024]⟩
abbrev S8704x128 : Shape := ⟨2, ![8704, 128]⟩
abbrev S256x768 : Shape := ⟨2, ![256, 768]⟩
abbrev S512x128 : Shape := ⟨2, ![512, 128]⟩
abbrev S1x1024 : Shape := ⟨2, ![1, 1024]⟩
abbrev S256x1024 : Shape := ⟨2, ![256, 1024]⟩
abbrev S256x128 : Shape := ⟨2, ![256, 128]⟩
abbrev S768x128 : Shape := ⟨2, ![768, 128]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x10240, .f32⟩
  | .hbm, ⟨1, _⟩ => ⟨S1x16x513, .f32⟩
  | .hbm, ⟨2, _⟩ => ⟨S1024, .i32⟩
  | .hbm, ⟨3, _⟩ => ⟨S1024, .i1⟩
  | .hbm, ⟨4, _⟩ => ⟨S16x513, .f32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S16x1024, .f32⟩
  | .hbm, ⟨11, _⟩ => ⟨S16x1x1024, .f32⟩
  | .hbm, ⟨12, _⟩ => ⟨S8192x2048, .f32⟩
  | .local _ .vmem, ⟨0, _⟩ => ⟨S2048x128, .f32⟩
  | .local _ .vmem, ⟨1, _⟩ => ⟨S2048x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x1x1024, .f32⟩
  | .local _ .vmem, ⟨7, _⟩ => ⟨S1x1x1024, .f32⟩
  | .local _ .vmem, ⟨8, _⟩ => ⟨S2048x128, .f32⟩
  | .local _ .vmem, ⟨9, _⟩ => ⟨S2048x128, .f32⟩
  | .local _ .vmem, ⟨10, _⟩ => ⟨S8704x128, .bf16⟩
  | .local _ .vmem, ⟨11, _⟩ => ⟨S8704x128, .bf16⟩
  | .local _ .vmem, ⟨12, _⟩ => ⟨S256x768, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v4 : BitVec 32 := Scalar.muli arg1 c2048_i32
  let c0_i32_1 : BitVec 32 := 0#32
  let v5 : BitVec 32 := Scalar.addi v4 c0_i32_1
  v5
def k0_off1 (i : grid0.Coords) (c0_i32_1 : BitVec 32) : Fin 2 → Nat :=
  let arg1 : BitVec 32 := BitVec.ofNat 32 (i 1).val
  let c2048_i32 : BitVec 32 := 2048#32
  let v4 : BitVec 32 := Scalar.muli arg1 c2048_i32
  let v5 : BitVec 32 := Scalar.addi v4 c0_i32_1
  let v6 : BitVec 32 := v5
  let v11 : Index := Scalar.indexCast v6
  let c0_3 : Index := 0#32
  ![v11.toNat, 0]
def k0_mult2 (i : grid0.Coords) : BitVec 32 :=
  let arg1 : BitVec 32 := BitVec.ofNat 32 (i 1).val
  let c2048_i32_14 : BitVec 32 := 2048#32
  let v35 : BitVec 32 := Scalar.muli arg1 c2048_i32_14
  let c256_i32 : BitVec 32 := 256#32
  let v36 : BitVec 32 := Scalar.addi v35 c256_i32
  v36
def k0_mult3 (i : grid0.Coords) : BitVec 32 :=
  let arg1 : BitVec 32 := BitVec.ofNat 32 (i 1).val
  let c2048_i32_29 : BitVec 32 := 2048#32
  let v66 : BitVec 32 := Scalar.muli arg1 c2048_i32_29
  let c512_i32_30 : BitVec 32 := 512#32
  let v67 : BitVec 32 := Scalar.addi v66 c512_i32_30
  v67
def k0_mult4 (i : grid0.Coords) : BitVec 32 :=
  let arg1 : BitVec 32 := BitVec.ofNat 32 (i 1).val
  let c2048_i32_45 : BitVec 32 := 2048#32
  let v97 : BitVec 32 := Scalar.muli arg1 c2048_i32_45
  let c768_i32 : BitVec 32 := 768#32
  let v98 : BitVec 32 := Scalar.addi v97 c768_i32
  v98
def k0_mult5 (i : grid0.Coords) : BitVec 32 :=
  let arg1 : BitVec 32 := BitVec.ofNat 32 (i 1).val
  let c2048_i32_60 : BitVec 32 := 2048#32
  let v128 : BitVec 32 := Scalar.muli arg1 c2048_i32_60
  let c1024_i32 : BitVec 32 := 1024#32
  let v129 : BitVec 32 := Scalar.addi v128 c1024_i32
  v129
def k0_mult6 (i : grid0.Coords) : BitVec 32 :=
  let arg1 : BitVec 32 := BitVec.ofNat 32 (i 1).val
  let c2048_i32_75 : BitVec 32 := 2048#32
  let v159 : BitVec 32 := Scalar.muli arg1 c2048_i32_75
  let c1280_i32 : BitVec 32 := 1280#32
  let v160 : BitVec 32 := Scalar.addi v159 c1280_i32
  v160
def k0_mult7 (i : grid0.Coords) : BitVec 32 :=
  let arg1 : BitVec 32 := BitVec.ofNat 32 (i 1).val
  let c2048_i32_90 : BitVec 32 := 2048#32
  let v190 : BitVec 32 := Scalar.muli arg1 c2048_i32_90
  let c1536_i32 : BitVec 32 := 1536#32
  let v191 : BitVec 32 := Scalar.addi v190 c1536_i32
  v191
def k0_mult8 (i : grid0.Coords) : BitVec 32 :=
  let arg1 : BitVec 32 := BitVec.ofNat 32 (i 1).val
  let c2048_i32_105 : BitVec 32 := 2048#32
  let v221 : BitVec 32 := Scalar.muli arg1 c2048_i32_105
  let c1792_i32 : BitVec 32 := 1792#32
  let v222 : BitVec 32 := Scalar.addi v221 c1792_i32
  v222
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnKernelIdeal.lean ====
variable {F : FTy → Type} [FloatOps F] [Named F]
def κ : String → Option EReal := fun
  | "mask" => some ⊥
  | _ => none
-- ==== AttnReferenceIdeal.lean ====
abbrev S8192x10240 : Shape := ⟨2, ![8192, 10240]⟩
abbrev S1x16x513 : Shape := ⟨3, ![1, 16, 513]⟩
abbrev S8192x2048 : Shape := ⟨2, ![8192, 2048]⟩
abbrev S8192x16x128 : Shape := ⟨3, ![8192, 16, 128]⟩
abbrev S_ : Shape := ⟨0, ![]⟩
abbrev S512x16x128 : Shape := ⟨3, ![512, 16, 128]⟩
abbrev S8704x16x128 : Shape := ⟨3, ![8704, 16, 128]⟩
abbrev S128x64x16x128 : Shape := ⟨4, ![128, 64, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S16x513 : Shape := ⟨2, ![16, 513]⟩
abbrev S64x576x1 : Shape := ⟨3, ![64, 576, 1]⟩
abbrev S16x64x576 : Shape := ⟨3, ![16, 64, 576]⟩
abbrev S128 : Shape := ⟨1, ![128]⟩
abbrev S128x1 : Shape := ⟨2, ![128, 1]⟩
abbrev S128x576 : Shape := ⟨2, ![128, 576]⟩
abbrev S128x576x1 : Shape := ⟨3, ![128, 576, 1]⟩
abbrev S128x576x16x128 : Shape := ⟨4, ![128, 576, 16, 128]⟩
abbrev S128x16x64x576 : Shape := ⟨4, ![128, 16, 64, 576]⟩
abbrev S1x16x64x576 : Shape := ⟨4, ![1, 16, 64, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x128x64 : Shape := ⟨4, ![128, 16, 128, 64]⟩

abbrev nBuf : Space → Nat
  | .hbm => 105
  | .vmem => 0
  | .smem => 0
  | _ => 0

abbrev bufTy : (tb : Table) → Fin (tcTables nBuf tb) → BufTy
  | .hbm, ⟨0, _⟩ => ⟨S8192x10240, .f32⟩
  | .hbm, ⟨1, _⟩ => ⟨S1x16x513, .f32⟩
  | .hbm, ⟨2, _⟩ => ⟨S8192x2048, .f32⟩
  | .hbm, ⟨3, _⟩ => ⟨S8192x16x128, .f32⟩
  | .hbm, ⟨4, _⟩ => ⟨S8192x2048, .f32⟩
  | .hbm, ⟨5, _⟩ => ⟨S8192x16x128, .f32⟩
  | .hbm, ⟨6, _⟩ => ⟨S8192x2048, .f32⟩
  | .hbm, ⟨7, _⟩ => ⟨S8192x16x128, .f32⟩
  | .hbm, ⟨8, _⟩ => ⟨S_, .f32⟩
  | .hbm, ⟨9, _⟩ => ⟨S512x16x128, .f32⟩
  | .hbm, ⟨10, _⟩ => ⟨S8704x16x128, .f32⟩
  | .hbm, ⟨11, _⟩ => ⟨S8704x16x128, .f32⟩
  | .hbm, ⟨12, _⟩ => ⟨S128x64x16x128, .f32⟩
  | .hbm, ⟨13, _⟩ => ⟨S64, .i32⟩
  | .hbm, ⟨14, _⟩ => ⟨S64x1, .i32⟩
  | .hbm, ⟨15, _⟩ => ⟨S_, .i32⟩
  | .hbm, ⟨16, _⟩ => ⟨S64x1, .i32⟩
  | .hbm, ⟨17, _⟩ => ⟨S64x1, .i32⟩
  | .hbm, ⟨18, _⟩ => ⟨S576, .i32⟩
  | .hbm, ⟨19, _⟩ => ⟨S1x576, .i32⟩
  | .hbm, ⟨20, _⟩ => ⟨S64x576, .i32⟩
  | .hbm, ⟨21, _⟩ => ⟨S64x576, .i32⟩
  | .hbm, ⟨22, _⟩ => ⟨S64x576, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S16x513, .f32⟩
  | .hbm, ⟨35, _⟩ => ⟨S_, .i32⟩
  | .hbm, ⟨36, _⟩ => ⟨S64x576, .i32⟩
  | .hbm, ⟨37, _⟩ => ⟨S64x576, .i1⟩
  | .hbm, ⟨38, _⟩ => ⟨S_, .i32⟩
  | .hbm, ⟨39, _⟩ => ⟨S64x576, .i32⟩
  | .hbm, ⟨40, _⟩ => ⟨S64x576, .i32⟩
  | .hbm, ⟨41, _⟩ => ⟨S64x576, .i32⟩
  | .hbm, ⟨42, _⟩ => ⟨S64x576x1, .i32⟩
  | .hbm, ⟨43, _⟩ => ⟨S16x64x576, .f32⟩
  | .hbm, ⟨44, _⟩ => ⟨S128, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S576, .i32⟩
  | .hbm, ⟨50, _⟩ => ⟨S1x576, .i32⟩
  | .hbm, ⟨51, _⟩ => ⟨S128x576, .i32⟩
  | .hbm, ⟨52, _⟩ => ⟨S128x576, .i32⟩
  | .hbm, ⟨53, _⟩ => ⟨S128x576, .i32⟩
  | .hbm, ⟨54, _⟩ => ⟨S_, .i32⟩
  | .hbm, ⟨55, _⟩ => ⟨S128x576, .i32⟩
  | .hbm, ⟨56, _⟩ => ⟨S128x576, .i1⟩
  | .hbm, ⟨57, _⟩ => ⟨S_, .i32⟩
  | .hbm, ⟨58, _⟩ => ⟨S128x576, .i32⟩
  | .hbm, ⟨59, _⟩ => ⟨S128x576, .i32⟩
  | .hbm, ⟨60, _⟩ => ⟨S128x576, .i32⟩
  | .hbm, ⟨61, _⟩ => ⟨S128x576x1, .i32⟩
  | .hbm, ⟨62, _⟩ => ⟨S128x576x16x128, .f32⟩
  | .hbm, ⟨63, _⟩ => ⟨S_, .i32⟩
  | .hbm, ⟨64, _⟩ => ⟨S128x576, .i32⟩
  | .hbm, ⟨65, _⟩ => ⟨S128x576, .i1⟩
  | .hbm, ⟨66, _⟩ => ⟨S_, .i32⟩
  | .hbm, ⟨67, _⟩ => ⟨S128x576, .i32⟩
  | .hbm, ⟨68, _⟩ => ⟨S128x576, .i32⟩
  | .hbm, ⟨69, _⟩ => ⟨S128x576, .i32⟩
  | .hbm, ⟨70, _⟩ => ⟨S128x576x1, .i32⟩
  | .hbm, ⟨71, _⟩ => ⟨S128x576x16x128, .f32⟩
  | .hbm, ⟨72, _⟩ => ⟨S_, .f32⟩
  | .hbm, ⟨73, _⟩ => ⟨S128x64x16x128, .f32⟩
  | .hbm, ⟨74, _⟩ => ⟨S128x64x16x128, .f32⟩
  | .hbm, ⟨75, _⟩ => ⟨S128x16x64x576, .f32⟩
  | .hbm, ⟨76, _⟩ => ⟨S1x16x64x576, .f32⟩
  | .hbm, ⟨77, _⟩ => ⟨S128x16x64x576, .f32⟩
  | .hbm, ⟨78, _⟩ => ⟨S128x16x64x576, .f32⟩
  | .hbm, ⟨79, _⟩ => ⟨S_, .i32⟩
  | .hbm, ⟨80, _⟩ => ⟨S128x576, .i32⟩
  | .hbm, ⟨81, _⟩ => ⟨S128x576, .i1⟩
  | .hbm, ⟨82, _⟩ => ⟨S128x1x1x576, .i1⟩
  | .hbm, ⟨83, _⟩ => ⟨S_, .f32⟩
  | .hbm, ⟨84, _⟩ => ⟨S_, .f32⟩
  | .hbm, ⟨85, _⟩ => ⟨S128x16x64x576, .i1⟩
  | .hbm, ⟨86, _⟩ => ⟨S128x16x64x576, .f32⟩
  | .hbm, ⟨87, _⟩ => ⟨S128x16x64x576, .f32⟩
  | .hbm, ⟨88, _⟩ => ⟨S_, .f32⟩
  | .hbm, ⟨89, _⟩ => ⟨S128x16x64, .f32⟩
  | .hbm, ⟨90, _⟩ => ⟨S_, .f32⟩
  | .hbm, ⟨91, _⟩ => ⟨S128x16x64, .f32⟩
  | .hbm, ⟨92, _⟩ => ⟨S128x16x64, .f32⟩
  | .hbm, ⟨93, _⟩ => ⟨S128x16x64x1, .f32⟩
  | .hbm, ⟨94, _⟩ => ⟨S128x16x64x576, .f32⟩
  | .hbm, ⟨95, _⟩ => ⟨S128x16x64x576, .f32⟩
  | .hbm, ⟨96, _⟩ => ⟨S128x16x64x576, .f32⟩
  | .hbm, ⟨97, _⟩ => ⟨S_, .f32⟩
  | .hbm, ⟨98, _⟩ => ⟨S128x16x64, .f32⟩
  | .hbm, ⟨99, _⟩ => ⟨S128x16x64x1, .f32⟩
  | .hbm, ⟨100, _⟩ => ⟨S128x16x64x576, .f32⟩
  | .hbm, ⟨101, _⟩ => ⟨S128x16x64x576, .f32⟩
  | .hbm, ⟨102, _⟩ => ⟨S128x16x128x64, .f32⟩
  | .hbm, ⟨103, _⟩ => ⟨S128x64x16x128, .f32⟩
  | .hbm, ⟨104, _⟩ => ⟨S8192x2048, .f32⟩
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]
-- ==== InKernel.lean ====
abbrev S1x8192x4096 : Shape := ⟨3, ![1, 8192, 4096]⟩
abbrev S1x4096 : Shape := ⟨2, ![1, 4096]⟩
abbrev S1x4096x10240 : Shape := ⟨3, ![1, 4096, 10240]⟩
abbrev S1x10240 : Shape := ⟨2, ![1, 10240]⟩
abbrev S8192x4096 : Shape := ⟨2, ![8192, 4096]⟩
abbrev S4096 : Shape := ⟨1, ![4096]⟩
abbrev S4096x10240 : Shape := ⟨2, ![4096, 10240]⟩
abbrev S10240 : Shape := ⟨1, ![10240]⟩
abbrev S8192x10240 : Shape := ⟨2, ![8192, 10240]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩
abbrev S64x4096 : Shape := ⟨2, ![64, 4096]⟩
abbrev S64 : Shape := ⟨1, ![64]⟩
abbrev S64x1 : Shape := ⟨2, ![64, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x8192x4096, .f32⟩
  | .hbm, ⟨1, _⟩ => ⟨S1x4096, .f32⟩
  | .hbm, ⟨2, _⟩ => ⟨S1x4096x10240, .f32⟩
  | .hbm, ⟨3, _⟩ => ⟨S1x10240, .f32⟩
  | .hbm, ⟨4, _⟩ => ⟨S8192x4096, .f32⟩
  | .hbm, ⟨5, _⟩ => ⟨S4096, .f32⟩
  | .hbm, ⟨6, _⟩ => ⟨S1x4096, .f32⟩
  | .hbm, ⟨7, _⟩ => ⟨S4096x10240, .f32⟩
  | .hbm, ⟨8, _⟩ => ⟨S10240, .f32⟩
  | .hbm, ⟨9, _⟩ => ⟨S1x10240, .f32⟩
  | .hbm, ⟨10, _⟩ => ⟨S8192x10240, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S4096x512, .f32⟩
  | .local _ .vmem, ⟨4, _⟩ => ⟨S4096x512, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x4096, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c16_i32 : BitVec 32 := 16#32
  let v13 : BitVec 32 := Scalar.addi c0_i32_8 c16_i32
  let c1_i32 : BitVec 32 := 1#32
  ⟨c0_i32_8, v13, c1_i32⟩
def k0_mult1 (k0_t1 : Fin k0_t1_loop.trips) : BitVec 32 :=
  let c0_i32_8 : BitVec 32 := 0#32
  let c1_i32 : BitVec 32 := 1#32
  let arg8 : BitVec 32 := Scf.iv c0_i32_8 c1_i32 k0_t1
  let c64_i32 : BitVec 32 := 64#32
  let v14 : BitVec 32 := Scalar.muli arg8 c64_i32
  v14
def k0_off1 (k0_t1 : Fin k0_t1_loop.trips) : Fin 2 → Nat :=
  let c0_i32_8 : BitVec 32 := 0#32
  let c1_i32 : BitVec 32 := 1#32
  let arg8 : BitVec 32 := Scf.iv c0_i32_8 c1_i32 k0_t1
  let c64_i32 : BitVec 32 := 64#32
  let v14 : BitVec 32 := Scalar.muli arg8 c64_i32
  let v15 : BitVec 32 := v14
  let v16 : Index := Scalar.indexCast v15
  let c0_10 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InReferenceIdeal.lean ====
abbrev S1x8192x4096 : Shape := ⟨3, ![1, 8192, 4096]⟩
abbrev S1x4096 : Shape := ⟨2, ![1, 4096]⟩
abbrev S1x4096x10240 : Shape := ⟨3, ![1, 4096, 10240]⟩
abbrev S1x10240 : Shape := ⟨2, ![1, 10240]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x10240 : Shape := ⟨2, ![4096, 10240]⟩
abbrev S8192x10240 : Shape := ⟨2, ![8192, 10240]⟩
abbrev S10240 : Shape := ⟨1, ![10240]⟩

abbrev nBuf : Space → Nat
  | .hbm => 28
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S1x4096, .f32⟩
  | .hbm, ⟨2, _⟩ => ⟨S1x4096x10240, .f32⟩
  | .hbm, ⟨3, _⟩ => ⟨S1x10240, .f32⟩
  | .hbm, ⟨4, _⟩ => ⟨S8192x4096, .f32⟩
  | .hbm, ⟨5, _⟩ => ⟨S4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S4096x10240, .f32⟩
  | .hbm, ⟨23, _⟩ => ⟨S8192x10240, .f32⟩
  | .hbm, ⟨24, _⟩ => ⟨S10240, .f32⟩
  | .hbm, ⟨25, _⟩ => ⟨S1x10240, .f32⟩
  | .hbm, ⟨26, _⟩ => ⟨S8192x10240, .f32⟩
  | .hbm, ⟨27, _⟩ => ⟨S8192x10240, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== InSampleKernel.lean ====
abbrev S32x32x4096 : Shape := ⟨3, ![32, 32, 4096]⟩
abbrev S1x4096 : Shape := ⟨2, ![1, 4096]⟩
abbrev S1x4096x10240 : Shape := ⟨3, ![1, 4096, 10240]⟩
abbrev S1x10240 : Shape := ⟨2, ![1, 10240]⟩
abbrev S1024x4096 : Shape := ⟨2, ![1024, 4096]⟩
abbrev S4096 : Shape := ⟨1, ![4096]⟩
abbrev S4096x10240 : Shape := ⟨2, ![4096, 10240]⟩
abbrev S10240 : Shape := ⟨1, ![10240]⟩
abbrev S1024x10240 : Shape := ⟨2, ![1024, 10240]⟩
abbrev S4096x512 : Shape := ⟨2, ![4096, 512]⟩
abbrev S1x512 : Shape := ⟨2, ![1, 512]⟩
abbrev S1024x512 : Shape := ⟨2, ![1024, 512]⟩
abbrev S64x4096 : Shape := ⟨2, ![64, 4096]⟩
abbrev S64 : Shape := ⟨1, ![64]⟩
abbrev S64x1 : Shape := ⟨2, ![64, 1]⟩

abbrev nBuf : Space → Nat
  | .hbm => 11
  | .vmem => 9
  | .smem => 0
  | _ => 0

abbrev bufTy : (tb : Table) → Fin (tcTables nBuf tb) → BufTy
  | .hbm, ⟨0, _⟩ => ⟨S32x32x4096, .f32⟩
  | .hbm, ⟨1, _⟩ => ⟨S1x4096, .f32⟩
  | .hbm, ⟨2, _⟩ => ⟨S1x4096x10240, .f32⟩
  | .hbm, ⟨3, _⟩ => ⟨S1x10240, .f32⟩
  | .hbm, ⟨4, _⟩ => ⟨S1024x4096, .f32⟩
  | .hbm, ⟨5, _⟩ => ⟨S4096, .f32⟩
  | .hbm, ⟨6, _⟩ => ⟨S1x4096, .f32⟩
  | .hbm, ⟨7, _⟩ => ⟨S4096x10240, .f32⟩
  | .hbm, ⟨8, _⟩ => ⟨S10240, .f32⟩
  | .hbm, ⟨9, _⟩ => ⟨S1x10240, .f32⟩
  | .hbm, ⟨10, _⟩ => ⟨S1024x10240, .f32⟩
  | .local _ .vmem, ⟨0, _⟩ => ⟨S1024x4096, .f32⟩
  | .local _ .vmem, ⟨1, _⟩ => ⟨S1x4096, .f32⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x4096, .bf16⟩
  | _, _ => ⟨S32x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c16_i32 : BitVec 32 := 16#32
  let v13 : BitVec 32 := Scalar.addi c0_i32_8 c16_i32
  let c1_i32 : BitVec 32 := 1#32
  ⟨c0_i32_8, v13, c1_i32⟩
def k0_mult1 (k0_t1 : Fin k0_t1_loop.trips) : BitVec 32 :=
  let c0_i32_8 : BitVec 32 := 0#32
  let c1_i32 : BitVec 32 := 1#32
  let arg8 : BitVec 32 := Scf.iv c0_i32_8 c1_i32 k0_t1
  let c64_i32 : BitVec 32 := 64#32
  let v14 : BitVec 32 := Scalar.muli arg8 c64_i32
  v14
def k0_off1 (k0_t1 : Fin k0_t1_loop.trips) : Fin 2 → Nat :=
  let c0_i32_8 : BitVec 32 := 0#32
  let c1_i32 : BitVec 32 := 1#32
  let arg8 : BitVec 32 := Scf.iv c0_i32_8 c1_i32 k0_t1
  let c64_i32 : BitVec 32 := 64#32
  let v14 : BitVec 32 := Scalar.muli arg8 c64_i32
  let v15 : BitVec 32 := v14
  let v16 : Index := Scalar.indexCast v15
  let c0_10 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InSampleReferenceIdeal.lean ====
abbrev S32x32x4096 : Shape := ⟨3, ![32, 32, 4096]⟩
abbrev S1x4096 : Shape := ⟨2, ![1, 4096]⟩
abbrev S1x4096x10240 : Shape := ⟨3, ![1, 4096, 10240]⟩
abbrev S1x10240 : Shape := ⟨2, ![1, 10240]⟩
abbrev S1024x4096 : Shape := ⟨2, ![1024, 4096]⟩
abbrev S4096 : Shape := ⟨1, ![4096]⟩
abbrev S_ : Shape := ⟨0, ![]⟩
abbrev S1024 : Shape := ⟨1, ![1024]⟩
abbrev S1024x1 : Shape := ⟨2, ![1024, 1]⟩
abbrev S4096x10240 : Shape := ⟨2, ![4096, 10240]⟩
abbrev S1024x10240 : Shape := ⟨2, ![1024, 10240]⟩
abbrev S10240 : Shape := ⟨1, ![10240]⟩

abbrev nBuf : Space → Nat
  | .hbm => 28
  | .vmem => 0
  | .smem => 0
  | _ => 0

abbrev bufTy : (tb : Table) → Fin (tcTables nBuf tb) → BufTy
  | .hbm, ⟨0, _⟩ => ⟨S32x32x4096, .f32⟩
  | .hbm, ⟨1, _⟩ => ⟨S1x4096, .f32⟩
  | .hbm, ⟨2, _⟩ => ⟨S1x4096x10240, .f32⟩
  | .hbm, ⟨3, _⟩ => ⟨S1x10240, .f32⟩
  | .hbm, ⟨4, _⟩ => ⟨S1024x4096, .f32⟩
  | .hbm, ⟨5, _⟩ => ⟨S4096, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x4096, .f32⟩
  | .hbm, ⟨18, _⟩ => ⟨S1024x4096, .f32⟩
  | .hbm, ⟨19, _⟩ => ⟨S1x4096, .f32⟩
  | .hbm, ⟨20, _⟩ => ⟨S1024x4096, .f32⟩
  | .hbm, ⟨21, _⟩ => ⟨S1024x4096, .f32⟩
  | .hbm, ⟨22, _⟩ => ⟨S4096x10240, .f32⟩
  | .hbm, ⟨23, _⟩ => ⟨S1024x10240, .f32⟩
  | .hbm, ⟨24, _⟩ => ⟨S10240, .f32⟩
  | .hbm, ⟨25, _⟩ => ⟨S1x10240, .f32⟩
  | .hbm, ⟨26, _⟩ => ⟨S1024x10240, .f32⟩
  | .hbm, ⟨27, _⟩ => ⟨S1024x10240, .f32⟩
  | _, _ => ⟨S32x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== MergeKernel.lean ====
abbrev S8192x2048 : Shape := ⟨2, ![8192, 2048]⟩
abbrev S1x2048 : Shape := ⟨2, ![1, 2048]⟩
abbrev S4096x4096 : Shape := ⟨2, ![4096, 4096]⟩
abbrev S1x8192x4096 : Shape := ⟨3, ![1, 8192, 4096]⟩
abbrev S2048 : Shape := ⟨1, ![2048]⟩
abbrev S8192x4096 : Shape := ⟨2, ![8192, 4096]⟩
abbrev S1024x2048 : Shape := ⟨2, ![1024, 2048]⟩
abbrev S4096x512 : Shape := ⟨2, ![4096, 512]⟩
abbrev S1024x512 : Shape := ⟨2, ![1024, 512]⟩
abbrev S64x2048 : Shape := ⟨2, ![64, 2048]⟩
abbrev S64 : Shape := ⟨1, ![64]⟩
abbrev S64x1 : Shape := ⟨2, ![64, 1]⟩
abbrev S2048x512 : Shape := ⟨2, ![2048, 512]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S4096x4096, .bf16⟩
  | .hbm, ⟨4, _⟩ => ⟨S1x8192x4096, .f32⟩
  | .hbm, ⟨5, _⟩ => ⟨S2048, .f32⟩
  | .hbm, ⟨6, _⟩ => ⟨S1x2048, .f32⟩
  | .hbm, ⟨7, _⟩ => ⟨S8192x4096, .f32⟩
  | .hbm, ⟨8, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S4096x512, .bf16⟩
  | .local _ .vmem, ⟨6, _⟩ => ⟨S4096x512, .bf16⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c16_i32 : BitVec 32 := 16#32
  let v14 : BitVec 32 := Scalar.addi c0_i32_12 c16_i32
  let c1_i32 : BitVec 32 := 1#32
  ⟨c0_i32_12, v14, c1_i32⟩
def k0_mult1 (k0_t1 : Fin k0_t1_loop.trips) : BitVec 32 :=
  let c0_i32_12 : BitVec 32 := 0#32
  let c1_i32 : BitVec 32 := 1#32
  let arg9 : BitVec 32 := Scf.iv c0_i32_12 c1_i32 k0_t1
  let c64_i32 : BitVec 32 := 64#32
  let v15 : BitVec 32 := Scalar.muli arg9 c64_i32
  v15
def k0_off1 (k0_t1 : Fin k0_t1_loop.trips) : Fin 2 → Nat :=
  let c0_i32_12 : BitVec 32 := 0#32
  let c1_i32 : BitVec 32 := 1#32
  let arg9 : BitVec 32 := Scf.iv c0_i32_12 c1_i32 k0_t1
  let c64_i32 : BitVec 32 := 64#32
  let v15 : BitVec 32 := Scalar.muli arg9 c64_i32
  let v16 : BitVec 32 := v15
  let v17 : Index := Scalar.indexCast v16
  let c0_14 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MergeReferenceIdeal.lean ====
abbrev S8192x2048 : Shape := ⟨2, ![8192, 2048]⟩
abbrev S1x2048 : Shape := ⟨2, ![1, 2048]⟩
abbrev S4096x4096 : Shape := ⟨2, ![4096, 4096]⟩
abbrev S1x8192x4096 : Shape := ⟨3, ![1, 8192, 4096]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S4096x4096, .bf16⟩
  | .hbm, ⟨4, _⟩ => ⟨S1x8192x4096, .f32⟩
  | .hbm, ⟨5, _⟩ => ⟨S8192x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x4096, .f32⟩
  | .hbm, ⟨24, _⟩ => ⟨S8192x4096, .f32⟩
  | .hbm, ⟨25, _⟩ => ⟨S4096x4096, .f32⟩
  | .hbm, ⟨26, _⟩ => ⟨S8192x4096, .f32⟩
  | .hbm, ⟨27, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== QueryKernel.lean ====
abbrev S8192x4096 : Shape := ⟨2, ![8192, 4096]⟩
abbrev S1x4096 : Shape := ⟨2, ![1, 4096]⟩
abbrev S4096x2048 : Shape := ⟨2, ![4096, 2048]⟩
abbrev S4096 : Shape := ⟨1, ![4096]⟩
abbrev S_ : Shape := ⟨0, ![]⟩
abbrev S1x2048 : Shape := ⟨2, ![1, 2048]⟩
abbrev S8192x2048 : Shape := ⟨2, ![8192, 2048]⟩
abbrev S4096x8192 : Shape := ⟨2, ![4096, 8192]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩
abbrev S4096x1024 : Shape := ⟨2, ![4096, 1024]⟩
abbrev S64x4096 : Shape := ⟨2, ![64, 4096]⟩
abbrev S64 : Shape := ⟨1, ![64]⟩
abbrev S64x1 : Shape := ⟨2, ![64, 1]⟩
abbrev S128x4096 : Shape := ⟨2, ![128, 4096]⟩
abbrev S4096x128 : Shape := ⟨2, ![4096, 128]⟩

abbrev nBuf : Space → Nat
  | .hbm => 9
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x2048, .bf16⟩
  | .hbm, ⟨3, _⟩ => ⟨S4096, .f32⟩
  | .hbm, ⟨4, _⟩ => ⟨S1x4096, .f32⟩
  | .hbm, ⟨5, _⟩ => ⟨S_, .f32⟩
  | .hbm, ⟨6, _⟩ => ⟨S1x2048, .f32⟩
  | .hbm, ⟨7, _⟩ => ⟨S8192x2048, .f32⟩
  | .hbm, ⟨8, _⟩ => ⟨S4096x8192, .bf16⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S4096x1024, .bf16⟩
  | .local _ .vmem, ⟨10, _⟩ => ⟨S4096x1024, .bf16⟩
  | .local _ .vmem, ⟨11, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c16_i32 : BitVec 32 := 16#32
  let v11 : BitVec 32 := Scalar.addi c0_i32_8 c16_i32
  let c1_i32 : BitVec 32 := 1#32
  ⟨c0_i32_8, v11, c1_i32⟩
def k0_mult1 (k0_t1 : Fin k0_t1_loop.trips) : BitVec 32 :=
  let c0_i32_8 : BitVec 32 := 0#32
  let c1_i32 : BitVec 32 := 1#32
  let arg9 : BitVec 32 := Scf.iv c0_i32_8 c1_i32 k0_t1
  let c64_i32 : BitVec 32 := 64#32
  let v13 : BitVec 32 := Scalar.muli arg9 c64_i32
  v13
def k0_off1 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v13 : BitVec 32 := Scalar.muli arg9 c64_i32
  let v14 : BitVec 32 := v13
  let v15 : Index := Scalar.indexCast v14
  let c0_13 : Index := 0#32
  ![v15.toNat, 0]
@[reducible] def k0_t2_loop : Scf.Loop 32 :=
  let c0_i32_10 : BitVec 32 := 0#32
  let c8_i32 : BitVec 32 := 8#32
  let v12 : BitVec 32 := Scalar.addi c0_i32_10 c8_i32
  let c1_i32_11 : BitVec 32 := 1#32
  ⟨c0_i32_10, v12, c1_i32_11⟩
def k0_mult2 (k0_t2 : Fin k0_t2_loop.trips) : BitVec 32 :=
  let c0_i32_10 : BitVec 32 := 0#32
  let c1_i32_11 : BitVec 32 := 1#32
  let arg9 : BitVec 32 := Scf.iv c0_i32_10 c1_i32_11 k0_t2
  let c128_i32 : BitVec 32 := 128#32
  let v13 : BitVec 32 := Scalar.muli arg9 c128_i32
  v13
def k0_off2 (k0_t2 : Fin k0_t2_loop.trips) : Fin 2 → Nat :=
  let c0_i32_10 : BitVec 32 := 0#32
  let c1_i32_11 : BitVec 32 := 1#32
  let arg9 : BitVec 32 := Scf.iv c0_i32_10 c1_i32_11 k0_t2
  let c128_i32 : BitVec 32 := 128#32
  let v13 : BitVec 32 := Scalar.muli arg9 c128_i32
  let v14 : BitVec 32 := v13
  let v15 : Index := Scalar.indexCast v14
  let c0_13 : Index := 0#32
  ![v15.toNat, 0]
def k0_off3 (k0_t2 : Fin k0_t2_loop.trips) : Fin 2 → Nat :=
  let c0_14 : Index := 0#32
  let c0_i32_10 : BitVec 32 := 0#32
  let c1_i32_11 : BitVec 32 := 1#32
  let arg9 : BitVec 32 := Scf.iv c0_i32_10 c1_i32_11 k0_t2
  let c128_i32 : BitVec 32 := 128#32
  let v13 : BitVec 32 := Scalar.muli arg9 c128_i32
  let v14 : BitVec 32 := v13
  let v20 : Index := Scalar.indexCast v14
  ![0, v20.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== QueryReferenceIdeal.lean ====
abbrev S8192x4096 : Shape := ⟨2, ![8192, 4096]⟩
abbrev S1x4096 : Shape := ⟨2, ![1, 4096]⟩
abbrev S4096x2048 : Shape := ⟨2, ![4096, 2048]⟩
abbrev S4096 : Shape := ⟨1, ![4096]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S4096x8192 : Shape := ⟨2, ![4096, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x2048, .bf16⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S4096x2048, .f32⟩
  | .hbm, ⟨21, _⟩ => ⟨S8192x2048, .f32⟩
  | .hbm, ⟨22, _⟩ => ⟨S4096x8192, .f32⟩
  | .hbm, ⟨23, _⟩ => ⟨S4096x8192, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== ConvSampleKernel.lean ====
abbrev S1024x10240 : Shape := ⟨2, ![1024, 10240]⟩
abbrev S1x32x30x2048 : Shape := ⟨4, ![1, 32, 30, 2048]⟩
abbrev S1x31x2048 : Shape := ⟨3, ![1, 31, 2048]⟩
abbrev S1x2048 : Shape := ⟨2, ![1, 2048]⟩
abbrev S32x30x2048 : Shape := ⟨3, ![32, 30, 2048]⟩
abbrev S_ : Shape := ⟨0, ![]⟩
abbrev S32x32x2048 : Shape := ⟨3, ![32, 32, 2048]⟩
abbrev S31x2048 : Shape := ⟨2, ![31, 2048]⟩
abbrev S2048 : Shape := ⟨1, ![2048]⟩
abbrev S1024x2048 : Shape := ⟨2, ![1024, 2048]⟩
abbrev S32x2048 : Shape := ⟨2, ![32, 2048]⟩
abbrev S1x32x2048 : Shape := ⟨3, ![1, 32, 2048]⟩
abbrev S8x64x2048 : Shape := ⟨3, ![8, 64, 2048]⟩
abbrev S35x8x2048 : Shape := ⟨3, ![35, 8, 2048]⟩
abbrev S8x2048 : Shape := ⟨2, ![8, 2048]⟩
abbrev S1x8x2048 : Shape := ⟨3, ![1, 8, 2048]⟩
abbrev S1x64x2048 : Shape := ⟨3, ![1, 64, 2048]⟩
abbrev S64x2048 : Shape := ⟨2, ![64, 2048]⟩
abbrev S8 : Shape := ⟨1, ![8]⟩
abbrev S8x1 : Shape := ⟨2, ![8, 1]⟩

abbrev nBuf : Space → Nat
  | .hbm => 22
  | .vmem => 17
  | .smem => 0
  | _ => 0

abbrev bufTy : (tb : Table) → Fin (tcTables nBuf tb) → BufTy
  | .hbm, ⟨0, _⟩ => ⟨S1024x10240, .f32⟩
  | .hbm, ⟨1, _⟩ => ⟨S1x32x30x2048, .f32⟩
  | .hbm, ⟨2, _⟩ => ⟨S1x31x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S32x30x2048, .f32⟩
  | .hbm, ⟨8, _⟩ => ⟨S_, .i32⟩
  | .hbm, ⟨9, _⟩ => ⟨S_, .f32⟩
  | .hbm, ⟨10, _⟩ => ⟨S32x32x2048, .f32⟩
  | .hbm, ⟨11, _⟩ => ⟨S31x2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S1024x2048, .f32⟩
  | .hbm, ⟨21, _⟩ => ⟨S1024x2048, .bf16⟩
  | .local _ .vmem, ⟨0, _⟩ => ⟨S32x2048, .f32⟩
  | .local _ .vmem, ⟨1, _⟩ => ⟨S32x2048, .f32⟩
  | .local _ .vmem, ⟨2, _⟩ => ⟨S32x2048, .f32⟩
  | .local _ .vmem, ⟨3, _⟩ => ⟨S32x2048, .f32⟩
  | .local _ .vmem, ⟨4, _⟩ => ⟨S1x32x2048, .f32⟩
  | .local _ .vmem, ⟨5, _⟩ => ⟨S1x32x2048, .f32⟩
  | .local _ .vmem, ⟨6, _⟩ => ⟨S31x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S32x2048, .f32⟩
  | .local _ .vmem, ⟨12, _⟩ => ⟨S32x2048, .f32⟩
  | .local _ .vmem, ⟨13, _⟩ => ⟨S32x2048, .bf16⟩
  | .local _ .vmem, ⟨14, _⟩ => ⟨S32x2048, .bf16⟩
  | .local _ .vmem, ⟨15, _⟩ => ⟨S8x64x2048, .f32⟩
  | .local _ .vmem, ⟨16, _⟩ => ⟨S35x8x2048, .f32⟩
  | _, _ => ⟨S1024x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvSampleReferenceIdeal.lean ====
abbrev S1024x10240 : Shape := ⟨2, ![1024, 10240]⟩
abbrev S1x32x30x2048 : Shape := ⟨4, ![1, 32, 30, 2048]⟩
abbrev S1x31x2048 : Shape := ⟨3, ![1, 31, 2048]⟩
abbrev S1x2048 : Shape := ⟨2, ![1, 2048]⟩
abbrev S1024x2048 : Shape := ⟨2, ![1024, 2048]⟩
abbrev S_ : Shape := ⟨0, ![]⟩
abbrev S32x30x2048 : Shape := ⟨3, ![32, 30, 2048]⟩
abbrev S32x32x2048 : Shape := ⟨3, ![32, 32, 2048]⟩
abbrev S32x62x2048 : Shape := ⟨3, ![32, 62, 2048]⟩
abbrev S32 : Shape := ⟨1, ![32]⟩
abbrev S32x1 : Shape := ⟨2, ![32, 1]⟩
abbrev S31 : Shape := ⟨1, ![31]⟩
abbrev S1x31 : Shape := ⟨2, ![1, 31]⟩
abbrev S32x31 : Shape := ⟨2, ![32, 31]⟩
abbrev S32x31x1 : Shape := ⟨3, ![32, 31, 1]⟩
abbrev S32x32x31x2048 : Shape := ⟨4, ![32, 32, 31, 2048]⟩
abbrev S31x2048 : Shape := ⟨2, ![31, 2048]⟩
abbrev S1x1x31x2048 : Shape := ⟨4, ![1, 1, 31, 2048]⟩
abbrev S2048 : Shape := ⟨1, ![2048]⟩
abbrev S1x1x2048 : Shape := ⟨3, ![1, 1, 2048]⟩
abbrev S32x32 : Shape := ⟨2, ![32, 32]⟩
abbrev S32x32x1 : Shape := ⟨3, ![32, 32, 1]⟩

abbrev nBuf : Space → Nat
  | .hbm => 106
  | .vmem => 0
  | .smem => 0
  | _ => 0

abbrev bufTy : (tb : Table) → Fin (tcTables nBuf tb) → BufTy
  | .hbm, ⟨0, _⟩ => ⟨S1024x10240, .f32⟩
  | .hbm, ⟨1, _⟩ => ⟨S1x32x30x2048, .f32⟩
  | .hbm, ⟨2, _⟩ => ⟨S1x31x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S32x30x2048, .f32⟩
  | .hbm, ⟨19, _⟩ => ⟨S32x32x2048, .f32⟩
  | .hbm, ⟨20, _⟩ => ⟨S32x62x2048, .f32⟩
  | .hbm, ⟨21, _⟩ => ⟨S32, .i32⟩
  | .hbm, ⟨22, _⟩ => ⟨S32x1, .i32⟩
  | .hbm, ⟨23, _⟩ => ⟨S31, .i32⟩
  | .hbm, ⟨24, _⟩ => ⟨S1x31, .i32⟩
  | .hbm, ⟨25, _⟩ => ⟨S32x31, .i32⟩
  | .hbm, ⟨26, _⟩ => ⟨S32x31, .i32⟩
  | .hbm, ⟨27, _⟩ => ⟨S32x31, .i32⟩
  | .hbm, ⟨28, _⟩ => ⟨S_, .i32⟩
  | .hbm, ⟨29, _⟩ => ⟨S32x31, .i32⟩
  | .hbm, ⟨30, _⟩ => ⟨S32x31, .i1⟩
  | .hbm, ⟨31, _⟩ => ⟨S_, .i32⟩
  | .hbm, ⟨32, _⟩ => ⟨S32x31, .i32⟩
  | .hbm, ⟨33, _⟩ => ⟨S32x31, .i32⟩
  | .hbm, ⟨34, _⟩ => ⟨S32x31, .i32⟩
  | .hbm, ⟨35, _⟩ => ⟨S32x31x1, .i32⟩
  | .hbm, ⟨36, _⟩ => ⟨S32x32x31x2048, .f32⟩
  | .hbm, ⟨37, _⟩ => ⟨S31x2048, .f32⟩
  | .hbm, ⟨38, _⟩ => ⟨S1x1x31x2048, .f32⟩
  | .hbm, ⟨39, _⟩ => ⟨S32x32x31x2048, .f32⟩
  | .hbm, ⟨40, _⟩ => ⟨S32x32x31x2048, .f32⟩
  | .hbm, ⟨41, _⟩ => ⟨S_, .f32⟩
  | .hbm, ⟨42, _⟩ => ⟨S32x32x2048, .f32⟩
  | .hbm, ⟨43, _⟩ => ⟨S2048, .f32⟩
  | .hbm, ⟨44, _⟩ => ⟨S1x1x2048, .f32⟩
  | .hbm, ⟨45, _⟩ => ⟨S32x32x2048, .f32⟩
  | .hbm, ⟨46, _⟩ => ⟨S32x32x2048, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S32x32, .f32⟩
  | .hbm, ⟨51, _⟩ => ⟨S32x32x1, .f32⟩
  | .hbm, ⟨52, _⟩ => ⟨S_, .f32⟩
  | .hbm, ⟨53, _⟩ => ⟨S32x32x1, .f32⟩
  | .hbm, ⟨54, _⟩ => ⟨S32x32x1, .f32⟩
  | .hbm, ⟨55, _⟩ => ⟨S32x32x2048, .f32⟩
  | .hbm, ⟨56, _⟩ => ⟨S32x32x2048, .f32⟩
  | .hbm, ⟨57, _⟩ => ⟨S32x32x2048, .f32⟩
  | .hbm, ⟨58, _⟩ => ⟨S_, .f32⟩
  | .hbm, ⟨59, _⟩ => ⟨S32x32, .f32⟩
  | .hbm, ⟨60, _⟩ => ⟨S32x32x1, .f32⟩
  | .hbm, ⟨61, _⟩ => ⟨S_, .f32⟩
  | .hbm, ⟨62, _⟩ => ⟨S32x32x1, .f32⟩
  | .hbm, ⟨63, _⟩ => ⟨S32x32x1, .f32⟩
  | .hbm, ⟨64, _⟩ => ⟨S32x32x2048, .f32⟩
  | .hbm, ⟨65, _⟩ => ⟨S32x32x2048, .f32⟩
  | .hbm, ⟨66, _⟩ => ⟨S_, .f32⟩
  | .hbm, ⟨67, _⟩ => ⟨S32x32x1, .f32⟩
  | .hbm, ⟨68, _⟩ => ⟨S32x32x1, .f32⟩
  | .hbm, ⟨69, _⟩ => ⟨S32x32x1, .f32⟩
  | .hbm, ⟨70, _⟩ => ⟨S32x32x2048, .f32⟩
  | .hbm, ⟨71, _⟩ => ⟨S32x32x2048, .f32⟩
  | .hbm, ⟨72, _⟩ => ⟨S1x1x2048, .f32⟩
  | .hbm, ⟨73, _⟩ => ⟨S32x32x2048, .f32⟩
  | .hbm, ⟨74, _⟩ => ⟨S32x32x2048, .f32⟩
  | .hbm, ⟨75, _⟩ => ⟨S1x1x2048, .f32⟩
  | .hbm, ⟨76, _⟩ => ⟨S32x32x2048, .f32⟩
  | .hbm, ⟨77, _⟩ => ⟨S32x32x2048, .f32⟩
  | .hbm, ⟨78, _⟩ => ⟨S32x32x2048, .f32⟩
  | .hbm, ⟨79, _⟩ => ⟨S32x32x2048, .f32⟩
  | .hbm, ⟨80, _⟩ => ⟨S_, .f32⟩
  | .hbm, ⟨81, _⟩ => ⟨S32x32x2048, .f32⟩
  | .hbm, ⟨82, _⟩ => ⟨S32x32x2048, .f32⟩
  | .hbm, ⟨83, _⟩ => ⟨S_, .f32⟩
  | .hbm, ⟨84, _⟩ => ⟨S32x32x2048, .f32⟩
  | .hbm, ⟨85, _⟩ => ⟨S32x32x2048, .f32⟩
  | .hbm, ⟨86, _⟩ => ⟨S32x32x2048, .f32⟩
  | .hbm, ⟨87, _⟩ => ⟨S2048, .f32⟩
  | .hbm, ⟨88, _⟩ => ⟨S32x32x2048, .f32⟩
  | .hbm, ⟨89, _⟩ => ⟨S_, .f32⟩
  | .hbm, ⟨90, _⟩ => ⟨S32x32, .f32⟩
  | .hbm, ⟨91, _⟩ => ⟨S32x32x1, .f32⟩
  | .hbm, ⟨92, _⟩ => ⟨S_, .f32⟩
  | .hbm, ⟨93, _⟩ => ⟨S32x32x1, .f32⟩
  | .hbm, ⟨94, _⟩ => ⟨S32x32x1, .f32⟩
  | .hbm, ⟨95, _⟩ => ⟨S_, .f32⟩
  | .hbm, ⟨96, _⟩ => ⟨S32x32x1, .f32⟩
  | .hbm, ⟨97, _⟩ => ⟨S32x32x1, .f32⟩
  | .hbm, ⟨98, _⟩ => ⟨S32x32x1, .f32⟩
  | .hbm, ⟨99, _⟩ => ⟨S32x32x2048, .f32⟩
  | .hbm, ⟨100, _⟩ => ⟨S32x32x2048, .f32⟩
  | .hbm, ⟨101, _⟩ => ⟨S1x1x2048, .f32⟩
  | .hbm, ⟨102, _⟩ => ⟨S32x32x2048, .f32⟩
  | .hbm, ⟨103, _⟩ => ⟨S32x32x2048, .f32⟩
  | .hbm, ⟨104, _⟩ => ⟨S1024x2048, .f32⟩
  | .hbm, ⟨105, _⟩ => ⟨S1024x2048, .bf16⟩
  | _, _ => ⟨S1024x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== ConvKernel.lean ====
abbrev S8192x10240 : Shape := ⟨2, ![8192, 10240]⟩
abbrev S1x31x2048 : Shape := ⟨3, ![1, 31, 2048]⟩
abbrev S1x2048 : Shape := ⟨2, ![1, 2048]⟩
abbrev S4096x4096 : Shape := ⟨2, ![4096, 4096]⟩
abbrev S4096x2048 : Shape := ⟨2, ![4096, 2048]⟩
abbrev S_ : Shape := ⟨0, ![]⟩
abbrev S1x32x2048 : Shape := ⟨3, ![1, 32, 2048]⟩
abbrev S31x2048 : Shape := ⟨2, ![31, 2048]⟩
abbrev S2048 : Shape := ⟨1, ![2048]⟩
abbrev S8192x2048 : Shape := ⟨2, ![8192, 2048]⟩
abbrev S128x2048 : Shape := ⟨2, ![128, 2048]⟩
abbrev S64x4096 : Shape := ⟨2, ![64, 4096]⟩
abbrev S64x2048 : Shape := ⟨2, ![64, 2048]⟩
abbrev S8x160x2048 : Shape := ⟨3, ![8, 160, 2048]⟩
abbrev S35x8x2048 : Shape := ⟨3, ![35, 8, 2048]⟩
abbrev S8x2048 : Shape := ⟨2, ![8, 2048]⟩
abbrev S1x8x2048 : Shape := ⟨3, ![1, 8, 2048]⟩
abbrev S32x2048 : Shape := ⟨2, ![32, 2048]⟩
abbrev S1x128x2048 : Shape := ⟨3, ![1, 128, 2048]⟩
abbrev S1x160x2048 : Shape := ⟨3, ![1, 160, 2048]⟩
abbrev S160x2048 : Shape := ⟨2, ![160, 2048]⟩
abbrev S8 : Shape := ⟨1, ![8]⟩
abbrev S8x1 : Shape := ⟨2, ![8, 1]⟩

abbrev nBuf : Space → Nat
  | .hbm => 23
  | .vmem => 24
  | .smem => 0
  | _ => 0

abbrev bufTy : (tb : Table) → Fin (tcTables nBuf tb) → BufTy
  | .hbm, ⟨0, _⟩ => ⟨S8192x10240, .f32⟩
  | .hbm, ⟨1, _⟩ => ⟨S1x31x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x4096, .f32⟩
  | .hbm, ⟨7, _⟩ => ⟨S4096x2048, .f32⟩
  | .hbm, ⟨8, _⟩ => ⟨S_, .f32⟩
  | .hbm, ⟨9, _⟩ => ⟨S1x32x2048, .f32⟩
  | .hbm, ⟨10, _⟩ => ⟨S31x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .bf16⟩
  | .hbm, ⟨21, _⟩ => ⟨S4096x4096, .bf16⟩
  | .hbm, ⟨22, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x32x2048, .f32⟩
  | .local _ .vmem, ⟨5, _⟩ => ⟨S31x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S64x4096, .f32⟩
  | .local _ .vmem, ⟨11, _⟩ => ⟨S64x4096, .f32⟩
  | .local _ .vmem, ⟨12, _⟩ => ⟨S64x2048, .f32⟩
  | .local _ .vmem, ⟨13, _⟩ => ⟨S64x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .bf16⟩
  | .local _ .vmem, ⟨17, _⟩ => ⟨S128x2048, .bf16⟩
  | .local _ .vmem, ⟨18, _⟩ => ⟨S64x4096, .bf16⟩
  | .local _ .vmem, ⟨19, _⟩ => ⟨S64x4096, .bf16⟩
  | .local _ .vmem, ⟨20, _⟩ => ⟨S64x2048, .bf16⟩
  | .local _ .vmem, ⟨21, _⟩ => ⟨S64x2048, .bf16⟩
  | .local _ .vmem, ⟨22, _⟩ => ⟨S8x160x2048, .f32⟩
  | .local _ .vmem, ⟨23, _⟩ => ⟨S35x8x2048, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S31x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ConvReferenceIdeal.lean ====
abbrev S8192x10240 : Shape := ⟨2, ![8192, 10240]⟩
abbrev S1x31x2048 : Shape := ⟨3, ![1, 31, 2048]⟩
abbrev S1x2048 : Shape := ⟨2, ![1, 2048]⟩
abbrev S4096x4096 : Shape := ⟨2, ![4096, 4096]⟩
abbrev S4096x2048 : Shape := ⟨2, ![4096, 2048]⟩
abbrev S8192x2048 : Shape := ⟨2, ![8192, 2048]⟩
abbrev S_ : Shape := ⟨0, ![]⟩
abbrev S30x2048 : Shape := ⟨2, ![30, 2048]⟩
abbrev S8222x2048 : Shape := ⟨2, ![8222, 2048]⟩
abbrev S8192 : Shape := ⟨1, ![8192]⟩
abbrev S8192x1 : Shape := ⟨2, ![8192, 1]⟩
abbrev S31 : Shape := ⟨1, ![31]⟩
abbrev S1x31 : Shape := ⟨2, ![1, 31]⟩
abbrev S8192x31 : Shape := ⟨2, ![8192, 31]⟩
abbrev S8192x31x1 : Shape := ⟨3, ![8192, 31, 1]⟩
abbrev S8192x31x2048 : Shape := ⟨3, ![8192, 31, 2048]⟩
abbrev S31x2048 : Shape := ⟨2, ![31, 2048]⟩
abbrev S2048 : Shape := ⟨1, ![2048]⟩

abbrev nBuf : Space → Nat
  | .hbm => 108
  | .vmem => 0
  | .smem => 0
  | _ => 0

abbrev bufTy : (tb : Table) → Fin (tcTables nBuf tb) → BufTy
  | .hbm, ⟨0, _⟩ => ⟨S8192x10240, .f32⟩
  | .hbm, ⟨1, _⟩ => ⟨S1x31x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x4096, .f32⟩
  | .hbm, ⟨7, _⟩ => ⟨S4096x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S30x2048, .f32⟩
  | .hbm, ⟨21, _⟩ => ⟨S8222x2048, .f32⟩
  | .hbm, ⟨22, _⟩ => ⟨S8192, .i32⟩
  | .hbm, ⟨23, _⟩ => ⟨S8192x1, .i32⟩
  | .hbm, ⟨24, _⟩ => ⟨S31, .i32⟩
  | .hbm, ⟨25, _⟩ => ⟨S1x31, .i32⟩
  | .hbm, ⟨26, _⟩ => ⟨S8192x31, .i32⟩
  | .hbm, ⟨27, _⟩ => ⟨S8192x31, .i32⟩
  | .hbm, ⟨28, _⟩ => ⟨S8192x31, .i32⟩
  | .hbm, ⟨29, _⟩ => ⟨S_, .i32⟩
  | .hbm, ⟨30, _⟩ => ⟨S8192x31, .i32⟩
  | .hbm, ⟨31, _⟩ => ⟨S8192x31, .i1⟩
  | .hbm, ⟨32, _⟩ => ⟨S_, .i32⟩
  | .hbm, ⟨33, _⟩ => ⟨S8192x31, .i32⟩
  | .hbm, ⟨34, _⟩ => ⟨S8192x31, .i32⟩
  | .hbm, ⟨35, _⟩ => ⟨S8192x31, .i32⟩
  | .hbm, ⟨36, _⟩ => ⟨S8192x31x1, .i32⟩
  | .hbm, ⟨37, _⟩ => ⟨S8192x31x2048, .f32⟩
  | .hbm, ⟨38, _⟩ => ⟨S31x2048, .f32⟩
  | .hbm, ⟨39, _⟩ => ⟨S1x31x2048, .f32⟩
  | .hbm, ⟨40, _⟩ => ⟨S8192x31x2048, .f32⟩
  | .hbm, ⟨41, _⟩ => ⟨S8192x31x2048, .f32⟩
  | .hbm, ⟨42, _⟩ => ⟨S_, .f32⟩
  | .hbm, ⟨43, _⟩ => ⟨S8192x2048, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x2048, .f32⟩
  | .hbm, ⟨72, _⟩ => ⟨S8192x2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S1x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S2048, .f32⟩
  | .hbm, ⟨89, _⟩ => ⟨S8192x2048, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S8192x1, .f32⟩
  | .hbm, ⟨100, _⟩ => ⟨S8192x2048, .f32⟩
  | .hbm, ⟨101, _⟩ => ⟨S8192x2048, .f32⟩
  | .hbm, ⟨102, _⟩ => ⟨S1x2048, .f32⟩
  | .hbm, ⟨103, _⟩ => ⟨S8192x2048, .f32⟩
  | .hbm, ⟨104, _⟩ => ⟨S8192x2048, .f32⟩
  | .hbm, ⟨105, _⟩ => ⟨S8192x2048, .bf16⟩
  | .hbm, ⟨106, _⟩ => ⟨S4096x4096, .bf16⟩
  | .hbm, ⟨107, _⟩ => ⟨S4096x2048, .bf16⟩
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_9 : Ref sig .tc := ⟨.hbm, 90, rfl⟩
abbrev main_v63 : Ref sig .tc := ⟨.hbm, 91, rfl⟩
abbrev main_v64 : Ref sig .tc := ⟨.hbm, 92, rfl⟩
abbrev main_cst_10 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== AttnSampleKernel.lean ====
abbrev S1024x10240 : Shape := ⟨2, ![1024, 10240]⟩
abbrev S1x32x512x16x128 : Shape := ⟨5, ![1, 32, 512, 16, 128]⟩
abbrev S1x16x513 : Shape := ⟨3, ![1, 16, 513]⟩
abbrev S1024 : Shape := ⟨1, ![1024]⟩
abbrev S16x513 : Shape := ⟨2, ![16, 513]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S32x512x16x128 : Shape := ⟨4, ![32, 512, 16, 128]⟩
abbrev S32x8192x128 : Shape := ⟨3, ![32, 8192, 128]⟩
abbrev S1024x2048 : Shape := ⟨2, ![1024, 2048]⟩
abbrev S32x2048 : Shape := ⟨2, ![32, 2048]⟩
abbrev S1x8192x128 : Shape := ⟨3, ![1, 8192, 128]⟩
abbrev S16x32x1024 : Shape := ⟨3, ![16, 32, 1024]⟩
abbrev S1x1x1024 : Shape := ⟨3, ![1, 1, 1024]⟩
abbrev S1x1024 : Shape := ⟨2, ![1, 1024]⟩
abbrev S32x1024 : Shape := ⟨2, ![32, 1024]⟩
abbrev S1x32x1024 : Shape := ⟨3, ![1, 32, 1024]⟩
abbrev S32x128 : Shape := ⟨2, ![32, 128]⟩
abbrev S1x512x128 : Shape := ⟨3, ![1, 512, 128]⟩
abbrev S512x128 : Shape := ⟨2, ![512, 128]⟩
abbrev S32x512 : Shape := ⟨2, ![32, 512]⟩
abbrev S1x32x512 : Shape := ⟨3, ![1, 32, 512]⟩
abbrev S32x32 : Shape := ⟨2, ![32, 32]⟩
abbrev S1x32x32 : Shape := ⟨3, ![1, 32, 32]⟩
abbrev S32 : Shape := ⟨1, ![32]⟩
abbrev S32x1 : Shape := ⟨2, ![32, 1]⟩

abbrev nBuf : Space → Nat
  | .hbm => 19
  | .vmem => 14
  | .smem => 0
  | _ => 0

abbrev bufTy : (tb : Table) → Fin (tcTables nBuf tb) → BufTy
  | .hbm, ⟨0, _⟩ => ⟨S1024x10240, .f32⟩
  | .hbm, ⟨1, _⟩ => ⟨S1x32x512x16x128, .f32⟩
  | .hbm, ⟨2, _⟩ => ⟨S1x32x512x16x128, .f32⟩
  | .hbm, ⟨3, _⟩ => ⟨S1x16x513, .f32⟩
  | .hbm, ⟨4, _⟩ => ⟨S1024, .i32⟩
  | .hbm, ⟨5, _⟩ => ⟨S1024, .i1⟩
  | .hbm, ⟨6, _⟩ => ⟨S16x513, .f32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S16x1024, .f32⟩
  | .hbm, ⟨13, _⟩ => ⟨S16x1x1024, .f32⟩
  | .hbm, ⟨14, _⟩ => ⟨S32x512x16x128, .f32⟩
  | .hbm, ⟨15, _⟩ => ⟨S32x8192x128, .f32⟩
  | .hbm, ⟨16, _⟩ => ⟨S32x512x16x128, .f32⟩
  | .hbm, ⟨17, _⟩ => ⟨S32x8192x128, .f32⟩
  | .hbm, ⟨18, _⟩ => ⟨S1024x2048, .f32⟩
  | .local _ .vmem, ⟨0, _⟩ => ⟨S32x2048, .f32⟩
  | .local _ .vmem, ⟨1, _⟩ => ⟨S32x2048, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S1x8192x128, .f32⟩
  | .local _ .vmem, ⟨7, _⟩ => ⟨S1x8192x128, .f32⟩
  | .local _ .vmem, ⟨8, _⟩ => ⟨S1x8192x128, .f32⟩
  | .local _ .vmem, ⟨9, _⟩ => ⟨S1x8192x128, .f32⟩
  | .local _ .vmem, ⟨10, _⟩ => ⟨S16x1x1024, .f32⟩
  | .local _ .vmem, ⟨11, _⟩ => ⟨S32x2048, .f32⟩
  | .local _ .vmem, ⟨12, _⟩ => ⟨S32x2048, .f32⟩
  | .local _ .vmem, ⟨13, _⟩ => ⟨S16x32x1024, .f32⟩
  | _, _ => ⟨S1024x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnSampleReferenceIdeal.lean ====
abbrev S1024x10240 : Shape := ⟨2, ![1024, 10240]⟩
abbrev S1x32x512x16x128 : Shape := ⟨5, ![1, 32, 512, 16, 128]⟩
abbrev S1x16x513 : Shape := ⟨3, ![1, 16, 513]⟩
abbrev S1024x2048 : Shape := ⟨2, ![1024, 2048]⟩
abbrev S32x32x16x128 : Shape := ⟨4, ![32, 32, 16, 128]⟩
abbrev S32x512x16x128 : Shape := ⟨4, ![32, 512, 16, 128]⟩
abbrev S32x544x16x128 : Shape := ⟨4, ![32, 544, 16, 128]⟩
abbrev S32 : Shape := ⟨1, ![32]⟩
abbrev S32x1 : Shape := ⟨2, ![32, 1]⟩
abbrev S_ : Shape := ⟨0, ![]⟩
abbrev S544 : Shape := ⟨1, ![544]⟩
abbrev S1x544 : Shape := ⟨2, ![1, 544]⟩
abbrev S32x544 : Shape := ⟨2, ![32, 544]⟩
abbrev S16x513 : Shape := ⟨2, ![16, 513]⟩
abbrev S32x544x1 : Shape := ⟨3, ![32, 544, 1]⟩
abbrev S16x32x544 : Shape := ⟨3, ![16, 32, 544]⟩
abbrev S32x16x32x544 : Shape := ⟨4, ![32, 16, 32, 544]⟩
abbrev S1x16x32x544 : Shape := ⟨4, ![1, 16, 32, 544]⟩
abbrev S32x16x32 : Shape := ⟨3, ![32, 16, 32]⟩
abbrev S32x16x32x1 : Shape := ⟨4, ![32, 16, 32, 1]⟩
abbrev S32x16x128x32 : Shape := ⟨4, ![32, 16, 128, 32]⟩

abbrev nBuf : Space → Nat
  | .hbm => 69
  | .vmem => 0
  | .smem => 0
  | _ => 0

abbrev bufTy : (tb : Table) → Fin (tcTables nBuf tb) → BufTy
  | .hbm, ⟨0, _⟩ => ⟨S1024x10240, .f32⟩
  | .hbm, ⟨1, _⟩ => ⟨S1x32x512x16x128, .f32⟩
  | .hbm, ⟨2, _⟩ => ⟨S1x32x512x16x128, .f32⟩
  | .hbm, ⟨3, _⟩ => ⟨S1x16x513, .f32⟩
  | .hbm, ⟨4, _⟩ => ⟨S1024x2048, .f32⟩
  | .hbm, ⟨5, _⟩ => ⟨S32x32x16x128, .f32⟩
  | .hbm, ⟨6, _⟩ => ⟨S1024x2048, .f32⟩
  | .hbm, ⟨7, _⟩ => ⟨S32x32x16x128, .f32⟩
  | .hbm, ⟨8, _⟩ => ⟨S1024x2048, .f32⟩
  | .hbm, ⟨9, _⟩ => ⟨S32x32x16x128, .f32⟩
  | .hbm, ⟨10, _⟩ => ⟨S32x512x16x128, .f32⟩
  | .hbm, ⟨11, _⟩ => ⟨S32x544x16x128, .f32⟩
  | .hbm, ⟨12, _⟩ => ⟨S32x512x16x128, .f32⟩
  | .hbm, ⟨13, _⟩ => ⟨S32x544x16x128, .f32⟩
  | .hbm, ⟨14, _⟩ => ⟨S32, .i32⟩
  | .hbm, ⟨15, _⟩ => ⟨S32x1, .i32⟩
  | .hbm, ⟨16, _⟩ => ⟨S_, .i32⟩
  | .hbm, ⟨17, _⟩ => ⟨S32x1, .i32⟩
  | .hbm, ⟨18, _⟩ => ⟨S32x1, .i32⟩
  | .hbm, ⟨19, _⟩ => ⟨S544, .i32⟩
  | .hbm, ⟨20, _⟩ => ⟨S1x544, .i32⟩
  | .hbm, ⟨21, _⟩ => ⟨S32x544, .i32⟩
  | .hbm, ⟨22, _⟩ => ⟨S32x544, .i32⟩
  | .hbm, ⟨23, _⟩ => ⟨S32x544, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S32x544, .i32⟩
  | .hbm, ⟨28, _⟩ => ⟨S32x544, .i32⟩
  | .hbm, ⟨29, _⟩ => ⟨S_, .i32⟩
  | .hbm, ⟨30, _⟩ => ⟨S32x544, .i32⟩
  | .hbm, ⟨31, _⟩ => ⟨S32x544, .i32⟩
  | .hbm, ⟨32, _⟩ => ⟨S_, .i32⟩
  | .hbm, ⟨33, _⟩ => ⟨S32x544, .i32⟩
  | .hbm, ⟨34, _⟩ => ⟨S32x544, .i32⟩
  | .hbm, ⟨35, _⟩ => ⟨S16x513, .f32⟩
  | .hbm, ⟨36, _⟩ => ⟨S_, .i32⟩
  | .hbm, ⟨37, _⟩ => ⟨S32x544, .i32⟩
  | .hbm, ⟨38, _⟩ => ⟨S32x544, .i1⟩
  | .hbm, ⟨39, _⟩ => ⟨S_, .i32⟩
  | .hbm, ⟨40, _⟩ => ⟨S32x544, .i32⟩
  | .hbm, ⟨41, _⟩ => ⟨S32x544, .i32⟩
  | .hbm, ⟨42, _⟩ => ⟨S32x544, .i32⟩
  | .hbm, ⟨43, _⟩ => ⟨S32x544x1, .i32⟩
  | .hbm, ⟨44, _⟩ => ⟨S16x32x544, .f32⟩
  | .hbm, ⟨45, _⟩ => ⟨S_, .f32⟩
  | .hbm, ⟨46, _⟩ => ⟨S32x32x16x128, .f32⟩
  | .hbm, ⟨47, _⟩ => ⟨S32x32x16x128, .f32⟩
  | .hbm, ⟨48, _⟩ => ⟨S32x16x32x544, .f32⟩
  | .hbm, ⟨49, _⟩ => ⟨S1x16x32x544, .f32⟩
  | .hbm, ⟨50, _⟩ => ⟨S32x16x32x544, .f32⟩
  | .hbm, ⟨51, _⟩ => ⟨S32x16x32x544, .f32⟩
  | .hbm, ⟨52, _⟩ => ⟨S_, .f32⟩
  | .hbm, ⟨53, _⟩ => ⟨S32x16x32, .f32⟩
  | .hbm, ⟨54, _⟩ => ⟨S_, .f32⟩
  | .hbm, ⟨55, _⟩ => ⟨S32x16x32, .f32⟩
  | .hbm, ⟨56, _⟩ => ⟨S32x16x32, .f32⟩
  | .hbm, ⟨57, _⟩ => ⟨S32x16x32x1, .f32⟩
  | .hbm, ⟨58, _⟩ => ⟨S32x16x32x544, .f32⟩
  | .hbm, ⟨59, _⟩ => ⟨S32x16x32x544, .f32⟩
  | .hbm, ⟨60, _⟩ => ⟨S32x16x32x544, .f32⟩
  | .hbm, ⟨61, _⟩ => ⟨S_, .f32⟩
  | .hbm, ⟨62, _⟩ => ⟨S32x16x32, .f32⟩
  | .hbm, ⟨63, _⟩ => ⟨S32x16x32x1, .f32⟩
  | .hbm, ⟨64, _⟩ => ⟨S32x16x32x544, .f32⟩
  | .hbm, ⟨65, _⟩ => ⟨S32x16x32x544, .f32⟩
  | .hbm, ⟨66, _⟩ => ⟨S32x16x128x32, .f32⟩
  | .hbm, ⟨67, _⟩ => ⟨S32x32x16x128, .f32⟩
  | .hbm, ⟨68, _⟩ => ⟨S1024x2048, .f32⟩
  | _, _ => ⟨S1024x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.AttnFrames.lean ====
/- The attention over the prompt: its frames and its rewrites. -/
module

public import proofs.«01_k».proof.Defs
public import proofs.«01_k».proof.Proof.Gen.AttnKernel.Frame
public import proofs.«01_k».proof.Proof.Gen.AttnKernelIdeal.Frame
public import proofs.«01_k».proof.Proof.Gen.AttnKernelIdeal.Value
public import proofs.«01_k».proof.Proof.Gen.AttnReferenceIdeal.Read
public import proofs.«01_k».proof.Proof.Gen.AttnReferenceIdeal.Run
public import Idealize.ShloMosaic.Lib.Quiescent

@[expose] public section

noncomputable section

open Idealize.ShloMosaic Idealize.ShloMosaic.TcCoe Idealize.SL.Sem

namespace Cert.Proof.AttnFrames

theorem frame_p : Cert.quiescent_AttnKernel := fun m ρ _ => Cert.AttnKernel.Gen.frame m ρ
theorem frame_pi : Cert.quiescent_AttnKernelIdeal := fun m ρ _ => Cert.AttnKernelIdeal.Gen.frame m ρ
theorem frame_ri : Cert.quiescent_AttnReferenceIdeal := fun m ρ _ =>
  (θ_run Cert.AttnReferenceIdeal.defs _ _).mono (fun r h => ⟨fun c => (h c).2,
      Idealize.ShloMosaic.sem_eq_zero_of_no_sems (by decide) r.2⟩)
    (Cert.AttnReferenceIdeal.Value.run (F := Ideal) m ρ)
theorem preserves_p : Cert.preserves_AttnKernel_AttnKernelIdeal :=
  IdealRules.named_const.statement Cert.AttnKernelIdeal.κ "mask" .f32 0xF149F2CA#32 ⊥ rfl

end Cert.Proof.AttnFrames

end
-- ==== Proof.BandMath.lean ====
/- The average of values weighted by the exponentials of scores: what it is when scores outside a band are the bottom
   element, and when each weight is divided by the sum of the weights before the average is taken. -/
module

public import Idealize.ShloMosaic.Lib.Pointwise
public import Idealize.ShloMosaic.Lib.IdealHost

@[expose] public section

noncomputable section

namespace Cert.Band

open Idealize.ShloMosaic

/-- The largest of the scores. -/
def top {n : ℕ} (s : Fin n → EReal) : EReal := Finset.univ.fold max ⊥ s

/-- The weight of place `x`. -/
def weight {n : ℕ} (s : Fin n → EReal) (x : Fin n) : EReal := Ideal.exp (s x - top s)

/-- The average of `v`, weighted by the exponentials of the scores `s`. -/
def average {n : ℕ} (s v : Fin n → EReal) : EReal := Ideal.div (∑ x, weight s x * v x) (∑ x, weight s x)

theorem negInf : Ideal.ofBits FTy.f32 0xFF800000#32 = ⊥ := by
  simp [Ideal.ofBits, Ideal.ieee]

theorem top_eq_sup {n : ℕ} (s : Fin n → EReal) : top s = Finset.univ.sup s := rfl

theorem weight_bot {n : ℕ} (s : Fin n → EReal) (x : Fin n) (h : s x = ⊥) : weight s x = 0 := by
  unfold weight
  rw [h, EReal.bot_sub]
  rfl

/-- Places whose score is the bottom element do not count. -/
theorem average_restrict {n k : ℕ} (e : Fin k → Fin n) (he : Function.Injective e) (s v : Fin n → EReal)
    (hs : ∀ x, x ∉ Set.range e → s x = ⊥) : average s v = average (fun j => s (e j)) (fun j => v (e j)) := by
  have ht : top s = top (fun j => s (e j)) := by
    rw [top_eq_sup, top_eq_sup]
    apply le_antisymm
    · refine Finset.sup_le fun x _ => ?_
      by_cases hx : x ∈ Set.range e
      · obtain ⟨j, rfl⟩ := hx
        exact Finset.le_sup (f := fun j => s (e j)) (Finset.mem_univ j)
      · rw [hs x hx]; exact bot_le
    · exact Finset.sup_le fun j _ => Finset.le_sup (f := s) (Finset.mem_univ (e j))
  have hw : ∀ j, weight (fun j => s (e j)) j = weight s (e j) := fun j => by
    unfold weight
    rw [ht]
  unfold average
  congr 1
  · refine (Fintype.sum_of_injective e he _ _ (fun x hx => ?_) fun j => ?_).symm
    · rw [weight_bot s x (hs x hx), zero_mul]
    · exact congrArg (· * v (e j)) (hw j)
  · exact (Fintype.sum_of_injective e he _ _ (fun x hx => weight_bot s x (hs x hx)) hw).symm

theorem sum_mul_of_nonneg {n : ℕ} (f : Fin n → EReal) (c : EReal) (h0 : 0 ≤ c) (h1 : c ≠ ⊤) :
    (∑ x, f x) * c = ∑ x, f x * c := by
  induction (Finset.univ : Finset (Fin n)) using Finset.induction_on with
  | empty => simp
  | insert a t ha ih => rw [Finset.sum_insert ha, Finset.sum_insert ha, EReal.right_distrib_of_nonneg_of_ne_top h0 h1, ih]

/-- With one score real and the others real or the bottom element, every weight may be divided by their sum first. -/
theorem average_eq_sum {n : ℕ} (s v : Fin n → EReal) (hs : ∀ x, s x = ⊥ ∨ ∃ r : ℝ, s x = r) (x0 : Fin n)
    (h0 : ∃ r : ℝ, s x0 = r) : average s v = ∑ x, v x * Ideal.div (weight s x) (∑ x, weight s x) := by
  have hM : ∃ M : ℝ, top s = M := by
    have hb : top s ≠ ⊥ := fun h => by
      obtain ⟨r, hr⟩ := h0
      have : s x0 ≤ top s := Finset.le_sup (f := s) (Finset.mem_univ x0)
      rw [h, hr] at this
      exact absurd this (not_le.mpr (EReal.bot_lt_coe r))
    have ht : top s ≠ ⊤ := by
      refine ne_of_lt ?_
      rw [top_eq_sup, Finset.sup_lt_iff (by exact bot_lt_top)]
      intro x _
      rcases hs x with h | ⟨r, h⟩
      · rw [h]; exact bot_lt_top
      · rw [h]; exact EReal.coe_lt_top r
    exact ⟨(top s).toReal, (EReal.coe_toReal ht hb).symm⟩
  obtain ⟨M, hM⟩ := hM
  have hw : ∀ x, ∃ r : ℝ, 0 ≤ r ∧ weight s x = r := fun x => by
    rcases hs x with h | ⟨r, h⟩
    · exact ⟨0, le_rfl, weight_bot s x h⟩
    · refine ⟨Real.exp (r - M), (Real.exp_pos _).le, ?_⟩
      unfold weight
      rw [h, hM, ← EReal.coe_sub]
      rfl
  choose w hw0 hw using hw
  have hl : ∑ x, weight s x = ((∑ x, w x : ℝ) : EReal) := by
    simp only [hw]
    exact (map_sum (⟨⟨Real.toEReal, EReal.coe_zero⟩, EReal.coe_add⟩ : ℝ →+ EReal) w Finset.univ).symm
  have hpos : 0 < ∑ x, w x := by
    refine Finset.sum_pos' (fun x _ => hw0 x) ⟨x0, Finset.mem_univ _, ?_⟩
    obtain ⟨r, hr⟩ := h0
    have : weight s x0 = ((Real.exp (r - M) : ℝ) : EReal) := by
      unfold weight
      rw [hr, hM, ← EReal.coe_sub]
      rfl
    rw [hw x0] at this
    rw [EReal.coe_eq_coe_iff.mp this]
    exact Real.exp_pos _
  have hne : ((∑ x, w x : ℝ) : EReal) ≠ 0 := by
    intro h; exact absurd (EReal.coe_eq_zero.mp h) hpos.ne'
  have hdiv : ∀ a : EReal, Ideal.div a (∑ x, weight s x) = a * (((∑ x, w x)⁻¹ : ℝ) : EReal) := fun a => by
    rw [hl]
    unfold Ideal.div
    rw [if_neg hne, EReal.coe_inv]
  unfold average
  rw [hdiv, sum_mul_of_nonneg _ _ (EReal.coe_nonneg.mpr (inv_nonneg.mpr hpos.le)) (EReal.coe_ne_top _)]
  refine Finset.sum_congr rfl fun x _ => ?_
  rw [hdiv, mul_comm (weight s x) (v x), mul_assoc]

end Cert.Band

end
-- ==== Proof.RowScale.lean ====
/- What every normalised row is multiplied by, and the two ways of writing a block's place in its array. -/
module

public import Idealize.ShloMosaic.Lib.Pointwise

@[expose] public section

noncomputable section

namespace Cert.Rows

open Idealize.ShloMosaic

/-- The reciprocal of a row's root mean square: `n` the number of its elements, `ε` what is added under the root. -/
def scale {K : ℕ} (n ε : EReal) (x : Fin K → EReal) : EReal :=
  Ideal.rsqrt (Ideal.div (∑ k, x k * x k) n + ε)

/-- A normalised row times the gain, multiplied into column `w`. -/
def rowDot {K : ℕ} (n ε : EReal) (x g w : Fin K → EReal) : EReal :=
  ∑ k, x k * scale n ε x * g k * w k

/-- Two rank-two indices with equal coordinates are equal. -/
theorem ix2_congr {n0 n1 : ℕ} {y z : (⟨2, ![n0, n1]⟩ : Shape).Idx} (h0 : (y 0).val = (z 0).val)
    (h1 : (y 1).val = (z 1).val) : y = z := by
  funext a
  apply Fin.ext
  match a with
  | ⟨0, _⟩ => exact h0
  | ⟨1, _⟩ => exact h1

/-- The rows of a column of length 4096 in its upper and in its lower half. -/
def upperRow (k : Fin 2048) : Fin 4096 := ⟨k.val, by omega⟩
def lowerRow (k : Fin 2048) : Fin 4096 := ⟨2048 + k.val, by omega⟩

/-- A sum over a column is the sum over its two halves. -/
theorem sum_halves (f : Fin 4096 → EReal) : ∑ k, f k = ∑ k, f (upperRow k) + ∑ k, f (lowerRow k) :=
  Fin.sum_univ_add (a := 2048) (b := 2048) f

end Cert.Rows

end
-- ==== Proof.AttnTile.lean ====
/- The attention over the prompt, one tile of queries: what the tile's arithmetic is at an element, for each of the eight
   tiles of a block of queries. -/
module

public import proofs.«01_k».proof.Proof.BandMath
public import proofs.«01_k».proof.Proof.RowScale
public import proofs.«01_k».proof.Proof.Gen.AttnKernelIdeal.Skeleton
public import Idealize.ShloMosaic.Lib.Tactic

@[expose] public section

set_option maxRecDepth 16384

noncomputable section

open Idealize.ShloMosaic Idealize.ShloMosaic.TcCoe Idealize.SL.Sem

namespace Cert.AttnKernelIdeal.BandValue

open Cert.AttnKernelIdeal Cert.AttnKernelIdeal.Gen Cert.Rows Cert.Band

/-- What a query is multiplied by. -/
abbrev sc : EReal := Ideal.ofBits FTy.f32 0x3DB504F3#32

theorem mask_bot : (Named.named (F := Ideal) (φ := .f32) κ "mask" 0xF149F2CA#32 : EReal) = ⊥ := rfl

/-- A tile of queries whose first one stands at row `n`, against a window of keys and values that starts 512 rows before. -/
def tile (n : ℕ) (q : Vec Ideal S256x128 .f32) (kw vw : Vec Ideal S768x128 .bf16) (b : Vec Ideal S256x768 .f32) :
    Vec Ideal S256x128 .f32 := fun y =>
  average (fun x : Fin 768 => if 512 ≤ x.val + n then (∑ d : Fin 128, q (ix2 (y 0) d) * sc * kw (ix2 x d)) + b (ix2 (y 0) x) else ⊥)
    (fun x => vw (ix2 x (y 1)))

/-- The comparison that leaves out the rows before the sequence's first. -/
theorem start_cmp : ∀ (a : Fin 4) (j : Fin 8) (x : Fin 768),
    IntOp.cmpi .sge (BitVec.ofNat 32 x.val)
      (Scalar.subi 512#32 (Scalar.addi (Scalar.muli (BitVec.ofNat 32 a.val) 2048#32) (BitVec.ofNat 32 (256 * j.val))))
      = if 512 ≤ x.val + (2048 * a.val + 256 * j.val) then 1#1 else 0#1 := by
  decide +kernel

theorem select_ite (p : Prop) [Decidable p] (a b : EReal) :
    Scalar.select (if p then 1#1 else 0#1) a b = if p then a else b := by
  by_cases h : p
  · rw [if_pos h, if_pos h]; rfl
  · rw [if_neg h, if_neg h]; rfl

/-- The arithmetic of tile `j` as it stands in the program. -/
theorem raw_tile (a : Fin 4) (j : Fin 8) (n : BitVec 32) (hn : n = BitVec.ofNat 32 (256 * j.val)) (q : Vec Ideal S256x128 .f32) (kw vw : Vec Ideal S768x128 .bf16)
    (b : Vec Ideal S256x768 .f32) (y : S256x128.Idx) :
    average (fun x : Fin 768 => Scalar.select (IntOp.cmpi .sge (BitVec.ofNat 32 x.val)
        (Scalar.subi 512#32 (Scalar.addi (Scalar.muli (BitVec.ofNat 32 a.val) 2048#32) n)))
        ((∑ d : Fin 128, q (ix2 (y 0) d) * sc * kw (ix2 x d)) + b (ix2 (y 0) x)) (Named.named (F := Ideal) (φ := .f32) κ "mask" 0xF149F2CA#32 : EReal))
      (fun x => vw (ix2 x (y 1)))
      = tile (2048 * a.val + 256 * j.val) q kw vw b y := by
  subst hn
  unfold tile
  congr 1
  funext x
  rw [start_cmp, select_ite, mask_bot]

variable (i : grid0.Coords) (q : Vec Ideal S256x128 .f32) (kw vw : Vec Ideal S768x128 .bf16) (b : Vec Ideal S256x768 .f32)

/-- The columns' numbers and the first row of tile `j`. -/
abbrev cols : IVec S256x768 32 := iota .tc S256x768 32 [1] iota_S256x768_d1_w32
abbrev first (n : BitVec 32) : BitVec 32 := Scalar.addi (Scalar.muli (BitVec.ofNat 32 (i 1).val) 2048#32) n

theorem tile0 : k0_pay12 i q kw vw b = tile (2048 * (i 1).val + 256 * 0) q kw vw b := by
  funext y
  refine Eq.trans ?_ (raw_tile (i 1) 0 0#32 rfl q kw vw b y)
  pointwise [k0_pay12]
  rw [negInf]
  rfl

theorem tile1 : k0_pay13 cols (Scalar.muli (BitVec.ofNat 32 (i 1).val) 2048#32) q kw vw b = tile (2048 * (i 1).val + 256 * 1) q kw vw b := by
  funext y
  refine Eq.trans ?_ (raw_tile (i 1) 1 256#32 rfl q kw vw b y)
  pointwise [k0_pay13]
  rw [negInf]
  rfl

theorem tile2 : k0_pay15 cols (first i 512#32) (k0_pay14 q) kw vw b = tile (2048 * (i 1).val + 256 * 2) q kw vw b := by
  funext y
  refine Eq.trans ?_ (raw_tile (i 1) 2 512#32 rfl q kw vw b y)
  pointwise [k0_pay15, k0_pay14]
  rw [negInf]
  rfl

theorem tile3 : k0_pay17 cols (first i 768#32) vw (k0_pay16 q kw b) = tile (2048 * (i 1).val + 256 * 3) q kw vw b := by
  funext y
  refine Eq.trans ?_ (raw_tile (i 1) 3 768#32 rfl q kw vw b y)
  pointwise [k0_pay17, k0_pay16]
  rw [negInf]
  rfl

theorem tile4 : k0_pay20 vw (k0_pay18 (BitVec.ofNat 32 (i 1).val) cols q kw b) (k0_pay19 (BitVec.ofNat 32 (i 1).val) cols q kw b)
    = tile (2048 * (i 1).val + 256 * 4) q kw vw b := by
  funext y
  refine Eq.trans ?_ (raw_tile (i 1) 4 1024#32 rfl q kw vw b y)
  pointwise [k0_pay20, k0_pay18, k0_pay19]
  rw [negInf]
  rfl

theorem tile5 : k0_pay21 (BitVec.ofNat 32 (i 1).val) cols q kw vw b = tile (2048 * (i 1).val + 256 * 5) q kw vw b := by
  funext y
  refine Eq.trans ?_ (raw_tile (i 1) 5 1280#32 rfl q kw vw b y)
  pointwise [k0_pay21]
  rw [negInf]
  rfl

theorem tile6 : k0_pay22 (BitVec.ofNat 32 (i 1).val) cols q kw vw b = tile (2048 * (i 1).val + 256 * 6) q kw vw b := by
  funext y
  refine Eq.trans ?_ (raw_tile (i 1) 6 1536#32 rfl q kw vw b y)
  pointwise [k0_pay22]
  rw [negInf]
  rfl

theorem tile7 : k0_pay1 cols (first i 1792#32) q kw vw b = tile (2048 * (i 1).val + 256 * 7) q kw vw b := by
  funext y
  refine Eq.trans ?_ (raw_tile (i 1) 7 1792#32 rfl q kw vw b y)
  pointwise [k0_pay1]
  rw [negInf]
  rfl

/-! ## The band -/

/-- The chunk of a row or of a column of the window, as the program computes it. -/
abbrev chunkOf (n : BitVec 32) : BitVec 32 :=
  Scalar.select
    (IntOp.andi (IntOp.cmpi .ne (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)

theorem chunkOf_eq : ∀ n : Fin 768, chunkOf (BitVec.ofNat 32 n.val) = BitVec.ofNat 32 (n.val / 64) := by decide +kernel

theorem in_band : ∀ (p : Fin 4) (x : Fin 12),
    IntOp.andi (IntOp.cmpi .sge (BitVec.ofNat 32 x.val) (BitVec.ofNat 32 p.val))
      (IntOp.cmpi .sle (BitVec.ofNat 32 x.val) (IntOp.addi (BitVec.ofNat 32 p.val) 8#32))
      = if p.val ≤ x.val ∧ x.val ≤ p.val + 8 then 1#1 else 0#1 := by decide +kernel

/-- The biases of a window, the bottom element outside the band. -/
def band (f : Vec Ideal S1x1x1024 .f32) : Vec Ideal S256x768 .f32 := fun y =>
  if (y 0).val / 64 ≤ (y 1).val / 64 ∧ (y 1).val / 64 ≤ (y 0).val / 64 + 8 then
    f (ix3 0 0 ⟨((y 1).val + 1024 - (y 0).val) % 1024, Nat.mod_lt _ (by decide)⟩)
  else ⊥

theorem band_eq (f : Vec Ideal S1x1x1024 .f32) :
    k0_pay11 (F := Ideal) (k0_pay10 (k0_pay7 f) (iota .tc S256x768 32 [0] iota_S256x768_d0_w32) 64#32 k0_pay8 k0_pay9
      (Scalar.extui (Scalar.cmpi .sgt 64#32 0#32))) = band f := by
  funext y
  pointwise [k0_pay11, k0_pay10, k0_pay7, k0_pay8, k0_pay9]
  have h0 : (y 0).val < 256 := (y 0).isLt
  have h1 : (y 1).val < 768 := (y 1).isLt
  refine Eq.trans (b := Scalar.select (IntOp.andi
      (IntOp.cmpi .sge (chunkOf (BitVec.ofNat 32 (y 1).val)) (chunkOf (BitVec.ofNat 32 (y 0).val)))
      (IntOp.cmpi .sle (chunkOf (BitVec.ofNat 32 (y 1).val)) (IntOp.addi (chunkOf (BitVec.ofNat 32 (y 0).val)) 8#32)))
      (f (ix3 0 0 ⟨((y 1).val + 1024 - (y 0).val % 1024) % 1024, Nat.mod_lt _ (by decide)⟩))
      (Named.named (F := Ideal) (φ := .f32) κ "mask" 0xF149F2CA#32 : EReal)) rfl ?_
  rw [chunkOf_eq ⟨(y 1).val, h1⟩, chunkOf_eq ⟨(y 0).val, by omega⟩,
    in_band ⟨(y 0).val / 64, by omega⟩ ⟨(y 1).val / 64, by omega⟩, select_ite, mask_bot]
  unfold band
  simp only [Nat.mod_eq_of_lt (show (y 0).val < 1024 by omega)]

end Cert.AttnKernelIdeal.BandValue

end
-- ==== Proof.AttnValue.lean ====
/- The attention over the prompt: the array the program leaves, element by element. The keys and the values of a head are
   laid out behind 512 rows of zeros at the head's first block of queries and kept for its other blocks; each tile of 256
   queries meets the 768 rows of the window that starts 512 rows before it. -/
module

public import proofs.«01_k».proof.Proof.AttnTile
public import proofs.«01_k».proof.Proof.Gen.AttnKernelIdeal.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

namespace Cert.AttnKernelIdeal.BandValue

open Cert.AttnKernelIdeal Cert.AttnKernelIdeal.Gen Cert.AttnKernelIdeal.Value Cert.Rows Cert.Band

theorem hz : (![0, 0] : Fin 2 → Nat) = fun _ => 0 := funext fun a => by fin_cases a <;> rfl
theorem hz4 : (![0, 0, 0, 0] : Fin 4 → Nat) = fun _ => 0 := funext fun a => by fin_cases a <;> rfl

/-- Rows behind 512 rows of zeros. -/
def padded (x : Vec Ideal S8192x128 .f32) : Vec Ideal S8704x128 .bf16 := fun y =>
  if h : (y 0).val < 512 then (0 : EReal)
  else x (ix2 ⟨(y 0).val - 512, by have : (y 0).val < 8704 := (y 0).isLt; omega⟩ (y 1))

theorem win_lt (a : Fin 4) {r : ℕ} (hr : r < 2048) (x : Fin 768) : 2048 * a.val + 256 * (r / 256) + x.val < 8704 := by
  have := a.isLt; have := x.isLt; omega

/-- A block of 2048 queries, the block's number `a`, against the padded keys and values of its head. -/
def block (a : Fin 4) (q : Vec Ideal S2048x128 .f32) (kb vb : Vec Ideal S8704x128 .bf16) (b : Vec Ideal S256x768 .f32) :
    Vec Ideal S2048x128 .f32 := fun y =>
  average (fun x : Fin 768 => if 512 ≤ x.val + (2048 * a.val + 256 * ((y 0).val / 256)) then
      (∑ d : Fin 128, q (ix2 (y 0) d) * sc * kb (ix2 ⟨2048 * a.val + 256 * ((y 0).val / 256) + x.val, win_lt a (y 0).isLt x⟩ d))
        + b (ix2 ⟨(y 0).val % 256, Nat.mod_lt _ (by decide)⟩ x) else ⊥)
    (fun x => vb (ix2 ⟨2048 * a.val + 256 * ((y 0).val / 256) + x.val, win_lt a (y 0).isLt x⟩ (y 1)))

/-- Tile `j` of a block is the block's rows at its place. -/
theorem piece (a : Fin 4) (j : Fin 8) (q : Vec Ideal S2048x128 .f32) (kb vb : Vec Ideal S8704x128 .bf16)
    (b : Vec Ideal S256x768 .f32) (o w : Fin 2 → ℕ) (ho : o = ![256 * j.val, 0]) (hw : w = ![2048 * a.val + 256 * j.val, 0])
    (hin : ∀ z, o z + S256x128.size z ≤ S2048x128.size z) (hwin : ∀ z, w z + S768x128.size z ≤ S8704x128.size z)
    (x : S256x128.Idx) :
    tile (2048 * a.val + 256 * j.val) (View.ld (Val := Elt Ideal) q (Rect.unit (s := S2048x128) o S256x128.size hin))
      (View.ld (Val := Elt Ideal) kb (Rect.unit (s := S8704x128) w S768x128.size hwin))
      (View.ld (Val := Elt Ideal) vb (Rect.unit (s := S8704x128) w S768x128.size hwin)) b x
      = block a q kb vb b ((Rect.unit (s := S2048x128) o S256x128.size hin).emb x) := by
  subst ho hw
  have hx : (x 0).val < 256 := (x 0).isLt
  have e0 : ((Rect.unit (s := S2048x128) ![256 * j.val, 0] S256x128.size hin).emb x 0).val = 256 * j.val + (x 0).val := by
    show 256 * j.val + 1 * (x 0).val = _; omega
  have e1 : ((Rect.unit (s := S2048x128) ![256 * j.val, 0] S256x128.size hin).emb x 1).val = (x 1).val := by
    show 0 + 1 * (x 1).val = _; omega
  have ed : ((Rect.unit (s := S2048x128) ![256 * j.val, 0] S256x128.size hin).emb x 0).val / 256 = j.val := by rw [e0]; omega
  have em : ((Rect.unit (s := S2048x128) ![256 * j.val, 0] S256x128.size hin).emb x 0).val % 256 = (x 0).val := by rw [e0]; omega
  unfold tile block
  congr 1
  · funext k
    refine if_congr (by rw [ed]) (congr (congrArg _ (Finset.sum_congr rfl fun d _ => ?_)) (congrArg b (ix2_congr em.symm rfl))) rfl
    refine congr (congrArg _ (congrArg (· * sc) (congrArg q (ix2_congr ?_ ?_)))) (congrArg kb (ix2_congr ?_ ?_))
    · show 256 * j.val + 1 * (x 0).val = _; rw [Nat.one_mul]; exact e0.symm
    · show 0 + 1 * d.val = d.val; omega
    · show (2048 * a.val + 256 * j.val) + 1 * k.val = 2048 * a.val + 256 * (_ / 256) + k.val
      rw [ed]; omega
    · show 0 + 1 * d.val = d.val; omega
  · funext k
    refine congrArg vb (ix2_congr ?_ ?_)
    · show (2048 * a.val + 256 * j.val) + 1 * k.val = 2048 * a.val + 256 * (_ / 256) + k.val
      rw [ed]; omega
    · show 0 + 1 * (x 1).val = _; rw [Nat.zero_add, Nat.one_mul]; exact e1.symm

/-! ## What the two cases of the body leave -/

section Cases

variable (c : Dev nD) (i : grid0.Coords) (a2 : Memref sig .tc .vmem S2048x128 .f32) (h2 : a2.IsWhole)
  (a3 : Memref sig .tc .vmem S8192x128 .f32) (h3 : a3.IsWhole) (a4 : Memref sig .tc .vmem S8192x128 .f32) (h4 : a4.IsWhole)
  (a5 : Memref sig .tc .vmem S1x1x1024 .f32) (h5 : a5.IsWhole) (a6 : Memref sig .tc .vmem S2048x128 .f32) (h6 : a6.IsWhole)
  (a7 : Memref sig .tc .vmem S8704x128 .bf16) (h7 : a7.IsWhole) (a8 : Memref sig .tc .vmem S8704x128 .bf16) (h8 : a8.IsWhole)
  (a9 : Memref sig .tc .vmem S256x768 .f32) (h9 : a9.IsWhole)
  (x0 : Vec Ideal S2048x128 .f32) (x1 x2 : Vec Ideal S8192x128 .f32) (x3 : Vec Ideal S1x1x1024 .f32)

theorem pay5_apply (v : Vec Ideal S8192x128 .f32) (y : S8192x128.Idx) : k0_pay5 v y = v y := by pointwise [k0_pay5]
theorem pay6_apply (v : Vec Ideal S8192x128 .f32) (y : S8192x128.Idx) : k0_pay6 v y = v y := by pointwise [k0_pay6]
theorem pay3_apply (y : S512x128.Idx) : k0_pay3 (F := Ideal) y = (0 : EReal) := by
  pointwise [k0_pay3, k0_pay2]

theorem padded_low (x : Vec Ideal S8192x128 .f32) (y : S512x128.Idx) :
    (0 : EReal) = padded x ((Rect.unit (s := S8704x128) ![0, 0] S512x128.size inb_S8704x128_S512x128_0_0).emb y) := by
  have h : (y 0).val < 512 := (y 0).isLt
  unfold padded
  rw [dif_pos (by show 0 + 1 * (y 0).val < 512; omega)]

theorem padded_high (x : Vec Ideal S8192x128 .f32) (y : S8192x128.Idx) :
    x y = padded x ((Rect.unit (s := S8704x128) ![512, 0] S8192x128.size inb_S8704x128_S8192x128_512_0).emb y) := by
  unfold padded
  rw [dif_neg (by show ¬512 + 1 * (y 0).val < 512; omega)]
  exact congrArg x (ix2_congr (by show (y 0).val = 512 + 1 * (y 0).val - 512; omega) (by show (y 1).val = 0 + 1 * (y 1).val; omega))

include h3 in
theorem canon_k (hcov : ∀ y : S8704x128.Idx, ∃ p ∈ kernelRun0_A.sl.HS0_2 (F := Ideal) c a3 h3 x1, y ∈ p.fst.set) :
    View.canon (kernelRun0_A.sl.HS0_2 (F := Ideal) c a3 h3 x1) = padded x1 := by
  funext y
  refine View.canon_apply_of_pieces (Val := Elt Ideal) (padded x1) _ ?_ y (hcov y)
  unfold kernelRun0_A.sl.HS0_2
  intro p hp
  rcases List.mem_cons.mp hp with rfl | hp
  · intro x
    refine Eq.trans ?_ (padded_high x1 x)
    refine (pay5_apply _ x).trans ?_
    simp only [View.readAt_eq_ld, h3.read_unread]
    exact congrFun (View.ld_unit_zero (Val := Elt Ideal) (S := S8192x128) hz _ x1) x
  · obtain rfl := List.mem_singleton.mp hp
    intro x
    exact (pay3_apply x).trans (padded_low x1 x)

include h4 in
theorem canon_v (hcov : ∀ y : S8704x128.Idx, ∃ p ∈ kernelRun0_A.sl.HS1_2 (F := Ideal) c a4 h4 x2, y ∈ p.fst.set) :
    View.canon (kernelRun0_A.sl.HS1_2 (F := Ideal) c a4 h4 x2) = padded x2 := by
  funext y
  refine View.canon_apply_of_pieces (Val := Elt Ideal) (padded x2) _ ?_ y (hcov y)
  unfold kernelRun0_A.sl.HS1_2
  intro p hp
  rcases List.mem_cons.mp hp with rfl | hp
  · intro x
    refine Eq.trans ?_ (padded_high x2 x)
    refine (pay6_apply _ x).trans ?_
    simp only [View.readAt_eq_ld, h4.read_unread]
    exact congrFun (View.ld_unit_zero (Val := Elt Ideal) (S := S8192x128) hz _ x2) x
  · obtain rfl := List.mem_singleton.mp hp
    intro x
    exact (pay3_apply x).trans (padded_low x2 x)

include h5 in
theorem canon_b : View.canon (kernelRun0_A.sl.HS2_1 (F := Ideal) c a5 h5 x3) = band x3 := by
  unfold kernelRun0_A.sl.HS2_1
  rw [View.canon_unit_zero hz]
  refine Eq.trans ?_ (band_eq x3)
  have e : x3 = View.readAt (Elt Ideal) a5.view (Rect.unit (s := S1x1x1024) ![0, 0, 0] S1x1x1024.size inb_S1x1x1024_S1x1x1024_0_0_0).toLoadRect (h5.unread x3) := by
    rw [View.readAt_eq_ld, h5.read_unread]
    exact (View.ld_unit_zero (Val := Elt Ideal) (S := S1x1x1024) (funext fun a => by fin_cases a <;> rfl) _ x3).symm
  conv_rhs => rw [e]
  rfl

theorem sout_A0 (hc : cond0_0 i) :
    sout0_A_0 c i a2 h2 a3 h3 a4 h4 a5 h5 a6 h6 a7 h7 a8 h8 a9 h9 hc x0 x1 x2 x3 = padded x1 := by
  have hcov := scover0_A_0 c i a2 h2 a3 h3 a4 h4 a5 h5 a6 h6 a7 h7 a8 h8 a9 h9 hc x0 x1 x2 x3
  unfold sout0_A_0
  rw [View.read_writes_eq_canon _ _ _ hcov]
  unfold kernelRun0_A at hcov ⊢
  exact canon_k c a3 h3 x1 hcov

theorem sout_A1 (hc : cond0_0 i) :
    sout0_A_1 c i a2 h2 a3 h3 a4 h4 a5 h5 a6 h6 a7 h7 a8 h8 a9 h9 hc x0 x1 x2 x3 = padded x2 := by
  have hcov := scover0_A_1 c i a2 h2 a3 h3 a4 h4 a5 h5 a6 h6 a7 h7 a8 h8 a9 h9 hc x0 x1 x2 x3
  unfold sout0_A_1
  rw [View.read_writes_eq_canon _ _ _ hcov]
  unfold kernelRun0_A at hcov ⊢
  exact canon_v c a4 h4 x2 hcov

theorem sout_A2 (hc : cond0_0 i) :
    sout0_A_2 c i a2 h2 a3 h3 a4 h4 a5 h5 a6 h6 a7 h7 a8 h8 a9 h9 hc x0 x1 x2 x3 = band x3 := by
  unfold sout0_A_2
  rw [View.read_writes_eq_canon _ _ _ (scover0_A_2 c i a2 h2 a3 h3 a4 h4 a5 h5 a6 h6 a7 h7 a8 h8 a9 h9 hc x0 x1 x2 x3)]
  unfold kernelRun0_A
  exact canon_b c a5 h5 x3

/-- A tile's loads, of the queries as they stand in the argument and of keys, values and biases however they are held. -/
theorem stored (j : Fin 8) (P : Vec Ideal S256x128 .f32) (q : Vec Ideal S256x128 .f32) (kw vw : Vec Ideal S768x128 .bf16)
    (b b' : Vec Ideal S256x768 .f32) (kb vb : Vec Ideal S8704x128 .bf16) (o w : Fin 2 → ℕ)
    (ho : o = ![256 * j.val, 0]) (hw : w = ![2048 * (i 1).val + 256 * j.val, 0])
    (hin : ∀ z, o z + S256x128.size z ≤ S2048x128.size z) (hwin : ∀ z, w z + S768x128.size z ≤ S8704x128.size z)
    (hP : P = tile (2048 * (i 1).val + 256 * j.val) q kw vw b)
    (hq : q = View.ld (Val := Elt Ideal) x0 (Rect.unit (s := S2048x128) o S256x128.size hin))
    (hk : kw = View.ld (Val := Elt Ideal) kb (Rect.unit (s := S8704x128) w S768x128.size hwin))
    (hv : vw = View.ld (Val := Elt Ideal) vb (Rect.unit (s := S8704x128) w S768x128.size hwin)) (hb : b = b')
    (x : S256x128.Idx) : P x = block (i 1) x0 kb vb b' ((Rect.unit (s := S2048x128) o S256x128.size hin).emb x) := by
  rw [hP, hq, hk, hv, hb]
  exact piece (i 1) j x0 kb vb b' o w ho hw hin hwin x

theorem out_B (hc : ¬cond0_0 i) (s0 s1 : Vec Ideal S8704x128 .bf16) (s2 : Vec Ideal S256x768 .f32) :
    out0_B_4 c i a2 h2 a3 h3 a4 h4 a5 h5 a6 h6 a7 h7 a8 h8 a9 h9 hc x0 x1 x2 x3 s0 s1 s2 = block (i 1) x0 s0 s1 s2 := by
  have hcov := cover0_B_4 c i a2 h2 a3 h3 a4 h4 a5 h5 a6 h6 a7 h7 a8 h8 a9 h9 hc x0 x1 x2 x3 s0 s1 s2
  unfold out0_B_4
  rw [View.read_writes_eq_canon _ _ _ hcov]
  funext y
  refine View.canon_apply_of_pieces (Val := Elt Ideal) (block (i 1) x0 s0 s1 s2) _ ?_ y (hcov y)
  have hq : ∀ (o : Fin 2 → ℕ) (hin : ∀ z, o z + S256x128.size z ≤ S2048x128.size z),
      View.readAt (Elt Ideal) a2.view (Rect.unit (s := S2048x128) o S256x128.size hin).toLoadRect (h2.unread x0)
        = View.ld (Val := Elt Ideal) x0 (Rect.unit (s := S2048x128) o S256x128.size hin) := fun o hin => by
    rw [View.readAt_eq_ld, h2.read_unread]
  have hk : ∀ (w : Fin 2 → ℕ) (hin : ∀ z, w z + S768x128.size z ≤ S8704x128.size z),
      View.readAt (Elt Ideal) a7.view (Rect.unit (s := S8704x128) w S768x128.size hin).toLoadRect (h7.unread s0)
        = View.ld (Val := Elt Ideal) s0 (Rect.unit (s := S8704x128) w S768x128.size hin) := fun o hin => by
    rw [View.readAt_eq_ld, h7.read_unread]
  have hv : ∀ (w : Fin 2 → ℕ) (hin : ∀ z, w z + S768x128.size z ≤ S8704x128.size z),
      View.readAt (Elt Ideal) a8.view (Rect.unit (s := S8704x128) w S768x128.size hin).toLoadRect (h8.unread s1)
        = View.ld (Val := Elt Ideal) s1 (Rect.unit (s := S8704x128) w S768x128.size hin) := fun o hin => by
    rw [View.readAt_eq_ld, h8.read_unread]
  have hb : View.readAt (Elt Ideal) a9.view (Rect.unit (s := S256x768) ![0, 0] S256x768.size inb_S256x768_S256x768_0_0).toLoadRect (h9.unread s2) = s2 := by
    rw [View.readAt_eq_ld, h9.read_unread]
    exact View.ld_unit_zero (Val := Elt Ideal) (S := S256x768) hz _ s2
  unfold kernelRun0_B
  dsimp only
  intro p hp
  rcases List.mem_cons.mp hp with rfl | hp
  · exact stored i x0 7 _ _ _ _ _ _ _ _ _ _ rfl (k0_off1_eq i 7) _ _ (tile7 i _ _ _ _) (hq _ _) (hk _ _) (hv _ _) hb
  rcases List.mem_cons.mp hp with rfl | hp
  · exact stored i x0 6 _ _ _ _ _ _ _ _ _ _ rfl (k0_off1_eq i 6) _ _ (tile6 i _ _ _ _) (hq _ _) (hk _ _) (hv _ _) hb
  rcases List.mem_cons.mp hp with rfl | hp
  · exact stored i x0 5 _ _ _ _ _ _ _ _ _ _ rfl (k0_off1_eq i 5) _ _ (tile5 i _ _ _ _) (hq _ _) (hk _ _) (hv _ _) hb
  rcases List.mem_cons.mp hp with rfl | hp
  · exact stored i x0 4 _ _ _ _ _ _ _ _ _ _ rfl (k0_off1_eq i 4) _ _ (tile4 i _ _ _ _) (hq _ _) (hk _ _) (hv _ _) hb
  rcases List.mem_cons.mp hp with rfl | hp
  · exact stored i x0 3 _ _ _ _ _ _ _ _ _ _ rfl (k0_off1_eq i 3) _ _ (tile3 i _ _ _ _) (hq _ _) (hk _ _) (hv _ _) hb
  rcases List.mem_cons.mp hp with rfl | hp
  · exact stored i x0 2 _ _ _ _ _ _ _ _ _ _ rfl (k0_off1_eq i 2) _ _ (tile2 i _ _ _ _) (hq _ _) (hk _ _) (hv _ _) hb
  rcases List.mem_cons.mp hp with rfl | hp
  · exact stored i x0 1 _ _ _ _ _ _ _ _ _ _ rfl (k0_off1_eq i 1) _ _ (tile1 i _ _ _ _) (hq _ _) (hk _ _) (hv _ _) hb
  obtain rfl := List.mem_singleton.mp hp
  exact stored i x0 0 _ _ _ _ _ _ _ _ _ _ rfl (k0_off1_eq i 0) _ _ (tile0 i _ _ _ _) (hq _ _) (hk _ _) (hv _ _) hb

theorem out_A (hc : cond0_0 i) :
    out0_A_4 c i a2 h2 a3 h3 a4 h4 a5 h5 a6 h6 a7 h7 a8 h8 a9 h9 hc x0 x1 x2 x3 = block (i 1) x0 (padded x1) (padded x2) (band x3) := by
  have hcov := cover0_A_4 c i a2 h2 a3 h3 a4 h4 a5 h5 a6 h6 a7 h7 a8 h8 a9 h9 hc x0 x1 x2 x3
  unfold out0_A_4
  rw [View.read_writes_eq_canon _ _ _ hcov]
  funext y
  refine View.canon_apply_of_pieces (Val := Elt Ideal) (block (i 1) x0 (padded x1) (padded x2) (band x3)) _ ?_ y (hcov y)
  have hq : ∀ (o : Fin 2 → ℕ) (hin : ∀ z, o z + S256x128.size z ≤ S2048x128.size z),
      View.readAt (Elt Ideal) a2.view (Rect.unit (s := S2048x128) o S256x128.size hin).toLoadRect (h2.unread x0)
        = View.ld (Val := Elt Ideal) x0 (Rect.unit (s := S2048x128) o S256x128.size hin) := fun o hin => by
    rw [View.readAt_eq_ld, h2.read_unread]
  have ck := scover0_A_0 c i a2 h2 a3 h3 a4 h4 a5 h5 a6 h6 a7 h7 a8 h8 a9 h9 hc x0 x1 x2 x3
  have cv := scover0_A_1 c i a2 h2 a3 h3 a4 h4 a5 h5 a6 h6 a7 h7 a8 h8 a9 h9 hc x0 x1 x2 x3
  have cb := scover0_A_2 c i a2 h2 a3 h3 a4 h4 a5 h5 a6 h6 a7 h7 a8 h8 a9 h9 hc x0 x1 x2 x3
  unfold kernelRun0_A at ck cv cb
  have hk : ∀ (w : Fin 2 → ℕ) (hin : ∀ z, w z + S768x128.size z ≤ S8704x128.size z),
      View.readCov a7.view (kernelRun0_A.sl.HS0_2 (F := Ideal) c a3 h3 x1) (Rect.unit (s := S8704x128) w S768x128.size hin).toLoadRect
        = View.ld (Val := Elt Ideal) (padded x1) (Rect.unit (s := S8704x128) w S768x128.size hin) := fun o hin => by
    rw [View.readCov_eq_canon_ld _ _ _ ck, canon_k c a3 h3 x1 ck]
  have hv : ∀ (w : Fin 2 → ℕ) (hin : ∀ z, w z + S768x128.size z ≤ S8704x128.size z),
      View.readCov a8.view (kernelRun0_A.sl.HS1_2 (F := Ideal) c a4 h4 x2) (Rect.unit (s := S8704x128) w S768x128.size hin).toLoadRect
        = View.ld (Val := Elt Ideal) (padded x2) (Rect.unit (s := S8704x128) w S768x128.size hin) := fun o hin => by
    rw [View.readCov_eq_canon_ld _ _ _ cv, canon_v c a4 h4 x2 cv]
  have hb : View.readCov a9.view (kernelRun0_A.sl.HS2_1 (F := Ideal) c a5 h5 x3)
      (Rect.unit (s := S256x768) ![0, 0] S256x768.size inb_S256x768_S256x768_0_0).toLoadRect = band x3 := by
    rw [View.readCov_eq_canon_ld _ _ _ cb, canon_b c a5 h5 x3]
    exact View.ld_unit_zero (Val := Elt Ideal) (S := S256x768) hz _ (band x3)
  unfold kernelRun0_A
  dsimp only
  intro p hp
  rcases List.mem_cons.mp hp with rfl | hp
  · exact stored i x0 7 _ _ _ _ _ _ _ _ _ _ rfl (k0_off1_eq i 7) _ _ (tile7 i _ _ _ _) (hq _ _) (hk _ _) (hv _ _) hb
  rcases List.mem_cons.mp hp with rfl | hp
  · exact stored i x0 6 _ _ _ _ _ _ _ _ _ _ rfl (k0_off1_eq i 6) _ _ (tile6 i _ _ _ _) (hq _ _) (hk _ _) (hv _ _) hb
  rcases List.mem_cons.mp hp with rfl | hp
  · exact stored i x0 5 _ _ _ _ _ _ _ _ _ _ rfl (k0_off1_eq i 5) _ _ (tile5 i _ _ _ _) (hq _ _) (hk _ _) (hv _ _) hb
  rcases List.mem_cons.mp hp with rfl | hp
  · exact stored i x0 4 _ _ _ _ _ _ _ _ _ _ rfl (k0_off1_eq i 4) _ _ (tile4 i _ _ _ _) (hq _ _) (hk _ _) (hv _ _) hb
  rcases List.mem_cons.mp hp with rfl | hp
  · exact stored i x0 3 _ _ _ _ _ _ _ _ _ _ rfl (k0_off1_eq i 3) _ _ (tile3 i _ _ _ _) (hq _ _) (hk _ _) (hv _ _) hb
  rcases List.mem_cons.mp hp with rfl | hp
  · exact stored i x0 2 _ _ _ _ _ _ _ _ _ _ rfl (k0_off1_eq i 2) _ _ (tile2 i _ _ _ _) (hq _ _) (hk _ _) (hv _ _) hb
  rcases List.mem_cons.mp hp with rfl | hp
  · exact stored i x0 1 _ _ _ _ _ _ _ _ _ _ rfl (k0_off1_eq i 1) _ _ (tile1 i _ _ _ _) (hq _ _) (hk _ _) (hv _ _) hb
  obtain rfl := List.mem_singleton.mp hp
  exact stored i x0 0 _ _ _ _ _ _ _ _ _ _ rfl (k0_off1_eq i 0) _ _ (tile0 i _ _ _ _) (hq _ _) (hk _ _) (hv _ _) hb

theorem sout_B0 (hc : ¬cond0_0 i) (s0 s1 : Vec Ideal S8704x128 .bf16) (s2 : Vec Ideal S256x768 .f32) :
    sout0_B_0 c i a2 h2 a3 h3 a4 h4 a5 h5 a6 h6 a7 h7 a8 h8 a9 h9 hc x0 x1 x2 x3 s0 s1 s2 = s0 := by
  unfold sout0_B_0; rfl
theorem sout_B1 (hc : ¬cond0_0 i) (s0 s1 : Vec Ideal S8704x128 .bf16) (s2 : Vec Ideal S256x768 .f32) :
    sout0_B_1 c i a2 h2 a3 h3 a4 h4 a5 h5 a6 h6 a7 h7 a8 h8 a9 h9 hc x0 x1 x2 x3 s0 s1 s2 = s1 := by
  unfold sout0_B_1; rfl
theorem sout_B2 (hc : ¬cond0_0 i) (s0 s1 : Vec Ideal S8704x128 .bf16) (s2 : Vec Ideal S256x768 .f32) :
    sout0_B_2 c i a2 h2 a3 h3 a4 h4 a5 h5 a6 h6 a7 h7 a8 h8 a9 h9 hc x0 x1 x2 x3 s0 s1 s2 = s2 := by
  unfold sout0_B_2; rfl

end Cases
end Cert.AttnKernelIdeal.BandValue
end
-- ==== Proof.BandScores.lean ====
/- The attention over the prompt as mathematics: the scores of a query against the 576 rows of its window (its own chunk of
   64 and the eight chunks before it), and the rows of a window, which starts 512 rows before the query's chunk. -/
module

public import proofs.«01_k».proof.Proof.BandMath

@[expose] public section

noncomputable section

open Idealize.ShloMosaic

namespace Cert.Band

/-- The factor on the queries. -/
def sc : EReal := Ideal.ofBits FTy.f32 0x3DB504F3#32

variable (Z : Fin 8192 → Fin 10240 → EReal) (rel : Fin 16 → Fin 513 → EReal)

/-- Column `e` at row `p` of the rows laid out behind 512 rows of zeros. -/
def rowAt (p : ℕ) (hp : p < 8704) (e : Fin 10240) : EReal :=
  if h : p < 512 then 0 else Z ⟨p - 512, by omega⟩ e

theorem seen_lt (r : Fin 8192) (j : Fin 576) : 64 * (r.val / 64) + j.val < 8704 := by
  have := r.isLt; have := j.isLt; omega

/-- The place in the table of biases of a query at place `p` of its chunk and the row `j` of its window: their distance
    `512 + p - j`, brought into the range from -256 to 256, plus 256. -/
def biasAt (p j : ℕ) : ℕ := if j ≤ 256 + p then 512 else 768 + p - j

theorem biasAt_lt (p j : ℕ) : biasAt p j < 513 := by unfold biasAt; split <;> omega

def qCol (h : Fin 16) (d : Fin 128) : Fin 10240 := ⟨4096 + 128 * h.val + d.val, by omega⟩
def kCol (h : Fin 16) (d : Fin 128) : Fin 10240 := ⟨6144 + 128 * h.val + d.val, by omega⟩
def vCol (h : Fin 16) (d : Fin 128) : Fin 10240 := ⟨8192 + 128 * h.val + d.val, by omega⟩

/-- The score of query `r` of head `h` against row `j` of its window. -/
def score (r : Fin 8192) (h : Fin 16) (j : Fin 576) : EReal :=
  if 512 ≤ 64 * (r.val / 64) + j.val then
    (∑ d : Fin 128, Z r (qCol h d) * sc * rowAt Z (64 * (r.val / 64) + j.val) (seen_lt r j) (kCol h d))
      + rel h ⟨biasAt (r.val % 64) j.val, biasAt_lt _ _⟩
  else ⊥

/-- The value of row `j` of the window of query `r`. -/
def value (r : Fin 8192) (h : Fin 16) (d : Fin 128) (j : Fin 576) : EReal :=
  rowAt Z (64 * (r.val / 64) + j.val) (seen_lt r j) (vCol h d)

end Cert.Band

end
-- ==== Proof.AttnArray.lean ====
/- The attention over the prompt: the array the program leaves, at an index, as the average over the query's window. -/
module

public import proofs.«01_k».proof.Proof.AttnValue
public import proofs.«01_k».proof.Proof.BandScores

@[expose] public section

set_option maxRecDepth 16384

noncomputable section

open Idealize.ShloMosaic Idealize.ShloMosaic.TcCoe Idealize.SL.Sem

namespace Cert.AttnKernelIdeal.BandValue

open Cert.AttnKernelIdeal Cert.AttnKernelIdeal.Gen Cert.AttnKernelIdeal.Value Cert.Rows

/-! ## The table of biases along a row -/

/-- Where entry `n` of a head's row of biases comes from. -/
def rowIdx (n : ℕ) : ℕ := if n ≤ 256 then 512 else if n ≤ 768 then 768 - n else 512

theorem rowIdx_lt (n : ℕ) : rowIdx n < 513 := by unfold rowIdx; split <;> [skip; split] <;> omega

theorem lit_eq : ∀ n : Fin 1024, lit0t n.val = BitVec.ofNat 32 (rowIdx n.val) := by decide +kernel

theorem lit_at (y : S1024.Idx) : lit0 (S1024.rowMajor y) = BitVec.ofNat 32 (rowIdx (y 0).val) := by
  refine Eq.trans ?_ (lit_eq (y 0))
  have e : (S1024.rowMajor y).val = (y 0).val := by
    exact Shape.rowMajor_val_one y
  show lit0t (S1024.rowMajor y).val = _
  rw [e]

theorem starts (x1 x2 : IVec S1024 32) (y : S1024x1.Idx) :
    broadcastInDim S1024x1 ![0] bcast_S1024_S1024x1_0 (select (constantI S1024 1 0#1) x1 x2) y = x2 (ix1 (y 0)) := by
  pointwise

theorem toNat_small {k : ℕ} (hk : k < 513) : min (BitVec.ofNat 32 k).toInt.toNat 512 = k := by
  rw [BitVec.toInt_eq_toNat_of_lt (by rw [BitVec.toNat_ofNat]; omega), BitVec.toNat_ofNat]
  simp only [Int.toNat_natCast]
  omega

theorem gather_bias (x : Vec Ideal S16x513 .f32) (idx : IVec S1024x1 32) (y : S16x1024.Idx) (k : ℕ) (hk : k < 513)
    (h : idx (ix2 (y 1) 0) = BitVec.ofNat 32 k) :
    Host.gather gather_S16x513_S1024x1_S16x1024_0_1_n_n_1_1_161 x idx y = x (ix2 (y 0) ⟨k, hk⟩) := by
  unfold Host.gather
  refine congrArg x (funext fun a => Fin.ext ?_)
  match a with
  | ⟨0, _⟩ =>
    show GatherDims.start _ y idx 0 + GatherDims.batchCoord _ y 0 + GatherDims.offCoord _ y 0 = (y 0).val
    have e1 : GatherDims.start gather_S16x513_S1024x1_S16x1024_0_1_n_n_1_1_161 y idx 0 = 0 := rfl
    have e2 : GatherDims.batchCoord gather_S16x513_S1024x1_S16x1024_0_1_n_n_1_1_161 y 0 = 0 := rfl
    have e3 : GatherDims.offCoord gather_S16x513_S1024x1_S16x1024_0_1_n_n_1_1_161 y 0 = (y 0).val := rfl
    rw [e1, e2, e3]; omega
  | ⟨1, _⟩ =>
    show GatherDims.start _ y idx 1 + GatherDims.batchCoord _ y 1 + GatherDims.offCoord _ y 1 = k
    have e1 : GatherDims.start gather_S16x513_S1024x1_S16x1024_0_1_n_n_1_1_161 y idx 1 = min (idx (ix2 (y 1) 0)).toInt.toNat 512 := by
      have hs : ∀ h, GatherDims.siIdx gather_S16x513_S1024x1_S16x1024_0_1_n_n_1_1_161 y ⟨0, h⟩ = ix2 (y 1) 0 := fun _ => by
        funext b
        match b with
        | ⟨0, _⟩ => rfl
        | ⟨1, _⟩ => rfl
      show min (idx (GatherDims.siIdx gather_S16x513_S1024x1_S16x1024_0_1_n_n_1_1_161 y ⟨0, _⟩)).toInt.toNat 512 = _
      exact congrArg (fun w => min (idx w).toInt.toNat 512) (hs _)
    have e2 : GatherDims.batchCoord gather_S16x513_S1024x1_S16x1024_0_1_n_n_1_1_161 y 1 = 0 := rfl
    have e3 : GatherDims.offCoord gather_S16x513_S1024x1_S16x1024_0_1_n_n_1_1_161 y 1 = 0 := rfl
    rw [e1, e2, e3, h, toNat_small hk]; rfl

theorem drop_rel (x : Vec Ideal S1x16x513 .f32) (y : S16x513.Idx) :
    shapeCast S16x513 x shapeCasts_S1x16x513_S16x513 y = x (ix3 0 (y 0) (y 1)) := by pointwise
theorem add_axis (x : Vec Ideal S16x1024 .f32) (y : S16x1x1024.Idx) :
    shapeCast S16x1x1024 x shapeCasts_S16x1024_S16x1x1024 y = x (ix2 (y 0) (y 2)) := by pointwise

/-! ## The blocks -/

variable (m : (ℓ : Loc nD τ sig) → Buf (Elt Ideal) ℓ) (c : Dev nD)

/-- The two arguments as the kernel indexes them. -/
abbrev Z (r : Fin 8192) (e : Fin 10240) : EReal := (m ((c : Thread nD τ).loc main_arg0) : Vec Ideal S8192x10240 .f32) (ix2 r e)
abbrev rel (h : Fin 16) (n : Fin 513) : EReal := (m ((c : Thread nD τ).loc main_arg1) : Vec Ideal S1x16x513 .f32) (ix3 0 h n)

theorem V_v6 (y : S16x1x1024.Idx) :
    (V m c main_v6 : Vec Ideal S16x1x1024 .f32) y = rel m c (y 0) ⟨rowIdx (y 2).val, rowIdx_lt _⟩ := by
  have e : V m c main_v6 = (shapeCast S16x1x1024 (Host.gather gather_S16x513_S1024x1_S16x1024_0_1_n_n_1_1_161
      (shapeCast S16x513 (m ((c : Thread nD τ).loc main_arg1)) shapeCasts_S1x16x513_S16x513 : Vec Ideal S16x513 .f32)
      (broadcastInDim S1024x1 ![0] bcast_S1024_S1024x1_0 (select (constantI S1024 1 0#1)
        (addi (fun i => lit0 (S1024.rowMajor i)) (broadcastInDim S1024 ![] bcast_S_S1024 (constantI S_ 32 513#32)))
        (fun i => lit0 (S1024.rowMajor i)))) : Vec Ideal S16x1024 .f32) shapeCasts_S16x1024_S16x1x1024 : Vec Ideal S16x1x1024 .f32) := by
    show StableHlo.after hostOps0 _ (Proc.devRef .tc main_v6) = _
    after_results
    rfl
  rw [e, add_axis]
  refine (gather_bias _ _ (ix2 (y 0) (y 2)) (rowIdx (y 2).val) (rowIdx_lt _) ?_).trans (drop_rel _ _)
  exact (starts _ (fun i => lit0 (S1024.rowMajor i)) _).trans (lit_at _)

theorem index_facts : ∀ t : Fin cfg0.N, win0_0.index t 0 = t.val % 4 ∧ win0_0.index t 1 = 32 + t.val / 4
    ∧ win0_1.index t 0 = 0 ∧ win0_1.index t 1 = 48 + t.val / 4
    ∧ win0_2.index t 0 = 0 ∧ win0_2.index t 1 = 64 + t.val / 4
    ∧ win0_3.index t 0 = t.val / 4 ∧ win0_3.index t 1 = 0 ∧ win0_3.index t 2 = 0
    ∧ (grid0.coords t 1).val = t.val % 4 :=
  (by decide +kernel : ∀ t : Fin grid0.N, _)

theorem head_lt {t : ℕ} (ht : t < cfg0.N) : t / 4 < 16 := by
  have := lt_of_lt_of_eq ht (show cfg0.N = 64 from N_0); omega
theorem row_lt (t : ℕ) {r : ℕ} (hr : r < 2048) : 2048 * (t % 4) + r < 8192 := by omega

theorem iblk0 (t : Fin cfg0.N) (y : S2048x128.Idx) :
    (iblk m c 0 t : Vec Ideal S2048x128 .f32) y
      = Z m c ⟨2048 * (t.val % 4) + (y 0).val, row_lt _ (y 0).isLt⟩ (Band.qCol ⟨t.val / 4, head_lt t.isLt⟩ (y 1)) := by
  obtain ⟨i0, i1, -⟩ := index_facts t
  unfold iblk
  rw [View.read_apply]
  refine (congrFun (V_main_arg0 m c) _).trans ?_
  refine congrArg (m ((c : Thread nD τ).loc main_arg0) : Vec Ideal S8192x10240 .f32) (ix2_congr ?_ ?_)
  · show win0_0.index t 0 * 2048 + 1 * (y 0).val = 2048 * (t.val % 4) + (y 0).val; rw [i0]; omega
  · show win0_0.index t 1 * 128 + 1 * (y 1).val = 4096 + 128 * (t.val / 4) + (y 1).val; rw [i1]; omega

theorem iblk1 (t : Fin cfg0.N) (y : S8192x128.Idx) :
    (iblk m c 1 t : Vec Ideal S8192x128 .f32) y = Z m c (y 0) (Band.kCol ⟨t.val / 4, head_lt t.isLt⟩ (y 1)) := by
  obtain ⟨-, -, i0, i1, -⟩ := index_facts t
  unfold iblk
  rw [View.read_apply]
  refine (congrFun (V_main_arg0 m c) _).trans ?_
  refine congrArg (m ((c : Thread nD τ).loc main_arg0) : Vec Ideal S8192x10240 .f32) (ix2_congr ?_ ?_)
  · show win0_1.index t 0 * 8192 + 1 * (y 0).val = (y 0).val; rw [i0]; omega
  · show win0_1.index t 1 * 128 + 1 * (y 1).val = 6144 + 128 * (t.val / 4) + (y 1).val; rw [i1]; omega

theorem iblk2 (t : Fin cfg0.N) (y : S8192x128.Idx) :
    (iblk m c 2 t : Vec Ideal S8192x128 .f32) y = Z m c (y 0) (Band.vCol ⟨t.val / 4, head_lt t.isLt⟩ (y 1)) := by
  obtain ⟨-, -, -, -, i0, i1, -⟩ := index_facts t
  unfold iblk
  rw [View.read_apply]
  refine (congrFun (V_main_arg0 m c) _).trans ?_
  refine congrArg (m ((c : Thread nD τ).loc main_arg0) : Vec Ideal S8192x10240 .f32) (ix2_congr ?_ ?_)
  · show win0_2.index t 0 * 8192 + 1 * (y 0).val = (y 0).val; rw [i0]; omega
  · show win0_2.index t 1 * 128 + 1 * (y 1).val = 8192 + 128 * (t.val / 4) + (y 1).val; rw [i1]; omega

theorem iblk3 (t : Fin cfg0.N) (y : S1x1x1024.Idx) :
    (iblk m c 3 t : Vec Ideal S1x1x1024 .f32) y
      = rel m c ⟨t.val / 4, head_lt t.isLt⟩ ⟨rowIdx (y 2).val, rowIdx_lt _⟩ := by
  obtain ⟨-, -, -, -, -, -, i0, i1, i2, -⟩ := index_facts t
  have h0 : (y 0).val < 1 := (y 0).isLt
  unfold iblk
  rw [View.read_apply]
  refine (V_v6 m c _).trans ?_
  refine congr (congrArg (rel m c) (Fin.ext ?_)) (Fin.ext (congrArg rowIdx ?_))
  · show win0_3.index t 0 * 1 + 1 * (y 0).val = t.val / 4; rw [i0]; omega
  · show win0_3.index t 2 * 1024 + 1 * (y 2).val = (y 2).val; rw [i2]; omega

/-! ## The fold over the grid -/

theorem keys_eq (t t' : Fin cfg0.N) (h : t.val / 4 = t'.val / 4) :
    (iblk m c 1 t : Vec Ideal S8192x128 .f32) = iblk m c 1 t' := by
  funext y; simp only [iblk1, h]
theorem values_eq (t t' : Fin cfg0.N) (h : t.val / 4 = t'.val / 4) :
    (iblk m c 2 t : Vec Ideal S8192x128 .f32) = iblk m c 2 t' := by
  funext y; simp only [iblk2, h]
theorem biases_eq (t t' : Fin cfg0.N) (h : t.val / 4 = t'.val / 4) :
    (iblk m c 3 t : Vec Ideal S1x1x1024 .f32) = iblk m c 3 t' := by
  funext y; simp only [iblk3, h]

theorem outs_eq : ∀ (n : ℕ) (h : n < cfg0.N), outsAt0 m c n h
    = (block (grid0.coords ⟨n, h⟩ 1) (iblk m c 0 ⟨n, h⟩) (padded (iblk m c 1 ⟨n, h⟩)) (padded (iblk m c 2 ⟨n, h⟩)) (band (iblk m c 3 ⟨n, h⟩)),
        padded (iblk m c 1 ⟨n, h⟩), padded (iblk m c 2 ⟨n, h⟩), band (iblk m c 3 ⟨n, h⟩))
  | 0, h => by rw [outsAt0_A m c ⟨0, h⟩ (Nat.zero_mod _), out_A, sout_A0, sout_A1, sout_A2]
  | n + 1, h => by
    by_cases h0 : (n + 1) % 4 = 0
    · rw [outsAt0_A m c ⟨n + 1, h⟩ h0, out_A, sout_A0, sout_A1, sout_A2]
    · rw [outsAt0_B m c ⟨n + 1, h⟩ h0, out_B, sout_B0, sout_B1, sout_B2]
      have hd : n / 4 = (n + 1) / 4 := by omega
      have e : (outsAt0 m c n (Nat.lt_of_succ_lt h)).2 = (padded (iblk m c 1 ⟨n + 1, h⟩), padded (iblk m c 2 ⟨n + 1, h⟩), band (iblk m c 3 ⟨n + 1, h⟩)) := by
        rw [outs_eq n (Nat.lt_of_succ_lt h)]
        rw [keys_eq m c ⟨n, _⟩ ⟨n + 1, h⟩ hd, values_eq m c ⟨n, _⟩ ⟨n + 1, h⟩ hd, biases_eq m c ⟨n, _⟩ ⟨n + 1, h⟩ hd]
      show (block _ _ (outsAt0 m c n _).2.1 (outsAt0 m c n _).2.2.1 (outsAt0 m c n _).2.2.2, (outsAt0 m c n _).2.1, (outsAt0 m c n _).2.2.1, (outsAt0 m c n _).2.2.2) = _
      rw [e]

/-! ## The window of a query -/

/-- The rows of the window of 768 that the chunk of query `p` of its tile sees. -/
def seen (p : Fin 256) (j : Fin 576) : Fin 768 := ⟨64 * (p.val / 64) + j.val, by omega⟩

theorem seen_injective (p : Fin 256) : Function.Injective (seen p) := fun a b h => by
  have := congrArg Fin.val h
  exact Fin.ext (by simpa [seen] using this)

theorem not_seen (p : Fin 256) (x : Fin 768) (hx : x ∉ Set.range (seen p)) :
    ¬(p.val / 64 ≤ x.val / 64 ∧ x.val / 64 ≤ p.val / 64 + 8) := fun ⟨h1, h2⟩ =>
  hx ⟨⟨x.val - 64 * (p.val / 64), by omega⟩, Fin.ext (by show 64 * (p.val / 64) + (x.val - 64 * (p.val / 64)) = _; omega)⟩

theorem bias_place (p : Fin 256) (j : Fin 576) :
    rowIdx (((seen p j).val + 1024 - p.val) % 1024) = Band.biasAt (p.val % 64) j.val := by
  have hp := p.isLt
  have hj := j.isLt
  have e : ((seen p j).val + 1024 - p.val) % 1024 = if p.val % 64 ≤ j.val then j.val - p.val % 64 else 1024 + j.val - p.val % 64 := by
    show (64 * (p.val / 64) + j.val + 1024 - p.val) % 1024 = _
    split <;> omega
  rw [e]
  unfold rowIdx Band.biasAt
  split_ifs <;> omega

/-- THE ARRAY the program leaves, at an index. -/
theorem G4_apply (i : S8192x2048.Idx) (h : Fin 16) (d : Fin 128) (hd : (i 1).val = 128 * h.val + d.val) :
    (G4 m c : Vec Ideal S8192x2048 .f32) i
      = Band.average (Band.score (Z m c) (rel m c) (i 0) h) (Band.value (Z m c) (i 0) h d) := by
  have hi0 : (i 0).val < 8192 := (i 0).isLt
  have hi1 : (i 1).val < 2048 := (i 1).isLt
  have hdl := d.isLt
  have hp : pt4Of i < cfg0.N := by
    rw [show cfg0.N = 64 from N_0]; show 1 * ((i 0).val / 2048 - 0) + 4 * ((i 1).val / 128 - 0) < 64; omega
  have hv : pt4Of i = (i 0).val / 2048 + 4 * h.val := by
    show 1 * ((i 0).val / 2048 - 0) + 4 * ((i 1).val / 128 - 0) = _; omega
  have hm : pt4Of i % 4 = (i 0).val / 2048 := by rw [hv]; omega
  have hq : pt4Of i / 4 = h.val := by rw [hv]; omega
  have hc : (grid0.coords ⟨pt4Of i, hp⟩ 1).val = (i 0).val / 2048 := by
    obtain ⟨-, -, -, -, -, -, -, -, -, e⟩ := index_facts ⟨pt4Of i, hp⟩
    exact e.trans hm
  have hh : ∀ z, (⟨pt4Of i / 4, z⟩ : Fin 16) = h := fun _ => Fin.ext hq
  unfold G4
  rw [dif_pos hp, ← outsAt0_sweep m c _ hp, outs_eq]
  dsimp only
  unfold block
  have hl0 : (loc4Of i 0).val = (i 0).val % 2048 := rfl
  have hl1 : (loc4Of i 1) = d := Fin.ext (by show (i 1).val % 128 = d.val; omega)
  rw [Band.average_restrict (seen ⟨(loc4Of i 0).val % 256, Nat.mod_lt _ (by decide)⟩) (seen_injective _) _ _ (fun x hx => by
    rw [show band (iblk m c 3 ⟨pt4Of i, hp⟩) (ix2 ⟨(loc4Of i 0).val % 256, Nat.mod_lt _ (by decide)⟩ x) = ⊥ from if_neg (not_seen _ x hx)]
    rw [EReal.add_bot, ite_self])]
  have hpos : ∀ j : Fin 576, 2048 * (grid0.coords ⟨pt4Of i, hp⟩ 1).val + 256 * ((loc4Of i 0).val / 256)
      + (seen ⟨(loc4Of i 0).val % 256, Nat.mod_lt _ (by decide)⟩ j).val = 64 * ((i 0).val / 64) + j.val := fun j => by
    rw [hc, hl0]
    show 2048 * ((i 0).val / 2048) + 256 * ((i 0).val % 2048 / 256) + (64 * ((i 0).val % 2048 % 256 / 64) + j.val) = _
    omega
  have hk : ∀ (j : Fin 576) (z) (e : Fin 128), padded (iblk m c 1 ⟨pt4Of i, hp⟩) (ix2 ⟨2048 * (grid0.coords ⟨pt4Of i, hp⟩ 1).val + 256 * ((loc4Of i 0).val / 256)
      + (seen ⟨(loc4Of i 0).val % 256, Nat.mod_lt _ (by decide)⟩ j).val, z⟩ e)
      = Band.rowAt (Z m c) (64 * ((i 0).val / 64) + j.val) (Band.seen_lt (i 0) j) (Band.kCol h e) := fun j z e => by
    unfold padded Band.rowAt
    refine dite_congr (congrArg (· < 512) (hpos j)) (fun _ => rfl) (fun w => ?_)
    rw [iblk1]
    exact congr (congrArg (Z m c) (Fin.ext (congrArg (· - 512) (hpos j)))) (congrArg (Band.kCol · e) (hh _))
  have hw : ∀ (j : Fin 576) (z) (e : Fin 128), padded (iblk m c 2 ⟨pt4Of i, hp⟩) (ix2 ⟨2048 * (grid0.coords ⟨pt4Of i, hp⟩ 1).val + 256 * ((loc4Of i 0).val / 256)
      + (seen ⟨(loc4Of i 0).val % 256, Nat.mod_lt _ (by decide)⟩ j).val, z⟩ e)
      = Band.rowAt (Z m c) (64 * ((i 0).val / 64) + j.val) (Band.seen_lt (i 0) j) (Band.vCol h e) := fun j z e => by
    unfold padded Band.rowAt
    refine dite_congr (congrArg (· < 512) (hpos j)) (fun _ => rfl) (fun w => ?_)
    rw [iblk2]
    exact congr (congrArg (Z m c) (Fin.ext (congrArg (· - 512) (hpos j)))) (congrArg (Band.vCol · e) (hh _))
  refine congr (congrArg Band.average (funext fun j => ?_)) (funext fun j => ?_)
  · unfold Band.score
    refine if_congr (by rw [← hpos j]; omega) (congr (congrArg _ (Finset.sum_congr rfl fun e _ => ?_)) ?_) rfl
    · refine congr (congrArg _ (congrArg (· * sc) ?_)) (hk j _ e)
      rw [iblk0]
      refine congr (congrArg (Z m c) (Fin.ext ?_)) (congrArg (Band.qCol · e) (hh _))
      show 2048 * (pt4Of i % 4) + (i 0).val % 2048 = _
      rw [hm]; omega
    · unfold band
      have hs := j.isLt
      rw [if_pos (?_ : _ ∧ _)]
      rotate_left
      · constructor
        · show (i 0).val % 2048 % 256 / 64 ≤ (64 * ((i 0).val % 2048 % 256 / 64) + j.val) / 64; omega
        · show (64 * ((i 0).val % 2048 % 256 / 64) + j.val) / 64 ≤ (i 0).val % 2048 % 256 / 64 + 8; omega
      · rw [iblk3]
        refine congr (congrArg (rel m c) (hh _)) (Fin.ext ?_)
        refine (bias_place ⟨(loc4Of i 0).val % 256, Nat.mod_lt _ (by decide)⟩ j).trans ?_
        show Band.biasAt ((i 0).val % 2048 % 256 % 64) j.val = _
        congr 1; omega
  · unfold Band.value
    rw [hl1]
    exact hw j _ d

end Cert.AttnKernelIdeal.BandValue

end
-- ==== Proof.AttnRefTables.lean ====
/- The attention over the prompt as the reference writes it: the places its gathers read. -/
module

public import proofs.«01_k».proof.Proof.RowScale
public import proofs.«01_k».proof.Proof.BandScores
public import proofs.«01_k».proof.Proof.Gen.AttnReferenceIdeal.Read
public import Idealize.ShloMosaic.Lib.Tactic

@[expose] public section

set_option maxRecDepth 16384

noncomputable section

open Idealize.ShloMosaic Idealize.ShloMosaic.TcCoe Idealize.SL.Sem

namespace Cert.AttnReferenceIdeal.BandRef

open Cert.AttnReferenceIdeal Cert.AttnReferenceIdeal.Gen Cert.AttnReferenceIdeal.Read Cert.Rows Cert.Band

theorem ix3_congr {n0 n1 n2 : ℕ} {y z : (⟨3, ![n0, n1, n2]⟩ : Shape).Idx} (h0 : (y 0).val = (z 0).val)
    (h1 : (y 1).val = (z 1).val) (h2 : (y 2).val = (z 2).val) : y = z := by
  funext a
  apply Fin.ext
  match a with
  | ⟨0, _⟩ => exact h0
  | ⟨1, _⟩ => exact h1
  | ⟨2, _⟩ => exact h2

/-! ## The places the indices name -/

/-- A window's row number is in range, so the wrapped number is the number. -/
theorem wrap_pos : ∀ p : Fin 8704, Scalar.select (IntOp.cmpi .slt (BitVec.ofNat 32 p.val) 0#32)
    (IntOp.addi (BitVec.ofNat 32 p.val) 8704#32) (BitVec.ofNat 32 p.val) = BitVec.ofNat 32 p.val := by decide +kernel

theorem seen_cmp : ∀ p : Fin 8704, IntOp.cmpi .sge (BitVec.ofNat 32 p.val) 512#32 = if 512 ≤ p.val then 1#1 else 0#1 := by
  decide +kernel

/-- The place in the table of biases, as the program computes it from a query's distance to a row. -/
abbrev placeOf (d : BitVec 32) : BitVec 32 :=
  IntOp.addi (IntOp.minsi 256#32 (IntOp.maxsi 4294967040#32 d)) 256#32

theorem place_table : ∀ t : Fin 639,
    Scalar.select (IntOp.cmpi .slt (placeOf (BitVec.ofNat 32 t.val - 63#32)) 0#32)
      (IntOp.addi (placeOf (BitVec.ofNat 32 t.val - 63#32)) 513#32) (placeOf (BitVec.ofNat 32 t.val - 63#32))
      = BitVec.ofNat 32 (if 319 ≤ t.val then 512 else t.val + 193) := by decide +kernel

theorem distance (p : Fin 64) (j : Fin 576) :
    IntOp.subi (IntOp.addi (BitVec.ofNat 32 p.val) 512#32) (BitVec.ofNat 32 j.val) = BitVec.ofNat 32 (575 + p.val - j.val) - 63#32 := by
  have := p.isLt
  have := j.isLt
  show BitVec.ofNat 32 p.val + 512#32 - BitVec.ofNat 32 j.val = _
  apply BitVec.eq_of_toNat_eq
  simp only [BitVec.toNat_sub, BitVec.toNat_add, BitVec.toNat_ofNat]
  omega

theorem placeOf_eq (p : Fin 64) (j : Fin 576) :
    Scalar.select (IntOp.cmpi .slt (placeOf (IntOp.subi (IntOp.addi (BitVec.ofNat 32 p.val) 512#32) (BitVec.ofNat 32 j.val))) 0#32)
      (IntOp.addi (placeOf (IntOp.subi (IntOp.addi (BitVec.ofNat 32 p.val) 512#32) (BitVec.ofNat 32 j.val))) 513#32)
      (placeOf (IntOp.subi (IntOp.addi (BitVec.ofNat 32 p.val) 512#32) (BitVec.ofNat 32 j.val))) = BitVec.ofNat 32 (biasAt p.val j.val) := by
  have hp := p.isLt
  have hj := j.isLt
  rw [distance]
  refine (place_table ⟨575 + p.val - j.val, by omega⟩).trans (congrArg _ ?_)
  unfold biasAt
  dsimp only
  split_ifs <;> omega

theorem pos_lt (c : Fin 128) (j : Fin 576) : 64 * c.val + j.val < 8704 := by omega

theorem v38_at (i : S128x576.Idx) : val_main_v38 (F := Ideal) i = BitVec.ofNat 32 (64 * (i 0).val + (i 1).val) := by
  refine Eq.trans (b := IntOp.addi (IntOp.muli (BitVec.ofNat 32 (i 0).val) 64#32) (BitVec.ofNat 32 (i 1).val)) ?_ ?_
  · rw [val_main_v38_apply, val_main_v36_apply, val_main_v37_apply, val_main_v33_apply, val_main_v31_apply, val_main_v32_apply,
      val_main_v35_apply, val_main_v30_apply, val_main_v34_apply, val_main_c_5_apply]
  · show BitVec.ofNat 32 (i 0).val * 64#32 + BitVec.ofNat 32 (i 1).val = _
    rw [Nat.mul_comm, BitVec.ofNat_add, BitVec.ofNat_mul]

theorem v44_at (i : S128x576x1.Idx) : val_main_v44 (F := Ideal) i = BitVec.ofNat 32 (64 * (i 0).val + (i 1).val) := by
  rw [val_main_v44_apply, val_main_v43_apply, val_main_v40_apply, val_main_v42_apply, v38_at, val_main_v39_apply,
    val_main_v41_apply, val_main_c_6_apply, val_main_c_7_apply]
  exact wrap_pos ⟨64 * (i 0).val + (i 1).val, pos_lt (i 0) (i 1)⟩

theorem v51_at (i : S128x576x1.Idx) : val_main_v51 (F := Ideal) i = BitVec.ofNat 32 (64 * (i 0).val + (i 1).val) := by
  rw [val_main_v51_apply, val_main_v50_apply, val_main_v47_apply, val_main_v49_apply, v38_at, val_main_v46_apply,
    val_main_v48_apply, val_main_c_8_apply, val_main_c_9_apply]
  exact wrap_pos ⟨64 * (i 0).val + (i 1).val, pos_lt (i 0) (i 1)⟩

theorem v21_at (i : S64x576.Idx) :
    val_main_v21 (F := Ideal) i = placeOf (IntOp.subi (IntOp.addi (BitVec.ofNat 32 (i 0).val) 512#32) (BitVec.ofNat 32 (i 1).val)) := by
  rw [val_main_v21_apply, val_main_v19_apply, val_main_v20_apply, val_main_call0_v4_apply, val_main_call0_v3_apply,
    val_main_call0_v2_apply, val_main_call0_v1_apply, val_main_call0_v0_apply, val_main_c_2_apply, val_main_c_1_apply,
    val_main_c_0_apply, val_main_v18_apply, val_main_v16_apply, val_main_v17_apply, val_main_v13_apply, val_main_v11_apply,
    val_main_v12_apply, val_main_v10_apply, val_main_v15_apply, val_main_v14_apply, val_main_c_apply]

theorem v28_at (i : S64x576x1.Idx) : val_main_v28 (F := Ideal) i = BitVec.ofNat 32 (biasAt (i 0).val (i 1).val) := by
  rw [val_main_v28_apply, val_main_v27_apply, val_main_v24_apply, val_main_v26_apply, val_main_v23_apply, val_main_v25_apply,
    val_main_c_3_apply, val_main_c_4_apply, v21_at]
  exact placeOf_eq (i 0) (i 1)

/-! ## The gathers -/

theorem toNat_small {k n : ℕ} (hk : k ≤ n) (hn : n < 10000) : min (BitVec.ofNat 32 k).toInt.toNat n = k := by
  rw [BitVec.toInt_eq_toNat_of_lt (by rw [BitVec.toNat_ofNat]; omega), BitVec.toNat_ofNat]
  simp only [Int.toNat_natCast]
  omega

theorem gather_bias (x : Vec Ideal S16x513 .f32) (idx : IVec S64x576x1 32) (y : S16x64x576.Idx) (k : ℕ) (hk : k < 513)
    (h : idx (ix3 (y 1) (y 2) 0) = BitVec.ofNat 32 k) :
    Host.gather gather_S16x513_S64x576x1_S16x64x576_0_1_n_n_1_2_161 x idx y = x (ix2 (y 0) ⟨k, hk⟩) := by
  unfold Host.gather
  refine congrArg x (funext fun a => Fin.ext ?_)
  match a with
  | ⟨0, _⟩ =>
    show GatherDims.start _ y idx 0 + GatherDims.batchCoord _ y 0 + GatherDims.offCoord _ y 0 = (y 0).val
    have e1 : GatherDims.start gather_S16x513_S64x576x1_S16x64x576_0_1_n_n_1_2_161 y idx 0 = 0 := rfl
    have e2 : GatherDims.batchCoord gather_S16x513_S64x576x1_S16x64x576_0_1_n_n_1_2_161 y 0 = 0 := rfl
    have e3 : GatherDims.offCoord gather_S16x513_S64x576x1_S16x64x576_0_1_n_n_1_2_161 y 0 = (y 0).val := rfl
    rw [e1, e2, e3]; omega
  | ⟨1, _⟩ =>
    show GatherDims.start _ y idx 1 + GatherDims.batchCoord _ y 1 + GatherDims.offCoord _ y 1 = k
    have e1 : GatherDims.start gather_S16x513_S64x576x1_S16x64x576_0_1_n_n_1_2_161 y idx 1 = min (idx (ix3 (y 1) (y 2) 0)).toInt.toNat 512 := by
      have hs : ∀ h, GatherDims.siIdx gather_S16x513_S64x576x1_S16x64x576_0_1_n_n_1_2_161 y ⟨0, h⟩ = ix3 (y 1) (y 2) 0 := fun _ => by
        funext b
        match b with
        | ⟨0, _⟩ => rfl
        | ⟨1, _⟩ => rfl
        | ⟨2, _⟩ => rfl
      show min (idx (GatherDims.siIdx gather_S16x513_S64x576x1_S16x64x576_0_1_n_n_1_2_161 y ⟨0, _⟩)).toInt.toNat 512 = _
      exact congrArg (fun w => min (idx w).toInt.toNat 512) (hs _)
    have e2 : GatherDims.batchCoord gather_S16x513_S64x576x1_S16x64x576_0_1_n_n_1_2_161 y 1 = 0 := rfl
    have e3 : GatherDims.offCoord gather_S16x513_S64x576x1_S16x64x576_0_1_n_n_1_2_161 y 1 = 0 := rfl
    rw [e1, e2, e3, h, toNat_small (by omega) (by decide)]; rfl

theorem gather_rows (x : Vec Ideal S8704x16x128 .f32) (idx : IVec S128x576x1 32) (y : S128x576x16x128.Idx) (k : ℕ) (hk : k < 8704)
    (h : idx (ix3 (y 0) (y 1) 0) = BitVec.ofNat 32 k) :
    Host.gather gather_S8704x16x128_S128x576x1_S128x576x16x128_23_0_n_n_0_2_116128 x idx y = x (ix3 ⟨k, hk⟩ (y 2) (y 3)) := by
  unfold Host.gather
  refine congrArg x (funext fun a => Fin.ext ?_)
  match a with
  | ⟨0, _⟩ =>
    show GatherDims.start _ y idx 0 + GatherDims.batchCoord _ y 0 + GatherDims.offCoord _ y 0 = k
    have e1 : GatherDims.start gather_S8704x16x128_S128x576x1_S128x576x16x128_23_0_n_n_0_2_116128 y idx 0 = min (idx (ix3 (y 0) (y 1) 0)).toInt.toNat 8703 := by
      have hs : ∀ h, GatherDims.siIdx gather_S8704x16x128_S128x576x1_S128x576x16x128_23_0_n_n_0_2_116128 y ⟨0, h⟩ = ix3 (y 0) (y 1) 0 := fun _ => by
        funext b
        match b with
        | ⟨0, _⟩ => rfl
        | ⟨1, _⟩ => rfl
        | ⟨2, _⟩ => rfl
      show min (idx (GatherDims.siIdx gather_S8704x16x128_S128x576x1_S128x576x16x128_23_0_n_n_0_2_116128 y ⟨0, _⟩)).toInt.toNat 8703 = _
      exact congrArg (fun w => min (idx w).toInt.toNat 8703) (hs _)
    have e2 : GatherDims.batchCoord gather_S8704x16x128_S128x576x1_S128x576x16x128_23_0_n_n_0_2_116128 y 0 = 0 := rfl
    have e3 : GatherDims.offCoord gather_S8704x16x128_S128x576x1_S128x576x16x128_23_0_n_n_0_2_116128 y 0 = 0 := rfl
    rw [e1, e2, e3, h, toNat_small (by omega) (by decide)]; rfl
  | ⟨1, _⟩ =>
    show GatherDims.start _ y idx 1 + GatherDims.batchCoord _ y 1 + GatherDims.offCoord _ y 1 = (y 2).val
    have e1 : GatherDims.start gather_S8704x16x128_S128x576x1_S128x576x16x128_23_0_n_n_0_2_116128 y idx 1 = 0 := rfl
    have e2 : GatherDims.batchCoord gather_S8704x16x128_S128x576x1_S128x576x16x128_23_0_n_n_0_2_116128 y 1 = 0 := rfl
    have e3 : GatherDims.offCoord gather_S8704x16x128_S128x576x1_S128x576x16x128_23_0_n_n_0_2_116128 y 1 = (y 2).val := rfl
    rw [e1, e2, e3]; omega
  | ⟨2, _⟩ =>
    show GatherDims.start _ y idx 2 + GatherDims.batchCoord _ y 2 + GatherDims.offCoord _ y 2 = (y 3).val
    have e1 : GatherDims.start gather_S8704x16x128_S128x576x1_S128x576x16x128_23_0_n_n_0_2_116128 y idx 2 = 0 := rfl
    have e2 : GatherDims.batchCoord gather_S8704x16x128_S128x576x1_S128x576x16x128_23_0_n_n_0_2_116128 y 2 = 0 := rfl
    have e3 : GatherDims.offCoord gather_S8704x16x128_S128x576x1_S128x576x16x128_23_0_n_n_0_2_116128 y 2 = (y 3).val := rfl
    rw [e1, e2, e3]; omega

end Cert.AttnReferenceIdeal.BandRef

end
-- ==== Proof.AttnRef.lean ====
/- The attention over the prompt as the reference writes it: its array at an index. -/
module

public import proofs.«01_k».proof.Proof.AttnRefTables
public import Idealize.ShloMosaic.Lib.Tactic

@[expose] public section

set_option maxRecDepth 16384

noncomputable section

open Idealize.ShloMosaic Idealize.ShloMosaic.TcCoe Idealize.SL.Sem

namespace Cert.AttnReferenceIdeal.BandRef

open Cert.AttnReferenceIdeal Cert.AttnReferenceIdeal.Gen Cert.AttnReferenceIdeal.Read Cert.Rows Cert.Band

/-! ## Queries, keys, values and biases -/

variable (x0 : Vec Ideal S8192x10240 .f32) (x1 : Vec Ideal S1x16x513 .f32)

/-- The two arguments as the reference indexes them. -/
abbrev Z (r : Fin 8192) (e : Fin 10240) : EReal := x0 (ix2 r e)
abbrev rel (h : Fin 16) (n : Fin 513) : EReal := x1 (ix3 0 h n)

/-- The row of the query at place `p` of chunk `c`. -/
def qRow (c : Fin 128) (p : Fin 64) : Fin 8192 := ⟨64 * c.val + p.val, by omega⟩

theorem behind (a : Vec Ideal S512x16x128 .f32) (b : Vec Ideal S8192x16x128 .f32) (y : S8704x16x128.Idx) :
    concatenate S8704x16x128 0 [⟨S512x16x128, a⟩, ⟨S8192x16x128, b⟩] concatenates_S512x16x128_S8192x16x128_S8704x16x128_d0 y
      = if h : (y 0).val < 512 then a (ix3 ⟨(y 0).val, h⟩ (y 1) (y 2))
        else b (ix3 ⟨(y 0).val - 512, by have : (y 0).val < 8704 := (y 0).isLt; omega⟩ (y 1) (y 2)) := by
  pointwise

theorem v6_at (y : S512x16x128.Idx) : val_main_v6 (F := Ideal) y = (0 : EReal) := by
  rw [val_main_v6_apply, val_main_cst_apply]
  exact Ideal.ofBits_zero_f32

theorem v3_at (y : S8192x16x128.Idx) : val_main_v3 (F := Ideal) x0 y = Z x0 (y 0) (kCol (y 1) (y 2)) := by
  rw [val_main_v3_apply, val_main_v2_apply]
  have h1 : (y 1).val < 16 := (y 1).isLt
  have h2 : (y 2).val < 128 := (y 2).isLt
  refine congrArg x0 (ix2_congr ?_ ?_)
  · simp only [idx_main_v2, idx_main_v3]; show _ = (y 0).val; omega
  · simp only [idx_main_v2, idx_main_v3]; show _ = 6144 + 128 * (y 1).val + (y 2).val; omega

theorem v5_at (y : S8192x16x128.Idx) : val_main_v5 (F := Ideal) x0 y = Z x0 (y 0) (vCol (y 1) (y 2)) := by
  rw [val_main_v5_apply, val_main_v4_apply]
  have h1 : (y 1).val < 16 := (y 1).isLt
  have h2 : (y 2).val < 128 := (y 2).isLt
  refine congrArg x0 (ix2_congr ?_ ?_)
  · simp only [idx_main_v4, idx_main_v5]; show _ = (y 0).val; omega
  · simp only [idx_main_v4, idx_main_v5]; show _ = 8192 + 128 * (y 1).val + (y 2).val; omega

theorem v7_at (y : S8704x16x128.Idx) : val_main_v7 (F := Ideal) x0 y = rowAt (Z x0) (y 0).val (y 0).isLt (kCol (y 1) (y 2)) := by
  unfold val_main_v7 rowAt
  rw [behind]
  exact dite_congr rfl (fun _ => v6_at _) (fun _ => v3_at x0 _)

theorem v8_at (y : S8704x16x128.Idx) : val_main_v8 (F := Ideal) x0 y = rowAt (Z x0) (y 0).val (y 0).isLt (vCol (y 1) (y 2)) := by
  unfold val_main_v8 rowAt
  rw [behind]
  exact dite_congr rfl (fun _ => v6_at _) (fun _ => v5_at x0 _)

theorem v45_at (y : S128x576x16x128.Idx) :
    val_main_v45 (F := Ideal) x0 y = rowAt (Z x0) (64 * (y 0).val + (y 1).val) (pos_lt (y 0) (y 1)) (kCol (y 2) (y 3)) := by
  unfold val_main_v45
  exact (gather_rows _ _ y _ (pos_lt (y 0) (y 1)) (v44_at _)).trans (v7_at x0 _)

theorem v52_at (y : S128x576x16x128.Idx) :
    val_main_v52 (F := Ideal) x0 y = rowAt (Z x0) (64 * (y 0).val + (y 1).val) (pos_lt (y 0) (y 1)) (vCol (y 2) (y 3)) := by
  unfold val_main_v52
  exact (gather_rows _ _ y _ (pos_lt (y 0) (y 1)) (v51_at _)).trans (v8_at x0 _)

theorem v54_at (y : S128x64x16x128.Idx) :
    val_main_v54 (F := Ideal) x0 y = Z x0 (qRow (y 0) (y 1)) (qCol (y 2) (y 3)) * sc := by
  rw [val_main_v54_apply, val_main_v9_apply, val_main_v1_apply, val_main_v0_apply, val_main_v53_apply, val_main_cst_10_apply]
  refine congrArg (· * sc) (congrArg x0 (ix2_congr ?_ ?_))
  all_goals
    have h0 : (y 0).val < 128 := (y 0).isLt
    have h1 : (y 1).val < 64 := (y 1).isLt
    have h2 : (y 2).val < 16 := (y 2).isLt
    have h3 : (y 3).val < 128 := (y 3).isLt
    simp only [idx_main_v0, idx_main_v1, idx_main_v9]
  · show _ = 64 * (y 0).val + (y 1).val; omega
  · show _ = 4096 + 128 * (y 2).val + (y 3).val; omega

theorem v29_at (y : S16x64x576.Idx) :
    val_main_v29 (F := Ideal) x1 y = rel x1 (y 0) ⟨biasAt (y 1).val (y 2).val, biasAt_lt _ _⟩ := by
  unfold val_main_v29
  refine (gather_bias _ _ y _ (biasAt_lt (y 1).val (y 2).val) (v28_at _)).trans ?_
  rw [val_main_v22_apply]
  refine congrArg x1 (ix3_congr ?_ ?_ ?_)
  all_goals
    have h0 : (y 0).val < 16 := (y 0).isLt
    have h3 := biasAt_lt (y 1).val (y 2).val
    simp only [idx_main_v22]
  · show _ = 0; omega
  · show ((y 0).val * 513 + biasAt (y 1).val (y 2).val) / 513 % 16 = (y 0).val; omega
  · show ((y 0).val * 513 + biasAt (y 1).val (y 2).val) % 513 = biasAt (y 1).val (y 2).val; omega

/-! ## Scores and weights -/

theorem select_ite (p : Prop) [Decidable p] (a b : EReal) :
    Scalar.select (if p then 1#1 else 0#1) a b = if p then a else b := by
  by_cases h : p
  · rw [if_pos h, if_pos h]; rfl
  · rw [if_neg h, if_neg h]; rfl

theorem v62_at (y : S128x16x64x576.Idx) :
    val_main_v62 (F := Ideal) x0 x1 y = score (Z x0) (rel x1) (qRow (y 0) (y 2)) (y 1) (y 3) := by
  have h0 : (y 0).val < 128 := (y 0).isLt
  have h2 : (y 2).val < 64 := (y 2).isLt
  have hr : 64 * ((qRow (y 0) (y 2)).val / 64) + (y 3).val = 64 * (y 0).val + (y 3).val := by
    show 64 * ((64 * (y 0).val + (y 2).val) / 64) + (y 3).val = _; omega
  have hm : (qRow (y 0) (y 2)).val % 64 = (y 2).val := by show (64 * (y 0).val + (y 2).val) % 64 = _; omega
  have hk : ∀ d : Fin 128, rowAt (Z x0) (64 * ((qRow (y 0) (y 2)).val / 64) + (y 3).val) (seen_lt _ _) (kCol (y 1) d)
      = rowAt (Z x0) (64 * (y 0).val + (y 3).val) (pos_lt (y 0) (y 3)) (kCol (y 1) d) := fun d => by
    unfold rowAt
    exact dite_congr (congrArg (· < 512) hr) (fun _ => rfl) (fun _ => congrArg (fun w => Z x0 w _) (Fin.ext (congrArg (· - 512) hr)))
  rw [val_main_v62_apply, val_main_call1_v1_apply, val_main_v61_apply, val_main_v60_apply, v38_at, val_main_v59_apply,
    val_main_c_11_apply, val_main_call1_v2_apply, val_main_call1_v0_apply, val_main_cst_12_apply, val_main_v58_apply,
    val_main_v55_apply, val_main_v57_apply, val_main_v56_apply, v29_at]
  refine (congrArg (fun w => Scalar.select w _ _) (seen_cmp ⟨64 * (y 0).val + (y 3).val, pos_lt (y 0) (y 3)⟩)).trans ?_
  rw [select_ite]
  unfold score
  refine if_congr (by rw [hr]) (congr (congrArg _ (Finset.sum_congr rfl fun d _ => ?_)) ?_) negInf
  · rw [v54_at, v45_at, hk]; rfl
  · refine congrArg (rel x1 (y 1)) (Fin.ext ?_)
    exact congrArg (biasAt · (y 3).val) hm.symm

theorem max_row (z : Vec Ideal S128x16x64x576 .f32) (i : S128x16x64.Idx) :
    (Host.reduce (FloatOps.maximumf (F := Ideal) (φ := .f32)) z (val_main_cst_13 (F := Ideal)) reducesTo_S128x16x64x576_S128x16x64_d3 h_S_ : Vec Ideal S128x16x64 .f32) i
      = top (fun k : Fin 576 => z (ix4 (i 0) (i 1) (i 2) k)) := by
  pointwise [val_main_cst_13]
  rw [negInf]
  rfl

theorem v65_at (i : S128x16x64.Idx) :
    val_main_v65 (F := Ideal) x0 x1 i = top (score (Z x0) (rel x1) (qRow (i 0) (i 2)) (i 1)) := by
  rw [val_main_v65_apply, val_main_v64_apply, val_main_cst_14_apply]
  have e : val_main_v63 (F := Ideal) x0 x1 i = top (score (Z x0) (rel x1) (qRow (i 0) (i 2)) (i 1)) := by
    unfold val_main_v63
    refine (max_row _ i).trans (congrArg top (funext fun k => ?_))
    exact v62_at x0 x1 _
  rw [e]
  show max (Ideal.ofBits FTy.f32 0xFF800000#32) _ = _
  rw [negInf]
  exact max_eq_right bot_le

theorem v69_at (y : S128x16x64x576.Idx) :
    val_main_v69 (F := Ideal) x0 x1 y = weight (score (Z x0) (rel x1) (qRow (y 0) (y 2)) (y 1)) (y 3) := by
  rw [val_main_v69_apply, val_main_v68_apply, val_main_v67_apply, val_main_v66_apply, v65_at, v62_at]
  rfl

theorem v70_at (i : S128x16x64.Idx) :
    val_main_v70 (F := Ideal) x0 x1 i = ∑ k, weight (score (Z x0) (rel x1) (qRow (i 0) (i 2)) (i 1)) k := by
  rw [val_main_v70_apply, val_main_cst_15_apply]
  refine (congrArg (· + _) (Ideal.ofBits_zero_f32 : (FloatOps.ofBits (F := Ideal) .f32 0x00000000#32 : EReal) = 0)).trans ?_
  rw [zero_add]
  exact Finset.sum_congr rfl fun k _ => v69_at x0 x1 _

theorem v73_at (y : S128x16x64x576.Idx) :
    val_main_v73 (F := Ideal) x0 x1 y = Ideal.div (weight (score (Z x0) (rel x1) (qRow (y 0) (y 2)) (y 1)) (y 3))
      (∑ k, weight (score (Z x0) (rel x1) (qRow (y 0) (y 2)) (y 1)) k) := by
  rw [val_main_v73_apply, val_main_v72_apply, val_main_v71_apply, v70_at, v69_at]
  rfl

/-- THE REFERENCE'S ARRAY, at an index. -/
theorem ref_apply (i : S8192x2048.Idx) (h : Fin 16) (d : Fin 128) (hd : (i 1).val = 128 * h.val + d.val) :
    val_main_v76 (F := Ideal) x0 x1 i = ∑ j, value (Z x0) (i 0) h d j
      * Ideal.div (weight (score (Z x0) (rel x1) (i 0) h) j) (∑ k, weight (score (Z x0) (rel x1) (i 0) h) k) := by
  have hi0 : (i 0).val < 8192 := (i 0).isLt
  have hi1 : (i 1).val < 2048 := (i 1).isLt
  have hdl := d.isLt
  rw [val_main_v76_apply, val_main_v75_apply, val_main_v74_apply]
  have e0 : (((i 0).val * 2048 + (i 1).val) / 131072) = (i 0).val / 64 := by omega
  have e1 : (((i 0).val * 2048 + (i 1).val) / 2048 % 64) = (i 0).val % 64 := by omega
  have e2 : (((i 0).val * 2048 + (i 1).val) / 128 % 16) = h.val := by omega
  have e3 : (((i 0).val * 2048 + (i 1).val) % 128) = d.val := by omega
  refine Finset.sum_congr rfl fun j _ => ?_
  rw [v52_at, v73_at]
  have hr : qRow (ridx_main_v74 (idx_main_v75 (idx_main_v76 i)) j 0) (ridx_main_v74 (idx_main_v75 (idx_main_v76 i)) j 2) = i 0 :=
    Fin.ext (by
      show 64 * (((i 0).val * 2048 + (i 1).val) / 131072) + ((i 0).val * 2048 + (i 1).val) / 2048 % 64 = (i 0).val
      omega)
  have hh : (ridx_main_v74 (idx_main_v75 (idx_main_v76 i)) j 1) = h := Fin.ext e2
  rw [hr, hh]
  refine congrArg (· * _) ?_
  unfold value rowAt
  have hp : 64 * (((i 0).val * 2048 + (i 1).val) / 131072) + j.val = 64 * ((i 0).val / 64) + j.val := by rw [e0]
  refine dite_congr (congrArg (· < 512) hp) (fun _ => rfl) (fun _ => ?_)
  refine congr (congrArg (Z x0) (Fin.ext (congrArg (· - 512) hp))) (Fin.ext ?_)
  show 8192 + 128 * (((i 0).val * 2048 + (i 1).val) / 128 % 16) + ((i 0).val * 2048 + (i 1).val) % 128 = 8192 + 128 * h.val + d.val
  rw [e2, e3]

end Cert.AttnReferenceIdeal.BandRef

end
-- ==== Proof.BandReal.lean ====
/- The scores of the attention are real numbers, or minus infinity where the mask is, when the queries, the keys and the
   biases are real numbers; and the precondition says that they are. -/
module

public import proofs.«01_k».proof.Proof.BandScores
public import proofs.«01_k».proof.Proof.Gen.Pre_finite_scores
public import Idealize.ShloMosaic.Lib.ReduceAll
public import Idealize.ShloMosaic.Lib.Pointwise

@[expose] public section

noncomputable section

open Idealize.ShloMosaic

namespace Cert.Band

/-- A real number among the extended ones. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} [Fintype ι] (f : ι → EReal) (hf : ∀ i, IsReal (f i)) : IsReal (∑ i, f i) :=
  Finset.sum_induction f IsReal (fun _ _ => IsReal.add) ⟨0, rfl⟩ fun i _ => hf i

theorem sc_real : IsReal sc := by
  unfold IsReal sc
  simp only [Ideal.ofBits, Ideal.ieee]
  norm_num
  exact ⟨_, rfl⟩

/-- A value whose absolute value is below plus infinity is a real number. -/
theorem real_of_bit (x : EReal)
    (h : FloatOps.cmpf .olt (FloatOps.hostAbsf (F := Ideal) (φ := .f32) x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  rw [max_lt_iff] at hlt
  refine ⟨x.toReal, (EReal.coe_toReal hlt.1.ne ?_).symm⟩
  rintro rfl
  simp at hlt

theorem score_real (Z : Fin 8192 → Fin 10240 → EReal) (rel : Fin 16 → Fin 513 → EReal)
    (hZ : ∀ r e, 4096 ≤ e.val → e.val < 8192 → IsReal (Z r e)) (hrel : ∀ h n, IsReal (rel h n))
    (r : Fin 8192) (h : Fin 16) (j : Fin 576) (hj : 512 ≤ 64 * (r.val / 64) + j.val) : IsReal (score Z rel r h j) := by
  have hh := h.isLt
  unfold score
  rw [if_pos hj]
  refine IsReal.add (IsReal.sum _ fun d => IsReal.mul (IsReal.mul (hZ _ _ ?_ ?_) sc_real) ?_) (hrel _ _)
  · have hd := d.isLt; simp only [qCol]; omega
  · have hd := d.isLt; simp only [qCol]; omega
  · have hd := d.isLt
    unfold rowAt
    rw [dif_neg (by omega)]
    refine hZ _ _ ?_ ?_ <;> simp only [kCol] <;> omega

/-- The attention as the kernel averages it and as the reference does, when the scores are real. -/
theorem average_score (Z : Fin 8192 → Fin 10240 → EReal) (rel : Fin 16 → Fin 513 → EReal)
    (hZ : ∀ r e, 4096 ≤ e.val → e.val < 8192 → IsReal (Z r e)) (hrel : ∀ h n, IsReal (rel h n))
    (r : Fin 8192) (h : Fin 16) (v : Fin 576 → EReal) :
    average (score Z rel r h) v
      = ∑ j, v j * Ideal.div (weight (score Z rel r h) j) (∑ k, weight (score Z rel r h) k) := by
  refine average_eq_sum _ _ (fun j => ?_) (⟨512, by omega⟩ : Fin 576) (score_real Z rel hZ hrel r h _ (by simp))
  by_cases hj : 512 ≤ 64 * (r.val / 64) + j.val
  · exact .inr (score_real Z rel hZ hrel r h j hj)
  · left; unfold score; rw [if_neg hj]

end Cert.Band

namespace Cert.Pre_finite_scores

open Cert.Pre_finite_scores.Gen

instance : Subsingleton S_.Idx := ⟨fun a b => funext fun k => k.elim0⟩

/-- The precondition, read: the queries and the keys are real numbers, and so are the biases. -/
theorem real_of_fn (x0 : FVec Ideal S8192x10240 .f32) (x1 : FVec Ideal S1x16x513 .f32)
    (h : fn (F := Ideal) x0 x1 = fun _ => 1#1) :
    (∀ (r : Fin 8192) (e : Fin 10240), 4096 ≤ e.val → e.val < 8192 → Cert.Band.IsReal (x0 (ix2 r e)))
      ∧ ∀ (g : Fin 16) (n : Fin 513), Cert.Band.IsReal (x1 (ix3 0 g n)) := by
  have e := congrFun h (fun k => k.elim0)
  obtain ⟨ha, hb⟩ := IntOp.andi_eq_one.1 e
  refine ⟨fun r c hc hc' => Cert.Band.real_of_bit _ ?_, fun g n => Cert.Band.real_of_bit _ ?_⟩
  · have hz := Host.reduce_andi_all _ _ _ _ _ ha (ix2 r ⟨c.val - 4096, by omega⟩)
    refine Eq.trans ?_ hz
    refine congrArg (fun w => FloatOps.cmpf .olt (FloatOps.hostAbsf (F := Ideal) (φ := .f32) (x0 w)) (FloatOps.ofBits (F := Ideal) .f32 0x7F800000#32)) ?_
    funext k
    fin_cases k <;> apply Fin.ext
    · simp
    · simp; omega
  · exact Host.reduce_andi_all _ _ _ _ _ hb (ix3 0 g n)

end Cert.Pre_finite_scores

end
-- ==== Proof.AttnClaims.lean ====
/- The attention over the prompt: the kernel's result array and the reference's are equal, where the scores are finite. -/
module

public import proofs.«01_k».proof.Proof.AttnFrames
public import proofs.«01_k».proof.Proof.AttnArray
public import proofs.«01_k».proof.Proof.AttnRef
public import proofs.«01_k».proof.Proof.BandReal

@[expose] public section

set_option maxRecDepth 16384

noncomputable section

open Idealize.ShloMosaic Idealize.ShloMosaic.TcCoe Idealize.SL.Sem

namespace Cert.Proof.AttnClaims

theorem frame_pi_pre : Cert.quiescent_AttnKernelIdeal_pre_finite_scores := fun m ρ _ => AttnFrames.frame_pi m ρ trivial
theorem frame_ri_pre : Cert.quiescent_AttnReferenceIdeal_pre_finite_scores := fun m ρ _ => AttnFrames.frame_ri m ρ trivial

/-- The kernel's result array and the reference's are equal at every index, from equal arguments. -/
theorem algebraic : Cert.algebraic_AttnKernelIdeal_AttnReferenceIdeal_pre_finite_scores := by
  intro m ρ m' ρ' hpre hag
  refine ⟨fun c => Cert.AttnKernelIdeal.Value.G4 m c, Cert.AttnKernelIdeal.Value.run m ρ, ?_⟩
  refine (θ_run Cert.AttnReferenceIdeal.defs _ _).mono (fun _ h c => ⟨(h c).1.trans ?_, (h c).2⟩)
    (Cert.AttnReferenceIdeal.Value.run (F := Ideal) m' ρ')
  obtain ⟨h0, h1⟩ := hag c
  obtain ⟨hZ, hrel⟩ := Cert.Pre_finite_scores.real_of_fn _ _ (hpre c)
  rw [Cert.AttnReferenceIdeal.Read.val_main_v76_eq, h0, h1]
  funext i
  have hi : (i 1).val < 2048 := (i 1).isLt
  have hd : (i 1).val = 128 * ((i 1).val / 128) + (i 1).val % 128 := by omega
  refine (Cert.AttnReferenceIdeal.BandRef.ref_apply _ _ i ⟨(i 1).val / 128, by omega⟩ ⟨(i 1).val % 128, by omega⟩ hd).trans ?_
  refine Eq.trans ?_ (Cert.AttnKernelIdeal.BandValue.G4_apply m c i ⟨(i 1).val / 128, by omega⟩ ⟨(i 1).val % 128, by omega⟩ hd).symm
  exact (Cert.Band.average_score _ _ hZ hrel _ _ _).symm

end Cert.Proof.AttnClaims

end
-- ==== Proof.InValue.lean ====
/- The in-projection of the prompt: the array the program leaves, element by element. Each tile of rows is normalised once,
   into a buffer kept while the tile's column blocks are multiplied; an element is a normalised row times a column of the
   weights, plus the column's bias. -/
module

public import proofs.«01_k».proof.Proof.RowScale
public import proofs.«01_k».proof.Proof.Gen.InKernelIdeal.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

namespace Cert.InKernelIdeal.RowValue

open Cert.InKernelIdeal Cert.InKernelIdeal.Gen Cert.InKernelIdeal.Value Cert.Rows

theorem hz : (![0, 0] : Fin 2 → Nat) = fun _ => 0 := funext fun a => by fin_cases a <;> rfl

/-- The two constants of the normalisation: the row length and what is added under the root. -/
abbrev rowLen : EReal := Ideal.ofBits FTy.f32 0x45800000#32
abbrev eps : EReal := Ideal.ofBits FTy.f32 0x358637BD#32

/-- A tile of rows, each normalised and multiplied by the gain. -/
def normed (x : Vec Ideal S1024x4096 .f32) (g : Vec Ideal S1x4096 .f32) : Vec Ideal S1024x4096 .bf16 :=
  fun y => x y * scale rowLen eps (fun k => x (ix2 (y 0) k)) * g (ix2 0 (y 1))

/-! ## The payloads at an index -/

theorem pay1_apply (x : Vec Ideal S64x4096 .f32) (g : Vec Ideal S1x4096 .f32) (y : S64x4096.Idx) :
    k0_pay1 x g y = x y * scale rowLen eps (fun k => x (ix2 (y 0) k)) * g (ix2 0 (y 1)) := by
  pointwise [k0_pay1]
  rfl

theorem pay2_apply (x : Vec Ideal S1024x4096 .bf16) (w : Vec Ideal S4096x512 .f32) (b : Vec Ideal S1x512 .f32)
    (y : S1024x512.Idx) :
    k0_pay2 x w b y = (∑ k : Fin 4096, x (ix2 (y 0) k) * w (ix2 k (y 1))) + b (ix2 0 (y 1)) := by
  pointwise [k0_pay2]

/-! ## What the two cases of the body leave -/

section Cases

variable (c : Dev nD) (i : grid0.Coords) (a2 : Memref sig .tc .vmem S1024x4096 .f32) (h2 : a2.IsWhole)
  (a3 : Memref sig .tc .vmem S1x4096 .f32) (h3 : a3.IsWhole) (a4 : Memref sig .tc .vmem S4096x512 .f32) (h4 : a4.IsWhole)
  (a5 : Memref sig .tc .vmem S1x512 .f32) (h5 : a5.IsWhole) (a6 : Memref sig .tc .vmem S1024x512 .f32) (h6 : a6.IsWhole)
  (a7 : Memref sig .tc .vmem S1024x4096 .bf16) (h7 : a7.IsWhole)
  (x0 : Vec Ideal S1024x4096 .f32) (x1 : Vec Ideal S1x4096 .f32) (x2 : Vec Ideal S4096x512 .f32) (x3 : Vec Ideal S1x512 .f32)

/-- One trip of the loop writes sixty-four normalised rows: every piece of the trips before `n` holds the normalised
    tile's rows at its place, and together they fill the first `64 n` rows. -/
theorem pieces (hc : k0_cond1 i = 1#1) : ∀ n : ℕ, n ≤ k0_t1_loop.trips →
    (∀ p ∈ pb_k0_t1 (F := Ideal) Variants.none c none i a2 h2 a3 h3 a4 h4 a5 h5 a6 h6 a7 h7 hc (h2.unread x0) (h3.unread x1) n,
      ∀ x : p.1.shape.Idx, p.2 x = normed x0 x1 (p.1.emb x)) ∧
    (∀ y : S1024x4096.Idx, (y 0).val < 64 * n →
      ∃ p ∈ pb_k0_t1 (F := Ideal) Variants.none c none i a2 h2 a3 h3 a4 h4 a5 h5 a6 h6 a7 h7 hc (h2.unread x0) (h3.unread x1) n,
        y ∈ p.1.set)
  | 0, _ => ⟨fun p hp => by simp [pb_k0_t1] at hp, fun y hy => absurd hy (by omega)⟩
  | n + 1, hn => by
    obtain ⟨ih1, ih2⟩ := pieces hc n (Nat.le_of_succ_le hn)
    have e := pb_k0_t1_succ (F := Ideal) Variants.none c none i a2 h2 a3 h3 a4 h4 a5 h5 a6 h6 a7 h7 hc (h2.unread x0) (h3.unread x1)
      ⟨n, hn⟩
    have hoff := k0_off1_eq ⟨n, hn⟩
    unfold tripL_k0_t1 trip_k0_t1 at e
    dsimp only at e
    rw [e]
    constructor
    · intro p hp
      rcases List.mem_append.mp hp with hp | hp
      · obtain rfl := List.mem_singleton.mp hp
        intro x
        dsimp only
        rw [pay1_apply]
        simp only [View.readAt_eq_ld, h2.read_unread, h3.read_unread, View.ld_unit_zero (S := S1x4096) hz]
        unfold normed
        have e0 : ∀ y : (⟨2, ![64, 4096]⟩ : Shape).Idx, View.ld (Val := Elt Ideal) x0 (Rect.unit (s := S1024x4096) (k0_off1 ⟨n, hn⟩) ![64, 4096] (k0_off1_inb i ⟨n, hn⟩ hc)) y
            = x0 ((Rect.unit (s := S1024x4096) (k0_off1 ⟨n, hn⟩) ![64, 4096] (k0_off1_inb i ⟨n, hn⟩ hc)).emb y) := fun _ => rfl
        have e1 : ∀ y : (⟨2, ![64, 4096]⟩ : Shape).Idx,
            ((Rect.unit (s := S1024x4096) (k0_off1 ⟨n, hn⟩) ![64, 4096] (k0_off1_inb i ⟨n, hn⟩ hc)).emb y 0).val = 64 * n + (y 0).val := fun y => by
          show (k0_off1 ⟨n, hn⟩) 0 + 1 * (y 0).val = _
          rw [hoff]; show 64 * n + 1 * (y 0).val = _; omega
        have e2 : ∀ y : (⟨2, ![64, 4096]⟩ : Shape).Idx,
            ((Rect.unit (s := S1024x4096) (k0_off1 ⟨n, hn⟩) ![64, 4096] (k0_off1_inb i ⟨n, hn⟩ hc)).emb y 1).val = (y 1).val := fun y => by
          show (k0_off1 ⟨n, hn⟩) 1 + 1 * (y 1).val = _
          rw [hoff]; show 0 + 1 * (y 1).val = _; omega
        have e3 : (x 1 : Fin 4096) = (Rect.unit (s := S1024x4096) (k0_off1 ⟨n, hn⟩) ![64, 4096] (k0_off1_inb i ⟨n, hn⟩ hc)).emb x 1 :=
          Fin.ext (e2 x).symm
        have e4 : ∀ k : Fin 4096, (Rect.unit (s := S1024x4096) (k0_off1 ⟨n, hn⟩) ![64, 4096] (k0_off1_inb i ⟨n, hn⟩ hc)).emb (ix2 (x 0) k)
            = ix2 ((Rect.unit (s := S1024x4096) (k0_off1 ⟨n, hn⟩) ![64, 4096] (k0_off1_inb i ⟨n, hn⟩ hc)).emb x 0) k := fun k =>
          ix2_congr ((e1 _).trans (e1 x).symm) (e2 _)
        simp only [e0, e4]
        rw [← e3]
        exact congrArg (_ * ·) (congrFun (View.ld_unit_zero (Val := Elt Ideal) (S := S1x4096) hz _ x1) _)
      · exact ih1 p hp
    · intro y hy
      by_cases h : (y 0).val < 64 * n
      · obtain ⟨p, hp, hyp⟩ := ih2 y h
        exact ⟨p, List.mem_append_right _ hp, hyp⟩
      · refine ⟨_, List.mem_append_left _ (List.mem_singleton.mpr rfl), ?_⟩
        rw [Rect.mem_set_unit]
        intro a
        rw [hoff]
        match a with
        | ⟨0, _⟩ => exact ⟨by show 64 * n ≤ (y 0).val; omega, by show (y 0).val < 64 * n + 64; omega⟩
        | ⟨1, _⟩ => exact ⟨Nat.zero_le _, by show (y 1).val < 0 + 4096; have : (y 1).val < 4096 := (y 1).isLt; omega⟩

theorem sout_A (hc : cond0_0 i) :
    sout0_A_0 c i a2 h2 a3 h3 a4 h4 a5 h5 a6 h6 a7 h7 hc x0 x1 x2 x3 = normed x0 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  obtain ⟨p1, p2⟩ := pieces c i a2 h2 a3 h3 a4 h4 a5 h5 a6 h6 a7 h7 x0 x1 hc k0_t1_loop.trips le_rfl
  have ht : k0_t1_loop.trips = 16 := by decide +kernel
  funext y
  refine View.canon_apply_of_pieces (Val := Elt Ideal) (normed x0 x1) _ p1 y (p2 y ?_)
  have : (y 0).val < 1024 := (y 0).isLt
  omega

theorem out_A (hc : cond0_0 i) :
    out0_A_4 c i a2 h2 a3 h3 a4 h4 a5 h5 a6 h6 a7 h7 hc x0 x1 x2 x3 = k0_pay2 (normed x0 x1) x2 x3 := by
  have hs := sout_A c i a2 h2 a3 h3 a4 h4 a5 h5 a6 h6 a7 h7 x0 x1 x2 x3 hc
  unfold sout0_A_0 at hs
  have hcov := scover0_A_0 c i a2 h2 a3 h3 a4 h4 a5 h5 a6 h6 a7 h7 hc x0 x1 x2 x3
  rw [View.read_writes_eq_canon _ _ _ hcov] at hs
  unfold out0_A_4
  rw [View.read_writes_eq_canon _ _ _ (cover0_A_4 c i a2 h2 a3 h3 a4 h4 a5 h5 a6 h6 a7 h7 hc x0 x1 x2 x3)]
  unfold kernelRun0_A at hs hcov ⊢
  dsimp only at hs hcov ⊢
  sl_unfold_words
  rw [View.canon_unit_zero hz]
  simp only [View.readAt_eq_ld, h4.read_unread, h5.read_unread,
    View.ld_unit_zero (S := S4096x512) hz, View.ld_unit_zero (S := S1x512) hz]
  rw [View.readCov_eq_canon_ld _ _ _ hcov, hs, View.ld_unit_zero (S := S1024x4096) hz]

theorem out_B (hc : ¬cond0_0 i) (xs : Vec Ideal S1024x4096 .bf16) :
    out0_B_4 c i a2 h2 a3 h3 a4 h4 a5 h5 a6 h6 a7 h7 hc x0 x1 x2 x3 xs = k0_pay2 xs x2 x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  rw [View.canon_unit_zero hz]
  simp only [View.readAt_eq_ld, h7.read_unread, h4.read_unread, h5.read_unread, View.ld_unit_zero (S := S1024x4096) hz,
    View.ld_unit_zero (S := S4096x512) hz, View.ld_unit_zero (S := S1x512) hz]

theorem sout_B (hc : ¬cond0_0 i) (xs : Vec Ideal S1024x4096 .bf16) :
    sout0_B_0 c i a2 h2 a3 h3 a4 h4 a5 h5 a6 h6 a7 h7 hc x0 x1 x2 x3 xs = xs := by
  unfold sout0_B_0
  rfl

end Cases

/-! ## Reshapes before the launch -/

theorem drop_x (x : Vec Ideal S1x8192x4096 .f32) (y : S8192x4096.Idx) :
    shapeCast S8192x4096 x shapeCasts_S1x8192x4096_S8192x4096 y = x (ix3 0 (y 0) (y 1)) := by pointwise
theorem drop_g (x : Vec Ideal S1x4096 .f32) (y : S1x4096.Idx) :
    shapeCast S1x4096 (shapeCast S4096 x shapeCasts_S1x4096_S4096) shapeCasts_S4096_S1x4096 y = x (ix2 0 (y 1)) := by
  rw [shapeCast_shapeCast]
  exact congrArg x (ix2_congr (by have : (y 0).val < 1 := (y 0).isLt; show (y 0).val = 0; omega) rfl)
theorem drop_w (x : Vec Ideal S1x4096x10240 .f32) (y : S4096x10240.Idx) :
    shapeCast S4096x10240 x shapeCasts_S1x4096x10240_S4096x10240 y = x (ix3 0 (y 0) (y 1)) := by pointwise
theorem drop_b (x : Vec Ideal S1x10240 .f32) (y : S1x10240.Idx) :
    shapeCast S1x10240 (shapeCast S10240 x shapeCasts_S1x10240_S10240) shapeCasts_S10240_S1x10240 y = x (ix2 0 (y 1)) := by
  rw [shapeCast_shapeCast]
  exact congrArg x (ix2_congr (by have : (y 0).val < 1 := (y 0).isLt; show (y 0).val = 0; omega) rfl)

/-! ## The blocks -/

variable (m : (ℓ : Loc nD τ sig) → Buf (Elt Ideal) ℓ) (c : Dev nD)

theorem index_facts : ∀ t : Fin cfg0.N, win0_0.index t 0 = t.val / 20 ∧ win0_0.index t 1 = 0 ∧ win0_1.index t 0 = 0 ∧ win0_1.index t 1 = 0
    ∧ win0_2.index t 0 = 0 ∧ win0_2.index t 1 = t.val % 20 ∧ win0_3.index t 0 = 0 ∧ win0_3.index t 1 = t.val % 20 :=
  (by decide +kernel : ∀ t : Fin grid0.N, _)

/-- The argument arrays as the kernel's four operands index them. -/
abbrev X (r : Fin 8192) (k : Fin 4096) : EReal := (m ((c : Thread nD τ).loc main_arg0) : Vec Ideal S1x8192x4096 .f32) (ix3 0 r k)
abbrev Gn (k : Fin 4096) : EReal := (m ((c : Thread nD τ).loc main_arg1) : Vec Ideal S1x4096 .f32) (ix2 0 k)
abbrev W (k : Fin 4096) (e : Fin 10240) : EReal := (m ((c : Thread nD τ).loc main_arg2) : Vec Ideal S1x4096x10240 .f32) (ix3 0 k e)
abbrev Bs (e : Fin 10240) : EReal := (m ((c : Thread nD τ).loc main_arg3) : Vec Ideal S1x10240 .f32) (ix2 0 e)

theorem V_v0 (y : S8192x4096.Idx) : (V m c main_v0 : Vec Ideal S8192x4096 .f32) y = X m c (y 0) (y 1) := by
  have e : V m c main_v0 = (shapeCast _ (m ((c : Thread nD τ).loc main_arg0)) shapeCasts_S1x8192x4096_S8192x4096 : Vec Ideal S8192x4096 .f32) := by
    show StableHlo.after hostOps0 _ (Proc.devRef .tc main_v0) = _
    after_results
    rfl
  rw [e]
  exact drop_x _ _

theorem V_v2 (y : S1x4096.Idx) : (V m c main_v2 : Vec Ideal S1x4096 .f32) y = Gn m c (y 1) := by
  have e : V m c main_v2 = (shapeCast _ (shapeCast _ (m ((c : Thread nD τ).loc main_arg1)) shapeCasts_S1x4096_S4096 : Vec Ideal S4096 .f32) shapeCasts_S4096_S1x4096 : Vec Ideal S1x4096 .f32) := by
    show StableHlo.after hostOps0 _ (Proc.devRef .tc main_v2) = _
    after_results
    rfl
  rw [e]
  exact drop_g _ _

theorem V_v3 (y : S4096x10240.Idx) : (V m c main_v3 : Vec Ideal S4096x10240 .f32) y = W m c (y 0) (y 1) := by
  have e : V m c main_v3 = (shapeCast _ (m ((c : Thread nD τ).loc main_arg2)) shapeCasts_S1x4096x10240_S4096x10240 : Vec Ideal S4096x10240 .f32) := by
    show StableHlo.after hostOps0 _ (Proc.devRef .tc main_v3) = _
    after_results
    rfl
  rw [e]
  exact drop_w _ _

theorem V_v5 (y : S1x10240.Idx) : (V m c main_v5 : Vec Ideal S1x10240 .f32) y = Bs m c (y 1) := by
  have e : V m c main_v5 = (shapeCast _ (shapeCast _ (m ((c : Thread nD τ).loc main_arg3)) shapeCasts_S1x10240_S10240 : Vec Ideal S10240 .f32) shapeCasts_S10240_S1x10240 : Vec Ideal S1x10240 .f32) := by
    show StableHlo.after hostOps0 _ (Proc.devRef .tc main_v5) = _
    after_results
    rfl
  rw [e]
  exact drop_b _ _

theorem row_lt {t r : ℕ} (ht : t < cfg0.N) (hr : r < 1024) : 1024 * (t / 20) + r < 8192 := by
  have := lt_of_lt_of_eq ht (show cfg0.N = 160 from N_0); omega
theorem col_lt (t : ℕ) {e : ℕ} (he : e < 512) : 512 * (t % 20) + e < 10240 := by omega

theorem iblk0 (t : Fin cfg0.N) (y : S1024x4096.Idx) :
    (iblk m c 0 t : Vec Ideal S1024x4096 .f32) y = X m c ⟨1024 * (t.val / 20) + (y 0).val, row_lt t.isLt (y 0).isLt⟩ (y 1) := by
  obtain ⟨i0, i1, -⟩ := index_facts t
  unfold iblk
  rw [View.read_apply]
  refine (V_v0 m c _).trans ?_
  congr 1
  · exact Fin.ext (by show win0_0.index t 0 * 1024 + 1 * (y 0).val = 1024 * (t.val / 20) + (y 0).val; rw [i0]; omega)
  · exact Fin.ext (by show win0_0.index t 1 * 4096 + 1 * (y 1).val = _; rw [i1]; omega)

theorem iblk1 (t : Fin cfg0.N) (y : S1x4096.Idx) : (iblk m c 1 t : Vec Ideal S1x4096 .f32) y = Gn m c (y 1) := by
  obtain ⟨-, -, -, i1, -⟩ := index_facts t
  unfold iblk
  rw [View.read_apply]
  refine (V_v2 m c _).trans ?_
  congr 1
  exact Fin.ext (by show win0_1.index t 1 * 4096 + 1 * (y 1).val = _; rw [i1]; omega)

theorem iblk2 (t : Fin cfg0.N) (y : S4096x512.Idx) :
    (iblk m c 2 t : Vec Ideal S4096x512 .f32) y = W m c (y 0) ⟨512 * (t.val % 20) + (y 1).val, col_lt _ (y 1).isLt⟩ := by
  obtain ⟨-, -, -, -, i0, i1, -⟩ := index_facts t
  unfold iblk
  rw [View.read_apply]
  refine (V_v3 m c _).trans ?_
  congr 1
  · exact Fin.ext (by show win0_2.index t 0 * 4096 + 1 * (y 0).val = _; rw [i0]; omega)
  · exact Fin.ext (by show win0_2.index t 1 * 512 + 1 * (y 1).val = 512 * (t.val % 20) + (y 1).val; rw [i1]; omega)

theorem iblk3 (t : Fin cfg0.N) (y : S1x512.Idx) :
    (iblk m c 3 t : Vec Ideal S1x512 .f32) y = Bs m c ⟨512 * (t.val % 20) + (y 1).val, col_lt _ (y 1).isLt⟩ := by
  obtain ⟨-, -, -, -, -, -, -, i1⟩ := index_facts t
  unfold iblk
  rw [View.read_apply]
  refine (V_v5 m c _).trans ?_
  congr 1
  exact Fin.ext (by show win0_3.index t 1 * 512 + 1 * (y 1).val = 512 * (t.val % 20) + (y 1).val; rw [i1]; omega)

/-! ## The fold over the grid -/

/-- The normalised tile at point `t` depends only on the row tile of `t`. -/
theorem normed_iblk (t t' : Fin cfg0.N) (h : t.val / 20 = t'.val / 20) :
    normed (iblk m c 0 t) (iblk m c 1 t) = normed (iblk m c 0 t') (iblk m c 1 t') := by
  funext y
  unfold normed
  simp only [iblk0, iblk1, h]

theorem outs_eq : ∀ (n : ℕ) (h : n < cfg0.N), outsAt0 m c n h
    = (k0_pay2 (normed (iblk m c 0 ⟨n, h⟩) (iblk m c 1 ⟨n, h⟩)) (iblk m c 2 ⟨n, h⟩) (iblk m c 3 ⟨n, h⟩),
        normed (iblk m c 0 ⟨n, h⟩) (iblk m c 1 ⟨n, h⟩))
  | 0, h => by rw [outsAt0_A m c ⟨0, h⟩ (Nat.zero_mod _), out_A, sout_A]
  | n + 1, h => by
    by_cases h0 : (n + 1) % 20 = 0
    · rw [outsAt0_A m c ⟨n + 1, h⟩ h0, out_A, sout_A]
    · rw [outsAt0_B m c ⟨n + 1, h⟩ h0, out_B, sout_B]
      have e : (outsAt0 m c n (Nat.lt_of_succ_lt h)).2 = normed (iblk m c 0 ⟨n + 1, h⟩) (iblk m c 1 ⟨n + 1, h⟩) := by
        rw [outs_eq n (Nat.lt_of_succ_lt h)]
        exact normed_iblk m c _ _ (by show n / 20 = (n + 1) / 20; omega)
      show (k0_pay2 (outsAt0 m c n _).2 _ _, (outsAt0 m c n _).2) = _
      rw [e]

/-- THE ARRAY the program leaves, at an index. -/
theorem G4_apply (i : S8192x10240.Idx) :
    (G4 m c : Vec Ideal S8192x10240 .f32) i
      = rowDot rowLen eps (X m c (i 0)) (Gn m c) (fun k => W m c k (i 1)) + Bs m c (i 1) := by
  have hi0 : (i 0).val < 8192 := (i 0).isLt
  have hi1 : (i 1).val < 10240 := (i 1).isLt
  have hp : pt4Of i < cfg0.N := by
    rw [show cfg0.N = 160 from N_0]; show 20 * ((i 0).val / 1024 - 0) + 1 * ((i 1).val / 512 - 0) < 160; omega
  unfold G4
  rw [dif_pos hp, ← outsAt0_sweep m c _ hp, outs_eq]
  dsimp only
  rw [pay2_apply]
  have e0 : ∀ h, (⟨1024 * (pt4Of i / 20) + (i 0).val % 1024, h⟩ : Fin 8192) = i 0 := fun _ =>
    Fin.ext (by show 1024 * ((20 * ((i 0).val / 1024 - 0) + 1 * ((i 1).val / 512 - 0)) / 20) + (i 0).val % 1024 = _; omega)
  have e1 : ∀ h, (⟨512 * (pt4Of i % 20) + (i 1).val % 512, h⟩ : Fin 10240) = i 1 := fun _ =>
    Fin.ext (by show 512 * ((20 * ((i 0).val / 1024 - 0) + 1 * ((i 1).val / 512 - 0)) % 20) + (i 1).val % 512 = _; omega)
  unfold normed rowDot
  simp only [iblk0, iblk1, iblk2, iblk3]
  congr 1
  · refine Finset.sum_congr rfl fun k _ => ?_
    exact congr (congrArg _ (congrArg (fun r => X m c r k * scale rowLen eps (X m c r) * Gn m c k) (e0 _))) (congrArg (W m c k) (e1 _))
  · exact congrArg (Bs m c) (e1 _)

end Cert.InKernelIdeal.RowValue

end
-- ==== Proof.InClaims.lean ====
/- The in-projection of the prompt: its claims. -/
module

public import proofs.«01_k».proof.Defs
public import proofs.«01_k».proof.Proof.InValue
public import proofs.«01_k».proof.Proof.Gen.InKernel.Frame
public import proofs.«01_k».proof.Proof.Gen.InReferenceIdeal.Read
public import Idealize.ShloMosaic.Lib.Quiescent

@[expose] public section

set_option maxRecDepth 16384

noncomputable section

open Idealize.ShloMosaic Idealize.ShloMosaic.TcCoe Idealize.SL.Sem

namespace Cert.InReferenceIdeal.RefValue

open Cert.InReferenceIdeal Cert.InReferenceIdeal.Gen Cert.InReferenceIdeal.Read Cert.Rows Cert.InKernelIdeal.RowValue

/-- The reference at an index: the normalised row times the column of the weights, plus the bias. -/
theorem ref_apply (x0 : (⟨S1x8192x4096, .f32⟩ : BufTy).Contents (Elt Ideal)) (x1 : (⟨S1x4096, .f32⟩ : BufTy).Contents (Elt Ideal))
    (x2 : (⟨S1x4096x10240, .f32⟩ : BufTy).Contents (Elt Ideal)) (x3 : (⟨S1x10240, .f32⟩ : BufTy).Contents (Elt Ideal)) (i : S8192x10240.Idx) :
    val_main_v20 x0 x1 x2 x3 i
      = rowDot rowLen eps (fun k => x0 (ix3 0 (i 0) k)) (fun k => x1 (ix2 0 k)) (fun k => x2 (ix3 0 k (i 1))) + x3 (ix2 0 (i 1)) := by
  pointwise [val_main_v20, val_main_v16, val_main_v19, val_main_v18, val_main_v17, val_main_v15, val_main_v14, val_main_v13,
    val_main_v12, val_main_v11, val_main_v10, val_main_v9, val_main_v8, val_main_v7, val_main_v6, val_main_v5, val_main_v4,
    val_main_v3, val_main_v2, val_main_v1, val_main_v0, val_main_cst_apply, val_main_cst_0_apply, val_main_cst_1_apply]
  rfl

end Cert.InReferenceIdeal.RefValue

namespace Cert.Proof.InClaims

theorem frame_p : Cert.quiescent_InKernel := fun m ρ _ => Cert.InKernel.Gen.frame m ρ
theorem frame_pi : Cert.quiescent_InKernelIdeal := fun m ρ _ => Cert.InKernelIdeal.Gen.frame m ρ
theorem frame_ri : Cert.quiescent_InReferenceIdeal := fun m ρ _ =>
  (θ_run Cert.InReferenceIdeal.defs _ _).mono (fun r h => ⟨fun c => (h c).2,
      Idealize.ShloMosaic.sem_eq_zero_of_no_sems (by decide) r.2⟩)
    (Cert.InReferenceIdeal.Value.run (F := Ideal) m ρ)
theorem preserves : Cert.preserves_InKernel_InKernelIdeal := trivial

/-- The kernel's result array and the reference's are equal at every index, from equal arguments. -/
theorem algebraic : Cert.algebraic_InKernelIdeal_InReferenceIdeal := by
  intro m ρ m' ρ' _ hag
  refine ⟨fun c => Cert.InKernelIdeal.Value.G4 m c, Cert.InKernelIdeal.Value.run m ρ, ?_⟩
  refine (θ_run Cert.InReferenceIdeal.defs _ _).mono (fun _ h c => ⟨(h c).1.trans ?_, (h c).2⟩)
    (Cert.InReferenceIdeal.Value.run (F := Ideal) m' ρ')
  obtain ⟨h0, h1, h2, h3⟩ := hag c
  rw [Cert.InReferenceIdeal.Read.val_main_v20_eq, h0, h1, h2, h3]
  funext i
  exact (Cert.InReferenceIdeal.RefValue.ref_apply _ _ _ _ i).trans (Cert.InKernelIdeal.RowValue.G4_apply m c i).symm

end Cert.Proof.InClaims

end
-- ==== Proof.InSampleValue.lean ====
/- The in-projection of the samples: the array the program leaves, element by element. Each tile of rows is normalised once,
   into a buffer kept while the tile's column blocks are multiplied; an element is a normalised row times a column of the
   weights, plus the column's bias. -/
module

public import proofs.«01_k».proof.Proof.RowScale
public import proofs.«01_k».proof.Proof.Gen.InSampleKernelIdeal.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

namespace Cert.InSampleKernelIdeal.RowValue

open Cert.InSampleKernelIdeal Cert.InSampleKernelIdeal.Gen Cert.InSampleKernelIdeal.Value Cert.Rows

theorem hz : (![0, 0] : Fin 2 → Nat) = fun _ => 0 := funext fun a => by fin_cases a <;> rfl

/-- The two constants of the normalisation: the row length and what is added under the root. -/
abbrev rowLen : EReal := Ideal.ofBits FTy.f32 0x45800000#32
abbrev eps : EReal := Ideal.ofBits FTy.f32 0x358637BD#32

/-- A tile of rows, each normalised and multiplied by the gain. -/
def normed (x : Vec Ideal S1024x4096 .f32) (g : Vec Ideal S1x4096 .f32) : Vec Ideal S1024x4096 .bf16 :=
  fun y => x y * scale rowLen eps (fun k => x (ix2 (y 0) k)) * g (ix2 0 (y 1))

/-! ## The payloads at an index -/

theorem pay1_apply (x : Vec Ideal S64x4096 .f32) (g : Vec Ideal S1x4096 .f32) (y : S64x4096.Idx) :
    k0_pay1 x g y = x y * scale rowLen eps (fun k => x (ix2 (y 0) k)) * g (ix2 0 (y 1)) := by
  pointwise [k0_pay1]
  rfl

theorem pay2_apply (x : Vec Ideal S1024x4096 .bf16) (w : Vec Ideal S4096x512 .f32) (b : Vec Ideal S1x512 .f32)
    (y : S1024x512.Idx) :
    k0_pay2 x w b y = (∑ k : Fin 4096, x (ix2 (y 0) k) * w (ix2 k (y 1))) + b (ix2 0 (y 1)) := by
  pointwise [k0_pay2]

/-! ## What the two cases of the body leave -/

section Cases

variable (c : Dev nD) (i : grid0.Coords) (a2 : Memref sig .tc .vmem S1024x4096 .f32) (h2 : a2.IsWhole)
  (a3 : Memref sig .tc .vmem S1x4096 .f32) (h3 : a3.IsWhole) (a4 : Memref sig .tc .vmem S4096x512 .f32) (h4 : a4.IsWhole)
  (a5 : Memref sig .tc .vmem S1x512 .f32) (h5 : a5.IsWhole) (a6 : Memref sig .tc .vmem S1024x512 .f32) (h6 : a6.IsWhole)
  (a7 : Memref sig .tc .vmem S1024x4096 .bf16) (h7 : a7.IsWhole)
  (x0 : Vec Ideal S1024x4096 .f32) (x1 : Vec Ideal S1x4096 .f32) (x2 : Vec Ideal S4096x512 .f32) (x3 : Vec Ideal S1x512 .f32)

/-- One trip of the loop writes sixty-four normalised rows: every piece of the trips before `n` holds the normalised
    tile's rows at its place, and together they fill the first `64 n` rows. -/
theorem pieces (hc : k0_cond1 i = 1#1) : ∀ n : ℕ, n ≤ k0_t1_loop.trips →
    (∀ p ∈ pb_k0_t1 (F := Ideal) Variants.none c none i a2 h2 a3 h3 a4 h4 a5 h5 a6 h6 a7 h7 hc (h2.unread x0) (h3.unread x1) n,
      ∀ x : p.1.shape.Idx, p.2 x = normed x0 x1 (p.1.emb x)) ∧
    (∀ y : S1024x4096.Idx, (y 0).val < 64 * n →
      ∃ p ∈ pb_k0_t1 (F := Ideal) Variants.none c none i a2 h2 a3 h3 a4 h4 a5 h5 a6 h6 a7 h7 hc (h2.unread x0) (h3.unread x1) n,
        y ∈ p.1.set)
  | 0, _ => ⟨fun p hp => by simp [pb_k0_t1] at hp, fun y hy => absurd hy (by omega)⟩
  | n + 1, hn => by
    obtain ⟨ih1, ih2⟩ := pieces hc n (Nat.le_of_succ_le hn)
    have e := pb_k0_t1_succ (F := Ideal) Variants.none c none i a2 h2 a3 h3 a4 h4 a5 h5 a6 h6 a7 h7 hc (h2.unread x0) (h3.unread x1)
      ⟨n, hn⟩
    have hoff := k0_off1_eq ⟨n, hn⟩
    unfold tripL_k0_t1 trip_k0_t1 at e
    dsimp only at e
    rw [e]
    constructor
    · intro p hp
      rcases List.mem_append.mp hp with hp | hp
      · obtain rfl := List.mem_singleton.mp hp
        intro x
        dsimp only
        rw [pay1_apply]
        simp only [View.readAt_eq_ld, h2.read_unread, h3.read_unread, View.ld_unit_zero (S := S1x4096) hz]
        unfold normed
        have e0 : ∀ y : (⟨2, ![64, 4096]⟩ : Shape).Idx, View.ld (Val := Elt Ideal) x0 (Rect.unit (s := S1024x4096) (k0_off1 ⟨n, hn⟩) ![64, 4096] (k0_off1_inb i ⟨n, hn⟩ hc)) y
            = x0 ((Rect.unit (s := S1024x4096) (k0_off1 ⟨n, hn⟩) ![64, 4096] (k0_off1_inb i ⟨n, hn⟩ hc)).emb y) := fun _ => rfl
        have e1 : ∀ y : (⟨2, ![64, 4096]⟩ : Shape).Idx,
            ((Rect.unit (s := S1024x4096) (k0_off1 ⟨n, hn⟩) ![64, 4096] (k0_off1_inb i ⟨n, hn⟩ hc)).emb y 0).val = 64 * n + (y 0).val := fun y => by
          show (k0_off1 ⟨n, hn⟩) 0 + 1 * (y 0).val = _
          rw [hoff]; show 64 * n + 1 * (y 0).val = _; omega
        have e2 : ∀ y : (⟨2, ![64, 4096]⟩ : Shape).Idx,
            ((Rect.unit (s := S1024x4096) (k0_off1 ⟨n, hn⟩) ![64, 4096] (k0_off1_inb i ⟨n, hn⟩ hc)).emb y 1).val = (y 1).val := fun y => by
          show (k0_off1 ⟨n, hn⟩) 1 + 1 * (y 1).val = _
          rw [hoff]; show 0 + 1 * (y 1).val = _; omega
        have e3 : (x 1 : Fin 4096) = (Rect.unit (s := S1024x4096) (k0_off1 ⟨n, hn⟩) ![64, 4096] (k0_off1_inb i ⟨n, hn⟩ hc)).emb x 1 :=
          Fin.ext (e2 x).symm
        have e4 : ∀ k : Fin 4096, (Rect.unit (s := S1024x4096) (k0_off1 ⟨n, hn⟩) ![64, 4096] (k0_off1_inb i ⟨n, hn⟩ hc)).emb (ix2 (x 0) k)
            = ix2 ((Rect.unit (s := S1024x4096) (k0_off1 ⟨n, hn⟩) ![64, 4096] (k0_off1_inb i ⟨n, hn⟩ hc)).emb x 0) k := fun k =>
          ix2_congr ((e1 _).trans (e1 x).symm) (e2 _)
        simp only [e0, e4]
        rw [← e3]
        exact congrArg (_ * ·) (congrFun (View.ld_unit_zero (Val := Elt Ideal) (S := S1x4096) hz _ x1) _)
      · exact ih1 p hp
    · intro y hy
      by_cases h : (y 0).val < 64 * n
      · obtain ⟨p, hp, hyp⟩ := ih2 y h
        exact ⟨p, List.mem_append_right _ hp, hyp⟩
      · refine ⟨_, List.mem_append_left _ (List.mem_singleton.mpr rfl), ?_⟩
        rw [Rect.mem_set_unit]
        intro a
        rw [hoff]
        match a with
        | ⟨0, _⟩ => exact ⟨by show 64 * n ≤ (y 0).val; omega, by show (y 0).val < 64 * n + 64; omega⟩
        | ⟨1, _⟩ => exact ⟨Nat.zero_le _, by show (y 1).val < 0 + 4096; have : (y 1).val < 4096 := (y 1).isLt; omega⟩

theorem sout_A (hc : cond0_0 i) :
    sout0_A_0 c i a2 h2 a3 h3 a4 h4 a5 h5 a6 h6 a7 h7 hc x0 x1 x2 x3 = normed x0 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  obtain ⟨p1, p2⟩ := pieces c i a2 h2 a3 h3 a4 h4 a5 h5 a6 h6 a7 h7 x0 x1 hc k0_t1_loop.trips le_rfl
  have ht : k0_t1_loop.trips = 16 := by decide +kernel
  funext y
  refine View.canon_apply_of_pieces (Val := Elt Ideal) (normed x0 x1) _ p1 y (p2 y ?_)
  have : (y 0).val < 1024 := (y 0).isLt
  omega

theorem out_A (hc : cond0_0 i) :
    out0_A_4 c i a2 h2 a3 h3 a4 h4 a5 h5 a6 h6 a7 h7 hc x0 x1 x2 x3 = k0_pay2 (normed x0 x1) x2 x3 := by
  have hs := sout_A c i a2 h2 a3 h3 a4 h4 a5 h5 a6 h6 a7 h7 x0 x1 x2 x3 hc
  unfold sout0_A_0 at hs
  have hcov := scover0_A_0 c i a2 h2 a3 h3 a4 h4 a5 h5 a6 h6 a7 h7 hc x0 x1 x2 x3
  rw [View.read_writes_eq_canon _ _ _ hcov] at hs
  unfold out0_A_4
  rw [View.read_writes_eq_canon _ _ _ (cover0_A_4 c i a2 h2 a3 h3 a4 h4 a5 h5 a6 h6 a7 h7 hc x0 x1 x2 x3)]
  unfold kernelRun0_A at hs hcov ⊢
  dsimp only at hs hcov ⊢
  sl_unfold_words
  rw [View.canon_unit_zero hz]
  simp only [View.readAt_eq_ld, h4.read_unread, h5.read_unread,
    View.ld_unit_zero (S := S4096x512) hz, View.ld_unit_zero (S := S1x512) hz]
  rw [View.readCov_eq_canon_ld _ _ _ hcov, hs, View.ld_unit_zero (S := S1024x4096) hz]

theorem out_B (hc : ¬cond0_0 i) (xs : Vec Ideal S1024x4096 .bf16) :
    out0_B_4 c i a2 h2 a3 h3 a4 h4 a5 h5 a6 h6 a7 h7 hc x0 x1 x2 x3 xs = k0_pay2 xs x2 x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  rw [View.canon_unit_zero hz]
  simp only [View.readAt_eq_ld, h7.read_unread, h4.read_unread, h5.read_unread, View.ld_unit_zero (S := S1024x4096) hz,
    View.ld_unit_zero (S := S4096x512) hz, View.ld_unit_zero (S := S1x512) hz]

theorem sout_B (hc : ¬cond0_0 i) (xs : Vec Ideal S1024x4096 .bf16) :
    sout0_B_0 c i a2 h2 a3 h3 a4 h4 a5 h5 a6 h6 a7 h7 hc x0 x1 x2 x3 xs = xs := by
  unfold sout0_B_0
  rfl

end Cases

/-! ## Reshapes before the launch -/

theorem div_lt {r : ℕ} (h : r < 1024) : r / 32 < 32 := by omega
theorem mod_lt {r : ℕ} : r % 32 < 32 := Nat.mod_lt _ (by decide)

theorem drop_x (x : Vec Ideal S32x32x4096 .f32) (y : S1024x4096.Idx) :
    shapeCast S1024x4096 x shapeCasts_S32x32x4096_S1024x4096 y = x (ix3 (⟨(y 0).val / 32, div_lt (y 0).isLt⟩ : Fin 32) (⟨(y 0).val % 32, mod_lt⟩ : Fin 32) (y 1)) := by pointwise
theorem drop_g (x : Vec Ideal S1x4096 .f32) (y : S1x4096.Idx) :
    shapeCast S1x4096 (shapeCast S4096 x shapeCasts_S1x4096_S4096) shapeCasts_S4096_S1x4096 y = x (ix2 0 (y 1)) := by
  rw [shapeCast_shapeCast]
  exact congrArg x (ix2_congr (by have : (y 0).val < 1 := (y 0).isLt; show (y 0).val = 0; omega) rfl)
theorem drop_w (x : Vec Ideal S1x4096x10240 .f32) (y : S4096x10240.Idx) :
    shapeCast S4096x10240 x shapeCasts_S1x4096x10240_S4096x10240 y = x (ix3 0 (y 0) (y 1)) := by pointwise
theorem drop_b (x : Vec Ideal S1x10240 .f32) (y : S1x10240.Idx) :
    shapeCast S1x10240 (shapeCast S10240 x shapeCasts_S1x10240_S10240) shapeCasts_S10240_S1x10240 y = x (ix2 0 (y 1)) := by
  rw [shapeCast_shapeCast]
  exact congrArg x (ix2_congr (by have : (y 0).val < 1 := (y 0).isLt; show (y 0).val = 0; omega) rfl)

/-! ## The blocks -/

variable (m : (ℓ : Loc nD τ sig) → Buf (Elt Ideal) ℓ) (c : Dev nD)

theorem index_facts : ∀ t : Fin cfg0.N, win0_0.index t 0 = t.val / 20 ∧ win0_0.index t 1 = 0 ∧ win0_1.index t 0 = 0 ∧ win0_1.index t 1 = 0
    ∧ win0_2.index t 0 = 0 ∧ win0_2.index t 1 = t.val % 20 ∧ win0_3.index t 0 = 0 ∧ win0_3.index t 1 = t.val % 20 :=
  (by decide +kernel : ∀ t : Fin grid0.N, _)

/-- The argument arrays as the kernel's four operands index them. -/
abbrev X (r : Fin 1024) (k : Fin 4096) : EReal := (m ((c : Thread nD τ).loc main_arg0) : Vec Ideal S32x32x4096 .f32) (ix3 (⟨r.val / 32, div_lt r.isLt⟩ : Fin 32) (⟨r.val % 32, mod_lt⟩ : Fin 32) k)
abbrev Gn (k : Fin 4096) : EReal := (m ((c : Thread nD τ).loc main_arg1) : Vec Ideal S1x4096 .f32) (ix2 0 k)
abbrev W (k : Fin 4096) (e : Fin 10240) : EReal := (m ((c : Thread nD τ).loc main_arg2) : Vec Ideal S1x4096x10240 .f32) (ix3 0 k e)
abbrev Bs (e : Fin 10240) : EReal := (m ((c : Thread nD τ).loc main_arg3) : Vec Ideal S1x10240 .f32) (ix2 0 e)

theorem V_v0 (y : S1024x4096.Idx) : (V m c main_v0 : Vec Ideal S1024x4096 .f32) y = X m c (y 0) (y 1) := by
  have e : V m c main_v0 = (shapeCast _ (m ((c : Thread nD τ).loc main_arg0)) shapeCasts_S32x32x4096_S1024x4096 : Vec Ideal S1024x4096 .f32) := by
    show StableHlo.after hostOps0 _ (Proc.devRef .tc main_v0) = _
    after_results
    rfl
  rw [e]
  exact drop_x _ _

theorem V_v2 (y : S1x4096.Idx) : (V m c main_v2 : Vec Ideal S1x4096 .f32) y = Gn m c (y 1) := by
  have e : V m c main_v2 = (shapeCast _ (shapeCast _ (m ((c : Thread nD τ).loc main_arg1)) shapeCasts_S1x4096_S4096 : Vec Ideal S4096 .f32) shapeCasts_S4096_S1x4096 : Vec Ideal S1x4096 .f32) := by
    show StableHlo.after hostOps0 _ (Proc.devRef .tc main_v2) = _
    after_results
    rfl
  rw [e]
  exact drop_g _ _

theorem V_v3 (y : S4096x10240.Idx) : (V m c main_v3 : Vec Ideal S4096x10240 .f32) y = W m c (y 0) (y 1) := by
  have e : V m c main_v3 = (shapeCast _ (m ((c : Thread nD τ).loc main_arg2)) shapeCasts_S1x4096x10240_S4096x10240 : Vec Ideal S4096x10240 .f32) := by
    show StableHlo.after hostOps0 _ (Proc.devRef .tc main_v3) = _
    after_results
    rfl
  rw [e]
  exact drop_w _ _

theorem V_v5 (y : S1x10240.Idx) : (V m c main_v5 : Vec Ideal S1x10240 .f32) y = Bs m c (y 1) := by
  have e : V m c main_v5 = (shapeCast _ (shapeCast _ (m ((c : Thread nD τ).loc main_arg3)) shapeCasts_S1x10240_S10240 : Vec Ideal S10240 .f32) shapeCasts_S10240_S1x10240 : Vec Ideal S1x10240 .f32) := by
    show StableHlo.after hostOps0 _ (Proc.devRef .tc main_v5) = _
    after_results
    rfl
  rw [e]
  exact drop_b _ _

theorem row_lt {t r : ℕ} (ht : t < cfg0.N) (hr : r < 1024) : 1024 * (t / 20) + r < 1024 := by
  have := lt_of_lt_of_eq ht (show cfg0.N = 20 from N_0); omega
theorem col_lt (t : ℕ) {e : ℕ} (he : e < 512) : 512 * (t % 20) + e < 10240 := by omega

theorem iblk0 (t : Fin cfg0.N) (y : S1024x4096.Idx) :
    (iblk m c 0 t : Vec Ideal S1024x4096 .f32) y = X m c ⟨1024 * (t.val / 20) + (y 0).val, row_lt t.isLt (y 0).isLt⟩ (y 1) := by
  obtain ⟨i0, i1, -⟩ := index_facts t
  unfold iblk
  rw [View.read_apply]
  refine (V_v0 m c _).trans ?_
  congr 1
  · exact Fin.ext (by show win0_0.index t 0 * 1024 + 1 * (y 0).val = 1024 * (t.val / 20) + (y 0).val; rw [i0]; omega)
  · exact Fin.ext (by show win0_0.index t 1 * 4096 + 1 * (y 1).val = _; rw [i1]; omega)

theorem iblk1 (t : Fin cfg0.N) (y : S1x4096.Idx) : (iblk m c 1 t : Vec Ideal S1x4096 .f32) y = Gn m c (y 1) := by
  obtain ⟨-, -, -, i1, -⟩ := index_facts t
  unfold iblk
  rw [View.read_apply]
  refine (V_v2 m c _).trans ?_
  congr 1
  exact Fin.ext (by show win0_1.index t 1 * 4096 + 1 * (y 1).val = _; rw [i1]; omega)

theorem iblk2 (t : Fin cfg0.N) (y : S4096x512.Idx) :
    (iblk m c 2 t : Vec Ideal S4096x512 .f32) y = W m c (y 0) ⟨512 * (t.val % 20) + (y 1).val, col_lt _ (y 1).isLt⟩ := by
  obtain ⟨-, -, -, -, i0, i1, -⟩ := index_facts t
  unfold iblk
  rw [View.read_apply]
  refine (V_v3 m c _).trans ?_
  congr 1
  · exact Fin.ext (by show win0_2.index t 0 * 4096 + 1 * (y 0).val = _; rw [i0]; omega)
  · exact Fin.ext (by show win0_2.index t 1 * 512 + 1 * (y 1).val = 512 * (t.val % 20) + (y 1).val; rw [i1]; omega)

theorem iblk3 (t : Fin cfg0.N) (y : S1x512.Idx) :
    (iblk m c 3 t : Vec Ideal S1x512 .f32) y = Bs m c ⟨512 * (t.val % 20) + (y 1).val, col_lt _ (y 1).isLt⟩ := by
  obtain ⟨-, -, -, -, -, -, -, i1⟩ := index_facts t
  unfold iblk
  rw [View.read_apply]
  refine (V_v5 m c _).trans ?_
  congr 1
  exact Fin.ext (by show win0_3.index t 1 * 512 + 1 * (y 1).val = 512 * (t.val % 20) + (y 1).val; rw [i1]; omega)

/-! ## The fold over the grid -/

/-- The normalised tile at point `t` depends only on the row tile of `t`. -/
theorem normed_iblk (t t' : Fin cfg0.N) (h : t.val / 20 = t'.val / 20) :
    normed (iblk m c 0 t) (iblk m c 1 t) = normed (iblk m c 0 t') (iblk m c 1 t') := by
  funext y
  unfold normed
  simp only [iblk0, iblk1, h]

theorem outs_eq : ∀ (n : ℕ) (h : n < cfg0.N), outsAt0 m c n h
    = (k0_pay2 (normed (iblk m c 0 ⟨n, h⟩) (iblk m c 1 ⟨n, h⟩)) (iblk m c 2 ⟨n, h⟩) (iblk m c 3 ⟨n, h⟩),
        normed (iblk m c 0 ⟨n, h⟩) (iblk m c 1 ⟨n, h⟩))
  | 0, h => by rw [outsAt0_A m c ⟨0, h⟩ (Nat.zero_mod _), out_A, sout_A]
  | n + 1, h => by
    by_cases h0 : (n + 1) % 20 = 0
    · rw [outsAt0_A m c ⟨n + 1, h⟩ h0, out_A, sout_A]
    · rw [outsAt0_B m c ⟨n + 1, h⟩ h0, out_B, sout_B]
      have e : (outsAt0 m c n (Nat.lt_of_succ_lt h)).2 = normed (iblk m c 0 ⟨n + 1, h⟩) (iblk m c 1 ⟨n + 1, h⟩) := by
        rw [outs_eq n (Nat.lt_of_succ_lt h)]
        exact normed_iblk m c _ _ (by show n / 20 = (n + 1) / 20; omega)
      show (k0_pay2 (outsAt0 m c n _).2 _ _, (outsAt0 m c n _).2) = _
      rw [e]

/-- THE ARRAY the program leaves, at an index. -/
theorem G4_apply (i : S1024x10240.Idx) :
    (G4 m c : Vec Ideal S1024x10240 .f32) i
      = rowDot rowLen eps (X m c (i 0)) (Gn m c) (fun k => W m c k (i 1)) + Bs m c (i 1) := by
  have hi0 : (i 0).val < 1024 := (i 0).isLt
  have hi1 : (i 1).val < 10240 := (i 1).isLt
  have hp : pt4Of i < cfg0.N := by
    rw [show cfg0.N = 20 from N_0]; show 20 * ((i 0).val / 1024 - 0) + 1 * ((i 1).val / 512 - 0) < 20; omega
  unfold G4
  rw [dif_pos hp, ← outsAt0_sweep m c _ hp, outs_eq]
  dsimp only
  rw [pay2_apply]
  have e0 : ∀ h, (⟨1024 * (pt4Of i / 20) + (i 0).val % 1024, h⟩ : Fin 1024) = i 0 := fun _ =>
    Fin.ext (by show 1024 * ((20 * ((i 0).val / 1024 - 0) + 1 * ((i 1).val / 512 - 0)) / 20) + (i 0).val % 1024 = _; omega)
  have e1 : ∀ h, (⟨512 * (pt4Of i % 20) + (i 1).val % 512, h⟩ : Fin 10240) = i 1 := fun _ =>
    Fin.ext (by show 512 * ((20 * ((i 0).val / 1024 - 0) + 1 * ((i 1).val / 512 - 0)) % 20) + (i 1).val % 512 = _; omega)
  unfold normed rowDot
  simp only [iblk0, iblk1, iblk2, iblk3]
  congr 1
  · refine Finset.sum_congr rfl fun k _ => ?_
    exact congr (congrArg _ (congrArg (fun r => X m c r k * scale rowLen eps (X m c r) * Gn m c k) (e0 _))) (congrArg (W m c k) (e1 _))
  · exact congrArg (Bs m c) (e1 _)

end Cert.InSampleKernelIdeal.RowValue

end
-- ==== Proof.InSampleClaims.lean ====
/- The in-projection of the samples: its claims. -/
module

public import proofs.«01_k».proof.Defs
public import proofs.«01_k».proof.Proof.InSampleValue
public import proofs.«01_k».proof.Proof.Gen.InSampleKernel.Frame
public import proofs.«01_k».proof.Proof.Gen.InSampleReferenceIdeal.Read
public import Idealize.ShloMosaic.Lib.Quiescent

@[expose] public section

set_option maxRecDepth 16384

noncomputable section

open Idealize.ShloMosaic Idealize.ShloMosaic.TcCoe Idealize.SL.Sem

namespace Cert.InSampleReferenceIdeal.RefValue

open Cert.InSampleReferenceIdeal Cert.InSampleReferenceIdeal.Gen Cert.InSampleReferenceIdeal.Read Cert.Rows Cert.InSampleKernelIdeal.RowValue

/-- The reference at an index: the normalised row times the column of the weights, plus the bias. -/
theorem ref_apply (x0 : (⟨S32x32x4096, .f32⟩ : BufTy).Contents (Elt Ideal)) (x1 : (⟨S1x4096, .f32⟩ : BufTy).Contents (Elt Ideal))
    (x2 : (⟨S1x4096x10240, .f32⟩ : BufTy).Contents (Elt Ideal)) (x3 : (⟨S1x10240, .f32⟩ : BufTy).Contents (Elt Ideal)) (i : S1024x10240.Idx) :
    val_main_v20 x0 x1 x2 x3 i
      = rowDot rowLen eps (fun k => x0 (ix3 (⟨(i 0).val / 32, div_lt (i 0).isLt⟩ : Fin 32) (⟨(i 0).val % 32, mod_lt⟩ : Fin 32) k)) (fun k => x1 (ix2 0 k)) (fun k => x2 (ix3 0 k (i 1))) + x3 (ix2 0 (i 1)) := by
  pointwise [val_main_v20, val_main_v16, val_main_v19, val_main_v18, val_main_v17, val_main_v15, val_main_v14, val_main_v13,
    val_main_v12, val_main_v11, val_main_v10, val_main_v9, val_main_v8, val_main_v7, val_main_v6, val_main_v5, val_main_v4,
    val_main_v3, val_main_v2, val_main_v1, val_main_v0, val_main_cst_apply, val_main_cst_0_apply, val_main_cst_1_apply]
  rfl

end Cert.InSampleReferenceIdeal.RefValue

namespace Cert.Proof.InSampleClaims

theorem frame_p : Cert.quiescent_InSampleKernel := fun m ρ _ => Cert.InSampleKernel.Gen.frame m ρ
theorem frame_pi : Cert.quiescent_InSampleKernelIdeal := fun m ρ _ => Cert.InSampleKernelIdeal.Gen.frame m ρ
theorem frame_ri : Cert.quiescent_InSampleReferenceIdeal := fun m ρ _ =>
  (θ_run Cert.InSampleReferenceIdeal.defs _ _).mono (fun r h => ⟨fun c => (h c).2,
      Idealize.ShloMosaic.sem_eq_zero_of_no_sems (by decide) r.2⟩)
    (Cert.InSampleReferenceIdeal.Value.run (F := Ideal) m ρ)
theorem preserves : Cert.preserves_InSampleKernel_InSampleKernelIdeal := trivial

/-- The kernel's result array and the reference's are equal at every index, from equal arguments. -/
theorem algebraic : Cert.algebraic_InSampleKernelIdeal_InSampleReferenceIdeal := by
  intro m ρ m' ρ' _ hag
  refine ⟨fun c => Cert.InSampleKernelIdeal.Value.G4 m c, Cert.InSampleKernelIdeal.Value.run m ρ, ?_⟩
  refine (θ_run Cert.InSampleReferenceIdeal.defs _ _).mono (fun _ h c => ⟨(h c).1.trans ?_, (h c).2⟩)
    (Cert.InSampleReferenceIdeal.Value.run (F := Ideal) m' ρ')
  obtain ⟨h0, h1, h2, h3⟩ := hag c
  rw [Cert.InSampleReferenceIdeal.Read.val_main_v20_eq, h0, h1, h2, h3]
  funext i
  exact (Cert.InSampleReferenceIdeal.RefValue.ref_apply _ _ _ _ i).trans (Cert.InSampleKernelIdeal.RowValue.G4_apply m c i).symm

end Cert.Proof.InSampleClaims

end
-- ==== Proof.MergeValue.lean ====
/- The merge of the two branches: the array the program leaves, element by element. A row of the second branch is normalised
   once per tile of rows; an element is the residual plus the first branch's row times the upper half of a column of the
   weights, plus the normalised row times the lower half. -/
module

public import proofs.«01_k».proof.Proof.RowScale
public import proofs.«01_k».proof.Proof.Gen.MergeKernelIdeal.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

namespace Cert.MergeKernelIdeal.RowValue

open Cert.MergeKernelIdeal Cert.MergeKernelIdeal.Gen Cert.MergeKernelIdeal.Value Cert.Rows

theorem hz : (![0, 0] : Fin 2 → Nat) = fun _ => 0 := funext fun a => by fin_cases a <;> rfl

/-- The two constants of the normalisation: the row length and what is added under the root. -/
abbrev rowLen : EReal := Ideal.ofBits FTy.f32 0x45000000#32
abbrev eps : EReal := Ideal.ofBits FTy.f32 0x358637BD#32

/-- A tile of rows, each normalised and multiplied by the gain. -/
def normed (x : Vec Ideal S1024x2048 .f32) (g : Vec Ideal S1x2048 .f32) : Vec Ideal S1024x2048 .bf16 :=
  fun y => x y * scale rowLen eps (fun k => x (ix2 (y 0) k)) * g (ix2 0 (y 1))

/-- The two halves of a block of the weights. -/
def upper (w : Vec Ideal S4096x512 .bf16) : Vec Ideal S2048x512 .bf16 := fun y => w (ix2 (upperRow (y 0)) (y 1))
def lower (w : Vec Ideal S4096x512 .bf16) : Vec Ideal S2048x512 .bf16 := fun y => w (ix2 (lowerRow (y 0)) (y 1))

/-! ## The payloads at an index -/

theorem pay1_apply (x : Vec Ideal S64x2048 .f32) (g : Vec Ideal S1x2048 .f32) (y : S64x2048.Idx) :
    k0_pay1 x g y = x y * scale rowLen eps (fun k => x (ix2 (y 0) k)) * g (ix2 0 (y 1)) := by
  pointwise [k0_pay1]
  rfl

theorem pay2_apply (r : Vec Ideal S1024x512 .f32) (a : Vec Ideal S1024x2048 .bf16) (u : Vec Ideal S2048x512 .bf16)
    (b : Vec Ideal S1024x2048 .bf16) (l : Vec Ideal S2048x512 .bf16) (y : S1024x512.Idx) :
    k0_pay2 r a u b l y = (r y + ∑ k : Fin 2048, a (ix2 (y 0) k) * u (ix2 k (y 1)))
      + ∑ k : Fin 2048, b (ix2 (y 0) k) * l (ix2 k (y 1)) := by
  pointwise [k0_pay2]

theorem ld_upper (w : Vec Ideal S4096x512 .bf16) :
    View.ld (Val := Elt Ideal) w (Rect.unit (s := S4096x512) ![0, 0] S2048x512.size inb_S4096x512_S2048x512_0_0) = upper w := by
  funext y
  exact congrArg w (ix2_congr (by show 0 + 1 * (y 0).val = (y 0).val; omega) (by show 0 + 1 * (y 1).val = (y 1).val; omega))

theorem ld_lower (w : Vec Ideal S4096x512 .bf16) :
    View.ld (Val := Elt Ideal) w (Rect.unit (s := S4096x512) ![2048, 0] S2048x512.size inb_S4096x512_S2048x512_2048_0) = lower w := by
  funext y
  exact congrArg w (ix2_congr (by show 2048 + 1 * (y 0).val = 2048 + (y 0).val; omega) (by show 0 + 1 * (y 1).val = (y 1).val; omega))

/-! ## What the two cases of the body leave -/

section Cases

variable (c : Dev nD) (i : grid0.Coords) (a2 : Memref sig .tc .vmem S1024x2048 .bf16) (h2 : a2.IsWhole)
  (a3 : Memref sig .tc .vmem S1024x2048 .f32) (h3 : a3.IsWhole) (a4 : Memref sig .tc .vmem S1x2048 .f32) (h4 : a4.IsWhole)
  (a5 : Memref sig .tc .vmem S4096x512 .bf16) (h5 : a5.IsWhole) (a6 : Memref sig .tc .vmem S1024x512 .f32) (h6 : a6.IsWhole)
  (a7 : Memref sig .tc .vmem S1024x512 .f32) (h7 : a7.IsWhole) (a8 : Memref sig .tc .vmem S1024x2048 .bf16) (h8 : a8.IsWhole)
  (x0 : Vec Ideal S1024x2048 .bf16) (x1 : Vec Ideal S1024x2048 .f32) (x2 : Vec Ideal S1x2048 .f32)
  (x3 : Vec Ideal S4096x512 .bf16) (x4 : Vec Ideal S1024x512 .f32)

/-- One trip of the loop writes sixty-four normalised rows: every piece of the trips before `n` holds the normalised
    tile's rows at its place, and together they fill the first `64 n` rows. -/
theorem pieces (hc : k0_cond1 i = 1#1) : ∀ n : ℕ, n ≤ k0_t1_loop.trips →
    (∀ p ∈ pb_k0_t1 (F := Ideal) Variants.none c none i a2 h2 a3 h3 a4 h4 a5 h5 a6 h6 a7 h7 a8 h8 hc (h3.unread x1) (h4.unread x2) n,
      ∀ x : p.1.shape.Idx, p.2 x = normed x1 x2 (p.1.emb x)) ∧
    (∀ y : S1024x2048.Idx, (y 0).val < 64 * n →
      ∃ p ∈ pb_k0_t1 (F := Ideal) Variants.none c none i a2 h2 a3 h3 a4 h4 a5 h5 a6 h6 a7 h7 a8 h8 hc (h3.unread x1) (h4.unread x2) n,
        y ∈ p.1.set)
  | 0, _ => ⟨fun p hp => by simp [pb_k0_t1] at hp, fun y hy => absurd hy (by omega)⟩
  | n + 1, hn => by
    obtain ⟨ih1, ih2⟩ := pieces hc n (Nat.le_of_succ_le hn)
    have e := pb_k0_t1_succ (F := Ideal) Variants.none c none i a2 h2 a3 h3 a4 h4 a5 h5 a6 h6 a7 h7 a8 h8 hc (h3.unread x1) (h4.unread x2)
      ⟨n, hn⟩
    have hoff := k0_off1_eq ⟨n, hn⟩
    unfold tripL_k0_t1 trip_k0_t1 at e
    dsimp only at e
    rw [e]
    constructor
    · intro p hp
      rcases List.mem_append.mp hp with hp | hp
      · obtain rfl := List.mem_singleton.mp hp
        intro x
        dsimp only
        rw [pay1_apply]
        simp only [View.readAt_eq_ld, h3.read_unread, h4.read_unread, View.ld_unit_zero (S := S1x2048) hz]
        unfold normed
        have e0 : ∀ y : (⟨2, ![64, 2048]⟩ : Shape).Idx, View.ld (Val := Elt Ideal) x1 (Rect.unit (s := S1024x2048) (k0_off1 ⟨n, hn⟩) ![64, 2048] (k0_off1_inb i ⟨n, hn⟩ hc)) y
            = x1 ((Rect.unit (s := S1024x2048) (k0_off1 ⟨n, hn⟩) ![64, 2048] (k0_off1_inb i ⟨n, hn⟩ hc)).emb y) := fun _ => rfl
        have e1 : ∀ y : (⟨2, ![64, 2048]⟩ : Shape).Idx,
            ((Rect.unit (s := S1024x2048) (k0_off1 ⟨n, hn⟩) ![64, 2048] (k0_off1_inb i ⟨n, hn⟩ hc)).emb y 0).val = 64 * n + (y 0).val := fun y => by
          show (k0_off1 ⟨n, hn⟩) 0 + 1 * (y 0).val = _
          rw [hoff]; show 64 * n + 1 * (y 0).val = _; omega
        have e2 : ∀ y : (⟨2, ![64, 2048]⟩ : Shape).Idx,
            ((Rect.unit (s := S1024x2048) (k0_off1 ⟨n, hn⟩) ![64, 2048] (k0_off1_inb i ⟨n, hn⟩ hc)).emb y 1).val = (y 1).val := fun y => by
          show (k0_off1 ⟨n, hn⟩) 1 + 1 * (y 1).val = _
          rw [hoff]; show 0 + 1 * (y 1).val = _; omega
        have e3 : (x 1 : Fin 2048) = (Rect.unit (s := S1024x2048) (k0_off1 ⟨n, hn⟩) ![64, 2048] (k0_off1_inb i ⟨n, hn⟩ hc)).emb x 1 :=
          Fin.ext (e2 x).symm
        have e4 : ∀ k : Fin 2048, (Rect.unit (s := S1024x2048) (k0_off1 ⟨n, hn⟩) ![64, 2048] (k0_off1_inb i ⟨n, hn⟩ hc)).emb (ix2 (x 0) k)
            = ix2 ((Rect.unit (s := S1024x2048) (k0_off1 ⟨n, hn⟩) ![64, 2048] (k0_off1_inb i ⟨n, hn⟩ hc)).emb x 0) k := fun k =>
          ix2_congr ((e1 _).trans (e1 x).symm) (e2 _)
        simp only [e0, e4]
        rw [← e3]
        exact congrArg (_ * ·) (congrFun (View.ld_unit_zero (Val := Elt Ideal) (S := S1x2048) hz _ x2) _)
      · exact ih1 p hp
    · intro y hy
      by_cases h : (y 0).val < 64 * n
      · obtain ⟨p, hp, hyp⟩ := ih2 y h
        exact ⟨p, List.mem_append_right _ hp, hyp⟩
      · refine ⟨_, List.mem_append_left _ (List.mem_singleton.mpr rfl), ?_⟩
        rw [Rect.mem_set_unit]
        intro a
        rw [hoff]
        match a with
        | ⟨0, _⟩ => exact ⟨by show 64 * n ≤ (y 0).val; omega, by show (y 0).val < 64 * n + 64; omega⟩
        | ⟨1, _⟩ => exact ⟨Nat.zero_le _, by show (y 1).val < 0 + 2048; have : (y 1).val < 2048 := (y 1).isLt; omega⟩

theorem sout_A (hc : cond0_0 i) :
    sout0_A_0 c i a2 h2 a3 h3 a4 h4 a5 h5 a6 h6 a7 h7 a8 h8 hc x0 x1 x2 x3 x4 = normed x1 x2 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  obtain ⟨p1, p2⟩ := pieces c i a2 h2 a3 h3 a4 h4 a5 h5 a6 h6 a7 h7 a8 h8 x1 x2 hc k0_t1_loop.trips le_rfl
  have ht : k0_t1_loop.trips = 16 := by decide +kernel
  funext y
  refine View.canon_apply_of_pieces (Val := Elt Ideal) (normed x1 x2) _ p1 y (p2 y ?_)
  have : (y 0).val < 1024 := (y 0).isLt
  omega

theorem out_A (hc : cond0_0 i) :
    out0_A_5 c i a2 h2 a3 h3 a4 h4 a5 h5 a6 h6 a7 h7 a8 h8 hc x0 x1 x2 x3 x4
      = k0_pay2 x4 x0 (upper x3) (normed x1 x2) (lower x3) := by
  have hs := sout_A c i a2 h2 a3 h3 a4 h4 a5 h5 a6 h6 a7 h7 a8 h8 x0 x1 x2 x3 x4 hc
  unfold sout0_A_0 at hs
  have hcov := scover0_A_0 c i a2 h2 a3 h3 a4 h4 a5 h5 a6 h6 a7 h7 a8 h8 hc x0 x1 x2 x3 x4
  rw [View.read_writes_eq_canon _ _ _ hcov] at hs
  unfold out0_A_5
  rw [View.read_writes_eq_canon _ _ _ (cover0_A_5 c i a2 h2 a3 h3 a4 h4 a5 h5 a6 h6 a7 h7 a8 h8 hc x0 x1 x2 x3 x4)]
  unfold kernelRun0_A at hs hcov ⊢
  dsimp only at hs hcov ⊢
  sl_unfold_words
  rw [View.canon_unit_zero hz]
  simp only [View.readAt_eq_ld, h2.read_unread, h5.read_unread, h6.read_unread,
    View.ld_unit_zero (S := S1024x2048) hz, View.ld_unit_zero (S := S1024x512) hz]
  rw [View.readCov_eq_canon_ld _ _ _ hcov, hs, View.ld_unit_zero (S := S1024x2048) hz]
  rw [← ld_upper, ← ld_lower]

theorem out_B (hc : ¬cond0_0 i) (xs : Vec Ideal S1024x2048 .bf16) :
    out0_B_5 c i a2 h2 a3 h3 a4 h4 a5 h5 a6 h6 a7 h7 a8 h8 hc x0 x1 x2 x3 x4 xs = k0_pay2 x4 x0 (upper x3) xs (lower x3) := by
  unfold out0_B_5
  rw [View.read_writes_eq_canon _ _ _ (cover0_B_5 c i a2 h2 a3 h3 a4 h4 a5 h5 a6 h6 a7 h7 a8 h8 hc x0 x1 x2 x3 x4 xs)]
  unfold kernelRun0_B
  dsimp only
  rw [View.canon_unit_zero hz]
  simp only [View.readAt_eq_ld, h2.read_unread, h8.read_unread, h5.read_unread, h6.read_unread,
    View.ld_unit_zero (S := S1024x2048) hz, View.ld_unit_zero (S := S1024x512) hz]
  rw [← ld_upper, ← ld_lower]

theorem sout_B (hc : ¬cond0_0 i) (xs : Vec Ideal S1024x2048 .bf16) :
    sout0_B_0 c i a2 h2 a3 h3 a4 h4 a5 h5 a6 h6 a7 h7 a8 h8 hc x0 x1 x2 x3 x4 xs = xs := by
  unfold sout0_B_0
  rfl

end Cases

/-! ## Reshapes before the launch -/

theorem drop_g (x : Vec Ideal S1x2048 .f32) (y : S1x2048.Idx) :
    shapeCast S1x2048 (shapeCast S2048 x shapeCasts_S1x2048_S2048) shapeCasts_S2048_S1x2048 y = x (ix2 0 (y 1)) := by
  rw [shapeCast_shapeCast]
  exact congrArg x (ix2_congr (by have : (y 0).val < 1 := (y 0).isLt; show (y 0).val = 0; omega) rfl)
theorem drop_r (x : Vec Ideal S1x8192x4096 .f32) (y : S8192x4096.Idx) :
    shapeCast S8192x4096 x shapeCasts_S1x8192x4096_S8192x4096 y = x (ix3 0 (y 0) (y 1)) := by pointwise

/-! ## The blocks -/

variable (m : (ℓ : Loc nD τ sig) → Buf (Elt Ideal) ℓ) (c : Dev nD)

theorem index_facts : ∀ t : Fin cfg0.N, win0_0.index t 0 = t.val / 8 ∧ win0_0.index t 1 = 0 ∧ win0_1.index t 0 = t.val / 8 ∧ win0_1.index t 1 = 0
    ∧ win0_2.index t 0 = 0 ∧ win0_2.index t 1 = 0 ∧ win0_3.index t 0 = 0 ∧ win0_3.index t 1 = t.val % 8
    ∧ win0_4.index t 0 = t.val / 8 ∧ win0_4.index t 1 = t.val % 8 :=
  (by decide +kernel : ∀ t : Fin grid0.N, _)

/-- The argument arrays as the kernel's five operands index them. -/
abbrev A (r : Fin 8192) (k : Fin 2048) : EReal := (m ((c : Thread nD τ).loc main_arg0) : Vec Ideal S8192x2048 .bf16) (ix2 r k)
abbrev B (r : Fin 8192) (k : Fin 2048) : EReal := (m ((c : Thread nD τ).loc main_arg1) : Vec Ideal S8192x2048 .f32) (ix2 r k)
abbrev Gn (k : Fin 2048) : EReal := (m ((c : Thread nD τ).loc main_arg2) : Vec Ideal S1x2048 .f32) (ix2 0 k)
abbrev W (k : Fin 4096) (e : Fin 4096) : EReal := (m ((c : Thread nD τ).loc main_arg3) : Vec Ideal S4096x4096 .bf16) (ix2 k e)
abbrev R (r : Fin 8192) (e : Fin 4096) : EReal := (m ((c : Thread nD τ).loc main_arg4) : Vec Ideal S1x8192x4096 .f32) (ix3 0 r e)

theorem V_v1 (y : S1x2048.Idx) : (V m c main_v1 : Vec Ideal S1x2048 .f32) y = Gn m c (y 1) := by
  have e : V m c main_v1 = (shapeCast _ (shapeCast _ (m ((c : Thread nD τ).loc main_arg2)) shapeCasts_S1x2048_S2048 : Vec Ideal S2048 .f32) shapeCasts_S2048_S1x2048 : Vec Ideal S1x2048 .f32) := by
    show StableHlo.after hostOps0 _ (Proc.devRef .tc main_v1) = _
    after_results
    rfl
  rw [e]
  exact drop_g _ _

theorem V_v2 (y : S8192x4096.Idx) : (V m c main_v2 : Vec Ideal S8192x4096 .f32) y = R m c (y 0) (y 1) := by
  have e : V m c main_v2 = (shapeCast _ (m ((c : Thread nD τ).loc main_arg4)) shapeCasts_S1x8192x4096_S8192x4096 : Vec Ideal S8192x4096 .f32) := by
    show StableHlo.after hostOps0 _ (Proc.devRef .tc main_v2) = _
    after_results
    rfl
  rw [e]
  exact drop_r _ _

theorem row_lt {t r : ℕ} (ht : t < cfg0.N) (hr : r < 1024) : 1024 * (t / 8) + r < 8192 := by
  have := lt_of_lt_of_eq ht (show cfg0.N = 64 from N_0); omega
theorem col_lt (t : ℕ) {e : ℕ} (he : e < 512) : 512 * (t % 8) + e < 4096 := by omega

theorem iblk0 (t : Fin cfg0.N) (y : S1024x2048.Idx) :
    (iblk m c 0 t : Vec Ideal S1024x2048 .bf16) y = A m c ⟨1024 * (t.val / 8) + (y 0).val, row_lt t.isLt (y 0).isLt⟩ (y 1) := by
  obtain ⟨i0, i1, -⟩ := index_facts t
  unfold iblk
  rw [View.read_apply]
  refine (congrFun (V_main_arg0 m c) _).trans ?_
  refine congrArg (m ((c : Thread nD τ).loc main_arg0) : Vec Ideal S8192x2048 .bf16) (ix2_congr ?_ ?_)
  · show win0_0.index t 0 * 1024 + 1 * (y 0).val = 1024 * (t.val / 8) + (y 0).val; rw [i0]; omega
  · show win0_0.index t 1 * 2048 + 1 * (y 1).val = (y 1).val; rw [i1]; omega

theorem iblk1 (t : Fin cfg0.N) (y : S1024x2048.Idx) :
    (iblk m c 1 t : Vec Ideal S1024x2048 .f32) y = B m c ⟨1024 * (t.val / 8) + (y 0).val, row_lt t.isLt (y 0).isLt⟩ (y 1) := by
  obtain ⟨-, -, i0, i1, -⟩ := index_facts t
  unfold iblk
  rw [View.read_apply]
  refine (congrFun (V_main_arg1 m c) _).trans ?_
  refine congrArg (m ((c : Thread nD τ).loc main_arg1) : Vec Ideal S8192x2048 .f32) (ix2_congr ?_ ?_)
  · show win0_1.index t 0 * 1024 + 1 * (y 0).val = 1024 * (t.val / 8) + (y 0).val; rw [i0]; omega
  · show win0_1.index t 1 * 2048 + 1 * (y 1).val = (y 1).val; rw [i1]; omega

theorem iblk2 (t : Fin cfg0.N) (y : S1x2048.Idx) : (iblk m c 2 t : Vec Ideal S1x2048 .f32) y = Gn m c (y 1) := by
  obtain ⟨-, -, -, -, -, i1, -⟩ := index_facts t
  unfold iblk
  rw [View.read_apply]
  refine (V_v1 m c _).trans ?_
  congr 1
  exact Fin.ext (by show win0_2.index t 1 * 2048 + 1 * (y 1).val = _; rw [i1]; omega)

theorem iblk3 (t : Fin cfg0.N) (y : S4096x512.Idx) :
    (iblk m c 3 t : Vec Ideal S4096x512 .bf16) y = W m c (y 0) ⟨512 * (t.val % 8) + (y 1).val, col_lt _ (y 1).isLt⟩ := by
  obtain ⟨-, -, -, -, -, -, i0, i1, -⟩ := index_facts t
  unfold iblk
  rw [View.read_apply]
  refine (congrFun (V_main_arg3 m c) _).trans ?_
  refine congrArg (m ((c : Thread nD τ).loc main_arg3) : Vec Ideal S4096x4096 .bf16) (ix2_congr ?_ ?_)
  · show win0_3.index t 0 * 4096 + 1 * (y 0).val = (y 0).val; rw [i0]; omega
  · show win0_3.index t 1 * 512 + 1 * (y 1).val = 512 * (t.val % 8) + (y 1).val; rw [i1]; omega

theorem iblk4 (t : Fin cfg0.N) (y : S1024x512.Idx) :
    (iblk m c 4 t : Vec Ideal S1024x512 .f32) y
      = R m c ⟨1024 * (t.val / 8) + (y 0).val, row_lt t.isLt (y 0).isLt⟩ ⟨512 * (t.val % 8) + (y 1).val, col_lt _ (y 1).isLt⟩ := by
  obtain ⟨-, -, -, -, -, -, -, -, i0, i1⟩ := index_facts t
  unfold iblk
  rw [View.read_apply]
  refine (V_v2 m c _).trans ?_
  congr 1
  · exact Fin.ext (by show win0_4.index t 0 * 1024 + 1 * (y 0).val = 1024 * (t.val / 8) + (y 0).val; rw [i0]; omega)
  · exact Fin.ext (by show win0_4.index t 1 * 512 + 1 * (y 1).val = 512 * (t.val % 8) + (y 1).val; rw [i1]; omega)

/-! ## The fold over the grid -/

/-- The normalised tile at point `t` depends only on the row tile of `t`. -/
theorem normed_iblk (t t' : Fin cfg0.N) (h : t.val / 8 = t'.val / 8) :
    normed (iblk m c 1 t) (iblk m c 2 t) = normed (iblk m c 1 t') (iblk m c 2 t') := by
  funext y
  unfold normed
  simp only [iblk1, iblk2, h]

theorem outs_eq : ∀ (n : ℕ) (h : n < cfg0.N), outsAt0 m c n h
    = (k0_pay2 (iblk m c 4 ⟨n, h⟩) (iblk m c 0 ⟨n, h⟩) (upper (iblk m c 3 ⟨n, h⟩)) (normed (iblk m c 1 ⟨n, h⟩) (iblk m c 2 ⟨n, h⟩))
        (lower (iblk m c 3 ⟨n, h⟩)), normed (iblk m c 1 ⟨n, h⟩) (iblk m c 2 ⟨n, h⟩))
  | 0, h => by rw [outsAt0_A m c ⟨0, h⟩ (Nat.zero_mod _), out_A, sout_A]
  | n + 1, h => by
    by_cases h0 : (n + 1) % 8 = 0
    · rw [outsAt0_A m c ⟨n + 1, h⟩ h0, out_A, sout_A]
    · rw [outsAt0_B m c ⟨n + 1, h⟩ h0, out_B, sout_B]
      have e : (outsAt0 m c n (Nat.lt_of_succ_lt h)).2 = normed (iblk m c 1 ⟨n + 1, h⟩) (iblk m c 2 ⟨n + 1, h⟩) := by
        rw [outs_eq n (Nat.lt_of_succ_lt h)]
        exact normed_iblk m c _ _ (by show n / 8 = (n + 1) / 8; omega)
      show (k0_pay2 _ _ _ (outsAt0 m c n _).2 _, (outsAt0 m c n _).2) = _
      rw [e]

/-- THE ARRAY the program leaves, at an index. -/
theorem G5_apply (i : S8192x4096.Idx) :
    (G5 m c : Vec Ideal S8192x4096 .f32) i
      = (R m c (i 0) (i 1) + ∑ k : Fin 2048, A m c (i 0) k * W m c (upperRow k) (i 1))
        + rowDot rowLen eps (B m c (i 0)) (Gn m c) (fun k => W m c (lowerRow k) (i 1)) := by
  have hi0 : (i 0).val < 8192 := (i 0).isLt
  have hi1 : (i 1).val < 4096 := (i 1).isLt
  have hp : pt5Of i < cfg0.N := by
    rw [show cfg0.N = 64 from N_0]; show 8 * ((i 0).val / 1024 - 0) + 1 * ((i 1).val / 512 - 0) < 64; omega
  unfold G5
  rw [dif_pos hp, ← outsAt0_sweep m c _ hp, outs_eq]
  dsimp only
  rw [pay2_apply]
  have e0 : ∀ h, (⟨1024 * (pt5Of i / 8) + (i 0).val % 1024, h⟩ : Fin 8192) = i 0 := fun _ =>
    Fin.ext (by show 1024 * ((8 * ((i 0).val / 1024 - 0) + 1 * ((i 1).val / 512 - 0)) / 8) + (i 0).val % 1024 = _; omega)
  have e1 : ∀ h, (⟨512 * (pt5Of i % 8) + (i 1).val % 512, h⟩ : Fin 4096) = i 1 := fun _ =>
    Fin.ext (by show 512 * ((8 * ((i 0).val / 1024 - 0) + 1 * ((i 1).val / 512 - 0)) % 8) + (i 1).val % 512 = _; omega)
  unfold normed rowDot upper lower
  simp only [iblk0, iblk1, iblk2, iblk3, iblk4]
  congr 1
  · congr 1
    · exact congr (congrArg (R m c) (e0 _)) (e1 _)
    · refine Finset.sum_congr rfl fun k _ => ?_
      exact congr (congrArg _ (congrArg (fun r => A m c r k) (e0 _))) (congrArg (W m c (upperRow k)) (e1 _))
  · refine Finset.sum_congr rfl fun k _ => ?_
    exact congr (congrArg _ (congrArg (fun r => B m c r k * scale rowLen eps (B m c r) * Gn m c k) (e0 _))) (congrArg (W m c (lowerRow k)) (e1 _))

end Cert.MergeKernelIdeal.RowValue

end
-- ==== Proof.MergeClaims.lean ====
/- The merge of the two branches: its claims. -/
module

public import proofs.«01_k».proof.Defs
public import proofs.«01_k».proof.Proof.MergeValue
public import proofs.«01_k».proof.Proof.Gen.MergeKernel.Frame
public import proofs.«01_k».proof.Proof.Gen.MergeReferenceIdeal.Read
public import Idealize.ShloMosaic.Lib.Quiescent

@[expose] public section

set_option maxRecDepth 16384

noncomputable section

open Idealize.ShloMosaic Idealize.ShloMosaic.TcCoe Idealize.SL.Sem

namespace Cert.MergeReferenceIdeal.RefValue

open Cert.MergeReferenceIdeal Cert.MergeReferenceIdeal.Gen Cert.MergeReferenceIdeal.Read Cert.Rows Cert.MergeKernelIdeal.RowValue

section
variable (x0 : (⟨S8192x2048, .bf16⟩ : BufTy).Contents (Elt Ideal)) (x1 : (⟨S8192x2048, .f32⟩ : BufTy).Contents (Elt Ideal))
    (x2 : (⟨S1x2048, .f32⟩ : BufTy).Contents (Elt Ideal)) (x3 : (⟨S4096x4096, .bf16⟩ : BufTy).Contents (Elt Ideal))
    (x4 : (⟨S1x8192x4096, .f32⟩ : BufTy).Contents (Elt Ideal))

/-- The left half of the joined row is the first branch, as it stands. -/
theorem joined_upper (r : Fin 8192) (k : Fin 2048) : val_main_v15 x0 x1 x2 (ix2 r (upperRow k)) = x0 (ix2 r k) := by
  have h : (upperRow k).val < 2048 := k.isLt
  pointwise [val_main_v15, val_main_v0]
  rw [dif_pos h]
  rfl

theorem normal_row (i : S8192x2048.Idx) : val_main_v14 x1 x2 i
    = x1 i * scale rowLen eps (fun k => x1 (ix2 (i 0) k)) * x2 (ix2 0 (i 1)) := by
  pointwise [val_main_v14, val_main_v13, val_main_v12, val_main_v11, val_main_v10, val_main_v9, val_main_v8, val_main_v7,
    val_main_v6, val_main_v5, val_main_v4, val_main_v3, val_main_v2, val_main_v1, val_main_cst_apply, val_main_cst_0_apply, val_main_cst_1_apply]
  rfl

/-- The right half is the second branch, normalised. -/
theorem joined_lower (r : Fin 8192) (k : Fin 2048) : val_main_v15 x0 x1 x2 (ix2 r (lowerRow k))
    = x1 (ix2 r k) * scale rowLen eps (fun k => x1 (ix2 r k)) * x2 (ix2 0 k) := by
  have h : ¬(lowerRow k).val < 2048 := by show ¬ 2048 + k.val < 2048; omega
  have e : val_main_v15 x0 x1 x2 (ix2 r (lowerRow k)) = val_main_v14 x1 x2 (ix2 r k) := by
    unfold val_main_v15
    generalize val_main_v14 x1 x2 = z
    pointwise
    rw [dif_neg h]
    exact congrArg z (ix2_congr rfl (by show 2048 + k.val - 2048 = k.val; omega))
  rw [e, normal_row]
  rfl

/-- The reference at an index. -/
theorem ref_apply (i : S8192x4096.Idx) : val_main_v19 x0 x1 x2 x3 x4 i
      = (x4 (ix3 0 (i 0) (i 1)) + ∑ k : Fin 2048, x0 (ix2 (i 0) k) * x3 (ix2 (upperRow k) (i 1)))
        + rowDot rowLen eps (fun k => x1 (ix2 (i 0) k)) (fun k => x2 (ix2 0 k)) (fun k => x3 (ix2 (lowerRow k) (i 1))) := by
  have e : val_main_v19 x0 x1 x2 x3 x4 i
      = x4 (ix3 0 (i 0) (i 1)) + ∑ k : Fin 4096, val_main_v15 x0 x1 x2 (ix2 (i 0) k) * x3 (ix2 k (i 1)) := by
    unfold val_main_v19 val_main_v18
    generalize val_main_v15 x0 x1 x2 = z
    pointwise [val_main_v16, val_main_v17]
  rw [e, sum_halves, ← add_assoc]
  unfold rowDot
  refine congr (congrArg _ (congrArg _ (Finset.sum_congr rfl fun k _ => ?_))) (Finset.sum_congr rfl fun k _ => ?_)
  · exact congrArg (· * _) (joined_upper x0 x1 x2 (i 0) k)
  · exact congrArg (· * _) (joined_lower x0 x1 x2 (i 0) k)

end

end Cert.MergeReferenceIdeal.RefValue

namespace Cert.Proof.MergeClaims

theorem frame_p : Cert.quiescent_MergeKernel := fun m ρ _ => Cert.MergeKernel.Gen.frame m ρ
theorem frame_pi : Cert.quiescent_MergeKernelIdeal := fun m ρ _ => Cert.MergeKernelIdeal.Gen.frame m ρ
theorem frame_ri : Cert.quiescent_MergeReferenceIdeal := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)
theorem preserves : Cert.preserves_MergeKernel_MergeKernelIdeal := trivial

/-- The kernel's result array and the reference's are equal at every index, from equal arguments. -/
theorem algebraic : Cert.algebraic_MergeKernelIdeal_MergeReferenceIdeal := by
  intro m ρ m' ρ' _ hag
  refine ⟨fun c => Cert.MergeKernelIdeal.Value.G5 m c, Cert.MergeKernelIdeal.Value.run m ρ, ?_⟩
  refine (θ_run Cert.MergeReferenceIdeal.defs _ _).mono (fun _ h c => ⟨(h c).1.trans ?_, (h c).2⟩)
    (Cert.MergeReferenceIdeal.Value.run (F := Ideal) m' ρ')
  obtain ⟨h0, h1, h2, h3, h4⟩ := hag c
  rw [Cert.MergeReferenceIdeal.Read.val_main_v19_eq, h0, h1, h2, h3, h4]
  funext i
  exact (Cert.MergeReferenceIdeal.RefValue.ref_apply _ _ _ _ _ i).trans (Cert.MergeKernelIdeal.RowValue.G5_apply m c i).symm

end Cert.Proof.MergeClaims

end
-- ==== Proof.QueryIdealTile.lean ====
/- The query projection, run point by point. At the first column block of a row tile the body normalises the tile into a
   buffer it keeps and writes the tile's transpose into the second result's block; at every column block it multiplies the
   kept tile by the block of the weights. The second result's block goes back to its array at the tile's last column block,
   holding what the first one left: so the record of the run states, at every point of a tile, the tile's normalised rows and
   their transpose. -/
module

public import proofs.«01_k».proof.Proof.RowScale
public import proofs.«01_k».proof.Proof.Gen.QueryKernelIdeal.Frame
public import proofs.«01_k».proof.Proof.Gen.QueryKernelIdeal.Loops
public import Idealize.ShloMosaic.Lib.StableHlo.Run
public import Idealize.ShloMosaic.Lib.Pipeline.Value
public import Idealize.ShloMosaic.Lib.Claim

@[expose] public section

set_option maxRecDepth 16384

noncomputable section

namespace Cert.QueryKernelIdeal.Tile

open Cert.QueryKernelIdeal Cert.QueryKernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## What a tile's first point computes -/

/-- Sixty-four rows of a tile, from row `64 n`. -/
def rows64 (x : Vec F S1024x4096 .f32) (n : ℕ) (hn : n < 16) : Vec F S64x4096 .f32 :=
  fun z => x (ix2 ⟨64 * n + (z 0).val, by have : (z 0).val < 64 := (z 0).isLt; omega⟩ (z 1))

/-- The tile with its rows normalised, sixty-four rows at a time. -/
def normed (x : Vec F S1024x4096 .f32) (g : Vec F S1x4096 .f32) : Vec F S1024x4096 .bf16 :=
  fun y => k0_pay1 (rows64 x ((y 0).val / 64) (by have : (y 0).val < 1024 := (y 0).isLt; omega)) g
    (ix2 ⟨(y 0).val % 64, by omega⟩ (y 1))

/-- One hundred and twenty-eight rows of a normalised tile, from row `128 n`. -/
def rows128 (x : Vec F S1024x4096 .bf16) (n : ℕ) (hn : n < 8) : Vec F S128x4096 .bf16 :=
  fun z => x (ix2 ⟨128 * n + (z 0).val, by have : (z 0).val < 128 := (z 0).isLt; omega⟩ (z 1))

/-- The transpose of a normalised tile, one hundred and twenty-eight of its rows at a time. -/
def flipped (x : Vec F S1024x4096 .bf16) : Vec F S4096x1024 .bf16 :=
  fun y => k0_pay2 (rows128 x ((y 1).val / 128) (by have : (y 1).val < 1024 := (y 1).isLt; omega))
    (ix2 (y 0) ⟨(y 1).val % 128, by omega⟩)

section Run

variable (c : Dev nD) (i : grid0.Coords) (a2 : Memref sig .tc .vmem S1024x4096 .f32) (h2 : a2.IsWhole)
  (a3 : Memref sig .tc .vmem S1x4096 .f32) (h3 : a3.IsWhole) (a4 : Memref sig .tc .vmem S4096x512 .bf16) (h4 : a4.IsWhole)
  (a5 : Memref sig .tc .vmem S1x512 .f32) (h5 : a5.IsWhole) (a6 : Memref sig .tc .vmem S1024x512 .f32) (h6 : a6.IsWhole)
  (a7 : Memref sig .tc .vmem S4096x1024 .bf16) (h7 : a7.IsWhole) (a8 : Memref sig .tc .vmem S1024x4096 .bf16) (h8 : a8.IsWhole)
  (x0 : Vec F S1024x4096 .f32) (x1 : Vec F S1x4096 .f32) (x2 : Vec F S4096x512 .bf16) (x3 : Vec F S1x512 .f32)

/-- What the first loop has written before trip `n`, and the second. -/
abbrev P1 (hc : k0_cond1 i = 1#1) (n : ℕ) : List (View.Piece (Elt F) S1024x4096 .bf16) :=
  pb_k0_t1 (F := F) Variants.none c none i a2 h2 a3 h3 a4 h4 a5 h5 a6 h6 a7 h7 a8 h8 hc (h2.unread x0) (h3.unread x1) n
abbrev P2 (hc : k0_cond1 i = 1#1) (X : BufTy.Contents (Elt F) a8.view.ty) (n : ℕ) : List (View.Piece (Elt F) S4096x1024 .bf16) :=
  pb_k0_t2 (F := F) Variants.none c none i a2 h2 a3 h3 a4 h4 a5 h5 a6 h6 a7 h7 a8 h8 hc X n

theorem pieces1 (hc : k0_cond1 i = 1#1) : ∀ n : ℕ, n ≤ k0_t1_loop.trips →
    (∀ p ∈ P1 c i a2 h2 a3 h3 a4 h4 a5 h5 a6 h6 a7 h7 a8 h8 x0 x1 hc n, ∀ x : p.1.shape.Idx, p.2 x = normed x0 x1 (p.1.emb x)) ∧
    (∀ y : S1024x4096.Idx, (y 0).val < 64 * n → ∃ p ∈ P1 c i a2 h2 a3 h3 a4 h4 a5 h5 a6 h6 a7 h7 a8 h8 x0 x1 hc n, y ∈ p.1.set)
  | 0, _ => ⟨fun p hp => by simp [pb_k0_t1] at hp, fun y hy => absurd hy (by omega)⟩
  | n + 1, hn => by
    obtain ⟨ih1, ih2⟩ := pieces1 hc n (Nat.le_of_succ_le hn)
    have e := pb_k0_t1_succ (F := F) Variants.none c none i a2 h2 a3 h3 a4 h4 a5 h5 a6 h6 a7 h7 a8 h8 hc (h2.unread x0) (h3.unread x1)
      ⟨n, hn⟩
    have hoff := k0_off1_eq ⟨n, hn⟩
    have hn16 : n < 16 := Nat.lt_of_lt_of_le hn k0_t1_abs.2.1
    unfold tripL_k0_t1 trip_k0_t1 at e
    dsimp only at e
    unfold P1
    rw [e]
    constructor
    · intro p hp
      rcases List.mem_append.mp hp with hp | hp
      · obtain rfl := List.mem_singleton.mp hp
        intro x
        dsimp only
        simp only [View.readAt_eq_ld, h2.read_unread, h3.read_unread, View.ld_unit_zero (S := S1x4096) hz]
        have b0 : (x 0).val < 64 := (x 0).isLt
        have e1 : ∀ y : (⟨2, ![64, 4096]⟩ : Shape).Idx,
            ((Rect.unit (s := S1024x4096) (k0_off1 ⟨n, hn⟩) ![64, 4096] (k0_off1_inb i ⟨n, hn⟩ hc)).emb y 0).val = 64 * n + (y 0).val := fun y => by
          show (k0_off1 ⟨n, hn⟩) 0 + 1 * (y 0).val = _
          rw [hoff]; show 64 * n + 1 * (y 0).val = _; omega
        have e2 : ∀ y : (⟨2, ![64, 4096]⟩ : Shape).Idx,
            ((Rect.unit (s := S1024x4096) (k0_off1 ⟨n, hn⟩) ![64, 4096] (k0_off1_inb i ⟨n, hn⟩ hc)).emb y 1).val = (y 1).val := fun y => by
          show (k0_off1 ⟨n, hn⟩) 1 + 1 * (y 1).val = _
          rw [hoff]; show 0 + 1 * (y 1).val = _; omega
        have eld : View.ld (Val := Elt F) x0 (Rect.unit (s := S1024x4096) (k0_off1 ⟨n, hn⟩) ![64, 4096] (k0_off1_inb i ⟨n, hn⟩ hc))
            = rows64 x0 n hn16 := funext fun z => by
          show x0 ((Rect.unit (s := S1024x4096) (k0_off1 ⟨n, hn⟩) ![64, 4096] (k0_off1_inb i ⟨n, hn⟩ hc)).emb z) = x0 _
          exact congrArg x0 (ix2_congr (e1 z) (e2 z))
        have e3 : ∀ (k k' : ℕ) (hk : k < 16) (hk' : k' < 16), k = k' → rows64 x0 k hk = rows64 x0 k' hk' := by
          intro k k' _ _ h; subst h; rfl
        unfold normed
        rw [e3 _ n _ hn16 (by rw [e1 x]; omega)]
        refine (congrFun (congrArg (fun z => k0_pay1 z x1) eld) x).trans ?_
        refine congrArg (k0_pay1 (rows64 x0 n hn16) x1) (ix2_congr (y := x) ?_ ?_)
        · show (x 0).val = _ % 64; rw [e1 x]; omega
        · exact (e2 x).symm
      · exact ih1 p hp
    · intro y hy
      by_cases h : (y 0).val < 64 * n
      · obtain ⟨p, hp, hyp⟩ := ih2 y h
        exact ⟨p, List.mem_append_right _ hp, hyp⟩
      · refine ⟨_, List.mem_append_left _ (List.mem_singleton.mpr rfl), ?_⟩
        rw [Rect.mem_set_unit]
        intro a
        rw [hoff]
        match a with
        | ⟨0, _⟩ => exact ⟨by show 64 * n ≤ (y 0).val; omega, by show (y 0).val < 64 * n + 64; omega⟩
        | ⟨1, _⟩ => exact ⟨Nat.zero_le _, by show (y 1).val < 0 + 4096; have : (y 1).val < 4096 := (y 1).isLt; omega⟩

theorem pieces2 (hc : k0_cond1 i = 1#1) (xs : Vec F S1024x4096 .bf16) : ∀ n : ℕ, n ≤ k0_t2_loop.trips →
    (∀ p ∈ P2 c i a2 h2 a3 h3 a4 h4 a5 h5 a6 h6 a7 h7 a8 h8 hc (h8.unread xs) n, ∀ x : p.1.shape.Idx, p.2 x = flipped xs (p.1.emb x)) ∧
    (∀ y : S4096x1024.Idx, (y 1).val < 128 * n → ∃ p ∈ P2 c i a2 h2 a3 h3 a4 h4 a5 h5 a6 h6 a7 h7 a8 h8 hc (h8.unread xs) n, y ∈ p.1.set)
  | 0, _ => ⟨fun p hp => by simp [pb_k0_t2] at hp, fun y hy => absurd hy (by omega)⟩
  | n + 1, hn => by
    obtain ⟨ih1, ih2⟩ := pieces2 hc xs n (Nat.le_of_succ_le hn)
    have e := pb_k0_t2_succ (F := F) Variants.none c none i a2 h2 a3 h3 a4 h4 a5 h5 a6 h6 a7 h7 a8 h8 hc (h8.unread xs) ⟨n, hn⟩
    have hoff2 := k0_off2_eq ⟨n, hn⟩
    have hoff3 := k0_off3_eq ⟨n, hn⟩
    have hn8 : n < 8 := Nat.lt_of_lt_of_le hn k0_t2_abs.2.1
    unfold tripL_k0_t2 trip_k0_t2 at e
    dsimp only at e
    unfold P2
    rw [e]
    constructor
    · intro p hp
      rcases List.mem_append.mp hp with hp | hp
      · obtain rfl := List.mem_singleton.mp hp
        intro x
        dsimp only
        simp only [View.readAt_eq_ld, h8.read_unread]
        have b1 : (x 1).val < 128 := (x 1).isLt
        have e1 : ∀ y : (⟨2, ![128, 4096]⟩ : Shape).Idx,
            ((Rect.unit (s := S1024x4096) (k0_off2 ⟨n, hn⟩) ![128, 4096] (k0_off2_inb i ⟨n, hn⟩ hc)).emb y 0).val = 128 * n + (y 0).val := fun y => by
          show (k0_off2 ⟨n, hn⟩) 0 + 1 * (y 0).val = _
          rw [hoff2]; show 128 * n + 1 * (y 0).val = _; omega
        have e2 : ∀ y : (⟨2, ![128, 4096]⟩ : Shape).Idx,
            ((Rect.unit (s := S1024x4096) (k0_off2 ⟨n, hn⟩) ![128, 4096] (k0_off2_inb i ⟨n, hn⟩ hc)).emb y 1).val = (y 1).val := fun y => by
          show (k0_off2 ⟨n, hn⟩) 1 + 1 * (y 1).val = _
          rw [hoff2]; show 0 + 1 * (y 1).val = _; omega
        have f0 : ∀ y : (⟨2, ![4096, 128]⟩ : Shape).Idx,
            ((Rect.unit (s := S4096x1024) (k0_off3 ⟨n, hn⟩) ![4096, 128] (k0_off3_inb i ⟨n, hn⟩ hc)).emb y 0).val = (y 0).val := fun y => by
          show (k0_off3 ⟨n, hn⟩) 0 + 1 * (y 0).val = _
          rw [hoff3]; show 0 + 1 * (y 0).val = _; omega
        have f1 : ∀ y : (⟨2, ![4096, 128]⟩ : Shape).Idx,
            ((Rect.unit (s := S4096x1024) (k0_off3 ⟨n, hn⟩) ![4096, 128] (k0_off3_inb i ⟨n, hn⟩ hc)).emb y 1).val = 128 * n + (y 1).val := fun y => by
          show (k0_off3 ⟨n, hn⟩) 1 + 1 * (y 1).val = _
          rw [hoff3]; show 128 * n + 1 * (y 1).val = _; omega
        have eld : View.ld (Val := Elt F) xs (Rect.unit (s := S1024x4096) (k0_off2 ⟨n, hn⟩) ![128, 4096] (k0_off2_inb i ⟨n, hn⟩ hc))
            = rows128 xs n hn8 := funext fun z => by
          show xs ((Rect.unit (s := S1024x4096) (k0_off2 ⟨n, hn⟩) ![128, 4096] (k0_off2_inb i ⟨n, hn⟩ hc)).emb z) = xs _
          exact congrArg xs (ix2_congr (e1 z) (e2 z))
        have e3 : ∀ (k k' : ℕ) (hk : k < 8) (hk' : k' < 8), k = k' → rows128 xs k hk = rows128 xs k' hk' := by
          intro k k' _ _ h; subst h; rfl
        unfold flipped
        rw [e3 _ n _ hn8 (by rw [f1 x]; omega)]
        refine (congrFun (congrArg k0_pay2 eld) x).trans ?_
        refine congrArg (k0_pay2 (rows128 xs n hn8)) (ix2_congr (y := x) ?_ ?_)
        · exact (f0 x).symm
        · show (x 1).val = _ % 128; rw [f1 x]; omega
      · exact ih1 p hp
    · intro y hy
      by_cases h : (y 1).val < 128 * n
      · obtain ⟨p, hp, hyp⟩ := ih2 y h
        exact ⟨p, List.mem_append_right _ hp, hyp⟩
      · refine ⟨_, List.mem_append_left _ (List.mem_singleton.mpr rfl), ?_⟩
        rw [Rect.mem_set_unit]
        intro a
        rw [hoff3]
        match a with
        | ⟨0, _⟩ => exact ⟨Nat.zero_le _, by show (y 0).val < 0 + 4096; have : (y 0).val < 4096 := (y 0).isLt; omega⟩
        | ⟨1, _⟩ => exact ⟨by show 128 * n ≤ (y 1).val; omega, by show (y 1).val < 128 * n + 128; omega⟩

theorem trips1 : k0_t1_loop.trips = 16 := by decide +kernel
theorem trips2 : k0_t2_loop.trips = 8 := by decide +kernel

theorem cover1 (hc : k0_cond1 i = 1#1) (y : S1024x4096.Idx) :
    ∃ p ∈ P1 c i a2 h2 a3 h3 a4 h4 a5 h5 a6 h6 a7 h7 a8 h8 x0 x1 hc k0_t1_loop.trips, y ∈ p.1.set :=
  (pieces1 c i a2 h2 a3 h3 a4 h4 a5 h5 a6 h6 a7 h7 a8 h8 x0 x1 hc _ le_rfl).2 y (by
    have : (y 0).val < 1024 := (y 0).isLt; rw [trips1]; omega)

/-- After the first loop the kept buffer holds the normalised tile, whatever it held before. -/
theorem kept_eq (hc : k0_cond1 i = 1#1) (f : BufTy.Contents (Elt F) a8.view.ty) :
    a8.view.writes (Elt F) f (P1 c i a2 h2 a3 h3 a4 h4 a5 h5 a6 h6 a7 h7 a8 h8 x0 x1 hc k0_t1_loop.trips) = h8.unread (normed x0 x1) := by
  refine h8.eq_unread ?_
  rw [View.read_writes_eq_canon _ _ _ (cover1 c i a2 h2 a3 h3 a4 h4 a5 h5 a6 h6 a7 h7 a8 h8 x0 x1 hc)]
  funext y
  exact View.canon_apply_of_pieces (Val := Elt F) (normed x0 x1) _ (pieces1 c i a2 h2 a3 h3 a4 h4 a5 h5 a6 h6 a7 h7 a8 h8 x0 x1 hc _ le_rfl).1 y
    (cover1 c i a2 h2 a3 h3 a4 h4 a5 h5 a6 h6 a7 h7 a8 h8 x0 x1 hc y)

/-- After the second loop the block of the second result holds the transposed tile, whatever it held before. -/
theorem flip_eq (hc : k0_cond1 i = 1#1) (xs : Vec F S1024x4096 .bf16) (f : BufTy.Contents (Elt F) a7.view.ty) :
    a7.view.read (Elt F) (a7.view.writes (Elt F) f (P2 c i a2 h2 a3 h3 a4 h4 a5 h5 a6 h6 a7 h7 a8 h8 hc (h8.unread xs) k0_t2_loop.trips)) = flipped xs := by
  obtain ⟨p1, p2⟩ := pieces2 c i a2 h2 a3 h3 a4 h4 a5 h5 a6 h6 a7 h7 a8 h8 hc xs k0_t2_loop.trips le_rfl
  have cov : ∀ y : S4096x1024.Idx, ∃ p ∈ P2 c i a2 h2 a3 h3 a4 h4 a5 h5 a6 h6 a7 h7 a8 h8 hc (h8.unread xs) k0_t2_loop.trips, y ∈ p.1.set :=
    fun y => p2 y (by have : (y 1).val < 1024 := (y 1).isLt; rw [trips2]; omega)
  rw [View.read_writes_eq_canon _ _ _ cov]
  funext y
  exact View.canon_apply_of_pieces (Val := Elt F) (flipped xs) _ p1 y (cov y)

/-- The block of the first result holds what the point stored into it. -/
theorem stored (f : BufTy.Contents (Elt F) a6.view.ty) (p : Vec F S1024x512 .f32) :
    a6.view.read (Elt F) (a6.view.writes (Elt F) f [⟨Rect.unit ![0, 0] S1024x512.size inb_S1024x512_S1024x512_0_0, p⟩]) = p := by
  rw [View.read_writes_eq_canon _ _ _ (View.cover_of_tiledL _ S1024x512.size (by sl_kernel_rfl)), View.canon_unit_zero hz]

/-- The product a point stores, from the whole buffers it reads. -/
theorem product (xs : Vec F S1024x4096 .bf16) :
    k0_pay3 (a8.view.readAt (Elt F) (Rect.unit ![0, 0] S1024x4096.size inb_S1024x4096_S1024x4096_0_0).toLoadRect (h8.unread xs))
      (a4.view.readAt (Elt F) (Rect.unit ![0, 0] S4096x512.size inb_S4096x512_S4096x512_0_0).toLoadRect (h4.unread x2))
      (a5.view.readAt (Elt F) (Rect.unit ![0, 0] S1x512.size inb_S1x512_S1x512_0_0).toLoadRect (h5.unread x3)) = k0_pay3 xs x2 x3 := by
  simp only [View.readAt_eq_ld, h8.read_unread, h4.read_unread, h5.read_unread, View.ld_unit_zero (S := S1024x4096) hz,
    View.ld_unit_zero (S := S4096x512) hz, View.ld_unit_zero (S := S1x512) hz]

/-! ## The body, in its two cases -/

set_option maxHeartbeats 1000000 in
theorem run_first (hc : k0_cond1 i = 1#1) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ (∃ d, owns (c : Thread nD τ) a7 fullShare d)
        ∗ (∃ d, owns (c : Thread nD τ) a8 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (k0_pay3 (normed x0 x1) x2 x3)
            ∗ owns (c : Thread nD τ) a7 fullShare (flipped (normed x0 x1)) ∗ owns (c : Thread nD τ) a8 fullShare (normed x0 x1)) -∗ K ⟨⟩))
      ⊢ wp frame (wpE (defs₀ (F := F)) Variants.none c none) E (cc0_norm_matmul_emit i a2 h2 a3 h3 a4 h4 a5 h5 a6 h6 a7 h7 a8 h8) K := by
  simp only [cc0_norm_matmul_emit_eq_skeleton]; unfold cc0_norm_matmul_emit_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := h2.eq_unread hf0; obtain rfl := h3.eq_unread hf1; obtain rfl := h4.eq_unread hf2; obtain rfl := h5.eq_unread hf3
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    rw [stored]
    sl_unfold_words
    rw [kept_eq c i a2 h2 a3 h3 a4 h4 a5 h5 a6 h6 a7 h7 a8 h8 x0 x1 hc f6]
    exact product a4 h4 a5 h5 a8 h8 x2 x3 _
  isplitl [H5]
  · iexists _; isplitr
    swap; · iexact H5
    ipureintro
    refine Eq.trans ?_ (flip_eq c i a2 h2 a3 h3 a4 h4 a5 h5 a6 h6 a7 h7 a8 h8 hc (normed x0 x1) f5)
    rw [← kept_eq c i a2 h2 a3 h3 a4 h4 a5 h5 a6 h6 a7 h7 a8 h8 x0 x1 hc f6]
  iexists _; isplitr
  swap; · iexact H6
  ipureintro
  exact (congrArg (a8.view.read (Elt F)) (kept_eq c i a2 h2 a3 h3 a4 h4 a5 h5 a6 h6 a7 h7 a8 h8 x0 x1 hc f6)).trans (h8.read_unread _)

set_option maxHeartbeats 1000000 in
theorem run_later (hc : ¬k0_cond1 i = 1#1) (xs : Vec F S1024x4096 .bf16) (ys : Vec F S4096x1024 .bf16) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ owns (c : Thread nD τ) a7 fullShare ys
        ∗ owns (c : Thread nD τ) a8 fullShare xs
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (k0_pay3 xs x2 x3)
            ∗ owns (c : Thread nD τ) a7 fullShare ys ∗ owns (c : Thread nD τ) a8 fullShare xs) -∗ K ⟨⟩))
      ⊢ wp frame (wpE (defs₀ (F := F)) Variants.none c none) E (cc0_norm_matmul_emit i a2 h2 a3 h3 a4 h4 a5 h5 a6 h6 a7 h7 a8 h8) K := by
  simp only [cc0_norm_matmul_emit_eq_skeleton]; unfold cc0_norm_matmul_emit_skel
  unfold owns
  iintro ⟨⟨%f0, %hf0, H0⟩, ⟨%f1, %hf1, H1⟩, ⟨%f2, %hf2, H2⟩, ⟨%f3, %hf3, H3⟩, ⟨%d4, %f4, -, H4⟩, H5, ⟨%f6, %hf6, H6⟩, Hk⟩
  obtain rfl := h2.eq_unread hf0; obtain rfl := h3.eq_unread hf1; obtain rfl := h4.eq_unread hf2; obtain rfl := h5.eq_unread hf3
  obtain rfl := h8.eq_unread hf6
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    rw [stored]
    exact product a4 h4 a5 h5 a8 h8 x2 x3 _
  isplitl [H5]; · iexact H5
  iexists _; isplitr; · ipureintro; exact h8.read_unread _
  iexact H6

end Run

/-! ## The record of the run -/

section Data

variable (m : (ℓ : Loc nD τ sig) → Buf (Elt F) ℓ) (ρ : Dev nD → PrngReg)

/-- The first column block is the one at which the tile is normalised. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The tile's first point. -/
def start (t : Fin cfg0.N) : Fin cfg0.N := ⟨4 * (t.val / 4), by have := t.isLt; omega⟩

theorem start_of_first (t : Fin cfg0.N) (h : t.val % 4 = 0) : start t = t := Fin.ext (by show 4 * (t.val / 4) = t.val; omega)
theorem start_pred (t : Fin cfg0.N) (h : ¬t.val % 4 = 0) (hp : t.val - 1 < cfg0.N) : start ⟨t.val - 1, hp⟩ = start t :=
  Fin.ext (by show 4 * ((t.val - 1) / 4) = 4 * (t.val / 4); omega)

/-- The tile's normalised rows, as kept from its first point on. -/
def tile (c : Dev nD) (t : Fin cfg0.N) : Vec F S1024x4096 .bf16 := normed (iblk m c 0 (start t)) (iblk m c 1 (start t))

/-- The buffer the body keeps. -/
abbrev keptM : Memref sig .tc .vmem S1024x4096 .bf16 := Memref.whole cc0_scratch0

/-- What is known between points: before the first nothing of the kept buffer, afterwards that it holds the tile. -/
def Known (c : Dev nD) : (n : ℕ) → n ≤ cfg0.N → sProp 𝕄
  | 0, _ => Pipeline.ΦA spec0 c
  | n + 1, hn => iprop(owns (c : Thread nD τ) keptM fullShare (tile m c ⟨n, hn⟩) ∗ (∃ r, prngReg c r))

theorem known_pos (c : Dev nD) (n : ℕ) (h : n ≤ cfg0.N) (hz : n ≠ 0) :
    Known m c n h = iprop(owns (c : Thread nD τ) keptM fullShare (tile m c ⟨n - 1, by omega⟩) ∗ (∃ r, prngReg c r)) := by
  cases n with
  | zero => exact absurd rfl hz
  | succ n => rfl

theorem known_zero (c : Dev nD) (n : ℕ) (h : n ≤ cfg0.N) (hz : n = 0) : Known m c n h = Pipeline.ΦA spec0 c := by
  subst hz; rfl

theorem entry_eq (c : Dev nD) :
    (Pipeline.ΦA spec0 c : sProp 𝕄) = iprop((∃ d, owns (c : Thread nD τ) keptM fullShare d) ∗ (∃ r, prngReg c r)) := by
  unfold Pipeline.ΦA; rw [scopedRest0_eq]; simp only [keptM, owns_whole]; try rfl

/-- Whatever is known, the kept buffer is there at some contents. -/
theorem known_some (c : Dev nD) (n : ℕ) (h : n ≤ cfg0.N) :
    Known m c n h ⊢ iprop((∃ d, owns (c : Thread nD τ) keptM fullShare d) ∗ (∃ r, prngReg c r)) := by
  by_cases hz : n = 0
  · rw [known_zero m c n h hz, entry_eq]
  · rw [known_pos m c n h hz]
    iintro ⟨H, Hg⟩
    isplitl [H]
    · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (tile m c t) (iblk m c 2 t) (iblk m c 3 t)
    | ⟨5, _⟩ => flipped (tile m c t)
  Φ t := Known m c t.val (Nat.le_of_lt_succ t.isLt)
  q _ := fullShare
  owed _ := 0

theorem A_eq (c : Dev nD) (w : Fin cfg0.W) : (dats m 0 c).A w = V m c (Pipeline.arrRef spec0 w) := by dsimp only [dats]
theorem known_at (c : Dev nD) (t : Fin cfg0.N) : (dats m 0 c).Φ t.castSucc = Known m c t.val (Nat.le_of_lt t.isLt) := by
  dsimp only [dats]; exact Pipeline.Dat.Φ_castSucc (Known m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay3 (tile m c t) (iblk m c 2 t) (iblk m c 3 t) := by
  dsimp only [dats]
theorem after5 (c : Dev nD) (t : Fin cfg0.N) : (dats m 0 c).after 5 t = flipped (tile m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem idle_iff (t : Fin cfg0.N) : cfg0.idle 5 (cfg0.grid.coords t) = true ↔ ¬t.val % 4 = 0 := by
  rw [← first_iff t]
  show (!(k0_cond1 (grid0.coords t) == 1#1)) = true ↔ _
  simp

theorem kept5 (c : Dev nD) (t : Fin cfg0.N) (d) : (dats m 0 c).kept 5 t d = flipped (tile m c t) := by
  unfold Pipeline.Dat.kept
  rw [Pipeline.fill_of_clip_none (cfg := cfg0) 5 _ (fun _ => rfl) d ((dats m 0 c).after 5 t), Pipeline.Window.fill_cut, after5]

/-- Past a tile's first point the second result's block holds what that point left: the tile's transpose. -/
theorem before5 (c : Dev nD) : ∀ (n : ℕ) (hn : n < cfg0.N) (h : ¬n % 4 = 0) (d),
    (dats m 0 c).before 5 ⟨n, hn⟩ d = flipped (tile m c ⟨n, hn⟩)
  | 0, _, h, _ => absurd rfl h
  | n + 1, hn, h, d => by
    have hp : n < cfg0.N := by omega
    have hs : tile m c ⟨n, hp⟩ = tile m c ⟨n + 1, hn⟩ := by
      unfold tile; rw [show start ⟨n, hp⟩ = start ⟨n + 1, hn⟩ from start_pred ⟨n + 1, hn⟩ h hp]
    have hf : (cfg0.win 5).flush ⟨n, hp⟩ = false := by
      by_contra hf
      have := (flush0_5 ⟨n, hp⟩).mp (by simpa using hf)
      dsimp only at this
      omega
    rw [(dats m 0 c).before_of_pos 5 ⟨n + 1, hn⟩ (Nat.succ_ne_zero n) ((cfg0.win 5).fetch_out rfl _) d]
    show (if (cfg0.win 5).flush ⟨n, hp⟩ = true then d else (dats m 0 c).left 5 ⟨n, hp⟩ d) = _
    rw [hf, if_neg Bool.false_ne_true, ← hs]
    unfold Pipeline.Dat.left
    by_cases h0 : n % 4 = 0
    · rw [show cfg0.idle 5 (cfg0.grid.coords ⟨n, hp⟩) = false from by
        by_contra hi
        exact (idle_iff ⟨n, hp⟩).mp (by simpa using hi) h0]
      exact kept5 m c ⟨n, hp⟩ d
    · rw [(idle_iff ⟨n, hp⟩).mpr h0]
      exact before5 c n hp h0 d

/-- The second result's block left at the tile's transpose is left as the record says. -/
theorem leaves5 (c : Dev nD) (t : Fin cfg0.N) :
    owns (c : Thread nD τ) ((cfg0.win 5).stage (cfg0.slots t 5)) fullShare (flipped (tile m c t)) ⊢ (dats m 0 c).leavesExact 5 t := by
  unfold Pipeline.Dat.leavesExact
  by_cases h : t.val % 4 = 0
  · rw [show cfg0.idle 5 (cfg0.grid.coords t) = false from by
      by_contra hi
      exact (idle_iff t).mp (by simpa using hi) h]
    dsimp only
    rw [after5]
  · rw [(idle_iff t).mpr h]
    cases hf : (cfg0.win 5).flush t
    · dsimp only
      iintro H
      iexists (flipped (tile m c t))
      rw [before5 m c t.val t.isLt h]
      iexact H
    · dsimp only
      rw [after5]

abbrev st2 (t : Fin cfg0.N) : Memref sig .tc .vmem S1024x4096 .f32 := win0_0.stage (cfg0.slots t 0)
abbrev st3 (t : Fin cfg0.N) : Memref sig .tc .vmem S1x4096 .f32 := win0_1.stage (cfg0.slots t 1)
abbrev st4 (t : Fin cfg0.N) : Memref sig .tc .vmem S4096x512 .bf16 := win0_2.stage (cfg0.slots t 2)
abbrev st5 (t : Fin cfg0.N) : Memref sig .tc .vmem S1x512 .f32 := win0_3.stage (cfg0.slots t 3)
abbrev st6 (t : Fin cfg0.N) : Memref sig .tc .vmem S1024x512 .f32 := win0_4.stage (cfg0.slots t 4)
abbrev st7 (t : Fin cfg0.N) : Memref sig .tc .vmem S4096x1024 .bf16 := win0_5.stage (cfg0.slots t 5)

def Before (c : Dev nD) (t : Fin cfg0.N) : sProp 𝕄 :=
  iprop((dats m 0 c).Φ t.castSucc ∗ (dats m 0 c).owesAt () t.castSucc
    ∗ (∃ d, owns (c : Thread nD τ) (st2 t) fullShare ((dats m 0 c).before 0 t d))
    ∗ (∃ d, owns (c : Thread nD τ) (st3 t) fullShare ((dats m 0 c).before 1 t d))
    ∗ (∃ d, owns (c : Thread nD τ) (st4 t) fullShare ((dats m 0 c).before 2 t d))
    ∗ (∃ d, owns (c : Thread nD τ) (st5 t) fullShare ((dats m 0 c).before 3 t d))
    ∗ (∃ d, owns (c : Thread nD τ) (st6 t) fullShare ((dats m 0 c).before 4 t d))
    ∗ (∃ d, owns (c : Thread nD τ) (st7 t) fullShare ((dats m 0 c).before 5 t d)))

def After (c : Dev nD) (t : Fin cfg0.N) : sProp 𝕄 :=
  iprop((dats m 0 c).Φ t.succ ∗ (dats m 0 c).owesAt () t.succ
    ∗ owns (c : Thread nD τ) (st2 t) fullShare ((dats m 0 c).after 0 t)
    ∗ owns (c : Thread nD τ) (st3 t) fullShare ((dats m 0 c).after 1 t)
    ∗ owns (c : Thread nD τ) (st4 t) fullShare ((dats m 0 c).after 2 t)
    ∗ owns (c : Thread nD τ) (st5 t) fullShare ((dats m 0 c).after 3 t)
    ∗ owns (c : Thread nD τ) (st6 t) fullShare ((dats m 0 c).after 4 t)
    ∗ (dats m 0 c).leavesExact 5 t)

set_option maxHeartbeats 1000000 in
/-- The body at any point. -/
theorem point (c : Dev nD) (t : Fin cfg0.N) :
    Before m c t ⊢ wp frame (wpE (defs₀ (F := F)) Variants.none c none) Set.univ (bodyAt0 t) (fun _ => After m c t) := by
  unfold Before After bodyAt0
  simp only [before0, before1, before2, before3]
  rw [show (dats m 0 c).owesAt () t.succ = (dats m 0 c).owesAt () t.castSucc from rfl,
    after0, after1, after2, after3, after4, known_at m c t,
    show (dats m 0 c).Φ t.succ = iprop(owns (c : Thread nD τ) keptM fullShare (tile m c t) ∗ (∃ r, prngReg c r)) from rfl]
  by_cases h : t.val % 4 = 0
  · have e : normed (iblk m c 0 t) (iblk m c 1 t) = tile m c t := by unfold tile; rw [start_of_first t h]
    refine (BIClass.sep_mono (known_some m c _ _) (Entails.refl _)).trans ?_
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ (iblk m c 0 t) (iblk m c 1 t) (iblk m c 2 t) (iblk m c 3 t)
      ((first_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    rw [e]
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5
  · have ht : t.val ≠ 0 := fun e => h (by rw [e])
    simp only [show ∀ d, (dats m 0 c).before 5 t d = flipped (tile m c t) from before5 m c t.val t.isLt h]
    rw [known_pos m c _ _ ht, show tile m c ⟨t.val - 1, Nat.lt_of_le_of_lt (Nat.sub_le _ _) t.isLt⟩ = tile m c t from by
      unfold tile; rw [start_pred t h]]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (iblk m c 0 t) (iblk m c 1 t) (iblk m c 2 t) (iblk m c 3 t)
      (fun hc => h ((first_iff t).mp hc)) (tile m c t) (flipped (tile m c t)) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (point m c t) rfl .rfl fun _ => .rfl

theorem entering (c : Dev nD) : Pipeline.ΦA spec0 c ⊢ (dats m 0 c).Φ 0 := by
  rw [show (dats m 0 c).Φ 0 = Known m c 0 (Nat.zero_le _) from rfl, known_zero m c 0 _ rfl]

theorem leaving (c : Dev nD) : (dats m 0 c).Φ (Fin.last cfg0.N) ⊢ Pipeline.ΦA spec0 c := by
  rw [show (dats m 0 c).Φ (Fin.last cfg0.N) = Known m c cfg0.N le_rfl from rfl, entry_eq]
  exact known_some m c _ _

set_option backward.isDefEq.respectTransparency.types false in
theorem launched : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := entering m) (hout := leaving m)

theorem ends : θ_run defs (onTc (τ := τ) (main (F := F))) (s₀ m ρ) (Pipeline.FramePost cfgs (dats m) 0 (V m)) :=
  (θ_run defs _ _).mono (fun _ h => h.1) (launched m ρ)

/-- The program runs, leaves its arguments alone and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (ends m ρ)) ((θ_run defs _ _).mono (fun _ h => h.2) (launched m ρ))

end Data

end Cert.QueryKernelIdeal.Tile

end
-- ==== Proof.QueryValue.lean ====
/- The query projection: the two arrays the program leaves, element by element. An element of the first is a normalised row
   times a column of the weights; an element of the second is the normalised row's own, rows and columns exchanged. -/
module

public import proofs.«01_k».proof.Proof.QueryIdealTile
public import Idealize.ShloMosaic.Lib.Tactic

@[expose] public section

set_option maxRecDepth 16384

noncomputable section

open Idealize.ShloMosaic Idealize.ShloMosaic.TcCoe Idealize.SL.Sem

namespace Cert.QueryKernelIdeal.RowValue

open Cert.QueryKernelIdeal Cert.QueryKernelIdeal.Gen Cert.QueryKernelIdeal.Tile Cert.Rows

/-- The two constants of the normalisation: the row length and what is added under the root. -/
abbrev rowLen : EReal := Ideal.ofBits FTy.f32 0x45800000#32
abbrev eps : EReal := Ideal.ofBits FTy.f32 0x358637BD#32

/-! ## What a point stores, at an index -/

theorem pay1_apply (x : Vec Ideal S64x4096 .f32) (g : Vec Ideal S1x4096 .f32) (y : S64x4096.Idx) :
    k0_pay1 x g y = x y * scale rowLen eps (fun k => x (ix2 (y 0) k)) * g (ix2 0 (y 1)) := by
  pointwise [k0_pay1]
  rfl

theorem pay2_apply (x : Vec Ideal S128x4096 .bf16) (y : S4096x128.Idx) : k0_pay2 x y = x (ix2 (y 1) (y 0)) := by
  pointwise [k0_pay2]

theorem pay3_apply (x : Vec Ideal S1024x4096 .bf16) (w : Vec Ideal S4096x512 .bf16) (b : Vec Ideal S1x512 .f32) (y : S1024x512.Idx) :
    k0_pay3 x w b y = (∑ k : Fin 4096, x (ix2 (y 0) k) * w (ix2 k (y 1))) + b (ix2 0 (y 1)) := by
  pointwise [k0_pay3]

theorem normed_apply (x : Vec Ideal S1024x4096 .f32) (g : Vec Ideal S1x4096 .f32) (y : S1024x4096.Idx) :
    normed x g y = x y * scale rowLen eps (fun k => x (ix2 (y 0) k)) * g (ix2 0 (y 1)) := by
  unfold normed
  rw [pay1_apply]
  unfold rows64
  have e : ∀ (k : Fin 4096) (h), (ix2 (⟨64 * ((y 0).val / 64) + (y 0).val % 64, h⟩ : Fin 1024) k : S1024x4096.Idx) = ix2 (y 0) k := fun k _ =>
    ix2_congr (by show 64 * ((y 0).val / 64) + (y 0).val % 64 = (y 0).val; omega) rfl
  have ey : (ix2 (y 0) (y 1) : S1024x4096.Idx) = y := ix2_congr rfl rfl
  refine congrArg (· * g (ix2 0 (y 1))) (congr (congrArg _ ?_) (congrArg (scale rowLen eps) (funext fun k => ?_)))
  · exact congrArg x ((e (y 1) _).trans ey)
  · exact congrArg x (e k _)

theorem flipped_apply (x : Vec Ideal S1024x4096 .bf16) (y : S4096x1024.Idx) : flipped x y = x (ix2 (y 1) (y 0)) := by
  unfold flipped
  rw [pay2_apply]
  exact congrArg x (ix2_congr (by show 128 * ((y 1).val / 128) + (y 1).val % 128 = (y 1).val; omega) rfl)

/-! ## The arrays before the launch -/

theorem drop_g (x : Vec Ideal S1x4096 .f32) (y : S1x4096.Idx) :
    shapeCast S1x4096 (shapeCast S4096 x shapeCasts_S1x4096_S4096) shapeCasts_S4096_S1x4096 y = x (ix2 0 (y 1)) := by
  rw [shapeCast_shapeCast]
  exact congrArg x (ix2_congr (by have : (y 0).val < 1 := (y 0).isLt; show (y 0).val = 0; omega) rfl)

theorem zero_row (y : S1x2048.Idx) :
    (broadcastInDim S1x2048 ![] bcast_S_S1x2048 (constant (F := Ideal) S_ .f32 0x00000000#32 : Vec Ideal S_ .f32) : Vec Ideal S1x2048 .f32) y = 0 := by
  pointwise

variable (m : (ℓ : Loc nD τ sig) → Buf (Elt Ideal) ℓ) (ρ : Dev nD → PrngReg) (c : Dev nD)

/-- The argument arrays as the kernel indexes them. -/
abbrev X (r : Fin 8192) (k : Fin 4096) : EReal := (m ((c : Thread nD τ).loc main_arg0) : Vec Ideal S8192x4096 .f32) (ix2 r k)
abbrev Gn (k : Fin 4096) : EReal := (m ((c : Thread nD τ).loc main_arg1) : Vec Ideal S1x4096 .f32) (ix2 0 k)
abbrev W (k : Fin 4096) (e : Fin 2048) : EReal := (m ((c : Thread nD τ).loc main_arg2) : Vec Ideal S4096x2048 .bf16) (ix2 k e)

theorem V_v1 (y : S1x4096.Idx) : (V m c main_v1 : Vec Ideal S1x4096 .f32) y = Gn m c (y 1) := by
  have e : V m c main_v1 = (shapeCast _ (shapeCast _ (m ((c : Thread nD τ).loc main_arg1)) shapeCasts_S1x4096_S4096 : Vec Ideal S4096 .f32) shapeCasts_S4096_S1x4096 : Vec Ideal S1x4096 .f32) := by
    show StableHlo.after hostOps0 _ (Proc.devRef .tc main_v1) = _
    after_results
    rfl
  rw [e]
  exact drop_g _ _

theorem V_v2 (y : S1x2048.Idx) : (V m c main_v2 : Vec Ideal S1x2048 .f32) y = (0 : EReal) := by
  have e : V m c main_v2 = (broadcastInDim S1x2048 ![] bcast_S_S1x2048 (constant (F := Ideal) S_ .f32 0x00000000#32 : Vec Ideal S_ .f32) : Vec Ideal S1x2048 .f32) := by
    show StableHlo.after hostOps0 _ (Proc.devRef .tc main_v2) = _
    after_results
  rw [e]
  exact zero_row _

/-! ## The blocks -/

theorem index_facts : ∀ t : Fin cfg0.N, win0_0.index t 0 = t.val / 4 ∧ win0_0.index t 1 = 0 ∧ win0_1.index t 0 = 0 ∧ win0_1.index t 1 = 0
    ∧ win0_2.index t 0 = 0 ∧ win0_2.index t 1 = t.val % 4 ∧ win0_3.index t 0 = 0 ∧ win0_3.index t 1 = t.val % 4
    ∧ win0_4.index t 0 = t.val / 4 ∧ win0_4.index t 1 = t.val % 4 ∧ win0_5.index t 0 = 0 ∧ win0_5.index t 1 = t.val / 4 :=
  (by decide +kernel : ∀ t : Fin grid0.N, _)

theorem row_lt {t r : ℕ} (ht : t < cfg0.N) (hr : r < 1024) : 1024 * (t / 4) + r < 8192 := by
  have := lt_of_lt_of_eq ht (show cfg0.N = 32 from N_0); omega
theorem col_lt (t : ℕ) {e : ℕ} (he : e < 512) : 512 * (t % 4) + e < 2048 := by omega

theorem iblk0 (t : Fin cfg0.N) (y : S1024x4096.Idx) :
    (iblk m c 0 t : Vec Ideal S1024x4096 .f32) y = X m c ⟨1024 * (t.val / 4) + (y 0).val, row_lt t.isLt (y 0).isLt⟩ (y 1) := by
  obtain ⟨i0, i1, -⟩ := index_facts t
  unfold iblk
  rw [View.read_apply]
  refine (congrFun (V_main_arg0 m c) _).trans ?_
  refine congrArg (m ((c : Thread nD τ).loc main_arg0) : Vec Ideal S8192x4096 .f32) (ix2_congr ?_ ?_)
  · show win0_0.index t 0 * 1024 + 1 * (y 0).val = 1024 * (t.val / 4) + (y 0).val; rw [i0]; omega
  · show win0_0.index t 1 * 4096 + 1 * (y 1).val = (y 1).val; rw [i1]; omega

theorem iblk1 (t : Fin cfg0.N) (y : S1x4096.Idx) : (iblk m c 1 t : Vec Ideal S1x4096 .f32) y = Gn m c (y 1) := by
  obtain ⟨-, -, -, i1, -⟩ := index_facts t
  unfold iblk
  rw [View.read_apply]
  refine (V_v1 m c _).trans ?_
  congr 1
  exact Fin.ext (by show win0_1.index t 1 * 4096 + 1 * (y 1).val = _; rw [i1]; omega)

theorem iblk2 (t : Fin cfg0.N) (y : S4096x512.Idx) :
    (iblk m c 2 t : Vec Ideal S4096x512 .bf16) y = W m c (y 0) ⟨512 * (t.val % 4) + (y 1).val, col_lt _ (y 1).isLt⟩ := by
  obtain ⟨-, -, -, -, i0, i1, -⟩ := index_facts t
  unfold iblk
  rw [View.read_apply]
  refine (congrFun (V_main_arg2 m c) _).trans ?_
  refine congrArg (m ((c : Thread nD τ).loc main_arg2) : Vec Ideal S4096x2048 .bf16) (ix2_congr ?_ ?_)
  · show win0_2.index t 0 * 4096 + 1 * (y 0).val = (y 0).val; rw [i0]; omega
  · show win0_2.index t 1 * 512 + 1 * (y 1).val = 512 * (t.val % 4) + (y 1).val; rw [i1]; omega

theorem iblk3 (t : Fin cfg0.N) (y : S1x512.Idx) : (iblk m c 3 t : Vec Ideal S1x512 .f32) y = (0 : EReal) := by
  unfold iblk
  rw [View.read_apply]
  exact V_v2 m c _

theorem tile_apply (t : Fin cfg0.N) (y : S1024x4096.Idx) :
    tile m c t y = X m c ⟨1024 * (t.val / 4) + (y 0).val, row_lt t.isLt (y 0).isLt⟩ (y 1)
      * scale rowLen eps (X m c ⟨1024 * (t.val / 4) + (y 0).val, row_lt t.isLt (y 0).isLt⟩) * Gn m c (y 1) := by
  have e : (start t).val / 4 = t.val / 4 := by show 4 * (t.val / 4) / 4 = _; omega
  unfold tile
  rw [normed_apply]
  simp only [iblk0, iblk1, e]
  rfl

/-! ## The two arrays -/

/-- The first result: a normalised row times a column of the weights. -/
def G4 : Buf (Elt Ideal) ((c : Thread nD τ).loc main_v3_0) := fun (i : S8192x2048.Idx) =>
  rowDot rowLen eps (X m c (i 0)) (Gn m c) (fun k => W m c k (i 1))

/-- The second result: the normalised rows, as columns. -/
def G5 : Buf (Elt Ideal) ((c : Thread nD τ).loc main_v3_1) := fun (i : S4096x8192.Idx) =>
  X m c (i 1) (i 0) * scale rowLen eps (X m c (i 1)) * Gn m c (i 0)

theorem flushed4 (t : Fin cfg0.N) : (dats m 0 c).flushed 4 t = ((cfg0.win 4).blk t).view.read (Elt Ideal) (G4 m c) := by
  obtain ⟨-, -, -, -, -, -, -, -, i0, i1, -⟩ := index_facts t
  show (cfg0.win 4).cut (grid0.coords t) ((dats m 0 c).after 4 t) = _
  rw [after4]
  funext (y : S1024x512.Idx)
  rw [View.read_apply]
  show k0_pay3 (tile m c t) (iblk m c 2 t) (iblk m c 3 t) y = G4 m c (((cfg0.win 4).blk t).view.emb y)
  have r : (⟨1024 * (t.val / 4) + (y 0).val, row_lt t.isLt (y 0).isLt⟩ : Fin 8192) = ((cfg0.win 4).blk t).view.emb y 0 :=
    Fin.ext (by show _ = win0_4.index t 0 * 1024 + 1 * (y 0).val; rw [i0]; show 1024 * (t.val / 4) + (y 0).val = _; omega)
  have e : (⟨512 * (t.val % 4) + (y 1).val, col_lt _ (y 1).isLt⟩ : Fin 2048) = ((cfg0.win 4).blk t).view.emb y 1 :=
    Fin.ext (by show _ = win0_4.index t 1 * 512 + 1 * (y 1).val; rw [i1]; show 512 * (t.val % 4) + (y 1).val = _; omega)
  rw [pay3_apply, iblk3, add_zero]
  simp only [tile_apply, iblk2]
  unfold G4 rowDot
  dsimp only
  rw [← r, ← e]
  rfl

theorem flushed5 (t : Fin cfg0.N) : (dats m 0 c).flushed 5 t = ((cfg0.win 5).blk t).view.read (Elt Ideal) (G5 m c) := by
  obtain ⟨-, -, -, -, -, -, -, -, -, -, i0, i1⟩ := index_facts t
  show (cfg0.win 5).cut (grid0.coords t) ((dats m 0 c).after 5 t) = _
  rw [after5]
  funext (y : S4096x1024.Idx)
  rw [View.read_apply]
  show flipped (tile m c t) y = G5 m c (((cfg0.win 5).blk t).view.emb y)
  have r : (⟨1024 * (t.val / 4) + (y 1).val, row_lt t.isLt (y 1).isLt⟩ : Fin 8192) = ((cfg0.win 5).blk t).view.emb y 1 :=
    Fin.ext (by show _ = win0_5.index t 1 * 1024 + 1 * (y 1).val; rw [i1]; show 1024 * (t.val / 4) + (y 1).val = _; omega)
  have e : (y 0 : Fin 4096) = ((cfg0.win 5).blk t).view.emb y 0 :=
    Fin.ext (by show (y 0).val = win0_5.index t 0 * 4096 + 1 * (y 0).val; rw [i0]; omega)
  rw [flipped_apply, tile_apply]
  unfold G5
  dsimp only
  rw [← r, ← e]
  rfl

theorem pt_lt {a b : ℕ} (ha : a < 8) (hb : b < 4) : 4 * a + b < cfg0.N := by
  rw [show cfg0.N = 32 from N_0]; omega

theorem covered4 (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  let t : Fin cfg0.N := ⟨4 * ((i 0).val / 1024) + (i 1).val / 512, pt_lt (by omega) (by omega)⟩
  obtain ⟨-, -, -, -, -, -, -, -, i0, i1, -⟩ := index_facts t
  have tv : t.val = 4 * ((i 0).val / 1024) + (i 1).val / 512 := rfl
  refine ⟨t, flush0_4 t, ?_⟩
  show i ∈ ((View.whole main_v3_0).slice (win0_4.rect t)).set
  rw [View.set_slice_whole, Rect.mem_set_unit]
  intro a
  match a with
  | ⟨0, _⟩ => exact ⟨by show win0_4.index t 0 * 1024 ≤ (i 0).val; rw [i0]; omega, by show (i 0).val < win0_4.index t 0 * 1024 + 1024; rw [i0]; omega⟩
  | ⟨1, _⟩ => exact ⟨by show win0_4.index t 1 * 512 ≤ (i 1).val; rw [i1]; omega, by show (i 1).val < win0_4.index t 1 * 512 + 512; rw [i1]; omega⟩

theorem covered5 (i : S4096x8192.Idx) : ∃ t : Fin cfg0.N, (cfg0.win 5).flush t = true ∧ i ∈ ((cfg0.win 5).blk t).view.set := by
  have h0 : (i 0).val < 4096 := (i 0).isLt
  have h1 : (i 1).val < 8192 := (i 1).isLt
  let t : Fin cfg0.N := ⟨4 * ((i 1).val / 1024) + 3, pt_lt (by omega) (by omega)⟩
  obtain ⟨-, -, -, -, -, -, -, -, -, -, i0, i1⟩ := index_facts t
  have tv : t.val = 4 * ((i 1).val / 1024) + 3 := rfl
  refine ⟨t, (flush0_5 t).mpr (by omega), ?_⟩
  show i ∈ ((View.whole main_v3_1).slice (win0_5.rect t)).set
  rw [View.set_slice_whole, Rect.mem_set_unit]
  intro a
  match a with
  | ⟨0, _⟩ => exact ⟨by show win0_5.index t 0 * 4096 ≤ (i 0).val; rw [i0]; omega, by show (i 0).val < win0_5.index t 0 * 4096 + 4096; rw [i0]; omega⟩
  | ⟨1, _⟩ => exact ⟨by show win0_5.index t 1 * 1024 ≤ (i 1).val; rw [i1]; omega, by show (i 1).val < win0_5.index t 1 * 1024 + 1024; rw [i1]; omega⟩

theorem final4 : (dats m 0 c).arrAt 4 cfg0.N = G4 m c := (dats m 0 c).arrAt_eq_of_cover 4 _ (fun t _ => flushed4 m c t) covered4
theorem final5 : (dats m 0 c).arrAt 5 cfg0.N = G5 m c := (dats m 0 c).arrAt_eq_of_cover 5 _ (fun t _ => flushed5 m c t) covered5

/-- The run, with both results named and the arguments unchanged. -/
theorem run : θ_run defs (onTc (τ := τ) (main (F := Ideal))) ⟨m, fun _ => 0, ρ⟩ fun r => ∀ c : Dev nD,
      r.2.mem ((c : Thread nD τ).loc main_v3_0) = G4 m c
      ∧ r.2.mem ((c : Thread nD τ).loc main_v3_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 4).trans (final4 m c), ((h.1 c).1 5).trans (final5 m c), h.2.1 c⟩)
    (θ_run_and (ends m ρ) (framed m ρ))

end Cert.QueryKernelIdeal.RowValue

end
-- ==== Proof.QueryClaims.lean ====
/- The query projection: its claims. -/
module

public import proofs.«01_k».proof.Defs
public import proofs.«01_k».proof.Proof.QueryTile
public import proofs.«01_k».proof.Proof.QueryValue
public import proofs.«01_k».proof.Proof.Gen.QueryReferenceIdeal.Read
public import Idealize.ShloMosaic.Lib.Quiescent

@[expose] public section

set_option maxRecDepth 16384

noncomputable section

open Idealize.ShloMosaic Idealize.ShloMosaic.TcCoe Idealize.SL.Sem

namespace Cert.QueryReferenceIdeal.RefValue

open Cert.QueryReferenceIdeal Cert.QueryReferenceIdeal.Gen Cert.QueryReferenceIdeal.Read Cert.Rows Cert.QueryKernelIdeal.RowValue

/-- The reference's first result at an index: the normalised row times the column of the weights. -/
theorem first_apply (x0 : (⟨S8192x4096, .f32⟩ : BufTy).Contents (Elt Ideal)) (x1 : (⟨S1x4096, .f32⟩ : BufTy).Contents (Elt Ideal))
    (x2 : (⟨S4096x2048, .bf16⟩ : BufTy).Contents (Elt Ideal)) (i : S8192x2048.Idx) :
    val_main_v15 x0 x1 x2 i
      = rowDot rowLen eps (fun k => x0 (ix2 (i 0) k)) (fun k => x1 (ix2 0 k)) (fun k => x2 (ix2 k (i 1))) := by
  pointwise [val_main_v15, val_main_v14, val_main_v13,
    val_main_v12, val_main_v11, val_main_v10, val_main_v9, val_main_v8, val_main_v7, val_main_v6, val_main_v5, val_main_v4,
    val_main_v3, val_main_v2, val_main_v1, val_main_v0, val_main_cst_apply, val_main_cst_0_apply, val_main_cst_1_apply]
  rfl

/-- The reference's second result at an index: the normalised row's element. -/
theorem second_apply (x0 : (⟨S8192x4096, .f32⟩ : BufTy).Contents (Elt Ideal)) (x1 : (⟨S1x4096, .f32⟩ : BufTy).Contents (Elt Ideal))
    (i : S4096x8192.Idx) :
    val_main_v17 x0 x1 i = x0 (ix2 (i 1) (i 0)) * scale rowLen eps (fun k => x0 (ix2 (i 1) k)) * x1 (ix2 0 (i 0)) := by
  pointwise [val_main_v17, val_main_v16, val_main_v13,
    val_main_v12, val_main_v11, val_main_v10, val_main_v9, val_main_v8, val_main_v7, val_main_v6, val_main_v5, val_main_v4,
    val_main_v3, val_main_v2, val_main_v1, val_main_v0, val_main_cst_apply, val_main_cst_0_apply, val_main_cst_1_apply]
  rfl

end Cert.QueryReferenceIdeal.RefValue

namespace Cert.Proof.QueryClaims

theorem frame_p : Cert.quiescent_QueryKernel := fun m ρ _ => Cert.QueryKernel.Tile.framed m ρ
theorem frame_pi : Cert.quiescent_QueryKernelIdeal := fun m ρ _ => Cert.QueryKernelIdeal.Tile.framed m ρ
theorem frame_ri : Cert.quiescent_QueryReferenceIdeal := fun m ρ _ =>
  (θ_run Cert.QueryReferenceIdeal.defs _ _).mono (fun r h => ⟨fun c => (h c).2.2,
      Idealize.ShloMosaic.sem_eq_zero_of_no_sems (by decide) r.2⟩)
    (Cert.QueryReferenceIdeal.Value.run (F := Ideal) m ρ)
theorem preserves : Cert.preserves_QueryKernel_QueryKernelIdeal := trivial

/-- The kernel's two result arrays and the reference's are equal at every index, from equal arguments. -/
theorem algebraic : Cert.algebraic_QueryKernelIdeal_QueryReferenceIdeal := by
  intro m ρ m' ρ' _ hag
  refine ⟨fun c => Cert.QueryKernelIdeal.RowValue.G4 m c, fun c => Cert.QueryKernelIdeal.RowValue.G5 m c,
    Cert.QueryKernelIdeal.RowValue.run m ρ, ?_⟩
  refine (θ_run Cert.QueryReferenceIdeal.defs _ _).mono (fun _ h c => ⟨(h c).1.trans ?_, (h c).2.1.trans ?_, (h c).2.2⟩)
    (Cert.QueryReferenceIdeal.Value.run (F := Ideal) m' ρ')
  · obtain ⟨h0, h1, h2⟩ := hag c
    rw [Cert.QueryReferenceIdeal.Read.val_main_v15_eq, h0, h1, h2]
    funext i
    exact Cert.QueryReferenceIdeal.RefValue.first_apply _ _ _ i
  · obtain ⟨h0, h1, h2⟩ := hag c
    rw [Cert.QueryReferenceIdeal.Read.val_main_v17_eq, h0, h1]
    funext i
    exact Cert.QueryReferenceIdeal.RefValue.second_apply _ _ i

end Cert.Proof.QueryClaims

end
-- ==== Proof.ConvSampleTile.lean ====
/- The convolution module of the samples: what its two scratch buffers hold at a point. One holds eight copies of the
   padded rows, the copy `s` beginning `s` rows later; the other holds each row of parameters eight times. -/
module

public import proofs.«01_k».proof.Proof.Gen.ConvSampleKernelIdeal.Frame
public import proofs.«01_k».proof.Proof.RowScale
public import Idealize.ShloMosaic.Lib.Pointwise
public import Idealize.ShloMosaic.Lib.Tactic

@[expose] public section

set_option maxRecDepth 16384
set_option maxHeartbeats 4000000

noncomputable section

open Idealize.ShloMosaic Idealize.ShloMosaic.TcCoe Idealize.SL.Sem

namespace Cert.ConvSampleKernelIdeal.ConvTile

open Cert.ConvSampleKernelIdeal Cert.ConvSampleKernelIdeal.Gen Cert.Rows

/-- The gated rows: a value times the logistic of its gate. -/
def gated (x0 x1 : Vec Ideal S32x2048 .f32) : Vec Ideal S32x2048 .f32 := k0_pay44 x0 x1

/-- The sixty-four padded rows of one stream: thirty-two of its history, then its thirty-two gated rows. A row's number is
    read modulo sixty-four. -/
def padded (x0 x1 : Vec Ideal S32x2048 .f32) (x2 : Vec Ideal S1x32x2048 .f32) (r : ℕ) (j : Fin 2048) : EReal :=
  if r % 64 < 32 then x2 (ix3 0 (⟨r % 32, Nat.mod_lt _ (by decide)⟩ : Fin 32) j)
  else gated x0 x1 (ix2 (⟨r % 32, Nat.mod_lt _ (by decide)⟩ : Fin 32) j)

theorem padded_congr (x0 x1 : Vec Ideal S32x2048 .f32) (x2 : Vec Ideal S1x32x2048 .f32) {r r' : ℕ} (h : r % 64 = r' % 64)
    {j j' : Fin 2048} (hj : j.val = j'.val) : padded x0 x1 x2 r j = padded x0 x1 x2 r' j' := by
  obtain rfl := Fin.ext hj
  have h' : r % 32 = r' % 32 := by omega
  unfold padded
  simp only [h, h']

/-- The parameters by number: the thirty-one taps, the bias, the gain and the shift of the normalisation, the last gain. -/
def param (x3 : Vec Ideal S31x2048 .f32) (x4 x5 x6 x7 : Vec Ideal S1x2048 .f32) (k : ℕ) (j : Fin 2048) : EReal :=
  if h : k < 31 then x3 (ix2 (⟨k, h⟩ : Fin 31) j)
  else if k = 31 then x4 (ix2 0 j) else if k = 32 then x5 (ix2 0 j) else if k = 33 then x6 (ix2 0 j) else x7 (ix2 0 j)

/-- The two scratch buffers' contents. -/
def shifted (x0 x1 : Vec Ideal S32x2048 .f32) (x2 : Vec Ideal S1x32x2048 .f32) : Vec Ideal S8x64x2048 .f32 :=
  fun y => padded x0 x1 x2 ((y 0).val + (y 1).val) (y 2)
def params (x3 : Vec Ideal S31x2048 .f32) (x4 x5 x6 x7 : Vec Ideal S1x2048 .f32) : Vec Ideal S35x8x2048 .f32 :=
  fun y => param x3 x4 x5 x6 x7 (y 0).val (y 2)

/-! ## The parameters' buffer -/

/-- A row of parameters written eight times. -/
def eight (v : Vec Ideal S1x2048 .f32) : FVec Ideal S1x8x2048 .f32 := k0_pay2 v

theorem eight_apply (v : Vec Ideal S1x2048 .f32) (z : S1x8x2048.Idx) : eight v z = v (ix2 0 (z 2)) := by
  unfold eight
  pointwise [k0_pay2]

theorem piece_tap (x3 : Vec Ideal S31x2048 .f32) (x4 x5 x6 x7 : Vec Ideal S1x2048 .f32) (k : ℕ) (hk : k < 31)
    (inb : ∀ a, (![k, 0] : Fin 2 → Nat) a + S1x2048.size a ≤ S31x2048.size a)
    (inb' : ∀ a, (![k, 0, 0] : Fin 3 → Nat) a + S1x8x2048.size a ≤ S35x8x2048.size a) (z : S1x8x2048.Idx) :
    eight (View.ld (Val := Elt Ideal) x3 (Rect.unit (s := S31x2048) ![k, 0] S1x2048.size inb)) z
      = params x3 x4 x5 x6 x7 ((Rect.unit (s := S35x8x2048) ![k, 0, 0] S1x8x2048.size inb').emb z) := by
  rw [eight_apply]
  unfold params param
  have e0 : ((Rect.unit (s := S35x8x2048) ![k, 0, 0] S1x8x2048.size inb').emb z 0).val = k := by
    show k + 1 * (z 0).val = k
    have : (z 0).val < 1 := (z 0).isLt
    omega
  have e2 : ((Rect.unit (s := S35x8x2048) ![k, 0, 0] S1x8x2048.size inb').emb z 2).val = (z 2).val := by
    show 0 + 1 * (z 2).val = _; omega
  simp only [e0, hk, dif_pos]
  refine congrArg x3 (ix2_congr ?_ ?_)
  · show k + 1 * 0 = k; omega
  · show 0 + 1 * (z 2).val = 0 + 1 * (z 2).val; rfl

theorem piece_row (x3 : Vec Ideal S31x2048 .f32) (x4 x5 x6 x7 v : Vec Ideal S1x2048 .f32) (k : ℕ)
    (hv : ∀ j, param x3 x4 x5 x6 x7 k j = v (ix2 0 j))
    (inb' : ∀ a, (![k, 0, 0] : Fin 3 → Nat) a + S1x8x2048.size a ≤ S35x8x2048.size a) (z : S1x8x2048.Idx) :
    eight v z = params x3 x4 x5 x6 x7 ((Rect.unit (s := S35x8x2048) ![k, 0, 0] S1x8x2048.size inb').emb z) := by
  rw [eight_apply]
  unfold params
  have e0 : ((Rect.unit (s := S35x8x2048) ![k, 0, 0] S1x8x2048.size inb').emb z 0).val = k := by
    show k + 1 * (z 0).val = k
    have : (z 0).val < 1 := (z 0).isLt
    omega
  rw [e0]
  refine Eq.trans ?_ (hv _).symm
  refine congrArg v (ix2_congr rfl ?_)
  show (z 2).val = 0 + 1 * (z 2).val; omega

theorem hz : ∀ a : Fin 2, (![0, 0] : Fin 2 → Nat) a = 0 := by decide
theorem hz3 : ∀ a : Fin 3, (![0, 0, 0] : Fin 3 → Nat) a = 0 := by decide

theorem inb_tap (k : ℕ) (hk : k < 31) : ∀ a, (![k, 0] : Fin 2 → Nat) a + S1x2048.size a ≤ S31x2048.size a := by
  intro a
  fin_cases a
  · show k + 1 ≤ 31; omega
  · show 0 + 2048 ≤ 2048; omega
theorem inb_row (k : ℕ) (hk : k < 35) : ∀ a, (![k, 0, 0] : Fin 3 → Nat) a + S1x8x2048.size a ≤ S35x8x2048.size a := by
  intro a
  fin_cases a
  · show k + 1 ≤ 35; omega
  · show 0 + 8 ≤ 8; omega
  · show 0 + 2048 ≤ 2048; omega
theorem inb_copy (k : ℕ) (hk : k < 8) : ∀ a, (![k, 0, 0] : Fin 3 → Nat) a + S1x64x2048.size a ≤ S8x64x2048.size a := by
  intro a
  fin_cases a
  · show k + 1 ≤ 8; omega
  · show 0 + 64 ≤ 64; omega
  · show 0 + 2048 ≤ 2048; omega

theorem tap_piece (a5 : Memref sig .tc .vmem S31x2048 .f32) (h5 : a5.IsWhole) (x3 : Vec Ideal S31x2048 .f32)
    (x4 x5 x6 x7 : Vec Ideal S1x2048 .f32) (k : ℕ) (hk : k < 31)
    (inb : ∀ a, (![k, 0] : Fin 2 → Nat) a + S1x2048.size a ≤ S31x2048.size a)
    (inb' : ∀ a, (![k, 0, 0] : Fin 3 → Nat) a + S1x8x2048.size a ≤ S35x8x2048.size a) (z : S1x8x2048.Idx) :
    eight (View.readAt (Elt Ideal) a5.view (Rect.unit (s := S31x2048) ![k, 0] S1x2048.size inb).toLoadRect (h5.unread x3)) z
      = params x3 x4 x5 x6 x7 ((Rect.unit (s := S35x8x2048) ![k, 0, 0] S1x8x2048.size inb').emb z) := by
  rw [View.readAt_eq_ld, h5.read_unread]
  exact piece_tap x3 x4 x5 x6 x7 k hk inb inb' z

theorem row_piece (a : Memref sig .tc .vmem S1x2048 .f32) (h : a.IsWhole) (v : Vec Ideal S1x2048 .f32)
    (x3 : Vec Ideal S31x2048 .f32) (x4 x5 x6 x7 : Vec Ideal S1x2048 .f32) (k : ℕ)
    (hv : ∀ j, param x3 x4 x5 x6 x7 k j = v (ix2 0 j))
    (inb' : ∀ a, (![k, 0, 0] : Fin 3 → Nat) a + S1x8x2048.size a ≤ S35x8x2048.size a) (z : S1x8x2048.Idx) :
    eight (View.readAt (Elt Ideal) a.view (Rect.unit (s := S1x2048) ![0, 0] S1x2048.size inb_S1x2048_S1x2048_0_0).toLoadRect
        (h.unread v)) z
      = params x3 x4 x5 x6 x7 ((Rect.unit (s := S35x8x2048) ![k, 0, 0] S1x8x2048.size inb').emb z) := by
  rw [View.readAt_eq_ld, h.read_unread, View.ld_unit_zero (S := S1x2048) (funext hz)]
  exact piece_row x3 x4 x5 x6 x7 v k hv inb' z

section Cases

variable (c : Dev nD) (a2 : Memref sig .tc .vmem S32x2048 .f32) (h2 : a2.IsWhole)
  (a3 : Memref sig .tc .vmem S32x2048 .f32) (h3 : a3.IsWhole) (a4 : Memref sig .tc .vmem S1x32x2048 .f32) (h4 : a4.IsWhole)
  (a5 : Memref sig .tc .vmem S31x2048 .f32) (h5 : a5.IsWhole) (a6 : Memref sig .tc .vmem S1x2048 .f32) (h6 : a6.IsWhole)
  (a7 : Memref sig .tc .vmem S1x2048 .f32) (h7 : a7.IsWhole) (a8 : Memref sig .tc .vmem S1x2048 .f32) (h8 : a8.IsWhole)
  (a9 : Memref sig .tc .vmem S1x2048 .f32) (h9 : a9.IsWhole) (a12 : Memref sig .tc .vmem S8x64x2048 .f32)
  (x0 x1 : Vec Ideal S32x2048 .f32) (x2 : Vec Ideal S1x32x2048 .f32) (x3 : Vec Ideal S31x2048 .f32)
  (x4 x5 x6 x7 : Vec Ideal S1x2048 .f32)

/-- One row of taps, read from its window. -/
def tapRow (k : ℕ) (hk : k < 31) : Vec Ideal S1x2048 .f32 :=
  View.readAt (Elt Ideal) a5.view (Rect.unit (s := S31x2048) ![k, 0] S1x2048.size (inb_tap k hk)).toLoadRect (h5.unread x3)

theorem tap_rows (k : ℕ) (hk : k < 31) : ∀ z : S1x8x2048.Idx, eight (tapRow a5 h5 x3 k hk) z
    = params x3 x4 x5 x6 x7 ((Rect.unit (s := S35x8x2048) ![k, 0, 0] S1x8x2048.size (inb_row k (by omega))).emb z) :=
  tap_piece a5 h5 x3 x4 x5 x6 x7 k hk (inb_tap k hk) (inb_row k (by omega))

/-- The thirty-five rows, as pieces of the buffer. -/
def rows : List (View.Piece (Elt Ideal) S35x8x2048 .f32) :=
  [⟨Rect.unit ![34, 0, 0] S1x8x2048.size (inb_row 34 (by decide)), eight (View.readAt (Elt Ideal) a9.view
      (Rect.unit (s := S1x2048) ![0, 0] S1x2048.size inb_S1x2048_S1x2048_0_0).toLoadRect (h9.unread x7))⟩,
    ⟨Rect.unit ![33, 0, 0] S1x8x2048.size (inb_row 33 (by decide)), eight (View.readAt (Elt Ideal) a8.view
      (Rect.unit (s := S1x2048) ![0, 0] S1x2048.size inb_S1x2048_S1x2048_0_0).toLoadRect (h8.unread x6))⟩,
    ⟨Rect.unit ![32, 0, 0] S1x8x2048.size (inb_row 32 (by decide)), eight (View.readAt (Elt Ideal) a7.view
      (Rect.unit (s := S1x2048) ![0, 0] S1x2048.size inb_S1x2048_S1x2048_0_0).toLoadRect (h7.unread x5))⟩,
    ⟨Rect.unit ![31, 0, 0] S1x8x2048.size (inb_row 31 (by decide)), eight (View.readAt (Elt Ideal) a6.view
      (Rect.unit (s := S1x2048) ![0, 0] S1x2048.size inb_S1x2048_S1x2048_0_0).toLoadRect (h6.unread x4))⟩,
    ⟨Rect.unit ![30, 0, 0] S1x8x2048.size (inb_row 30 (by decide)), eight (tapRow a5 h5 x3 30 (by decide))⟩,
    ⟨Rect.unit ![29, 0, 0] S1x8x2048.size (inb_row 29 (by decide)), eight (tapRow a5 h5 x3 29 (by decide))⟩,
    ⟨Rect.unit ![28, 0, 0] S1x8x2048.size (inb_row 28 (by decide)), eight (tapRow a5 h5 x3 28 (by decide))⟩,
    ⟨Rect.unit ![27, 0, 0] S1x8x2048.size (inb_row 27 (by decide)), eight (tapRow a5 h5 x3 27 (by decide))⟩,
    ⟨Rect.unit ![26, 0, 0] S1x8x2048.size (inb_row 26 (by decide)), eight (tapRow a5 h5 x3 26 (by decide))⟩,
    ⟨Rect.unit ![25, 0, 0] S1x8x2048.size (inb_row 25 (by decide)), eight (tapRow a5 h5 x3 25 (by decide))⟩,
    ⟨Rect.unit ![24, 0, 0] S1x8x2048.size (inb_row 24 (by decide)), eight (tapRow a5 h5 x3 24 (by decide))⟩,
    ⟨Rect.unit ![23, 0, 0] S1x8x2048.size (inb_row 23 (by decide)), eight (tapRow a5 h5 x3 23 (by decide))⟩,
    ⟨Rect.unit ![22, 0, 0] S1x8x2048.size (inb_row 22 (by decide)), eight (tapRow a5 h5 x3 22 (by decide))⟩,
    ⟨Rect.unit ![21, 0, 0] S1x8x2048.size (inb_row 21 (by decide)), eight (tapRow a5 h5 x3 21 (by decide))⟩,
    ⟨Rect.unit ![20, 0, 0] S1x8x2048.size (inb_row 20 (by decide)), eight (tapRow a5 h5 x3 20 (by decide))⟩,
    ⟨Rect.unit ![19, 0, 0] S1x8x2048.size (inb_row 19 (by decide)), eight (tapRow a5 h5 x3 19 (by decide))⟩,
    ⟨Rect.unit ![18, 0, 0] S1x8x2048.size (inb_row 18 (by decide)), eight (tapRow a5 h5 x3 18 (by decide))⟩,
    ⟨Rect.unit ![17, 0, 0] S1x8x2048.size (inb_row 17 (by decide)), eight (tapRow a5 h5 x3 17 (by decide))⟩,
    ⟨Rect.unit ![16, 0, 0] S1x8x2048.size (inb_row 16 (by decide)), eight (tapRow a5 h5 x3 16 (by decide))⟩,
    ⟨Rect.unit ![15, 0, 0] S1x8x2048.size (inb_row 15 (by decide)), eight (tapRow a5 h5 x3 15 (by decide))⟩,
    ⟨Rect.unit ![14, 0, 0] S1x8x2048.size (inb_row 14 (by decide)), eight (tapRow a5 h5 x3 14 (by decide))⟩,
    ⟨Rect.unit ![13, 0, 0] S1x8x2048.size (inb_row 13 (by decide)), eight (tapRow a5 h5 x3 13 (by decide))⟩,
    ⟨Rect.unit ![12, 0, 0] S1x8x2048.size (inb_row 12 (by decide)), eight (tapRow a5 h5 x3 12 (by decide))⟩,
    ⟨Rect.unit ![11, 0, 0] S1x8x2048.size (inb_row 11 (by decide)), eight (tapRow a5 h5 x3 11 (by decide))⟩,
    ⟨Rect.unit ![10, 0, 0] S1x8x2048.size (inb_row 10 (by decide)), eight (tapRow a5 h5 x3 10 (by decide))⟩,
    ⟨Rect.unit ![9, 0, 0] S1x8x2048.size (inb_row 9 (by decide)), eight (tapRow a5 h5 x3 9 (by decide))⟩,
    ⟨Rect.unit ![8, 0, 0] S1x8x2048.size (inb_row 8 (by decide)), eight (tapRow a5 h5 x3 8 (by decide))⟩,
    ⟨Rect.unit ![7, 0, 0] S1x8x2048.size (inb_row 7 (by decide)), eight (tapRow a5 h5 x3 7 (by decide))⟩,
    ⟨Rect.unit ![6, 0, 0] S1x8x2048.size (inb_row 6 (by decide)), eight (tapRow a5 h5 x3 6 (by decide))⟩,
    ⟨Rect.unit ![5, 0, 0] S1x8x2048.size (inb_row 5 (by decide)), eight (tapRow a5 h5 x3 5 (by decide))⟩,
    ⟨Rect.unit ![4, 0, 0] S1x8x2048.size (inb_row 4 (by decide)), eight (tapRow a5 h5 x3 4 (by decide))⟩,
    ⟨Rect.unit ![3, 0, 0] S1x8x2048.size (inb_row 3 (by decide)), eight (tapRow a5 h5 x3 3 (by decide))⟩,
    ⟨Rect.unit ![2, 0, 0] S1x8x2048.size (inb_row 2 (by decide)), eight (tapRow a5 h5 x3 2 (by decide))⟩,
    ⟨Rect.unit ![1, 0, 0] S1x8x2048.size (inb_row 1 (by decide)), eight (tapRow a5 h5 x3 1 (by decide))⟩,
    ⟨Rect.unit ![0, 0, 0] S1x8x2048.size (inb_row 0 (by decide)), eight (tapRow a5 h5 x3 0 (by decide))⟩]

/-- Every row of parameters the first point writes is the buffer's row of that number. -/
theorem params_pieces : ∀ p ∈ rows a5 h5 a6 h6 a7 h7 a8 h8 a9 h9 x3 x4 x5 x6 x7,
    ∀ z : p.1.shape.Idx, p.2 z = params x3 x4 x5 x6 x7 (p.1.emb z) := by
  unfold rows
  refine List.forall_mem_cons.mpr ⟨row_piece a9 h9 x7 x3 x4 x5 x6 x7 34 (fun _ => rfl) (inb_row 34 (by decide)), ?_⟩
  refine List.forall_mem_cons.mpr ⟨row_piece a8 h8 x6 x3 x4 x5 x6 x7 33 (fun _ => rfl) (inb_row 33 (by decide)), ?_⟩
  refine List.forall_mem_cons.mpr ⟨row_piece a7 h7 x5 x3 x4 x5 x6 x7 32 (fun _ => rfl) (inb_row 32 (by decide)), ?_⟩
  refine List.forall_mem_cons.mpr ⟨row_piece a6 h6 x4 x3 x4 x5 x6 x7 31 (fun _ => rfl) (inb_row 31 (by decide)), ?_⟩
  refine List.forall_mem_cons.mpr ⟨tap_rows a5 h5 x3 x4 x5 x6 x7 30 (by decide), ?_⟩
  refine List.forall_mem_cons.mpr ⟨tap_rows a5 h5 x3 x4 x5 x6 x7 29 (by decide), ?_⟩
  refine List.forall_mem_cons.mpr ⟨tap_rows a5 h5 x3 x4 x5 x6 x7 28 (by decide), ?_⟩
  refine List.forall_mem_cons.mpr ⟨tap_rows a5 h5 x3 x4 x5 x6 x7 27 (by decide), ?_⟩
  refine List.forall_mem_cons.mpr ⟨tap_rows a5 h5 x3 x4 x5 x6 x7 26 (by decide), ?_⟩
  refine List.forall_mem_cons.mpr ⟨tap_rows a5 h5 x3 x4 x5 x6 x7 25 (by decide), ?_⟩
  refine List.forall_mem_cons.mpr ⟨tap_rows a5 h5 x3 x4 x5 x6 x7 24 (by decide), ?_⟩
  refine List.forall_mem_cons.mpr ⟨tap_rows a5 h5 x3 x4 x5 x6 x7 23 (by decide), ?_⟩
  refine List.forall_mem_cons.mpr ⟨tap_rows a5 h5 x3 x4 x5 x6 x7 22 (by decide), ?_⟩
  refine List.forall_mem_cons.mpr ⟨tap_rows a5 h5 x3 x4 x5 x6 x7 21 (by decide), ?_⟩
  refine List.forall_mem_cons.mpr ⟨tap_rows a5 h5 x3 x4 x5 x6 x7 20 (by decide), ?_⟩
  refine List.forall_mem_cons.mpr ⟨tap_rows a5 h5 x3 x4 x5 x6 x7 19 (by decide), ?_⟩
  refine List.forall_mem_cons.mpr ⟨tap_rows a5 h5 x3 x4 x5 x6 x7 18 (by decide), ?_⟩
  refine List.forall_mem_cons.mpr ⟨tap_rows a5 h5 x3 x4 x5 x6 x7 17 (by decide), ?_⟩
  refine List.forall_mem_cons.mpr ⟨tap_rows a5 h5 x3 x4 x5 x6 x7 16 (by decide), ?_⟩
  refine List.forall_mem_cons.mpr ⟨tap_rows a5 h5 x3 x4 x5 x6 x7 15 (by decide), ?_⟩
  refine List.forall_mem_cons.mpr ⟨tap_rows a5 h5 x3 x4 x5 x6 x7 14 (by decide), ?_⟩
  refine List.forall_mem_cons.mpr ⟨tap_rows a5 h5 x3 x4 x5 x6 x7 13 (by decide), ?_⟩
  refine List.forall_mem_cons.mpr ⟨tap_rows a5 h5 x3 x4 x5 x6 x7 12 (by decide), ?_⟩
  refine List.forall_mem_cons.mpr ⟨tap_rows a5 h5 x3 x4 x5 x6 x7 11 (by decide), ?_⟩
  refine List.forall_mem_cons.mpr ⟨tap_rows a5 h5 x3 x4 x5 x6 x7 10 (by decide), ?_⟩
  refine List.forall_mem_cons.mpr ⟨tap_rows a5 h5 x3 x4 x5 x6 x7 9 (by decide), ?_⟩
  refine List.forall_mem_cons.mpr ⟨tap_rows a5 h5 x3 x4 x5 x6 x7 8 (by decide), ?_⟩
  refine List.forall_mem_cons.mpr ⟨tap_rows a5 h5 x3 x4 x5 x6 x7 7 (by decide), ?_⟩
  refine List.forall_mem_cons.mpr ⟨tap_rows a5 h5 x3 x4 x5 x6 x7 6 (by decide), ?_⟩
  refine List.forall_mem_cons.mpr ⟨tap_rows a5 h5 x3 x4 x5 x6 x7 5 (by decide), ?_⟩
  refine List.forall_mem_cons.mpr ⟨tap_rows a5 h5 x3 x4 x5 x6 x7 4 (by decide), ?_⟩
  refine List.forall_mem_cons.mpr ⟨tap_rows a5 h5 x3 x4 x5 x6 x7 3 (by decide), ?_⟩
  refine List.forall_mem_cons.mpr ⟨tap_rows a5 h5 x3 x4 x5 x6 x7 2 (by decide), ?_⟩
  refine List.forall_mem_cons.mpr ⟨tap_rows a5 h5 x3 x4 x5 x6 x7 1 (by decide), ?_⟩
  refine List.forall_mem_cons.mpr ⟨tap_rows a5 h5 x3 x4 x5 x6 x7 0 (by decide), ?_⟩
  exact fun p hp => absurd hp List.not_mem_nil

/-- So the buffer holds the parameters after the first point. -/
theorem params_canon :
    View.canon (kernelRun0_A.sl.HS1_35 (F := Ideal) c a5 h5 a6 h6 a7 h7 a8 h8 a9 h9 x3 x4 x5 x6 x7)
      = params x3 x4 x5 x6 x7 := by
  show View.canon (rows a5 h5 a6 h6 a7 h7 a8 h8 a9 h9 x3 x4 x5 x6 x7) = params x3 x4 x5 x6 x7
  funext y
  refine View.canon_apply_of_pieces (Val := Elt Ideal) _ _ (params_pieces a5 h5 a6 h6 a7 h7 a8 h8 a9 h9 x3 x4 x5 x6 x7) y ?_
  exact View.cover_of_tiledL (rows a5 h5 a6 h6 a7 h7 a8 h8 a9 h9 x3 x4 x5 x6 x7)
    S1x8x2048.size (by sl_kernel_rfl) y

/-! ## The buffer of shifted copies -/

/-- The rows of a copy moved up by `64 − n`. -/
def moved (n : BitVec 32) (v : Vec Ideal S1x64x2048 .f32) : FVec Ideal S1x64x2048 .f32 :=
  shapeCast S1x64x2048 (dynamicRotate 0 n none (k0_pay46 v) rotates_S64x2048_d0) shapeCasts_S64x2048_S1x64x2048

theorem moved_apply (n : BitVec 32) (v : Vec Ideal S1x64x2048 .f32) (z : S1x64x2048.Idx) :
    moved n v z = v (ix3 0 (⟨((z 1).val + 64 - n.toNat % 64) % 64, Nat.mod_lt _ (by decide)⟩ : Fin 64) (z 2)) := by
  unfold moved
  pointwise [k0_pay46]

theorem moved_piece (s : ℕ) (hs : s < 8) (hs0 : 0 < s) (n : BitVec 32) (hn : n.toNat = 64 - s) (v : Vec Ideal S1x64x2048 .f32)
    (hv : ∀ z, v z = padded x0 x1 x2 (z 1).val (z 2))
    (inb : ∀ a, (![s, 0, 0] : Fin 3 → Nat) a + S1x64x2048.size a ≤ S8x64x2048.size a) (z : S1x64x2048.Idx) :
    moved n v z = shifted x0 x1 x2 ((Rect.unit (s := S8x64x2048) ![s, 0, 0] S1x64x2048.size inb).emb z) := by
  rw [moved_apply, hv]
  unfold shifted
  have z0 : (z 0).val < 1 := (z 0).isLt
  have z1 : (z 1).val < 64 := (z 1).isLt
  refine padded_congr x0 x1 x2 ?_ ?_
  · show ((z 1).val + 64 - n.toNat % 64) % 64 % 64 = ((s + 1 * (z 0).val) + (0 + 1 * (z 1).val)) % 64
    rw [hn]; omega
  · show (z 2).val = 0 + 1 * (z 2).val; omega

theorem first_half (v : Vec Ideal S1x32x2048 .f32) (hv : v = x2) (z : S1x32x2048.Idx) :
    k0_pay42 v z = shifted x0 x1 x2 ((Rect.unit (s := S8x64x2048) ![0, 0, 0] S1x32x2048.size
      inb_S8x64x2048_S1x32x2048_0_0_0).emb z) := by
  subst hv
  have z0 : (z 0).val < 1 := (z 0).isLt
  have z1 : (z 1).val < 32 := (z 1).isLt
  have e : k0_pay42 (F := Ideal) v z = v z := by pointwise [k0_pay42]
  rw [e]
  unfold shifted padded
  have e1 : ((Rect.unit (s := S8x64x2048) ![0, 0, 0] S1x32x2048.size inb_S8x64x2048_S1x32x2048_0_0_0).emb z 0).val
      + ((Rect.unit (s := S8x64x2048) ![0, 0, 0] S1x32x2048.size inb_S8x64x2048_S1x32x2048_0_0_0).emb z 1).val = (z 1).val := by
    show (0 + 1 * (z 0).val) + (0 + 1 * (z 1).val) = _; omega
  simp only [e1]
  rw [if_pos (by omega)]
  refine congrArg v (funext fun a => Fin.ext ?_)
  fin_cases a
  · show (z 0).val = 0; omega
  · show (z 1).val = (z 1).val % 32; omega
  · show (z 2).val = 0 + 1 * (z 2).val; omega

theorem second_half (v w : Vec Ideal S32x2048 .f32) (hv : v = x0) (hw : w = x1) (z : S1x32x2048.Idx) :
    k0_pay45 v w z = shifted x0 x1 x2 ((Rect.unit (s := S8x64x2048) ![0, 32, 0] S1x32x2048.size
      inb_S8x64x2048_S1x32x2048_0_32_0).emb z) := by
  subst hv; subst hw
  have z0 : (z 0).val < 1 := (z 0).isLt
  have z1 : (z 1).val < 32 := (z 1).isLt
  have e : k0_pay45 (F := Ideal) v w z = gated v w (ix2 (⟨(z 1).val, z1⟩ : Fin 32) (z 2)) := by
    unfold gated
    pointwise [k0_pay45]
  rw [e]
  unfold shifted padded
  have e1 : ((Rect.unit (s := S8x64x2048) ![0, 32, 0] S1x32x2048.size inb_S8x64x2048_S1x32x2048_0_32_0).emb z 0).val
      + ((Rect.unit (s := S8x64x2048) ![0, 32, 0] S1x32x2048.size inb_S8x64x2048_S1x32x2048_0_32_0).emb z 1).val
        = 32 + (z 1).val := by
    show (0 + 1 * (z 0).val) + (32 + 1 * (z 1).val) = _; omega
  simp only [e1]
  rw [if_neg (by omega)]
  refine congrArg (gated v w) (ix2_congr ?_ ?_)
  · show (z 1).val = (32 + (z 1).val) % 32; omega
  · show (z 2).val = 0 + 1 * (z 2).val; omega

/-- The two halves of the first copy, read back as one. -/
theorem whole_copy (p q : Vec Ideal S1x32x2048 .f32)
    (hp : ∀ z, p z = shifted x0 x1 x2 ((Rect.unit (s := S8x64x2048) ![0, 32, 0] S1x32x2048.size
      inb_S8x64x2048_S1x32x2048_0_32_0).emb z))
    (hq : ∀ z, q z = shifted x0 x1 x2 ((Rect.unit (s := S8x64x2048) ![0, 0, 0] S1x32x2048.size
      inb_S8x64x2048_S1x32x2048_0_0_0).emb z)) (z : S1x64x2048.Idx) :
    a12.view.readCov (Val := Elt Ideal)
        [⟨Rect.unit ![0, 32, 0] S1x32x2048.size inb_S8x64x2048_S1x32x2048_0_32_0, p⟩,
          ⟨Rect.unit ![0, 0, 0] S1x32x2048.size inb_S8x64x2048_S1x32x2048_0_0_0, q⟩]
        (Rect.unit (s := S8x64x2048) ![0, 0, 0] S1x64x2048.size inb_S8x64x2048_S1x64x2048_0_0_0).toLoadRect z
      = padded x0 x1 x2 (z 1).val (z 2) := by
  have z0 : (z 0).val < 1 := (z 0).isLt
  have z1 : (z 1).val < 64 := (z 1).isLt
  have z2 : (z 2).val < 2048 := (z 2).isLt
  rw [View.readCov_eq_canon']
  refine (View.canon_apply_of_pieces (Val := Elt Ideal) (shifted x0 x1 x2) _ ?_ _ ?_).trans ?_
  · refine List.forall_mem_cons.mpr ⟨hp, ?_⟩
    refine List.forall_mem_cons.mpr ⟨hq, ?_⟩
    exact fun p hp => absurd hp List.not_mem_nil
  · by_cases h : (z 1).val < 32
    · refine ⟨_, List.mem_cons_of_mem _ List.mem_cons_self, ?_⟩
      rw [Rect.mem_set_unit]
      intro a
      fin_cases a
      · show 0 ≤ 0 + 1 * (z 0).val ∧ 0 + 1 * (z 0).val < 0 + 1; omega
      · show 0 ≤ 0 + 1 * (z 1).val ∧ 0 + 1 * (z 1).val < 0 + 32; omega
      · show 0 ≤ 0 + 1 * (z 2).val ∧ 0 + 1 * (z 2).val < 0 + 2048; omega
    · refine ⟨_, List.mem_cons_self, ?_⟩
      rw [Rect.mem_set_unit]
      intro a
      fin_cases a
      · show 0 ≤ 0 + 1 * (z 0).val ∧ 0 + 1 * (z 0).val < 0 + 1; omega
      · show 32 ≤ 0 + 1 * (z 1).val ∧ 0 + 1 * (z 1).val < 32 + 32; omega
      · show 0 ≤ 0 + 1 * (z 2).val ∧ 0 + 1 * (z 2).val < 0 + 2048; omega
  · unfold shifted
    refine padded_congr x0 x1 x2 ?_ ?_
    · show ((0 + 1 * (z 0).val) + (0 + 1 * (z 1).val)) % 64 = (z 1).val % 64; congr 1; omega
    · show 0 + 1 * (z 2).val = (z 2).val; omega

/-- The eight copies, as pieces of the buffer. -/
def copies (v : Vec Ideal S1x64x2048 .f32) (p q : Vec Ideal S1x32x2048 .f32) : List (View.Piece (Elt Ideal) S8x64x2048 .f32) :=
  ⟨Rect.unit ![7, 0, 0] S1x64x2048.size (inb_copy 7 (by decide)), moved 57#32 v⟩ ::
  ⟨Rect.unit ![6, 0, 0] S1x64x2048.size (inb_copy 6 (by decide)), moved 58#32 v⟩ ::
  ⟨Rect.unit ![5, 0, 0] S1x64x2048.size (inb_copy 5 (by decide)), moved 59#32 v⟩ ::
  ⟨Rect.unit ![4, 0, 0] S1x64x2048.size (inb_copy 4 (by decide)), moved 60#32 v⟩ ::
  ⟨Rect.unit ![3, 0, 0] S1x64x2048.size (inb_copy 3 (by decide)), moved 61#32 v⟩ ::
  ⟨Rect.unit ![2, 0, 0] S1x64x2048.size (inb_copy 2 (by decide)), moved 62#32 v⟩ ::
  ⟨Rect.unit ![1, 0, 0] S1x64x2048.size (inb_copy 1 (by decide)), moved 63#32 v⟩ ::
  [⟨Rect.unit ![0, 32, 0] S1x32x2048.size inb_S8x64x2048_S1x32x2048_0_32_0, p⟩,
    ⟨Rect.unit ![0, 0, 0] S1x32x2048.size inb_S8x64x2048_S1x32x2048_0_0_0, q⟩]

theorem copies_canon (v : Vec Ideal S1x64x2048 .f32) (p q : Vec Ideal S1x32x2048 .f32)
    (hv : ∀ z, v z = padded x0 x1 x2 (z 1).val (z 2))
    (hp : ∀ z, p z = shifted x0 x1 x2 ((Rect.unit (s := S8x64x2048) ![0, 32, 0] S1x32x2048.size
      inb_S8x64x2048_S1x32x2048_0_32_0).emb z))
    (hq : ∀ z, q z = shifted x0 x1 x2 ((Rect.unit (s := S8x64x2048) ![0, 0, 0] S1x32x2048.size
      inb_S8x64x2048_S1x32x2048_0_0_0).emb z)) :
    View.canon (copies v p q) = shifted x0 x1 x2 := by
  funext y
  have y0 : (y 0).val < 8 := (y 0).isLt
  have y1 : (y 1).val < 64 := (y 1).isLt
  have y2 : (y 2).val < 2048 := (y 2).isLt
  refine View.canon_apply_of_pieces (Val := Elt Ideal) (shifted x0 x1 x2) _ ?_ _ ?_
  · unfold copies
    refine List.forall_mem_cons.mpr ⟨moved_piece x0 x1 x2 7 (by decide) (by decide) 57#32 rfl v hv (inb_copy 7 (by decide)), ?_⟩
    refine List.forall_mem_cons.mpr ⟨moved_piece x0 x1 x2 6 (by decide) (by decide) 58#32 rfl v hv (inb_copy 6 (by decide)), ?_⟩
    refine List.forall_mem_cons.mpr ⟨moved_piece x0 x1 x2 5 (by decide) (by decide) 59#32 rfl v hv (inb_copy 5 (by decide)), ?_⟩
    refine List.forall_mem_cons.mpr ⟨moved_piece x0 x1 x2 4 (by decide) (by decide) 60#32 rfl v hv (inb_copy 4 (by decide)), ?_⟩
    refine List.forall_mem_cons.mpr ⟨moved_piece x0 x1 x2 3 (by decide) (by decide) 61#32 rfl v hv (inb_copy 3 (by decide)), ?_⟩
    refine List.forall_mem_cons.mpr ⟨moved_piece x0 x1 x2 2 (by decide) (by decide) 62#32 rfl v hv (inb_copy 2 (by decide)), ?_⟩
    refine List.forall_mem_cons.mpr ⟨moved_piece x0 x1 x2 1 (by decide) (by decide) 63#32 rfl v hv (inb_copy 1 (by decide)), ?_⟩
    refine List.forall_mem_cons.mpr ⟨hp, ?_⟩
    refine List.forall_mem_cons.mpr ⟨hq, ?_⟩
    exact fun p hp => absurd hp List.not_mem_nil
  · have at_slot : ∀ (s : ℕ) (inb : ∀ a, (![s, 0, 0] : Fin 3 → Nat) a + S1x64x2048.size a ≤ S8x64x2048.size a),
        (y 0).val = s → y ∈ (Rect.unit (s := S8x64x2048) ![s, 0, 0] S1x64x2048.size inb).set := fun s inb h => by
      rw [Rect.mem_set_unit]
      intro a
      fin_cases a
      · show s ≤ (y 0).val ∧ (y 0).val < s + 1; omega
      · show 0 ≤ (y 1).val ∧ (y 1).val < 0 + 64; omega
      · show 0 ≤ (y 2).val ∧ (y 2).val < 0 + 2048; omega
    unfold copies
    by_cases h7 : (y 0).val = 7
    · exact ⟨_, List.mem_cons_self, at_slot 7 (inb_copy 7 (by decide)) h7⟩
    by_cases h6 : (y 0).val = 6
    · exact ⟨_, (List.mem_cons_of_mem _ List.mem_cons_self), at_slot 6 (inb_copy 6 (by decide)) h6⟩
    by_cases h5 : (y 0).val = 5
    · exact ⟨_, (List.mem_cons_of_mem _ (List.mem_cons_of_mem _ List.mem_cons_self)), at_slot 5 (inb_copy 5 (by decide)) h5⟩
    by_cases h4 : (y 0).val = 4
    · exact ⟨_, (List.mem_cons_of_mem _ (List.mem_cons_of_mem _ (List.mem_cons_of_mem _ List.mem_cons_self))), at_slot 4 (inb_copy 4 (by decide)) h4⟩
    by_cases h3 : (y 0).val = 3
    · exact ⟨_, (List.mem_cons_of_mem _ (List.mem_cons_of_mem _ (List.mem_cons_of_mem _ (List.mem_cons_of_mem _ List.mem_cons_self)))), at_slot 3 (inb_copy 3 (by decide)) h3⟩
    by_cases h2 : (y 0).val = 2
    · exact ⟨_, (List.mem_cons_of_mem _ (List.mem_cons_of_mem _ (List.mem_cons_of_mem _ (List.mem_cons_of_mem _ (List.mem_cons_of_mem _ List.mem_cons_self))))), at_slot 2 (inb_copy 2 (by decide)) h2⟩
    by_cases h1 : (y 0).val = 1
    · exact ⟨_, (List.mem_cons_of_mem _ (List.mem_cons_of_mem _ (List.mem_cons_of_mem _ (List.mem_cons_of_mem _ (List.mem_cons_of_mem _ (List.mem_cons_of_mem _ List.mem_cons_self)))))), at_slot 1 (inb_copy 1 (by decide)) h1⟩
    by_cases h : (y 1).val < 32
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
      rw [Rect.mem_set_unit]
      intro a
      fin_cases a
      · show 0 ≤ (y 0).val ∧ (y 0).val < 0 + 1; omega
      · show 0 ≤ (y 1).val ∧ (y 1).val < 0 + 32; omega
      · show 0 ≤ (y 2).val ∧ (y 2).val < 0 + 2048; omega
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      rw [Rect.mem_set_unit]
      intro a
      fin_cases a
      · show 0 ≤ (y 0).val ∧ (y 0).val < 0 + 1; omega
      · show 32 ≤ (y 1).val ∧ (y 1).val < 32 + 32; omega
      · show 0 ≤ (y 2).val ∧ (y 2).val < 0 + 2048; omega

theorem shifted_canon_A :
    View.canon (kernelRun0_A.sl.HS0_9 (F := Ideal) c a2 h2 a3 h3 a4 h4 a12 x0 x1 x2) = shifted x0 x1 x2 := by
  have e2 : View.readAt (Elt Ideal) a2.view (Rect.unit ![0, 0] S32x2048.size inb_S32x2048_S32x2048_0_0).toLoadRect (h2.unread x0)
      = x0 := by rw [View.readAt_eq_ld, h2.read_unread, View.ld_unit_zero (S := S32x2048) (funext hz)]
  have e3 : View.readAt (Elt Ideal) a3.view (Rect.unit ![0, 0] S32x2048.size inb_S32x2048_S32x2048_0_0).toLoadRect (h3.unread x1)
      = x1 := by rw [View.readAt_eq_ld, h3.read_unread, View.ld_unit_zero (S := S32x2048) (funext hz)]
  have e4 : View.readAt (Elt Ideal) a4.view (Rect.unit ![0, 0, 0] S1x32x2048.size inb_S1x32x2048_S1x32x2048_0_0_0).toLoadRect
      (h4.unread x2) = x2 := by rw [View.readAt_eq_ld, h4.read_unread, View.ld_unit_zero (S := S1x32x2048) (funext hz3)]
  have hp := second_half x0 x1 x2 _ _ e2 e3
  have hq := first_half x0 x1 x2 _ e4
  exact copies_canon x0 x1 x2 (kernelRun0_A.sl.v19 c a2 h2 a3 h3 a4 h4 a12 x0 x1 x2) _ _
    (whole_copy a12 x0 x1 x2 _ _ hp hq) hp hq

theorem shifted_canon_B :
    View.canon (kernelRun0_B.sl.HS0_9 (F := Ideal) c a2 h2 a3 h3 a4 h4 a12 x0 x1 x2) = shifted x0 x1 x2 := by
  have e2 : View.readAt (Elt Ideal) a2.view (Rect.unit ![0, 0] S32x2048.size inb_S32x2048_S32x2048_0_0).toLoadRect (h2.unread x0)
      = x0 := by rw [View.readAt_eq_ld, h2.read_unread, View.ld_unit_zero (S := S32x2048) (funext hz)]
  have e3 : View.readAt (Elt Ideal) a3.view (Rect.unit ![0, 0] S32x2048.size inb_S32x2048_S32x2048_0_0).toLoadRect (h3.unread x1)
      = x1 := by rw [View.readAt_eq_ld, h3.read_unread, View.ld_unit_zero (S := S32x2048) (funext hz)]
  have e4 : View.readAt (Elt Ideal) a4.view (Rect.unit ![0, 0, 0] S1x32x2048.size inb_S1x32x2048_S1x32x2048_0_0_0).toLoadRect
      (h4.unread x2) = x2 := by rw [View.readAt_eq_ld, h4.read_unread, View.ld_unit_zero (S := S1x32x2048) (funext hz3)]
  have hp := second_half x0 x1 x2 _ _ e2 e3
  have hq := first_half x0 x1 x2 _ e4
  exact copies_canon x0 x1 x2 (kernelRun0_B.sl.v19 c a2 h2 a3 h3 a4 h4 a12 x0 x1 x2) _ _
    (whole_copy a12 x0 x1 x2 _ _ hp hq) hp hq

end Cases

end Cert.ConvSampleKernelIdeal.ConvTile

end
-- ==== Proof.ConvSampleValue.lean ====
/- The convolution module of the samples: the arrays the program leaves, element by element. Each point takes one stream: it
   gates its rows, puts them after the stream's history, and for each of its rows adds the products of thirty-one padded rows
   with the taps, normalises the sum, and normalises once more after the activation. -/
module

public import proofs.«01_k».proof.Proof.ConvSampleTile
public import Idealize.ShloMosaic.Lib.StableHlo.Run

@[expose] public section

set_option maxRecDepth 16384
set_option maxHeartbeats 4000000

noncomputable section

open Idealize.ShloMosaic Idealize.ShloMosaic.TcCoe Idealize.SL.Sem

namespace Cert.ConvSampleKernelIdeal.ConvValue

open Cert.ConvSampleKernelIdeal Cert.ConvSampleKernelIdeal.Gen Cert.ConvSampleKernelIdeal.ConvTile Cert.Rows

/-- The row length, and what is added under the roots. -/
abbrev rowLen : EReal := Ideal.ofBits FTy.f32 0x45000000#32
abbrev eps : EReal := Ideal.ofBits FTy.f32 0x358637BD#32

/-! ## A row -/

/-- The mean of a row, a row less its mean, and the row normalised. -/
def mean (a : Fin 2048 → EReal) : EReal := Ideal.div (∑ k, a k) rowLen
def centred (a : Fin 2048 → EReal) (j : Fin 2048) : EReal := a j - mean a
def lnRow (a g b : Fin 2048 → EReal) (j : Fin 2048) : EReal := centred a j * scale rowLen eps (centred a) * g j + b j
/-- The activation: a number times its logistic. -/
def act (y : EReal) : EReal := y * Ideal.logistic y
/-- What becomes of a row of sums. -/
def outRow (a g b h : Fin 2048 → EReal) (j : Fin 2048) : EReal :=
  act (lnRow a g b j) * scale rowLen eps (fun k => act (lnRow a g b k)) * h j

/-! ## Eight rows at a time -/

/-- Eight rows as a matrix. -/
abbrev mat (v : Vec Ideal S1x8x2048 .f32) : FVec Ideal S8x2048 .f32 := shapeCast S8x2048 v shapeCasts_S1x8x2048_S8x2048

/-- The sum of `n` products over a bias. -/
def acc (p l : ℕ → Vec Ideal S1x8x2048 .f32) : ℕ → FVec Ideal S8x2048 .f32
  | 0 => mat (p 31)
  | n + 1 => addf (acc p l n) (mulf (mat (l n)) (mat (p n)))

/-- The sum of squares of each row over the row length, and the reciprocal root of that. -/
def meanOf (v : FVec Ideal S8x2048 .f32) : FVec Ideal S8x1 .f32 :=
  divf (shapeCast S8x1 (multiReduction .add [1] S8 v 0x00000000#32 reduces_S8x2048_S8 (.inl rfl) rfl) shapeCasts_S8_S8x1)
    (broadcast S8x1 (Scalar.ofBits .f32 0x45000000#32))
def rootOf (v : FVec Ideal S8x2048 .f32) : FVec Ideal S8x2048 .f32 :=
  broadcastTo S8x2048 (rsqrt (addf (meanOf (mulf v v)) (broadcast S8x1 (Scalar.ofBits .f32 0x358637BD#32)))) broadcasts_S8x1_S8x2048
def centredOf (v : FVec Ideal S8x2048 .f32) : FVec Ideal S8x2048 .f32 :=
  subf v (broadcastTo S8x2048 (meanOf v) broadcasts_S8x1_S8x2048)
def lnOf (v g b : FVec Ideal S8x2048 .f32) : FVec Ideal S8x2048 .f32 :=
  addf (mulf (mulf (centredOf v) (rootOf (centredOf v))) g) b
def actOf (v : FVec Ideal S8x2048 .f32) : FVec Ideal S8x2048 .f32 := mulf v (logistic v)
def tail (v g b h : FVec Ideal S8x2048 .f32) : FVec Ideal S8x2048 .bf16 :=
  truncf .bf16 (mulf (mulf (actOf (lnOf v g b)) (rootOf (actOf (lnOf v g b)))) h) bitsLt_bf16_f32

theorem acc_apply (p l : ℕ → Vec Ideal S1x8x2048 .f32) (z : S8x2048.Idx) : ∀ n, acc p l n z
    = (∑ k ∈ Finset.range n, l k (ix3 0 (z 0) (z 1)) * p k (ix3 0 (z 0) (z 1))) + p 31 (ix3 0 (z 0) (z 1))
  | 0 => by
    unfold acc
    rw [Finset.sum_range_zero, zero_add]
    pointwise
  | n + 1 => by
    unfold acc
    rw [Finset.sum_range_succ]
    have e : ∀ v : Vec Ideal S1x8x2048 .f32, mat v z = v (ix3 0 (z 0) (z 1)) := fun v => by pointwise
    show acc p l n z + mat (l n) z * mat (p n) z = _
    rw [acc_apply p l z n, e, e]
    exact add_right_comm _ _ _

theorem centredOf_apply (v : FVec Ideal S8x2048 .f32) (z : S8x2048.Idx) :
    centredOf v z = centred (fun k => v (ix2 (z 0) k)) (z 1) := by
  unfold centredOf centred mean meanOf
  pointwise
theorem rootOf_apply (v : FVec Ideal S8x2048 .f32) (z : S8x2048.Idx) :
    rootOf v z = scale rowLen eps (fun k => v (ix2 (z 0) k)) := by
  unfold rootOf scale meanOf
  pointwise
theorem at_self {e : EltTy} (v : (S8x2048.Idx → Elt Ideal e)) (z : S8x2048.Idx) : v (ix2 (z 0) (z 1)) = v z :=
  congrArg v (ix2_congr rfl rfl)
theorem lnOf_apply (v g b : FVec Ideal S8x2048 .f32) (z : S8x2048.Idx) :
    lnOf v g b z = lnRow (fun k => v (ix2 (z 0) k)) (fun k => g (ix2 (z 0) k)) (fun k => b (ix2 (z 0) k)) (z 1) := by
  unfold lnOf lnRow
  show centredOf v z * rootOf (centredOf v) z * g z + b z = _
  rw [rootOf_apply, centredOf_apply]
  simp only [centredOf_apply]
  exact congr (congrArg _ (congrArg _ (at_self (e := .f32) g z).symm)) (at_self (e := .f32) b z).symm
theorem tail_apply (v g b h : FVec Ideal S8x2048 .f32) (z : S8x2048.Idx) :
    tail v g b h z = outRow (fun k => v (ix2 (z 0) k)) (fun k => g (ix2 (z 0) k)) (fun k => b (ix2 (z 0) k))
      (fun k => h (ix2 (z 0) k)) (z 1) := by
  have e : ∀ y, actOf (lnOf v g b) y = act (lnRow (fun k => v (ix2 (y 0) k)) (fun k => g (ix2 (y 0) k)) (fun k => b (ix2 (y 0) k)) (y 1)) :=
    fun y => by show lnOf v g b y * Ideal.logistic (lnOf v g b y) = _; rw [lnOf_apply]; rfl
  show actOf (lnOf v g b) z * rootOf (actOf (lnOf v g b)) z * h z = _
  rw [rootOf_apply, e]
  simp only [e]
  exact congrArg _ (at_self (e := .f32) h z).symm

/-! ## The four groups of eight rows -/

theorem inb_at (r k : ℕ) (hr : r ≤ 24) :
    ∀ a, (![(2 + k) % 8, r + (2 + k) / 8 % 5 * 8, 0] : Fin 3 → Nat) a + S1x8x2048.size a ≤ S8x64x2048.size a := by
  intro a
  fin_cases a
  · show (2 + k) % 8 + 1 ≤ 8; omega
  · show (r + (2 + k) / 8 % 5 * 8) + 8 ≤ 64; omega
  · show 0 + 2048 ≤ 2048; omega

section Cases

variable (c : Dev nD) (i : grid0.Coords) (a2 : Memref sig .tc .vmem S32x2048 .f32) (h2 : a2.IsWhole)
  (a3 : Memref sig .tc .vmem S32x2048 .f32) (h3 : a3.IsWhole) (a4 : Memref sig .tc .vmem S1x32x2048 .f32) (h4 : a4.IsWhole)
  (a5 : Memref sig .tc .vmem S31x2048 .f32) (h5 : a5.IsWhole) (a6 : Memref sig .tc .vmem S1x2048 .f32) (h6 : a6.IsWhole)
  (a7 : Memref sig .tc .vmem S1x2048 .f32) (h7 : a7.IsWhole) (a8 : Memref sig .tc .vmem S1x2048 .f32) (h8 : a8.IsWhole)
  (a9 : Memref sig .tc .vmem S1x2048 .f32) (h9 : a9.IsWhole) (a10 : Memref sig .tc .vmem S32x2048 .f32) (h10 : a10.IsWhole)
  (a11 : Memref sig .tc .vmem S32x2048 .bf16) (h11 : a11.IsWhole)
  (a12 : Memref sig .tc .vmem S8x64x2048 .f32) (h12 : a12.IsWhole) (a13 : Memref sig .tc .vmem S35x8x2048 .f32) (h13 : a13.IsWhole)
  (x0 x1 : Vec Ideal S32x2048 .f32) (x2 : Vec Ideal S1x32x2048 .f32) (x3 : Vec Ideal S31x2048 .f32)
  (x4 x5 x6 x7 : Vec Ideal S1x2048 .f32) (xs1 : Vec Ideal S35x8x2048 .f32)

/-- A row of parameters, and the eight rows a tap is multiplied with, as the later points read them. -/
def parB (k : ℕ) : Vec Ideal S1x8x2048 .f32 :=
  View.readAt (Elt Ideal) a13.view (Rect.unit (s := S35x8x2048) ![k % 35, 0, 0] S1x8x2048.size
    (inb_row (k % 35) (Nat.mod_lt _ (by decide)))).toLoadRect (h13.unread xs1)
def rowsB (r : ℕ) (hr : r ≤ 24) (k : ℕ) : Vec Ideal S1x8x2048 .f32 :=
  a12.view.readCov (kernelRun0_B.sl.HS0_9 (F := Ideal) c a2 h2 a3 h3 a4 h4 a12 x0 x1 x2)
    (Rect.unit (s := S8x64x2048) ![(2 + k) % 8, r + (2 + k) / 8 % 5 * 8, 0] S1x8x2048.size (inb_at r k hr)).toLoadRect

def parA (k : ℕ) : Vec Ideal S1x8x2048 .f32 :=
  a13.view.readCov (kernelRun0_A.sl.HS1_35 (F := Ideal) c a5 h5 a6 h6 a7 h7 a8 h8 a9 h9 x3 x4 x5 x6 x7)
    (Rect.unit (s := S35x8x2048) ![k % 35, 0, 0] S1x8x2048.size (inb_row (k % 35) (Nat.mod_lt _ (by decide)))).toLoadRect
def rowsA (r : ℕ) (hr : r ≤ 24) (k : ℕ) : Vec Ideal S1x8x2048 .f32 :=
  a12.view.readCov (kernelRun0_A.sl.HS0_9 (F := Ideal) c a2 h2 a3 h3 a4 h4 a12 x0 x1 x2)
    (Rect.unit (s := S8x64x2048) ![(2 + k) % 8, r + (2 + k) / 8 % 5 * 8, 0] S1x8x2048.size (inb_at r k hr)).toLoadRect

theorem parB_apply (k : ℕ) (hk : k < 35) (hs : xs1 = params x3 x4 x5 x6 x7) (z : S1x8x2048.Idx) :
    parB a13 h13 xs1 k z = param x3 x4 x5 x6 x7 k (z 2) := by
  unfold parB
  rw [View.readAt_eq_ld, h13.read_unread, hs]
  have z0 : (z 0).val < 1 := (z 0).isLt
  show param x3 x4 x5 x6 x7 (k % 35 + 1 * (z 0).val) _ = _
  rw [show k % 35 + 1 * (z 0).val = k by omega]
  exact congrArg (param x3 x4 x5 x6 x7 k) (Fin.ext (by show 0 + 1 * (z 2).val = (z 2).val; omega))

theorem parA_apply (k : ℕ) (hk : k < 35) (z : S1x8x2048.Idx) :
    parA c a5 h5 a6 h6 a7 h7 a8 h8 a9 h9 a13 x3 x4 x5 x6 x7 k z = param x3 x4 x5 x6 x7 k (z 2) := by
  unfold parA
  rw [View.readCov_eq_canon', params_canon]
  have z0 : (z 0).val < 1 := (z 0).isLt
  show param x3 x4 x5 x6 x7 (k % 35 + 1 * (z 0).val) _ = _
  rw [show k % 35 + 1 * (z 0).val = k by omega]
  exact congrArg (param x3 x4 x5 x6 x7 k) (Fin.ext (by show 0 + 1 * (z 2).val = (z 2).val; omega))

theorem rowsA_apply (r : ℕ) (hr : r ≤ 24) (k : ℕ) (hk : k < 31) (z : S1x8x2048.Idx) :
    rowsA c a2 h2 a3 h3 a4 h4 a12 x0 x1 x2 r hr k z = padded x0 x1 x2 (r + (z 1).val + 2 + k) (z 2) := by
  unfold rowsA
  rw [View.readCov_eq_canon', shifted_canon_A]
  have z0 : (z 0).val < 1 := (z 0).isLt
  have z1 : (z 1).val < 8 := (z 1).isLt
  refine padded_congr x0 x1 x2 ?_ ?_
  · show (((2 + k) % 8 + 1 * (z 0).val) + ((r + (2 + k) / 8 % 5 * 8) + 1 * (z 1).val)) % 64 = (r + (z 1).val + 2 + k) % 64
    congr 1
    omega
  · show 0 + 1 * (z 2).val = (z 2).val; omega

theorem rowsB_apply (r : ℕ) (hr : r ≤ 24) (k : ℕ) (hk : k < 31) (z : S1x8x2048.Idx) :
    rowsB c a2 h2 a3 h3 a4 h4 a12 x0 x1 x2 r hr k z = padded x0 x1 x2 (r + (z 1).val + 2 + k) (z 2) := by
  unfold rowsB
  rw [View.readCov_eq_canon', shifted_canon_B]
  have z0 : (z 0).val < 1 := (z 0).isLt
  have z1 : (z 1).val < 8 := (z 1).isLt
  refine padded_congr x0 x1 x2 ?_ ?_
  · show (((2 + k) % 8 + 1 * (z 0).val) + ((r + (2 + k) / 8 % 5 * 8) + 1 * (z 1).val)) % 64 = (r + (z 1).val + 2 + k) % 64
    congr 1
    omega
  · show 0 + 1 * (z 2).val = (z 2).val; omega

/-- The four groups, as pieces of the second result's block. -/
def groups (p : ℕ → Vec Ideal S1x8x2048 .f32) (l : (r : ℕ) → r ≤ 24 → ℕ → Vec Ideal S1x8x2048 .f32) :
    List (View.Piece (Elt Ideal) S32x2048 .bf16) :=
  [⟨Rect.unit ![24, 0] S8x2048.size inb_S32x2048_S8x2048_24_0, tail (acc p (l 24 (by decide)) 31) (mat (p 32)) (mat (p 33)) (mat (p 34))⟩,
    ⟨Rect.unit ![16, 0] S8x2048.size inb_S32x2048_S8x2048_16_0, tail (acc p (l 16 (by decide)) 31) (mat (p 32)) (mat (p 33)) (mat (p 34))⟩,
    ⟨Rect.unit ![8, 0] S8x2048.size inb_S32x2048_S8x2048_8_0, tail (acc p (l 8 (by decide)) 31) (mat (p 32)) (mat (p 33)) (mat (p 34))⟩,
    ⟨Rect.unit ![0, 0] S8x2048.size inb_S32x2048_S8x2048_0_0, tail (acc p (l 0 (by decide)) 31) (mat (p 32)) (mat (p 33)) (mat (p 34))⟩]

/-- The second result's block. -/
def convBlock : Vec Ideal S32x2048 .bf16 := fun y =>
  outRow (fun j => (∑ k ∈ Finset.range 31, padded x0 x1 x2 ((y 0).val + 2 + k) j * param x3 x4 x5 x6 x7 k j)
      + param x3 x4 x5 x6 x7 31 j)
    (param x3 x4 x5 x6 x7 32) (param x3 x4 x5 x6 x7 33) (param x3 x4 x5 x6 x7 34) (y 1)

theorem group_apply (p : ℕ → Vec Ideal S1x8x2048 .f32) (l : ℕ → Vec Ideal S1x8x2048 .f32) (r : ℕ)
    (hp : ∀ k, k < 35 → ∀ z : S1x8x2048.Idx, p k z = param x3 x4 x5 x6 x7 k (z 2))
    (hl : ∀ k, k < 31 → ∀ z : S1x8x2048.Idx, l k z = padded x0 x1 x2 (r + (z 1).val + 2 + k) (z 2))
    (inb : ∀ a, (![r, 0] : Fin 2 → Nat) a + S8x2048.size a ≤ S32x2048.size a) (z : S8x2048.Idx) :
    tail (acc p l 31) (mat (p 32)) (mat (p 33)) (mat (p 34)) z
      = convBlock x0 x1 x2 x3 x4 x5 x6 x7 ((Rect.unit (s := S32x2048) ![r, 0] S8x2048.size inb).emb z) := by
  have e : ∀ (v : Vec Ideal S1x8x2048 .f32) (z : S8x2048.Idx), mat v z = v (ix3 0 (z 0) (z 1)) := fun v z => by pointwise
  have ea : (fun j => acc p l 31 (ix2 (z 0) j)) = fun j : Fin 2048 =>
      (∑ k ∈ Finset.range 31, padded x0 x1 x2 (r + (z 0).val + 2 + k) j * param x3 x4 x5 x6 x7 k j)
        + param x3 x4 x5 x6 x7 31 j := by
    funext j
    rw [acc_apply, hp 31 (by decide)]
    refine congrArg (· + _) (Finset.sum_congr rfl fun k hk => ?_)
    have hk' := Finset.mem_range.mp hk
    rw [hp k (by omega), hl k hk']
    rfl
  have em : ∀ k, k < 35 → (fun j : Fin 2048 => mat (p k) (ix2 (z 0) j)) = param x3 x4 x5 x6 x7 k := fun k hk => by
    funext j
    rw [e, hp k hk]
    rfl
  rw [tail_apply, ea, em 32 (by decide), em 33 (by decide), em 34 (by decide)]
  unfold convBlock
  have e0 : ((Rect.unit (s := S32x2048) ![r, 0] S8x2048.size inb).emb z 0).val = r + (z 0).val := by
    show r + 1 * (z 0).val = _; omega
  rw [e0]
  exact congrArg _ (Fin.ext (by show (z 1).val = 0 + 1 * (z 1).val; omega))

theorem groups_canon (p : ℕ → Vec Ideal S1x8x2048 .f32) (l : (r : ℕ) → r ≤ 24 → ℕ → Vec Ideal S1x8x2048 .f32)
    (hp : ∀ k, k < 35 → ∀ z : S1x8x2048.Idx, p k z = param x3 x4 x5 x6 x7 k (z 2))
    (hl : ∀ r hr k, k < 31 → ∀ z : S1x8x2048.Idx, l r hr k z = padded x0 x1 x2 (r + (z 1).val + 2 + k) (z 2)) :
    View.canon (groups p l) = convBlock x0 x1 x2 x3 x4 x5 x6 x7 := by
  funext y
  refine View.canon_apply_of_pieces (Val := Elt Ideal) (convBlock x0 x1 x2 x3 x4 x5 x6 x7) _ ?_ _ ?_
  · unfold groups
    refine List.forall_mem_cons.mpr ⟨group_apply x0 x1 x2 x3 x4 x5 x6 x7 p (l 24 (by decide)) 24 hp (hl 24 (by decide)) inb_S32x2048_S8x2048_24_0, ?_⟩
    refine List.forall_mem_cons.mpr ⟨group_apply x0 x1 x2 x3 x4 x5 x6 x7 p (l 16 (by decide)) 16 hp (hl 16 (by decide)) inb_S32x2048_S8x2048_16_0, ?_⟩
    refine List.forall_mem_cons.mpr ⟨group_apply x0 x1 x2 x3 x4 x5 x6 x7 p (l 8 (by decide)) 8 hp (hl 8 (by decide)) inb_S32x2048_S8x2048_8_0, ?_⟩
    refine List.forall_mem_cons.mpr ⟨group_apply x0 x1 x2 x3 x4 x5 x6 x7 p (l 0 (by decide)) 0 hp (hl 0 (by decide)) inb_S32x2048_S8x2048_0_0, ?_⟩
    exact fun p hp => absurd hp List.not_mem_nil
  · exact View.cover_of_tiledL (groups p l) S8x2048.size (by sl_kernel_rfl) y

theorem out_A9 (hc0 : cond0_0 i) (hc1 : cond0_1 i) (hc2 : ¬cond0_2 i) :
    out0_A_9 c i a2 h2 a3 h3 a4 h4 a5 h5 a6 h6 a7 h7 a8 h8 a9 h9 a10 h10 a11 h11 a12 h12 a13 h13 hc0 hc1 hc2 x0 x1 x2 x3 x4 x5 x6 x7
      = convBlock x0 x1 x2 x3 x4 x5 x6 x7 := by
  unfold out0_A_9
  rw [View.read_writes_eq_canon _ _ _ (cover0_A_9 c i a2 h2 a3 h3 a4 h4 a5 h5 a6 h6 a7 h7 a8 h8 a9 h9 a10 h10 a11 h11 a12 h12 a13 h13
    hc0 hc1 hc2 x0 x1 x2 x3 x4 x5 x6 x7)]
  exact groups_canon x0 x1 x2 x3 x4 x5 x6 x7 (parA c a5 h5 a6 h6 a7 h7 a8 h8 a9 h9 a13 x3 x4 x5 x6 x7)
    (rowsA c a2 h2 a3 h3 a4 h4 a12 x0 x1 x2) (parA_apply c a5 h5 a6 h6 a7 h7 a8 h8 a9 h9 a13 x3 x4 x5 x6 x7)
    (rowsA_apply c a2 h2 a3 h3 a4 h4 a12 x0 x1 x2)

theorem out_B9 (hc0 : ¬cond0_0 i) (hc1 : cond0_1 i) (hc2 : ¬cond0_2 i) (hs : xs1 = params x3 x4 x5 x6 x7) :
    out0_B_9 c i a2 h2 a3 h3 a4 h4 a5 h5 a6 h6 a7 h7 a8 h8 a9 h9 a10 h10 a11 h11 a12 h12 a13 h13 hc0 hc1 hc2 x0 x1 x2 x3 x4 x5 x6 x7 xs1
      = convBlock x0 x1 x2 x3 x4 x5 x6 x7 := by
  unfold out0_B_9
  rw [View.read_writes_eq_canon _ _ _ (cover0_B_9 c i a2 h2 a3 h3 a4 h4 a5 h5 a6 h6 a7 h7 a8 h8 a9 h9 a10 h10 a11 h11 a12 h12 a13 h13
    hc0 hc1 hc2 x0 x1 x2 x3 x4 x5 x6 x7 xs1)]
  exact groups_canon x0 x1 x2 x3 x4 x5 x6 x7 (parB a13 h13 xs1)
    (rowsB c a2 h2 a3 h3 a4 h4 a12 x0 x1 x2) (fun k hk => parB_apply a13 h13 x3 x4 x5 x6 x7 xs1 k hk hs)
    (rowsB_apply c a2 h2 a3 h3 a4 h4 a12 x0 x1 x2)

theorem out_A8 (hc0 : cond0_0 i) (hc1 : cond0_1 i) (hc2 : ¬cond0_2 i) :
    out0_A_8 c i a2 h2 a3 h3 a4 h4 a5 h5 a6 h6 a7 h7 a8 h8 a9 h9 a10 h10 a11 h11 a12 h12 a13 h13 hc0 hc1 hc2 x0 x1 x2 x3 x4 x5 x6 x7
      = gated x0 x1 := by
  unfold out0_A_8
  rw [View.read_writes_eq_canon _ _ _ (cover0_A_8 c i a2 h2 a3 h3 a4 h4 a5 h5 a6 h6 a7 h7 a8 h8 a9 h9 a10 h10 a11 h11 a12 h12 a13 h13
    hc0 hc1 hc2 x0 x1 x2 x3 x4 x5 x6 x7)]
  unfold kernelRun0_A
  dsimp only
  rw [View.canon_unit_zero (funext hz)]
  simp only [View.readAt_eq_ld, h2.read_unread, h3.read_unread, View.ld_unit_zero (S := S32x2048) (funext hz)]
  rfl

theorem out_B8 (hc0 : ¬cond0_0 i) (hc1 : cond0_1 i) (hc2 : ¬cond0_2 i) :
    out0_B_8 c i a2 h2 a3 h3 a4 h4 a5 h5 a6 h6 a7 h7 a8 h8 a9 h9 a10 h10 a11 h11 a12 h12 a13 h13 hc0 hc1 hc2 x0 x1 x2 x3 x4 x5 x6 x7 xs1
      = gated x0 x1 := by
  unfold out0_B_8
  rw [View.read_writes_eq_canon _ _ _ (cover0_B_8 c i a2 h2 a3 h3 a4 h4 a5 h5 a6 h6 a7 h7 a8 h8 a9 h9 a10 h10 a11 h11 a12 h12 a13 h13
    hc0 hc1 hc2 x0 x1 x2 x3 x4 x5 x6 x7 xs1)]
  unfold kernelRun0_B
  dsimp only
  rw [View.canon_unit_zero (funext hz)]
  simp only [View.readAt_eq_ld, h2.read_unread, h3.read_unread, View.ld_unit_zero (S := S32x2048) (funext hz)]
  rfl

theorem sout_A (hc0 : cond0_0 i) (hc1 : cond0_1 i) (hc2 : ¬cond0_2 i) :
    sout0_A_1 c i a2 h2 a3 h3 a4 h4 a5 h5 a6 h6 a7 h7 a8 h8 a9 h9 a10 h10 a11 h11 a12 h12 a13 h13 hc0 hc1 hc2 x0 x1 x2 x3 x4 x5 x6 x7
      = params x3 x4 x5 x6 x7 := by
  unfold sout0_A_1
  rw [View.read_writes_eq_canon _ _ _ (scover0_A_1 c i a2 h2 a3 h3 a4 h4 a5 h5 a6 h6 a7 h7 a8 h8 a9 h9 a10 h10 a11 h11 a12 h12 a13 h13
    hc0 hc1 hc2 x0 x1 x2 x3 x4 x5 x6 x7)]
  exact params_canon c a5 h5 a6 h6 a7 h7 a8 h8 a9 h9 x3 x4 x5 x6 x7

theorem sout_B (hc0 : ¬cond0_0 i) (hc1 : cond0_1 i) (hc2 : ¬cond0_2 i) :
    sout0_B_1 c i a2 h2 a3 h3 a4 h4 a5 h5 a6 h6 a7 h7 a8 h8 a9 h9 a10 h10 a11 h11 a12 h12 a13 h13 hc0 hc1 hc2 x0 x1 x2 x3 x4 x5 x6 x7 xs1
      = xs1 := by
  unfold sout0_B_1
  rfl

end Cases

end Cert.ConvSampleKernelIdeal.ConvValue

end
-- ==== Proof.ConvSampleArray.lean ====
/- The convolution module of the samples: the two arrays the program leaves, read at an index in terms of its arguments. -/
module

public import proofs.«01_k».proof.Proof.ConvSampleValue
public import Idealize.ShloMosaic.Lib.KernelVsHost

@[expose] public section

set_option maxRecDepth 16384
set_option maxHeartbeats 4000000

noncomputable section

open Idealize.ShloMosaic Idealize.ShloMosaic.TcCoe Idealize.SL.Sem

namespace Cert.ConvSampleKernelIdeal.ConvValue

open Cert.ConvSampleKernelIdeal Cert.ConvSampleKernelIdeal.Gen Cert.ConvSampleKernelIdeal.ConvTile Cert.Rows

/-! ## The mathematics -/

/-- A row of the gated values: a value of the first block of columns times the logistic of its fellow in the second. -/
def gateAt (z : Fin 1024 → Fin 10240 → EReal) (r : Fin 1024) (j : Fin 2048) : EReal :=
  z r ⟨j.val, by omega⟩ * Ideal.logistic (z r ⟨2048 + j.val, by omega⟩)

/-- Row `n` of a stream: its thirty rows of history, then its gated rows. -/
def streamRow (z : Fin 1024 → Fin 10240 → EReal) (h : Fin 32 → Fin 30 → Fin 2048 → EReal) (s : Fin 32) (n : ℕ) (j : Fin 2048) : EReal :=
  if hn : n < 30 then h s ⟨n, hn⟩ j
  else gateAt z ⟨32 * s.val + (n - 30) % 32, by have := Nat.mod_lt (n - 30) (show 0 < 32 by decide); omega⟩ j

/-- The causal sum: thirty-one rows of the stream, each under its tap, and a bias. -/
def convAt (z : Fin 1024 → Fin 10240 → EReal) (h : Fin 32 → Fin 30 → Fin 2048 → EReal) (w : Fin 31 → Fin 2048 → EReal)
    (b : Fin 2048 → EReal) (s q : Fin 32) (j : Fin 2048) : EReal :=
  (∑ k : Fin 31, streamRow z h s (q.val + k.val) j * w k j) + b j

/-- The stream a row belongs to, and its place in it. -/
def streamOf (r : Fin 1024) : Fin 32 := ⟨r.val / 32, by omega⟩
def placeOf (r : Fin 1024) : Fin 32 := ⟨r.val % 32, Nat.mod_lt _ (by decide)⟩

/-! ## The arrays before the launch -/

theorem drop_row (x : Vec Ideal S1x2048 .f32) (y : S1x2048.Idx) :
    shapeCast S1x2048 (shapeCast S2048 x shapeCasts_S1x2048_S2048) shapeCasts_S2048_S1x2048 y = x (ix2 0 (y 1)) := by
  rw [shapeCast_shapeCast]
  exact congrArg x (ix2_congr (by have : (y 0).val < 1 := (y 0).isLt; show (y 0).val = 0; omega) rfl)

theorem drop_taps (x : Vec Ideal S1x31x2048 .f32) (y : S31x2048.Idx) :
    shapeCast S31x2048 x shapeCasts_S1x31x2048_S31x2048 y = x (ix3 0 (y 0) (y 1)) := by pointwise

theorem drop_hist (x : Vec Ideal S1x32x30x2048 .f32) (y : S32x30x2048.Idx) :
    shapeCast S32x30x2048 x shapeCasts_S1x32x30x2048_S32x30x2048 y = x (ix4 0 (y 0) (y 1) (y 2)) := by pointwise

theorem pad_hist (x : Vec Ideal S32x30x2048 .f32) (v : Vec Ideal S_ .f32) (y : S32x32x2048.Idx) (k : Fin 30) (hk : (y 1).val = k.val + 2) :
    pad S32x32x2048 ![0, 2, 0] ![0, 0, 0] ![0, 0, 0] x v pads_S32x30x2048_S32x32x2048_000_200_000 h_S_ y = x (ix3 (y 0) k (y 2)) := by
  refine pad_apply_of_inside _ _ _ x v _ _ y (ix3 (y 0) k (y 2)) fun a => ?_
  match a with
  | ⟨0, _⟩ => show (y 0).val = 0 + (y 0).val * 1; omega
  | ⟨1, _⟩ => show (y 1).val = 2 + k.val * 1; omega
  | ⟨2, _⟩ => show (y 2).val = 0 + (y 2).val * 1; omega

variable (m : (ℓ : Loc nD τ sig) → Buf (Elt Ideal) ℓ) (ρ : Dev nD → PrngReg) (c : Dev nD)

/-- The argument arrays as the kernel indexes them. -/
abbrev Z (r : Fin 1024) (k : Fin 10240) : EReal := (m ((c : Thread nD τ).loc main_arg0) : Vec Ideal S1024x10240 .f32) (ix2 r k)
abbrev Hs (s : Fin 32) (n : Fin 30) (j : Fin 2048) : EReal := (m ((c : Thread nD τ).loc main_arg1) : Vec Ideal S1x32x30x2048 .f32) (ix4 0 s n j)
abbrev W (k : Fin 31) (j : Fin 2048) : EReal := (m ((c : Thread nD τ).loc main_arg2) : Vec Ideal S1x31x2048 .f32) (ix3 0 k j)
abbrev Bs (j : Fin 2048) : EReal := (m ((c : Thread nD τ).loc main_arg3) : Vec Ideal S1x2048 .f32) (ix2 0 j)
abbrev Gl (j : Fin 2048) : EReal := (m ((c : Thread nD τ).loc main_arg4) : Vec Ideal S1x2048 .f32) (ix2 0 j)
abbrev Bl (j : Fin 2048) : EReal := (m ((c : Thread nD τ).loc main_arg5) : Vec Ideal S1x2048 .f32) (ix2 0 j)
abbrev Go (j : Fin 2048) : EReal := (m ((c : Thread nD τ).loc main_arg6) : Vec Ideal S1x2048 .f32) (ix2 0 j)

theorem V_v1 (y : S32x32x2048.Idx) (k : Fin 30) (hk : (y 1).val = k.val + 2) :
    (V m c main_v1 : Vec Ideal S32x32x2048 .f32) y = Hs m c (y 0) k (y 2) := by
  have e : V m c main_v1 = (pad S32x32x2048 ![0, 2, 0] ![0, 0, 0] ![0, 0, 0]
      (shapeCast S32x30x2048 (m ((c : Thread nD τ).loc main_arg1)) shapeCasts_S1x32x30x2048_S32x30x2048 : Vec Ideal S32x30x2048 .f32)
      (sitofp (F := Ideal) .f32 (constantI S_ 32 0#32)) pads_S32x30x2048_S32x32x2048_000_200_000 h_S_ : Vec Ideal S32x32x2048 .f32) := by
    unfold V hostOps0 hostOps0_1 hostOps0_2
    rw [List.flatten_cons, List.flatten_cons, List.flatten_cons, List.flatten_nil]
    simp only [List.cons_append, List.nil_append]
    show StableHlo.after _ _ (Proc.devRef .tc main_v1) = _
    after_results
    rfl
  rw [e, pad_hist _ _ y k hk, drop_hist]
  rfl

theorem V_v2 (y : S31x2048.Idx) : (V m c main_v2 : Vec Ideal S31x2048 .f32) y = W m c (y 0) (y 1) := by
  have e : V m c main_v2 = (shapeCast S31x2048 (m ((c : Thread nD τ).loc main_arg2)) shapeCasts_S1x31x2048_S31x2048 : Vec Ideal S31x2048 .f32) := by
    unfold V hostOps0 hostOps0_1 hostOps0_2
    rw [List.flatten_cons, List.flatten_cons, List.flatten_cons, List.flatten_nil]
    simp only [List.cons_append, List.nil_append]
    show StableHlo.after _ _ (Proc.devRef .tc main_v2) = _
    after_results
    rfl
  rw [e]
  exact drop_taps _ _

theorem V_v4 (y : S1x2048.Idx) : (V m c main_v4 : Vec Ideal S1x2048 .f32) y = Bs m c (y 1) := by
  have e : V m c main_v4 = (shapeCast _ (shapeCast _ (m ((c : Thread nD τ).loc main_arg3)) shapeCasts_S1x2048_S2048 : Vec Ideal S2048 .f32) shapeCasts_S2048_S1x2048 : Vec Ideal S1x2048 .f32) := by
    unfold V hostOps0 hostOps0_1 hostOps0_2
    rw [List.flatten_cons, List.flatten_cons, List.flatten_cons, List.flatten_nil]
    simp only [List.cons_append, List.nil_append]
    show StableHlo.after _ _ (Proc.devRef .tc main_v4) = _
    after_results
    rfl
  rw [e]
  exact drop_row _ _

theorem V_v6 (y : S1x2048.Idx) : (V m c main_v6 : Vec Ideal S1x2048 .f32) y = Gl m c (y 1) := by
  have e : V m c main_v6 = (shapeCast _ (shapeCast _ (m ((c : Thread nD τ).loc main_arg4)) shapeCasts_S1x2048_S2048 : Vec Ideal S2048 .f32) shapeCasts_S2048_S1x2048 : Vec Ideal S1x2048 .f32) := by
    unfold V hostOps0 hostOps0_1 hostOps0_2
    rw [List.flatten_cons, List.flatten_cons, List.flatten_cons, List.flatten_nil]
    simp only [List.cons_append, List.nil_append]
    show StableHlo.after _ _ (Proc.devRef .tc main_v6) = _
    after_results
    rfl
  rw [e]
  exact drop_row _ _

theorem V_v8 (y : S1x2048.Idx) : (V m c main_v8 : Vec Ideal S1x2048 .f32) y = Bl m c (y 1) := by
  have e : V m c main_v8 = (shapeCast _ (shapeCast _ (m ((c : Thread nD τ).loc main_arg5)) shapeCasts_S1x2048_S2048 : Vec Ideal S2048 .f32) shapeCasts_S2048_S1x2048 : Vec Ideal S1x2048 .f32) := by
    unfold V hostOps0 hostOps0_1 hostOps0_2
    rw [List.flatten_cons, List.flatten_cons, List.flatten_cons, List.flatten_nil]
    simp only [List.cons_append, List.nil_append]
    show StableHlo.after _ _ (Proc.devRef .tc main_v8) = _
    after_results
    rfl
  rw [e]
  exact drop_row _ _

theorem V_v10 (y : S1x2048.Idx) : (V m c main_v10 : Vec Ideal S1x2048 .f32) y = Go m c (y 1) := by
  have e : V m c main_v10 = (shapeCast _ (shapeCast _ (m ((c : Thread nD τ).loc main_arg6)) shapeCasts_S1x2048_S2048 : Vec Ideal S2048 .f32) shapeCasts_S2048_S1x2048 : Vec Ideal S1x2048 .f32) := by
    unfold V hostOps0 hostOps0_1 hostOps0_2
    rw [List.flatten_cons, List.flatten_cons, List.flatten_cons, List.flatten_nil]
    simp only [List.cons_append, List.nil_append]
    show StableHlo.after _ _ (Proc.devRef .tc main_v10) = _
    after_results
    rfl
  rw [e]
  exact drop_row _ _

/-! ## The blocks -/

theorem index_facts : ∀ t : Fin cfg0.N, win0_0.index t 0 = t.val ∧ win0_0.index t 1 = 0 ∧ win0_1.index t 0 = t.val ∧ win0_1.index t 1 = 1
    ∧ win0_2.index t 0 = t.val ∧ win0_2.index t 1 = 0 ∧ win0_2.index t 2 = 0 ∧ win0_3.index t 0 = 0 ∧ win0_3.index t 1 = 0
    ∧ win0_4.index t 1 = 0 ∧ win0_5.index t 1 = 0 ∧ win0_6.index t 1 = 0 ∧ win0_7.index t 1 = 0
    ∧ win0_8.index t 0 = t.val ∧ win0_8.index t 1 = 0 ∧ win0_9.index t 0 = t.val ∧ win0_9.index t 1 = 0 :=
  (by decide +kernel : ∀ t : Fin grid0.N, _)

theorem pt_lt (t : Fin cfg0.N) : t.val < 32 := lt_of_lt_of_eq t.isLt (show cfg0.N = 32 from N_0)

/-- The stream of a point, and a row of it. -/
def streamAt (t : Fin cfg0.N) : Fin 32 := ⟨t.val, pt_lt t⟩
def rowAt (t : Fin cfg0.N) (q : Fin 32) : Fin 1024 := ⟨32 * t.val + q.val, by have := pt_lt t; omega⟩

theorem iblk0 (t : Fin cfg0.N) (y : S32x2048.Idx) :
    (iblk m c 0 t : Vec Ideal S32x2048 .f32) y = Z m c (rowAt t (y 0)) ⟨(y 1).val, by have : (y 1).val < 2048 := (y 1).isLt; omega⟩ := by
  obtain ⟨i0, i1, -⟩ := index_facts t
  unfold iblk
  rw [View.read_apply]
  refine (congrFun (V_main_arg0 m c) _).trans ?_
  refine congrArg (m ((c : Thread nD τ).loc main_arg0) : Vec Ideal S1024x10240 .f32) (ix2_congr ?_ ?_)
  · show win0_0.index t 0 * 32 + 1 * (y 0).val = 32 * t.val + (y 0).val; rw [i0]; omega
  · show win0_0.index t 1 * 2048 + 1 * (y 1).val = (y 1).val; rw [i1]; omega

theorem iblk1 (t : Fin cfg0.N) (y : S32x2048.Idx) :
    (iblk m c 1 t : Vec Ideal S32x2048 .f32) y = Z m c (rowAt t (y 0)) ⟨2048 + (y 1).val, by have : (y 1).val < 2048 := (y 1).isLt; omega⟩ := by
  obtain ⟨-, -, i0, i1, -⟩ := index_facts t
  unfold iblk
  rw [View.read_apply]
  refine (congrFun (V_main_arg0 m c) _).trans ?_
  refine congrArg (m ((c : Thread nD τ).loc main_arg0) : Vec Ideal S1024x10240 .f32) (ix2_congr ?_ ?_)
  · show win0_1.index t 0 * 32 + 1 * (y 0).val = 32 * t.val + (y 0).val; rw [i0]; omega
  · show win0_1.index t 1 * 2048 + 1 * (y 1).val = 2048 + (y 1).val; rw [i1]; omega

theorem iblk2 (t : Fin cfg0.N) (y : S1x32x2048.Idx) (k : Fin 30) (hk : (y 1).val = k.val + 2) :
    (iblk m c 2 t : Vec Ideal S1x32x2048 .f32) y = Hs m c (streamAt t) k (y 2) := by
  obtain ⟨-, -, -, -, i0, i1, i2, -⟩ := index_facts t
  have y0 : (y 0).val < 1 := (y 0).isLt
  unfold iblk
  rw [View.read_apply]
  refine (V_v1 m c _ k (by show win0_2.index t 1 * 32 + 1 * (y 1).val = _; rw [i1]; omega)).trans ?_
  refine congr (congrArg (fun s => Hs m c s k) (Fin.ext ?_)) (Fin.ext ?_)
  · show win0_2.index t 0 * 1 + 1 * (y 0).val = t.val; rw [i0]; omega
  · show win0_2.index t 2 * 2048 + 1 * (y 2).val = (y 2).val; rw [i2]; omega

theorem iblk3 (t : Fin cfg0.N) (y : S31x2048.Idx) : (iblk m c 3 t : Vec Ideal S31x2048 .f32) y = W m c (y 0) (y 1) := by
  obtain ⟨-, -, -, -, -, -, -, i0, i1, -⟩ := index_facts t
  unfold iblk
  rw [View.read_apply]
  refine (V_v2 m c _).trans ?_
  refine congr (congrArg (W m c) (Fin.ext ?_)) (Fin.ext ?_)
  · show win0_3.index t 0 * 31 + 1 * (y 0).val = (y 0).val; rw [i0]; omega
  · show win0_3.index t 1 * 2048 + 1 * (y 1).val = (y 1).val; rw [i1]; omega

theorem iblk4 (t : Fin cfg0.N) (y : S1x2048.Idx) : (iblk m c 4 t : Vec Ideal S1x2048 .f32) y = Bs m c (y 1) := by
  obtain ⟨-, -, -, -, -, -, -, -, -, i1, -⟩ := index_facts t
  unfold iblk
  rw [View.read_apply]
  refine (V_v4 m c _).trans (congrArg (Bs m c) (Fin.ext ?_))
  show win0_4.index t 1 * 2048 + 1 * (y 1).val = (y 1).val; rw [i1]; omega

theorem iblk5 (t : Fin cfg0.N) (y : S1x2048.Idx) : (iblk m c 5 t : Vec Ideal S1x2048 .f32) y = Gl m c (y 1) := by
  obtain ⟨-, -, -, -, -, -, -, -, -, -, i1, -⟩ := index_facts t
  unfold iblk
  rw [View.read_apply]
  refine (V_v6 m c _).trans (congrArg (Gl m c) (Fin.ext ?_))
  show win0_5.index t 1 * 2048 + 1 * (y 1).val = (y 1).val; rw [i1]; omega

theorem iblk6 (t : Fin cfg0.N) (y : S1x2048.Idx) : (iblk m c 6 t : Vec Ideal S1x2048 .f32) y = Bl m c (y 1) := by
  obtain ⟨-, -, -, -, -, -, -, -, -, -, -, i1, -⟩ := index_facts t
  unfold iblk
  rw [View.read_apply]
  refine (V_v8 m c _).trans (congrArg (Bl m c) (Fin.ext ?_))
  show win0_6.index t 1 * 2048 + 1 * (y 1).val = (y 1).val; rw [i1]; omega

theorem iblk7 (t : Fin cfg0.N) (y : S1x2048.Idx) : (iblk m c 7 t : Vec Ideal S1x2048 .f32) y = Go m c (y 1) := by
  obtain ⟨-, -, -, -, -, -, -, -, -, -, -, -, i1, -⟩ := index_facts t
  unfold iblk
  rw [View.read_apply]
  refine (V_v10 m c _).trans (congrArg (Go m c) (Fin.ext ?_))
  show win0_7.index t 1 * 2048 + 1 * (y 1).val = (y 1).val; rw [i1]; omega

/-! ## What a point leaves -/

theorem params_iblk (t t' : Fin cfg0.N) :
    params (iblk m c 3 t) (iblk m c 4 t) (iblk m c 5 t) (iblk m c 6 t) (iblk m c 7 t)
      = params (iblk m c 3 t') (iblk m c 4 t') (iblk m c 5 t') (iblk m c 6 t') (iblk m c 7 t') := by
  funext y
  unfold params param
  simp only [iblk3, iblk4, iblk5, iblk6, iblk7]

/-- A point leaves its gated rows and its finished rows, and the parameters in the buffer it hands on. -/
theorem outs_eq : ∀ (n : ℕ) (h : n < cfg0.N), outsAt0 m c n h
    = (gated (iblk m c 0 ⟨n, h⟩) (iblk m c 1 ⟨n, h⟩),
        convBlock (iblk m c 0 ⟨n, h⟩) (iblk m c 1 ⟨n, h⟩) (iblk m c 2 ⟨n, h⟩) (iblk m c 3 ⟨n, h⟩) (iblk m c 4 ⟨n, h⟩) (iblk m c 5 ⟨n, h⟩)
          (iblk m c 6 ⟨n, h⟩) (iblk m c 7 ⟨n, h⟩),
        params (iblk m c 3 ⟨n, h⟩) (iblk m c 4 ⟨n, h⟩) (iblk m c 5 ⟨n, h⟩) (iblk m c 6 ⟨n, h⟩) (iblk m c 7 ⟨n, h⟩))
  | 0, h => by rw [outsAt0_A m c ⟨0, h⟩ (Nat.zero_mod _), out_A8, out_A9, sout_A]
  | n + 1, h => by
    have hb : n + 1 < 32 := lt_of_lt_of_eq h (show cfg0.N = 32 from N_0)
    have h0 : ¬(n + 1) % 32 = 0 := by omega
    have e : (outsAt0 m c ((⟨n + 1, h⟩ : Fin cfg0.N).val - 1) (Nat.lt_of_le_of_lt (Nat.sub_le _ _) (⟨n + 1, h⟩ : Fin cfg0.N).isLt)).2.2
        = params (iblk m c 3 ⟨n + 1, h⟩) (iblk m c 4 ⟨n + 1, h⟩) (iblk m c 5 ⟨n + 1, h⟩) (iblk m c 6 ⟨n + 1, h⟩) (iblk m c 7 ⟨n + 1, h⟩) :=
      (congrArg (fun o => o.2.2) (outs_eq n (Nat.lt_of_succ_lt h))).trans (params_iblk m c _ _)
    rw [outsAt0_B m c ⟨n + 1, h⟩ h0, out_B8, out_B9 _ _ _ _ _ _ _ _ _ _ _ _ _ _ _ _ _ _ _ _ _ _ _ _ _ _ _ _ _ _ _ _ _ _ _ _ _ _ e, sout_B]
    exact congrArg (fun p => (_, _, p)) e

theorem gated_apply (x0 x1 : Vec Ideal S32x2048 .f32) (y : S32x2048.Idx) : gated x0 x1 y = x0 y * Ideal.logistic (x1 y) := by
  unfold gated
  pointwise [k0_pay44]

theorem gated_iblk (t : Fin cfg0.N) (y : S32x2048.Idx) :
    gated (iblk m c 0 t) (iblk m c 1 t) y = gateAt (Z m c) (rowAt t (y 0)) (y 1) := by
  rw [gated_apply, iblk0, iblk1]
  rfl

/-- The padded rows past the two in front are the stream's. -/
theorem padded_iblk (t : Fin cfg0.N) (n : ℕ) (hn : n < 62) (j : Fin 2048) :
    padded (iblk m c 0 t) (iblk m c 1 t) (iblk m c 2 t) (n + 2) j = streamRow (Z m c) (Hs m c) (streamAt t) n j := by
  unfold padded streamRow
  by_cases h : n < 30
  · rw [if_pos (by omega), dif_pos h]
    refine (iblk2 m c t _ ⟨n, h⟩ ?_).trans rfl
    show (n + 2) % 32 = n + 2
    omega
  · rw [if_neg (by omega), dif_neg h, gated_iblk]
    refine congrArg (fun r => gateAt (Z m c) r j) (Fin.ext ?_)
    show 32 * t.val + (n + 2) % 32 = 32 * t.val + (n - 30) % 32
    omega

theorem conv_iblk (t : Fin cfg0.N) (y : S32x2048.Idx) :
    convBlock (iblk m c 0 t) (iblk m c 1 t) (iblk m c 2 t) (iblk m c 3 t) (iblk m c 4 t) (iblk m c 5 t) (iblk m c 6 t) (iblk m c 7 t) y
      = outRow (convAt (Z m c) (Hs m c) (W m c) (Bs m c) (streamAt t) (y 0)) (Gl m c) (Bl m c) (Go m c) (y 1) := by
  have y0 : (y 0).val < 32 := (y 0).isLt
  unfold convBlock
  dsimp only
  refine congrFun (congr (congr (congr (congrArg outRow (funext fun j => ?_)) (funext fun j => ?_)) (funext fun j => ?_)) (funext fun j => ?_)) _
  · unfold convAt
    rw [Finset.sum_range]
    refine congr (congrArg HAdd.hAdd (Finset.sum_congr rfl fun k _ => ?_)) ?_
    · have hk : k.val < 31 := k.isLt
      refine congr (congrArg HMul.hMul ?_) ?_
      · rw [← padded_iblk m c t ((y 0).val + k.val) (by omega) j]
        exact padded_congr _ _ _ (by omega) rfl
      · unfold param
        rw [dif_pos hk, iblk3]
        rfl
    · unfold param
      rw [dif_neg (by decide), if_pos rfl, iblk4]
      rfl
  · unfold param
    rw [dif_neg (by decide), if_neg (by decide), if_pos rfl, iblk5]
    rfl
  · unfold param
    rw [dif_neg (by decide), if_neg (by decide), if_neg (by decide), if_pos rfl, iblk6]
    rfl
  · unfold param
    rw [dif_neg (by decide), if_neg (by decide), if_neg (by decide), if_neg (by decide), iblk7]
    rfl

/-! ## The two arrays -/

/-- The first result: the gated rows. -/
def G8 : Buf (Elt Ideal) ((c : Thread nD τ).loc main_v11_0) := fun (i : S1024x2048.Idx) => gateAt (Z m c) (i 0) (i 1)

/-- The second result: the causal sums of a row, normalised, activated, and normalised again. -/
def G9 : Buf (Elt Ideal) ((c : Thread nD τ).loc main_v11_1) := fun (i : S1024x2048.Idx) =>
  outRow (convAt (Z m c) (Hs m c) (W m c) (Bs m c) (streamOf (i 0)) (placeOf (i 0))) (Gl m c) (Bl m c) (Go m c) (i 1)

theorem flushed8 (t : Fin cfg0.N) : (dats m 0 c).flushed 8 t = ((cfg0.win 8).blk t).view.read (Elt Ideal) (G8 m c) := by
  obtain ⟨-, -, -, -, -, -, -, -, -, -, -, -, -, i0, i1, -⟩ := index_facts t
  show (cfg0.win 8).cut (grid0.coords t) ((dats m 0 c).after 8 t) = _
  rw [after0_8, outs_eq]
  funext (y : S32x2048.Idx)
  rw [View.read_apply]
  show gated (iblk m c 0 t) (iblk m c 1 t) y = G8 m c (((cfg0.win 8).blk t).view.emb y)
  have r : rowAt t (y 0) = ((cfg0.win 8).blk t).view.emb y 0 :=
    Fin.ext (by show 32 * t.val + (y 0).val = win0_8.index t 0 * 32 + 1 * (y 0).val; rw [i0]; omega)
  have e : (y 1 : Fin 2048) = ((cfg0.win 8).blk t).view.emb y 1 :=
    Fin.ext (by show (y 1).val = win0_8.index t 1 * 2048 + 1 * (y 1).val; rw [i1]; omega)
  rw [gated_iblk]
  unfold G8
  dsimp only
  rw [← r, ← e]

theorem flushed9 (t : Fin cfg0.N) : (dats m 0 c).flushed 9 t = ((cfg0.win 9).blk t).view.read (Elt Ideal) (G9 m c) := by
  obtain ⟨-, -, -, -, -, -, -, -, -, -, -, -, -, -, -, i0, i1⟩ := index_facts t
  show (cfg0.win 9).cut (grid0.coords t) ((dats m 0 c).after 9 t) = _
  rw [after0_9, outs_eq]
  funext (y : S32x2048.Idx)
  rw [View.read_apply]
  show convBlock (iblk m c 0 t) (iblk m c 1 t) (iblk m c 2 t) (iblk m c 3 t) (iblk m c 4 t) (iblk m c 5 t) (iblk m c 6 t) (iblk m c 7 t) y
    = G9 m c (((cfg0.win 9).blk t).view.emb y)
  have y0 : (y 0).val < 32 := (y 0).isLt
  have r : rowAt t (y 0) = ((cfg0.win 9).blk t).view.emb y 0 :=
    Fin.ext (by show 32 * t.val + (y 0).val = win0_9.index t 0 * 32 + 1 * (y 0).val; rw [i0]; omega)
  have e : (y 1 : Fin 2048) = ((cfg0.win 9).blk t).view.emb y 1 :=
    Fin.ext (by show (y 1).val = win0_9.index t 1 * 2048 + 1 * (y 1).val; rw [i1]; omega)
  have s : streamOf (rowAt t (y 0)) = streamAt t := Fin.ext (by show (32 * t.val + (y 0).val) / 32 = t.val; omega)
  have q : placeOf (rowAt t (y 0)) = y 0 := Fin.ext (by show (32 * t.val + (y 0).val) % 32 = (y 0).val; omega)
  rw [conv_iblk]
  unfold G9
  dsimp only
  rw [← r, ← e, s, q]

theorem covered8 (i : S1024x2048.Idx) : ∃ t : Fin cfg0.N, (cfg0.win 8).flush t = true ∧ i ∈ ((cfg0.win 8).blk t).view.set := by
  have h0 : (i 0).val < 1024 := (i 0).isLt
  have h1 : (i 1).val < 2048 := (i 1).isLt
  let t : Fin cfg0.N := ⟨(i 0).val / 32, by rw [show cfg0.N = 32 from N_0]; omega⟩
  obtain ⟨-, -, -, -, -, -, -, -, -, -, -, -, -, i0, i1, -⟩ := index_facts t
  have tv : t.val = (i 0).val / 32 := rfl
  refine ⟨t, flush0_8 t, ?_⟩
  show i ∈ ((View.whole main_v11_0).slice (win0_8.rect t)).set
  rw [View.set_slice_whole, Rect.mem_set_unit]
  intro a
  match a with
  | ⟨0, _⟩ => exact ⟨by show win0_8.index t 0 * 32 ≤ (i 0).val; rw [i0]; omega, by show (i 0).val < win0_8.index t 0 * 32 + 32; rw [i0]; omega⟩
  | ⟨1, _⟩ => exact ⟨by show win0_8.index t 1 * 2048 ≤ (i 1).val; rw [i1]; omega, by show (i 1).val < win0_8.index t 1 * 2048 + 2048; rw [i1]; omega⟩

theorem covered9 (i : S1024x2048.Idx) : ∃ t : Fin cfg0.N, (cfg0.win 9).flush t = true ∧ i ∈ ((cfg0.win 9).blk t).view.set := by
  have h0 : (i 0).val < 1024 := (i 0).isLt
  have h1 : (i 1).val < 2048 := (i 1).isLt
  let t : Fin cfg0.N := ⟨(i 0).val / 32, by rw [show cfg0.N = 32 from N_0]; omega⟩
  obtain ⟨-, -, -, -, -, -, -, -, -, -, -, -, -, -, -, i0, i1⟩ := index_facts t
  have tv : t.val = (i 0).val / 32 := rfl
  refine ⟨t, flush0_9 t, ?_⟩
  show i ∈ ((View.whole main_v11_1).slice (win0_9.rect t)).set
  rw [View.set_slice_whole, Rect.mem_set_unit]
  intro a
  match a with
  | ⟨0, _⟩ => exact ⟨by show win0_9.index t 0 * 32 ≤ (i 0).val; rw [i0]; omega, by show (i 0).val < win0_9.index t 0 * 32 + 32; rw [i0]; omega⟩
  | ⟨1, _⟩ => exact ⟨by show win0_9.index t 1 * 2048 ≤ (i 1).val; rw [i1]; omega, by show (i 1).val < win0_9.index t 1 * 2048 + 2048; rw [i1]; omega⟩

theorem final8 : (dats m 0 c).arrAt 8 cfg0.N = G8 m c := (dats m 0 c).arrAt_eq_of_cover 8 _ (fun t _ => flushed8 m c t) covered8
theorem final9 : (dats m 0 c).arrAt 9 cfg0.N = G9 m c := (dats m 0 c).arrAt_eq_of_cover 9 _ (fun t _ => flushed9 m c t) covered9

/-- The run, with both results named and the arguments unchanged. -/
theorem run : θ_run defs (onTc (τ := τ) (main (F := Ideal))) ⟨m, fun _ => 0, ρ⟩ fun r => ∀ c : Dev nD,
      r.2.mem ((c : Thread nD τ).loc main_v11_0) = G8 m c
      ∧ r.2.mem ((c : Thread nD τ).loc main_v11_1) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 8).trans (final8 m c), ((h.1 c).1 9).trans (final9 m c), h.2.1 c⟩)
    (θ_run_and (run_main m ρ) (frame m ρ))

end Cert.ConvSampleKernelIdeal.ConvValue

end
-- ==== Proof.ConvSampleRef.lean ====
/- The convolution module of the samples as the reference writes it: its two results at an index. -/
module

public import proofs.«01_k».proof.Proof.ConvSampleArray
public import proofs.«01_k».proof.Proof.Gen.ConvSampleReferenceIdeal.Read

@[expose] public section

set_option maxRecDepth 16384
set_option maxHeartbeats 4000000

noncomputable section

open Idealize.ShloMosaic Idealize.ShloMosaic.TcCoe Idealize.SL.Sem

namespace Cert.ConvSampleReferenceIdeal.RefValue

open Cert.ConvSampleReferenceIdeal Cert.ConvSampleReferenceIdeal.Gen Cert.ConvSampleReferenceIdeal.Read Cert.Rows
open Cert.ConvSampleKernelIdeal.ConvValue

theorem ix3_congr {n0 n1 n2 : ℕ} {y z : (⟨3, ![n0, n1, n2]⟩ : Shape).Idx} (h0 : (y 0).val = (z 0).val)
    (h1 : (y 1).val = (z 1).val) (h2 : (y 2).val = (z 2).val) : y = z := by
  funext a
  apply Fin.ext
  match a with
  | ⟨0, _⟩ => exact h0
  | ⟨1, _⟩ => exact h1
  | ⟨2, _⟩ => exact h2

variable (x0 : (⟨S1024x10240, .f32⟩ : BufTy).Contents (Elt Ideal)) (x1 : (⟨S1x32x30x2048, .f32⟩ : BufTy).Contents (Elt Ideal))
  (x2 : (⟨S1x31x2048, .f32⟩ : BufTy).Contents (Elt Ideal)) (x3 x4 x5 x6 : (⟨S1x2048, .f32⟩ : BufTy).Contents (Elt Ideal))

/-- The arguments by their coordinates. -/
abbrev rZ (r : Fin 1024) (k : Fin 10240) : EReal := x0 (ix2 r k)
abbrev rH (s : Fin 32) (n : Fin 30) (j : Fin 2048) : EReal := x1 (ix4 0 s n j)
abbrev rW (k : Fin 31) (j : Fin 2048) : EReal := x2 (ix3 0 k j)
abbrev row1 (x : (⟨S1x2048, .f32⟩ : BufTy).Contents (Elt Ideal)) (j : Fin 2048) : EReal := x (ix2 0 j)

/-! ## The gated rows and the stream -/

theorem first_apply (i : S1024x2048.Idx) : val_main_v8 (F := Ideal) x0 i = gateAt (rZ x0) (i 0) (i 1) := by
  pointwise [val_main_v8, val_main_v7, val_main_v6, val_main_v5, val_main_v4, val_main_v3, val_main_v2, val_main_v1, val_main_v0,
    val_main_cst_apply, val_main_cst_0_apply]
  rfl

theorem v9_at (y : S32x30x2048.Idx) : val_main_v9 (F := Ideal) x1 y = rH x1 (y 0) (y 1) (y 2) := by
  unfold val_main_v9
  pointwise

theorem v10_at (y : S32x32x2048.Idx) : val_main_v10 (F := Ideal) x0 y
    = gateAt (rZ x0) ⟨32 * (y 0).val + (y 1).val, by have : (y 0).val < 32 := (y 0).isLt; have : (y 1).val < 32 := (y 1).isLt; omega⟩ (y 2) := by
  rw [val_main_v10_apply, first_apply]
  have h0 : (y 0).val < 32 := (y 0).isLt
  have h1 : (y 1).val < 32 := (y 1).isLt
  have h2 : (y 2).val < 2048 := (y 2).isLt
  refine congr (congrArg (gateAt (rZ x0)) (Fin.ext ?_)) (Fin.ext ?_)
  · show _ = 32 * (y 0).val + (y 1).val
    dsimp only [idx_main_v10]
    omega
  · show _ = (y 2).val
    dsimp only [idx_main_v10]
    omega

theorem v11_at (y : S32x62x2048.Idx) : val_main_v11 (F := Ideal) x0 x1 y = streamRow (rZ x0) (rH x1) (y 0) (y 1).val (y 2) := by
  have h1 : (y 1).val < 62 := (y 1).isLt
  unfold val_main_v11 streamRow
  by_cases h : (y 1).val < 30
  · rw [dif_pos h]
    refine (concatenate_pair_apply_left (s₁ := S32x30x2048) (s₂ := S32x32x2048) 1 _ _ _ y rfl (ix3 (y 0) (⟨(y 1).val, h⟩ : Fin 30) (y 2)) ?_).trans (v9_at x1 _)
    intro b
    match b with
    | ⟨0, _⟩ => rfl
    | ⟨1, _⟩ => rfl
    | ⟨2, _⟩ => rfl
  · rw [dif_neg h]
    refine (concatenate_pair_apply_right (s₁ := S32x30x2048) (s₂ := S32x32x2048) 1 _ _ _ y rfl rfl (ix3 (y 0) (⟨(y 1).val - 30, by omega⟩ : Fin 32) (y 2)) ?_ ?_).trans
      ((v10_at x0 _).trans ?_)
    · intro b hb
      match b with
      | ⟨0, _⟩ => rfl
      | ⟨1, _⟩ => exact absurd rfl hb
      | ⟨2, _⟩ => rfl
    · show (y 1).val - 30 + 30 = (y 1).val
      omega
    · refine congrArg (fun r => gateAt (rZ x0) r (y 2)) (Fin.ext ?_)
      show 32 * (y 0).val + ((y 1).val - 30) = 32 * (y 0).val + ((y 1).val - 30) % 32
      omega

/-! ## The rows each window holds -/

theorem wrap_row : ∀ p : Fin 62, Scalar.select (IntOp.cmpi .slt (BitVec.ofNat 32 p.val) 0#32)
    (IntOp.addi (BitVec.ofNat 32 p.val) 62#32) (BitVec.ofNat 32 p.val) = BitVec.ofNat 32 p.val := by decide +kernel

theorem v18_at (i : S32x31.Idx) : val_main_v18 (F := Ideal) i = BitVec.ofNat 32 ((i 0).val + (i 1).val) := by
  rw [val_main_v18_apply, val_main_v16_apply, val_main_v17_apply, val_main_v13_apply, val_main_v15_apply, val_main_v12_apply,
    val_main_v14_apply, BitVec.ofNat_add]
  rfl

theorem v24_at (i : S32x31x1.Idx) : val_main_v24 (F := Ideal) i = BitVec.ofNat 32 ((i 0).val + (i 1).val) := by
  have h0 : (i 0).val < 32 := (i 0).isLt
  have h1 : (i 1).val < 31 := (i 1).isLt
  rw [val_main_v24_apply, val_main_v23_apply, val_main_v20_apply, val_main_v22_apply, v18_at, val_main_v19_apply,
    val_main_v21_apply, val_main_c_apply, val_main_c_1_apply]
  exact wrap_row ⟨(i 0).val + (i 1).val, by omega⟩

theorem toNat_row {k : ℕ} (hk : k < 62) : min (BitVec.ofNat 32 k).toInt.toNat 61 = k := by
  rw [BitVec.toInt_eq_toNat_of_lt (by rw [BitVec.toNat_ofNat]; omega), BitVec.toNat_ofNat]
  simp only [Int.toNat_natCast]
  omega

theorem gather_window (x : Vec Ideal S32x62x2048 .f32) (idx : IVec S32x31x1 32) (y : S32x32x31x2048.Idx) (k : ℕ) (hk : k < 62)
    (h : idx (ix3 (y 1) (y 2) 0) = BitVec.ofNat 32 k) :
    Host.gather gather_S32x62x2048_S32x31x1_S32x32x31x2048_03_1_n_n_1_2_3212048 x idx y = x (ix3 (y 0) ⟨k, hk⟩ (y 3)) := by
  unfold Host.gather
  refine congrArg x (funext fun a => Fin.ext ?_)
  match a with
  | ⟨0, _⟩ =>
    show GatherDims.start _ y idx 0 + GatherDims.batchCoord _ y 0 + GatherDims.offCoord _ y 0 = (y 0).val
    have e1 : GatherDims.start gather_S32x62x2048_S32x31x1_S32x32x31x2048_03_1_n_n_1_2_3212048 y idx 0 = 0 := rfl
    have e2 : GatherDims.batchCoord gather_S32x62x2048_S32x31x1_S32x32x31x2048_03_1_n_n_1_2_3212048 y 0 = 0 := rfl
    have e3 : GatherDims.offCoord gather_S32x62x2048_S32x31x1_S32x32x31x2048_03_1_n_n_1_2_3212048 y 0 = (y 0).val := rfl
    rw [e1, e2, e3]; omega
  | ⟨1, _⟩ =>
    show GatherDims.start _ y idx 1 + GatherDims.batchCoord _ y 1 + GatherDims.offCoord _ y 1 = k
    have e1 : GatherDims.start gather_S32x62x2048_S32x31x1_S32x32x31x2048_03_1_n_n_1_2_3212048 y idx 1
        = min (idx (ix3 (y 1) (y 2) 0)).toInt.toNat 61 := by
      have hs : ∀ h, GatherDims.siIdx gather_S32x62x2048_S32x31x1_S32x32x31x2048_03_1_n_n_1_2_3212048 y ⟨0, h⟩ = ix3 (y 1) (y 2) 0 := fun _ => by
        funext b
        match b with
        | ⟨0, _⟩ => rfl
        | ⟨1, _⟩ => rfl
        | ⟨2, _⟩ => rfl
      show min (idx (GatherDims.siIdx gather_S32x62x2048_S32x31x1_S32x32x31x2048_03_1_n_n_1_2_3212048 y ⟨0, _⟩)).toInt.toNat 61 = _
      exact congrArg (fun w => min (idx w).toInt.toNat 61) (hs _)
    have e2 : GatherDims.batchCoord gather_S32x62x2048_S32x31x1_S32x32x31x2048_03_1_n_n_1_2_3212048 y 1 = 0 := rfl
    have e3 : GatherDims.offCoord gather_S32x62x2048_S32x31x1_S32x32x31x2048_03_1_n_n_1_2_3212048 y 1 = 0 := rfl
    rw [e1, e2, e3, h, toNat_row hk]; rfl
  | ⟨2, _⟩ =>
    show GatherDims.start _ y idx 2 + GatherDims.batchCoord _ y 2 + GatherDims.offCoord _ y 2 = (y 3).val
    have e1 : GatherDims.start gather_S32x62x2048_S32x31x1_S32x32x31x2048_03_1_n_n_1_2_3212048 y idx 2 = 0 := rfl
    have e2 : GatherDims.batchCoord gather_S32x62x2048_S32x31x1_S32x32x31x2048_03_1_n_n_1_2_3212048 y 2 = 0 := rfl
    have e3 : GatherDims.offCoord gather_S32x62x2048_S32x31x1_S32x32x31x2048_03_1_n_n_1_2_3212048 y 2 = (y 3).val := rfl
    rw [e1, e2, e3]; omega

theorem v25_at (y : S32x32x31x2048.Idx) :
    val_main_v25 (F := Ideal) x0 x1 y = streamRow (rZ x0) (rH x1) (y 0) ((y 1).val + (y 2).val) (y 3) := by
  have h1 : (y 1).val < 32 := (y 1).isLt
  have h2 : (y 2).val < 31 := (y 2).isLt
  unfold val_main_v25
  exact (gather_window _ _ y ((y 1).val + (y 2).val) (by omega) (v24_at _)).trans (v11_at x0 x1 _)

/-! ## The sums, and what becomes of them -/

theorem v28_at (y : S32x32x31x2048.Idx) : val_main_v28 (F := Ideal) x2 y = rW x2 (y 2) (y 3) := by
  pointwise [val_main_v28, val_main_v27, val_main_v26]

theorem v33_at (y : S32x32x2048.Idx) : val_main_v33 (F := Ideal) x3 y = row1 x3 (y 2) := by
  pointwise [val_main_v33, val_main_v32, val_main_v31]

theorem v34_at (y : S32x32x2048.Idx) :
    val_main_v34 (F := Ideal) x0 x1 x2 x3 y = convAt (rZ x0) (rH x1) (rW x2) (row1 x3) (y 0) (y 1) (y 2) := by
  rw [val_main_v34_apply, val_main_v30_apply, v33_at, val_main_cst_2_apply]
  have z : Ideal.ofBits FTy.f32 0x00000000#32 = 0 := by pointwise
  have s : ∑ k : Fin 31, val_main_v29 (F := Ideal) x0 x1 x2 (idx_main_v30 y k)
      = ∑ k : Fin 31, streamRow (rZ x0) (rH x1) (y 0) ((y 1).val + k.val) (y 2) * rW x2 k (y 2) :=
    Finset.sum_congr rfl fun k _ => by
      rw [val_main_v29_apply, v25_at, v28_at]
      rfl
  rw [s]
  unfold convAt
  refine congrArg (· + row1 x3 (y 2)) ?_
  exact (congrArg (· + _) z).trans (zero_add _)

/-- A row of the sums. -/
abbrev sums (s q : Fin 32) (j : Fin 2048) : EReal := val_main_v34 (F := Ideal) x0 x1 x2 x3 (ix3 s q j)

theorem v42_at (s q : Fin 32) (j : Fin 2048) :
    val_main_v42 (F := Ideal) x0 x1 x2 x3 (ix3 s q j) = centred (sums x0 x1 x2 x3 s q) j := by
  pointwise [val_main_v42, val_main_v41, val_main_v40, val_main_v39, val_main_v38, val_main_v37, val_main_cst_3_apply, val_main_cst_4_apply]
  rfl

theorem v49_at (s q : Fin 32) (j : Fin 2048) :
    val_main_v49 (F := Ideal) x0 x1 x2 x3 (ix3 s q j) = centred (sums x0 x1 x2 x3 s q) j := by
  pointwise [val_main_v49, val_main_v48, val_main_v40, val_main_v39, val_main_v38, val_main_v37, val_main_cst_3_apply, val_main_cst_4_apply]
  rfl

theorem v53_at (s q : Fin 32) (j : Fin 2048) :
    val_main_v53 (F := Ideal) x0 x1 x2 x3 (ix3 s q j) = scale rowLen eps (centred (sums x0 x1 x2 x3 s q)) := by
  refine Eq.trans (b := scale rowLen eps (fun k => val_main_v42 (F := Ideal) x0 x1 x2 x3 (ix3 s q k))) ?_
    (congrArg (scale rowLen eps) (funext fun k => v42_at x0 x1 x2 x3 s q k))
  pointwise [val_main_v53, val_main_v52, val_main_v51, val_main_v50, val_main_v47, val_main_v46, val_main_v45, val_main_v44, val_main_v43,
    val_main_cst_5_apply, val_main_cst_6_apply, val_main_cst_7_apply]
  rfl

theorem v56_at (s q : Fin 32) (j : Fin 2048) : val_main_v56 (F := Ideal) x4 (ix3 s q j) = row1 x4 j := by
  pointwise [val_main_v56, val_main_v55, val_main_v35]

theorem v59_at (s q : Fin 32) (j : Fin 2048) : val_main_v59 (F := Ideal) x5 (ix3 s q j) = row1 x5 j := by
  pointwise [val_main_v59, val_main_v58, val_main_v36]

theorem v74_at (s q : Fin 32) (j : Fin 2048) : val_main_v74 (F := Ideal) x6 (ix3 s q j) = row1 x6 j := by
  pointwise [val_main_v74, val_main_v73, val_main_v62]

theorem v60_at (s q : Fin 32) (j : Fin 2048) :
    val_main_v60 (F := Ideal) x0 x1 x2 x3 x4 x5 (ix3 s q j) = lnRow (sums x0 x1 x2 x3 s q) (row1 x4) (row1 x5) j := by
  rw [val_main_v60_apply, val_main_v57_apply, val_main_v54_apply, v49_at, v53_at, v56_at, v59_at]
  rfl

theorem v61_at (s q : Fin 32) (j : Fin 2048) :
    val_main_v61 (F := Ideal) x0 x1 x2 x3 x4 x5 (ix3 s q j) = act (lnRow (sums x0 x1 x2 x3 s q) (row1 x4) (row1 x5) j) := by
  refine Eq.trans (b := act (val_main_v60 (F := Ideal) x0 x1 x2 x3 x4 x5 (ix3 s q j))) ?_ (congrArg act (v60_at x0 x1 x2 x3 x4 x5 s q j))
  pointwise [val_main_v61, val_main_call0_v5, val_main_call0_v4, val_main_call0_v3, val_main_call0_v2, val_main_call0_v1,
    val_main_call0_v0, val_main_call0_cst_apply, val_main_call0_cst_0_apply]
  rfl

theorem v71_at (s q : Fin 32) (j : Fin 2048) :
    val_main_v71 (F := Ideal) x0 x1 x2 x3 x4 x5 (ix3 s q j)
      = scale rowLen eps (fun k => act (lnRow (sums x0 x1 x2 x3 s q) (row1 x4) (row1 x5) k)) := by
  refine Eq.trans (b := scale rowLen eps (fun k => val_main_v61 (F := Ideal) x0 x1 x2 x3 x4 x5 (ix3 s q k))) ?_
    (congrArg (scale rowLen eps) (funext fun k => v61_at x0 x1 x2 x3 x4 x5 s q k))
  pointwise [val_main_v71, val_main_v70, val_main_v69, val_main_v68, val_main_v67, val_main_v66, val_main_v65, val_main_v64, val_main_v63,
    val_main_cst_8_apply, val_main_cst_9_apply, val_main_cst_10_apply]
  rfl

theorem v75_at (s q : Fin 32) (j : Fin 2048) : val_main_v75 (F := Ideal) x0 x1 x2 x3 x4 x5 x6 (ix3 s q j)
    = outRow (sums x0 x1 x2 x3 s q) (row1 x4) (row1 x5) (row1 x6) j := by
  rw [val_main_v75_apply, val_main_v72_apply, v61_at, v71_at, v74_at]
  rfl

theorem second_apply (i : S1024x2048.Idx) : val_main_v77 (F := Ideal) x0 x1 x2 x3 x4 x5 x6 i
    = outRow (convAt (rZ x0) (rH x1) (rW x2) (row1 x3) (streamOf (i 0)) (placeOf (i 0))) (row1 x4) (row1 x5) (row1 x6) (i 1) := by
  have h0 : (i 0).val < 1024 := (i 0).isLt
  have h1 : (i 1).val < 2048 := (i 1).isLt
  have e : idx_main_v76 i = ix3 (streamOf (i 0)) (placeOf (i 0)) (i 1) := by
    refine ix3_congr ?_ ?_ ?_
    · show _ = (i 0).val / 32
      dsimp only [idx_main_v76]
      omega
    · show _ = (i 0).val % 32
      dsimp only [idx_main_v76]
      omega
    · show _ = (i 1).val
      dsimp only [idx_main_v76]
      omega
  refine (show val_main_v77 (F := Ideal) x0 x1 x2 x3 x4 x5 x6 i = val_main_v76 (F := Ideal) x0 x1 x2 x3 x4 x5 x6 i from rfl).trans ?_
  rw [val_main_v76_apply, e]
  refine (v75_at x0 x1 x2 x3 x4 x5 x6 (streamOf (i 0)) (placeOf (i 0)) (i 1)).trans ?_
  refine congrArg (fun a => outRow a (row1 x4) (row1 x5) (row1 x6) (i 1)) (funext fun j => ?_)
  exact v34_at x0 x1 x2 x3 _

end Cert.ConvSampleReferenceIdeal.RefValue

end
-- ==== Proof.ConvSampleClaims.lean ====
/- The convolution module of the samples: its claims. -/
module

public import proofs.«01_k».proof.Defs
public import proofs.«01_k».proof.Proof.ConvSampleArray
public import proofs.«01_k».proof.Proof.ConvSampleRef
public import proofs.«01_k».proof.Proof.Gen.ConvSampleKernel.Frame
public import Idealize.ShloMosaic.Lib.Quiescent

@[expose] public section

set_option maxRecDepth 16384

noncomputable section

open Idealize.ShloMosaic Idealize.ShloMosaic.TcCoe Idealize.SL.Sem

namespace Cert.Proof.ConvSampleClaims

theorem frame_p : Cert.quiescent_ConvSampleKernel := fun m ρ _ => Cert.ConvSampleKernel.Gen.frame m ρ
theorem frame_pi : Cert.quiescent_ConvSampleKernelIdeal := fun m ρ _ => Cert.ConvSampleKernelIdeal.Gen.frame m ρ
theorem frame_ri : Cert.quiescent_ConvSampleReferenceIdeal := fun m ρ _ =>
  (θ_run Cert.ConvSampleReferenceIdeal.defs _ _).mono (fun r h => ⟨fun c => (h c).2.2,
      Idealize.ShloMosaic.sem_eq_zero_of_no_sems (by decide) r.2⟩)
    (Cert.ConvSampleReferenceIdeal.Value.run (F := Ideal) m ρ)
theorem preserves : Cert.preserves_ConvSampleKernel_ConvSampleKernelIdeal := trivial

/-- The kernel's two result arrays and the reference's are equal at every index, from equal arguments. -/
theorem algebraic : Cert.algebraic_ConvSampleKernelIdeal_ConvSampleReferenceIdeal := by
  intro m ρ m' ρ' _ hag
  refine ⟨fun c => Cert.ConvSampleKernelIdeal.ConvValue.G8 m c, fun c => Cert.ConvSampleKernelIdeal.ConvValue.G9 m c,
    Cert.ConvSampleKernelIdeal.ConvValue.run m ρ, ?_⟩
  refine (θ_run Cert.ConvSampleReferenceIdeal.defs _ _).mono (fun _ h c => ⟨(h c).1.trans ?_, (h c).2.1.trans ?_, (h c).2.2⟩)
    (Cert.ConvSampleReferenceIdeal.Value.run (F := Ideal) m' ρ')
  · obtain ⟨h0, h1, h2, h3, h4, h5, h6⟩ := hag c
    rw [Cert.ConvSampleReferenceIdeal.Read.val_main_v8_eq, h0]
    funext i
    exact Cert.ConvSampleReferenceIdeal.RefValue.first_apply _ i
  · obtain ⟨h0, h1, h2, h3, h4, h5, h6⟩ := hag c
    rw [Cert.ConvSampleReferenceIdeal.Read.val_main_v77_eq, h0, h1, h2, h3, h4, h5, h6]
    funext i
    exact Cert.ConvSampleReferenceIdeal.RefValue.second_apply _ _ _ _ _ _ _ i

end Cert.Proof.ConvSampleClaims

end
-- ==== Proof.ConvTile.lean ====
/- The convolution module of the prompt: what its two scratch buffers hold at a point. One holds eight copies of the padded
   rows of a tile, the copy `s` beginning `s` rows later; its first thirty-two rows are the last of the tile before. The
   other holds each row of parameters eight times. -/
module

public import proofs.«01_k».proof.Proof.Gen.ConvKernelIdeal.Frame
public import proofs.«01_k».proof.Proof.ConvSampleValue

@[expose] public section

set_option maxRecDepth 16384
set_option maxHeartbeats 4000000

noncomputable section

open Idealize.ShloMosaic Idealize.ShloMosaic.TcCoe Idealize.SL.Sem

namespace Cert.ConvKernelIdeal.ConvTile

open Cert.ConvKernelIdeal Cert.ConvKernelIdeal.Gen Cert.Rows
open Cert.ConvSampleKernelIdeal.ConvTile (param params eight eight_apply piece_tap piece_row hz hz3 inb_tap inb_row)

/-- The gated rows: a value times the logistic of its gate. -/
def gated (x0 x1 : Vec Ideal S128x2048 .f32) : Vec Ideal S128x2048 .f32 := k0_pay46 x0 x1

/-- The padded rows of one tile: thirty-two rows before it, then its hundred and twenty-eight gated rows. A row's number is
    read modulo a hundred and sixty. -/
def padded (x0 x1 : Vec Ideal S128x2048 .f32) (x2 : Vec Ideal S1x32x2048 .f32) (r : ℕ) (j : Fin 2048) : EReal :=
  if r % 160 < 32 then x2 (ix3 0 (⟨r % 32, Nat.mod_lt _ (by decide)⟩ : Fin 32) j)
  else gated x0 x1 (ix2 (⟨(r % 160 - 32) % 128, Nat.mod_lt _ (by decide)⟩ : Fin 128) j)

theorem padded_congr (x0 x1 : Vec Ideal S128x2048 .f32) (x2 : Vec Ideal S1x32x2048 .f32) {r r' : ℕ} (h : r % 160 = r' % 160)
    {j j' : Fin 2048} (hj : j.val = j'.val) : padded x0 x1 x2 r j = padded x0 x1 x2 r' j' := by
  obtain rfl := Fin.ext hj
  have h' : r % 32 = r' % 32 := by omega
  unfold padded
  simp only [h, h']

/-- The buffer of copies, and the rows a tile hands on: the last thirty-two of its first copy. -/
def shifted (x0 x1 : Vec Ideal S128x2048 .f32) (x2 : Vec Ideal S1x32x2048 .f32) : Vec Ideal S8x160x2048 .f32 :=
  fun y => padded x0 x1 x2 ((y 0).val + (y 1).val) (y 2)
def handed (x0 x1 : Vec Ideal S128x2048 .f32) : Vec Ideal S1x32x2048 .f32 :=
  fun y => gated x0 x1 (ix2 (⟨96 + (y 1).val, by have : (y 1).val < 32 := (y 1).isLt; omega⟩ : Fin 128) (y 2))

theorem inb_copy (k : ℕ) (hk : k < 8) : ∀ a, (![k, 0, 0] : Fin 3 → Nat) a + S1x160x2048.size a ≤ S8x160x2048.size a := by
  intro a
  fin_cases a
  · show k + 1 ≤ 8; omega
  · show 0 + 160 ≤ 160; omega
  · show 0 + 2048 ≤ 2048; omega

/-! ## The parameters' buffer -/

theorem tap_piece (a5 : Memref sig .tc .vmem S31x2048 .f32) (h5 : a5.IsWhole) (x3 : Vec Ideal S31x2048 .f32)
    (x4 x5 x6 x7 : Vec Ideal S1x2048 .f32) (k : ℕ) (hk : k < 31)
    (inb : ∀ a, (![k, 0] : Fin 2 → Nat) a + S1x2048.size a ≤ S31x2048.size a)
    (inb' : ∀ a, (![k, 0, 0] : Fin 3 → Nat) a + S1x8x2048.size a ≤ S35x8x2048.size a) (z : S1x8x2048.Idx) :
    eight (View.readAt (Elt Ideal) a5.view (Rect.unit (s := S31x2048) ![k, 0] S1x2048.size inb).toLoadRect (h5.unread x3)) z
      = params x3 x4 x5 x6 x7 ((Rect.unit (s := S35x8x2048) ![k, 0, 0] S1x8x2048.size inb').emb z) := by
  rw [View.readAt_eq_ld, h5.read_unread]
  exact piece_tap x3 x4 x5 x6 x7 k hk inb inb' z

theorem row_piece (a : Memref sig .tc .vmem S1x2048 .f32) (h : a.IsWhole) (v : Vec Ideal S1x2048 .f32)
    (x3 : Vec Ideal S31x2048 .f32) (x4 x5 x6 x7 : Vec Ideal S1x2048 .f32) (k : ℕ)
    (hv : ∀ j, param x3 x4 x5 x6 x7 k j = v (ix2 0 j))
    (inb' : ∀ a, (![k, 0, 0] : Fin 3 → Nat) a + S1x8x2048.size a ≤ S35x8x2048.size a) (z : S1x8x2048.Idx) :
    eight (View.readAt (Elt Ideal) a.view (Rect.unit (s := S1x2048) ![0, 0] S1x2048.size inb_S1x2048_S1x2048_0_0).toLoadRect
        (h.unread v)) z
      = params x3 x4 x5 x6 x7 ((Rect.unit (s := S35x8x2048) ![k, 0, 0] S1x8x2048.size inb').emb z) := by
  rw [View.readAt_eq_ld, h.read_unread, View.ld_unit_zero (S := S1x2048) (funext hz)]
  exact piece_row x3 x4 x5 x6 x7 v k hv inb' z

section Cases

variable (c : Dev nD) (a2 : Memref sig .tc .vmem S128x2048 .f32) (h2 : a2.IsWhole)
  (a3 : Memref sig .tc .vmem S128x2048 .f32) (h3 : a3.IsWhole) (a4 : Memref sig .tc .vmem S1x32x2048 .f32) (h4 : a4.IsWhole)
  (a5 : Memref sig .tc .vmem S31x2048 .f32) (h5 : a5.IsWhole) (a6 : Memref sig .tc .vmem S1x2048 .f32) (h6 : a6.IsWhole)
  (a7 : Memref sig .tc .vmem S1x2048 .f32) (h7 : a7.IsWhole) (a8 : Memref sig .tc .vmem S1x2048 .f32) (h8 : a8.IsWhole)
  (a9 : Memref sig .tc .vmem S1x2048 .f32) (h9 : a9.IsWhole) (a16 : Memref sig .tc .vmem S8x160x2048 .f32) (h16 : a16.IsWhole)
  (x0 x1 : Vec Ideal S128x2048 .f32) (x2 : Vec Ideal S1x32x2048 .f32) (x3 : Vec Ideal S31x2048 .f32)
  (x4 x5 x6 x7 : Vec Ideal S1x2048 .f32) (xs0 : Vec Ideal S8x160x2048 .f32)

/-- One row of taps, read from its window. -/
def tapRow (k : ℕ) (hk : k < 31) : Vec Ideal S1x2048 .f32 :=
  View.readAt (Elt Ideal) a5.view (Rect.unit (s := S31x2048) ![k, 0] S1x2048.size (inb_tap k hk)).toLoadRect (h5.unread x3)

theorem tap_rows (k : ℕ) (hk : k < 31) : ∀ z : S1x8x2048.Idx, eight (tapRow a5 h5 x3 k hk) z
    = params x3 x4 x5 x6 x7 ((Rect.unit (s := S35x8x2048) ![k, 0, 0] S1x8x2048.size (inb_row k (by omega))).emb z) :=
  tap_piece a5 h5 x3 x4 x5 x6 x7 k hk (inb_tap k hk) (inb_row k (by omega))

/-- The thirty-five rows, as pieces of the buffer. -/
def rows : List (View.Piece (Elt Ideal) S35x8x2048 .f32) :=
  [⟨Rect.unit ![34, 0, 0] S1x8x2048.size (inb_row 34 (by decide)), eight (View.readAt (Elt Ideal) a9.view
      (Rect.unit (s := S1x2048) ![0, 0] S1x2048.size inb_S1x2048_S1x2048_0_0).toLoadRect (h9.unread x7))⟩,
    ⟨Rect.unit ![33, 0, 0] S1x8x2048.size (inb_row 33 (by decide)), eight (View.readAt (Elt Ideal) a8.view
      (Rect.unit (s := S1x2048) ![0, 0] S1x2048.size inb_S1x2048_S1x2048_0_0).toLoadRect (h8.unread x6))⟩,
    ⟨Rect.unit ![32, 0, 0] S1x8x2048.size (inb_row 32 (by decide)), eight (View.readAt (Elt Ideal) a7.view
      (Rect.unit (s := S1x2048) ![0, 0] S1x2048.size inb_S1x2048_S1x2048_0_0).toLoadRect (h7.unread x5))⟩,
    ⟨Rect.unit ![31, 0, 0] S1x8x2048.size (inb_row 31 (by decide)), eight (View.readAt (Elt Ideal) a6.view
      (Rect.unit (s := S1x2048) ![0, 0] S1x2048.size inb_S1x2048_S1x2048_0_0).toLoadRect (h6.unread x4))⟩,
    ⟨Rect.unit ![30, 0, 0] S1x8x2048.size (inb_row 30 (by decide)), eight (tapRow a5 h5 x3 30 (by decide))⟩,
    ⟨Rect.unit ![29, 0, 0] S1x8x2048.size (inb_row 29 (by decide)), eight (tapRow a5 h5 x3 29 (by decide))⟩,
    ⟨Rect.unit ![28, 0, 0] S1x8x2048.size (inb_row 28 (by decide)), eight (tapRow a5 h5 x3 28 (by decide))⟩,
    ⟨Rect.unit ![27, 0, 0] S1x8x2048.size (inb_row 27 (by decide)), eight (tapRow a5 h5 x3 27 (by decide))⟩,
    ⟨Rect.unit ![26, 0, 0] S1x8x2048.size (inb_row 26 (by decide)), eight (tapRow a5 h5 x3 26 (by decide))⟩,
    ⟨Rect.unit ![25, 0, 0] S1x8x2048.size (inb_row 25 (by decide)), eight (tapRow a5 h5 x3 25 (by decide))⟩,
    ⟨Rect.unit ![24, 0, 0] S1x8x2048.size (inb_row 24 (by decide)), eight (tapRow a5 h5 x3 24 (by decide))⟩,
    ⟨Rect.unit ![23, 0, 0] S1x8x2048.size (inb_row 23 (by decide)), eight (tapRow a5 h5 x3 23 (by decide))⟩,
    ⟨Rect.unit ![22, 0, 0] S1x8x2048.size (inb_row 22 (by decide)), eight (tapRow a5 h5 x3 22 (by decide))⟩,
    ⟨Rect.unit ![21, 0, 0] S1x8x2048.size (inb_row 21 (by decide)), eight (tapRow a5 h5 x3 21 (by decide))⟩,
    ⟨Rect.unit ![20, 0, 0] S1x8x2048.size (inb_row 20 (by decide)), eight (tapRow a5 h5 x3 20 (by decide))⟩,
    ⟨Rect.unit ![19, 0, 0] S1x8x2048.size (inb_row 19 (by decide)), eight (tapRow a5 h5 x3 19 (by decide))⟩,
    ⟨Rect.unit ![18, 0, 0] S1x8x2048.size (inb_row 18 (by decide)), eight (tapRow a5 h5 x3 18 (by decide))⟩,
    ⟨Rect.unit ![17, 0, 0] S1x8x2048.size (inb_row 17 (by decide)), eight (tapRow a5 h5 x3 17 (by decide))⟩,
    ⟨Rect.unit ![16, 0, 0] S1x8x2048.size (inb_row 16 (by decide)), eight (tapRow a5 h5 x3 16 (by decide))⟩,
    ⟨Rect.unit ![15, 0, 0] S1x8x2048.size (inb_row 15 (by decide)), eight (tapRow a5 h5 x3 15 (by decide))⟩,
    ⟨Rect.unit ![14, 0, 0] S1x8x2048.size (inb_row 14 (by decide)), eight (tapRow a5 h5 x3 14 (by decide))⟩,
    ⟨Rect.unit ![13, 0, 0] S1x8x2048.size (inb_row 13 (by decide)), eight (tapRow a5 h5 x3 13 (by decide))⟩,
    ⟨Rect.unit ![12, 0, 0] S1x8x2048.size (inb_row 12 (by decide)), eight (tapRow a5 h5 x3 12 (by decide))⟩,
    ⟨Rect.unit ![11, 0, 0] S1x8x2048.size (inb_row 11 (by decide)), eight (tapRow a5 h5 x3 11 (by decide))⟩,
    ⟨Rect.unit ![10, 0, 0] S1x8x2048.size (inb_row 10 (by decide)), eight (tapRow a5 h5 x3 10 (by decide))⟩,
    ⟨Rect.unit ![9, 0, 0] S1x8x2048.size (inb_row 9 (by decide)), eight (tapRow a5 h5 x3 9 (by decide))⟩,
    ⟨Rect.unit ![8, 0, 0] S1x8x2048.size (inb_row 8 (by decide)), eight (tapRow a5 h5 x3 8 (by decide))⟩,
    ⟨Rect.unit ![7, 0, 0] S1x8x2048.size (inb_row 7 (by decide)), eight (tapRow a5 h5 x3 7 (by decide))⟩,
    ⟨Rect.unit ![6, 0, 0] S1x8x2048.size (inb_row 6 (by decide)), eight (tapRow a5 h5 x3 6 (by decide))⟩,
    ⟨Rect.unit ![5, 0, 0] S1x8x2048.size (inb_row 5 (by decide)), eight (tapRow a5 h5 x3 5 (by decide))⟩,
    ⟨Rect.unit ![4, 0, 0] S1x8x2048.size (inb_row 4 (by decide)), eight (tapRow a5 h5 x3 4 (by decide))⟩,
    ⟨Rect.unit ![3, 0, 0] S1x8x2048.size (inb_row 3 (by decide)), eight (tapRow a5 h5 x3 3 (by decide))⟩,
    ⟨Rect.unit ![2, 0, 0] S1x8x2048.size (inb_row 2 (by decide)), eight (tapRow a5 h5 x3 2 (by decide))⟩,
    ⟨Rect.unit ![1, 0, 0] S1x8x2048.size (inb_row 1 (by decide)), eight (tapRow a5 h5 x3 1 (by decide))⟩,
    ⟨Rect.unit ![0, 0, 0] S1x8x2048.size (inb_row 0 (by decide)), eight (tapRow a5 h5 x3 0 (by decide))⟩]

/-- Every row of parameters the first point writes is the buffer's row of that number. -/
theorem params_pieces : ∀ p ∈ rows a5 h5 a6 h6 a7 h7 a8 h8 a9 h9 x3 x4 x5 x6 x7,
    ∀ z : p.1.shape.Idx, p.2 z = params x3 x4 x5 x6 x7 (p.1.emb z) := by
  unfold rows
  refine List.forall_mem_cons.mpr ⟨row_piece a9 h9 x7 x3 x4 x5 x6 x7 34 (fun _ => rfl) (inb_row 34 (by decide)), ?_⟩
  refine List.forall_mem_cons.mpr ⟨row_piece a8 h8 x6 x3 x4 x5 x6 x7 33 (fun _ => rfl) (inb_row 33 (by decide)), ?_⟩
  refine List.forall_mem_cons.mpr ⟨row_piece a7 h7 x5 x3 x4 x5 x6 x7 32 (fun _ => rfl) (inb_row 32 (by decide)), ?_⟩
  refine List.forall_mem_cons.mpr ⟨row_piece a6 h6 x4 x3 x4 x5 x6 x7 31 (fun _ => rfl) (inb_row 31 (by decide)), ?_⟩
  refine List.forall_mem_cons.mpr ⟨tap_rows a5 h5 x3 x4 x5 x6 x7 30 (by decide), ?_⟩
  refine List.forall_mem_cons.mpr ⟨tap_rows a5 h5 x3 x4 x5 x6 x7 29 (by decide), ?_⟩
  refine List.forall_mem_cons.mpr ⟨tap_rows a5 h5 x3 x4 x5 x6 x7 28 (by decide), ?_⟩
  refine List.forall_mem_cons.mpr ⟨tap_rows a5 h5 x3 x4 x5 x6 x7 27 (by decide), ?_⟩
  refine List.forall_mem_cons.mpr ⟨tap_rows a5 h5 x3 x4 x5 x6 x7 26 (by decide), ?_⟩
  refine List.forall_mem_cons.mpr ⟨tap_rows a5 h5 x3 x4 x5 x6 x7 25 (by decide), ?_⟩
  refine List.forall_mem_cons.mpr ⟨tap_rows a5 h5 x3 x4 x5 x6 x7 24 (by decide), ?_⟩
  refine List.forall_mem_cons.mpr ⟨tap_rows a5 h5 x3 x4 x5 x6 x7 23 (by decide), ?_⟩
  refine List.forall_mem_cons.mpr ⟨tap_rows a5 h5 x3 x4 x5 x6 x7 22 (by decide), ?_⟩
  refine List.forall_mem_cons.mpr ⟨tap_rows a5 h5 x3 x4 x5 x6 x7 21 (by decide), ?_⟩
  refine List.forall_mem_cons.mpr ⟨tap_rows a5 h5 x3 x4 x5 x6 x7 20 (by decide), ?_⟩
  refine List.forall_mem_cons.mpr ⟨tap_rows a5 h5 x3 x4 x5 x6 x7 19 (by decide), ?_⟩
  refine List.forall_mem_cons.mpr ⟨tap_rows a5 h5 x3 x4 x5 x6 x7 18 (by decide), ?_⟩
  refine List.forall_mem_cons.mpr ⟨tap_rows a5 h5 x3 x4 x5 x6 x7 17 (by decide), ?_⟩
  refine List.forall_mem_cons.mpr ⟨tap_rows a5 h5 x3 x4 x5 x6 x7 16 (by decide), ?_⟩
  refine List.forall_mem_cons.mpr ⟨tap_rows a5 h5 x3 x4 x5 x6 x7 15 (by decide), ?_⟩
  refine List.forall_mem_cons.mpr ⟨tap_rows a5 h5 x3 x4 x5 x6 x7 14 (by decide), ?_⟩
  refine List.forall_mem_cons.mpr ⟨tap_rows a5 h5 x3 x4 x5 x6 x7 13 (by decide), ?_⟩
  refine List.forall_mem_cons.mpr ⟨tap_rows a5 h5 x3 x4 x5 x6 x7 12 (by decide), ?_⟩
  refine List.forall_mem_cons.mpr ⟨tap_rows a5 h5 x3 x4 x5 x6 x7 11 (by decide), ?_⟩
  refine List.forall_mem_cons.mpr ⟨tap_rows a5 h5 x3 x4 x5 x6 x7 10 (by decide), ?_⟩
  refine List.forall_mem_cons.mpr ⟨tap_rows a5 h5 x3 x4 x5 x6 x7 9 (by decide), ?_⟩
  refine List.forall_mem_cons.mpr ⟨tap_rows a5 h5 x3 x4 x5 x6 x7 8 (by decide), ?_⟩
  refine List.forall_mem_cons.mpr ⟨tap_rows a5 h5 x3 x4 x5 x6 x7 7 (by decide), ?_⟩
  refine List.forall_mem_cons.mpr ⟨tap_rows a5 h5 x3 x4 x5 x6 x7 6 (by decide), ?_⟩
  refine List.forall_mem_cons.mpr ⟨tap_rows a5 h5 x3 x4 x5 x6 x7 5 (by decide), ?_⟩
  refine List.forall_mem_cons.mpr ⟨tap_rows a5 h5 x3 x4 x5 x6 x7 4 (by decide), ?_⟩
  refine List.forall_mem_cons.mpr ⟨tap_rows a5 h5 x3 x4 x5 x6 x7 3 (by decide), ?_⟩
  refine List.forall_mem_cons.mpr ⟨tap_rows a5 h5 x3 x4 x5 x6 x7 2 (by decide), ?_⟩
  refine List.forall_mem_cons.mpr ⟨tap_rows a5 h5 x3 x4 x5 x6 x7 1 (by decide), ?_⟩
  refine List.forall_mem_cons.mpr ⟨tap_rows a5 h5 x3 x4 x5 x6 x7 0 (by decide), ?_⟩
  exact fun p hp => absurd hp List.not_mem_nil

/-- So the buffer holds the parameters after the first point. -/
theorem params_canon :
    View.canon (kernelRun0_A.sl.HS1_35 (F := Ideal) c a5 h5 a6 h6 a7 h7 a8 h8 a9 h9 x3 x4 x5 x6 x7)
      = params x3 x4 x5 x6 x7 := by
  show View.canon (rows a5 h5 a6 h6 a7 h7 a8 h8 a9 h9 x3 x4 x5 x6 x7) = params x3 x4 x5 x6 x7
  funext y
  refine View.canon_apply_of_pieces (Val := Elt Ideal) _ _ (params_pieces a5 h5 a6 h6 a7 h7 a8 h8 a9 h9 x3 x4 x5 x6 x7) y ?_
  exact View.cover_of_tiledL (rows a5 h5 a6 h6 a7 h7 a8 h8 a9 h9 x3 x4 x5 x6 x7)
    S1x8x2048.size (by sl_kernel_rfl) y

/-! ## The buffer of shifted copies -/

/-- The rows of a copy moved up by `160 − n`. -/
def moved (n : BitVec 32) (v : Vec Ideal S1x160x2048 .f32) : FVec Ideal S1x160x2048 .f32 :=
  shapeCast S1x160x2048 (dynamicRotate 0 n none (k0_pay48 v) rotates_S160x2048_d0) shapeCasts_S160x2048_S1x160x2048

theorem moved_apply (n : BitVec 32) (v : Vec Ideal S1x160x2048 .f32) (z : S1x160x2048.Idx) :
    moved n v z = v (ix3 0 (⟨((z 1).val + 160 - n.toNat % 160) % 160, Nat.mod_lt _ (by decide)⟩ : Fin 160) (z 2)) := by
  unfold moved
  pointwise [k0_pay48]

theorem moved_piece (s : ℕ) (hs : s < 8) (hs0 : 0 < s) (n : BitVec 32) (hn : n.toNat = 160 - s) (v : Vec Ideal S1x160x2048 .f32)
    (hv : ∀ z, v z = padded x0 x1 x2 (z 1).val (z 2))
    (inb : ∀ a, (![s, 0, 0] : Fin 3 → Nat) a + S1x160x2048.size a ≤ S8x160x2048.size a) (z : S1x160x2048.Idx) :
    moved n v z = shifted x0 x1 x2 ((Rect.unit (s := S8x160x2048) ![s, 0, 0] S1x160x2048.size inb).emb z) := by
  rw [moved_apply, hv]
  unfold shifted
  have z0 : (z 0).val < 1 := (z 0).isLt
  have z1 : (z 1).val < 160 := (z 1).isLt
  refine padded_congr x0 x1 x2 ?_ ?_
  · show ((z 1).val + 160 - n.toNat % 160) % 160 % 160 = ((s + 1 * (z 0).val) + (0 + 1 * (z 1).val)) % 160
    rw [hn]; omega
  · show (z 2).val = 0 + 1 * (z 2).val; omega

theorem first_half (v : Vec Ideal S1x32x2048 .f32) (hv : v = x2) (z : S1x32x2048.Idx) :
    k0_pay44 v z = shifted x0 x1 x2 ((Rect.unit (s := S8x160x2048) ![0, 0, 0] S1x32x2048.size
      inb_S8x160x2048_S1x32x2048_0_0_0).emb z) := by
  subst hv
  have z0 : (z 0).val < 1 := (z 0).isLt
  have z1 : (z 1).val < 32 := (z 1).isLt
  have e : k0_pay44 (F := Ideal) v z = v z := by pointwise [k0_pay44]
  rw [e]
  unfold shifted padded
  have e1 : ((Rect.unit (s := S8x160x2048) ![0, 0, 0] S1x32x2048.size inb_S8x160x2048_S1x32x2048_0_0_0).emb z 0).val
      + ((Rect.unit (s := S8x160x2048) ![0, 0, 0] S1x32x2048.size inb_S8x160x2048_S1x32x2048_0_0_0).emb z 1).val = (z 1).val := by
    show (0 + 1 * (z 0).val) + (0 + 1 * (z 1).val) = _; omega
  simp only [e1]
  rw [if_pos (by omega)]
  refine congrArg v (funext fun a => Fin.ext ?_)
  fin_cases a
  · show (z 0).val = 0; omega
  · show (z 1).val = (z 1).val % 32; omega
  · show (z 2).val = 0 + 1 * (z 2).val; omega

theorem second_half (v w : Vec Ideal S128x2048 .f32) (hv : v = x0) (hw : w = x1) (z : S1x128x2048.Idx) :
    k0_pay47 v w z = shifted x0 x1 x2 ((Rect.unit (s := S8x160x2048) ![0, 32, 0] S1x128x2048.size
      inb_S8x160x2048_S1x128x2048_0_32_0).emb z) := by
  subst hv; subst hw
  have z0 : (z 0).val < 1 := (z 0).isLt
  have z1 : (z 1).val < 128 := (z 1).isLt
  have e : k0_pay47 (F := Ideal) v w z = gated v w (ix2 (⟨(z 1).val, z1⟩ : Fin 128) (z 2)) := by
    unfold gated
    pointwise [k0_pay47]
  rw [e]
  unfold shifted padded
  have e1 : ((Rect.unit (s := S8x160x2048) ![0, 32, 0] S1x128x2048.size inb_S8x160x2048_S1x128x2048_0_32_0).emb z 0).val
      + ((Rect.unit (s := S8x160x2048) ![0, 32, 0] S1x128x2048.size inb_S8x160x2048_S1x128x2048_0_32_0).emb z 1).val
        = 32 + (z 1).val := by
    show (0 + 1 * (z 0).val) + (32 + 1 * (z 1).val) = _; omega
  simp only [e1]
  rw [if_neg (by omega)]
  refine congrArg (gated v w) (ix2_congr ?_ ?_)
  · show (z 1).val = ((32 + (z 1).val) % 160 - 32) % 128; omega
  · show (z 2).val = 0 + 1 * (z 2).val; omega

/-- The two halves of the first copy, read back as one. -/
theorem whole_copy (p : Vec Ideal S1x128x2048 .f32) (q : Vec Ideal S1x32x2048 .f32)
    (hp : ∀ z, p z = shifted x0 x1 x2 ((Rect.unit (s := S8x160x2048) ![0, 32, 0] S1x128x2048.size
      inb_S8x160x2048_S1x128x2048_0_32_0).emb z))
    (hq : ∀ z, q z = shifted x0 x1 x2 ((Rect.unit (s := S8x160x2048) ![0, 0, 0] S1x32x2048.size
      inb_S8x160x2048_S1x32x2048_0_0_0).emb z)) (z : S1x160x2048.Idx) :
    a16.view.readCov (Val := Elt Ideal)
        [⟨Rect.unit ![0, 32, 0] S1x128x2048.size inb_S8x160x2048_S1x128x2048_0_32_0, p⟩,
          ⟨Rect.unit ![0, 0, 0] S1x32x2048.size inb_S8x160x2048_S1x32x2048_0_0_0, q⟩]
        (Rect.unit (s := S8x160x2048) ![0, 0, 0] S1x160x2048.size inb_S8x160x2048_S1x160x2048_0_0_0).toLoadRect z
      = padded x0 x1 x2 (z 1).val (z 2) := by
  have z0 : (z 0).val < 1 := (z 0).isLt
  have z1 : (z 1).val < 160 := (z 1).isLt
  have z2 : (z 2).val < 2048 := (z 2).isLt
  rw [View.readCov_eq_canon']
  refine (View.canon_apply_of_pieces (Val := Elt Ideal) (shifted x0 x1 x2) _ ?_ _ ?_).trans ?_
  · refine List.forall_mem_cons.mpr ⟨hp, ?_⟩
    refine List.forall_mem_cons.mpr ⟨hq, ?_⟩
    exact fun p hp => absurd hp List.not_mem_nil
  · by_cases h : (z 1).val < 32
    · refine ⟨_, List.mem_cons_of_mem _ List.mem_cons_self, ?_⟩
      rw [Rect.mem_set_unit]
      intro a
      fin_cases a
      · show 0 ≤ 0 + 1 * (z 0).val ∧ 0 + 1 * (z 0).val < 0 + 1; omega
      · show 0 ≤ 0 + 1 * (z 1).val ∧ 0 + 1 * (z 1).val < 0 + 32; omega
      · show 0 ≤ 0 + 1 * (z 2).val ∧ 0 + 1 * (z 2).val < 0 + 2048; omega
    · refine ⟨_, List.mem_cons_self, ?_⟩
      rw [Rect.mem_set_unit]
      intro a
      fin_cases a
      · show 0 ≤ 0 + 1 * (z 0).val ∧ 0 + 1 * (z 0).val < 0 + 1; omega
      · show 32 ≤ 0 + 1 * (z 1).val ∧ 0 + 1 * (z 1).val < 32 + 128; omega
      · show 0 ≤ 0 + 1 * (z 2).val ∧ 0 + 1 * (z 2).val < 0 + 2048; omega
  · unfold shifted
    refine padded_congr x0 x1 x2 ?_ ?_
    · show ((0 + 1 * (z 0).val) + (0 + 1 * (z 1).val)) % 160 = (z 1).val % 160; congr 1; omega
    · show 0 + 1 * (z 2).val = (z 2).val; omega

/-- The eight copies, as pieces of the buffer. -/
def copies (v : Vec Ideal S1x160x2048 .f32) (p : Vec Ideal S1x128x2048 .f32) (q : Vec Ideal S1x32x2048 .f32) : List (View.Piece (Elt Ideal) S8x160x2048 .f32) :=
  ⟨Rect.unit ![7, 0, 0] S1x160x2048.size (inb_copy 7 (by decide)), moved 153#32 v⟩ ::
  ⟨Rect.unit ![6, 0, 0] S1x160x2048.size (inb_copy 6 (by decide)), moved 154#32 v⟩ ::
  ⟨Rect.unit ![5, 0, 0] S1x160x2048.size (inb_copy 5 (by decide)), moved 155#32 v⟩ ::
  ⟨Rect.unit ![4, 0, 0] S1x160x2048.size (inb_copy 4 (by decide)), moved 156#32 v⟩ ::
  ⟨Rect.unit ![3, 0, 0] S1x160x2048.size (inb_copy 3 (by decide)), moved 157#32 v⟩ ::
  ⟨Rect.unit ![2, 0, 0] S1x160x2048.size (inb_copy 2 (by decide)), moved 158#32 v⟩ ::
  ⟨Rect.unit ![1, 0, 0] S1x160x2048.size (inb_copy 1 (by decide)), moved 159#32 v⟩ ::
  [⟨Rect.unit ![0, 32, 0] S1x128x2048.size inb_S8x160x2048_S1x128x2048_0_32_0, p⟩,
    ⟨Rect.unit ![0, 0, 0] S1x32x2048.size inb_S8x160x2048_S1x32x2048_0_0_0, q⟩]

theorem copies_canon (v : Vec Ideal S1x160x2048 .f32) (p : Vec Ideal S1x128x2048 .f32) (q : Vec Ideal S1x32x2048 .f32)
    (hv : ∀ z, v z = padded x0 x1 x2 (z 1).val (z 2))
    (hp : ∀ z, p z = shifted x0 x1 x2 ((Rect.unit (s := S8x160x2048) ![0, 32, 0] S1x128x2048.size
      inb_S8x160x2048_S1x128x2048_0_32_0).emb z))
    (hq : ∀ z, q z = shifted x0 x1 x2 ((Rect.unit (s := S8x160x2048) ![0, 0, 0] S1x32x2048.size
      inb_S8x160x2048_S1x32x2048_0_0_0).emb z)) :
    View.canon (copies v p q) = shifted x0 x1 x2 := by
  funext y
  have y0 : (y 0).val < 8 := (y 0).isLt
  have y1 : (y 1).val < 160 := (y 1).isLt
  have y2 : (y 2).val < 2048 := (y 2).isLt
  refine View.canon_apply_of_pieces (Val := Elt Ideal) (shifted x0 x1 x2) _ ?_ _ ?_
  · unfold copies
    refine List.forall_mem_cons.mpr ⟨moved_piece x0 x1 x2 7 (by decide) (by decide) 153#32 rfl v hv (inb_copy 7 (by decide)), ?_⟩
    refine List.forall_mem_cons.mpr ⟨moved_piece x0 x1 x2 6 (by decide) (by decide) 154#32 rfl v hv (inb_copy 6 (by decide)), ?_⟩
    refine List.forall_mem_cons.mpr ⟨moved_piece x0 x1 x2 5 (by decide) (by decide) 155#32 rfl v hv (inb_copy 5 (by decide)), ?_⟩
    refine List.forall_mem_cons.mpr ⟨moved_piece x0 x1 x2 4 (by decide) (by decide) 156#32 rfl v hv (inb_copy 4 (by decide)), ?_⟩
    refine List.forall_mem_cons.mpr ⟨moved_piece x0 x1 x2 3 (by decide) (by decide) 157#32 rfl v hv (inb_copy 3 (by decide)), ?_⟩
    refine List.forall_mem_cons.mpr ⟨moved_piece x0 x1 x2 2 (by decide) (by decide) 158#32 rfl v hv (inb_copy 2 (by decide)), ?_⟩
    refine List.forall_mem_cons.mpr ⟨moved_piece x0 x1 x2 1 (by decide) (by decide) 159#32 rfl v hv (inb_copy 1 (by decide)), ?_⟩
    refine List.forall_mem_cons.mpr ⟨hp, ?_⟩
    refine List.forall_mem_cons.mpr ⟨hq, ?_⟩
    exact fun p hp => absurd hp List.not_mem_nil
  · have at_slot : ∀ (s : ℕ) (inb : ∀ a, (![s, 0, 0] : Fin 3 → Nat) a + S1x160x2048.size a ≤ S8x160x2048.size a),
        (y 0).val = s → y ∈ (Rect.unit (s := S8x160x2048) ![s, 0, 0] S1x160x2048.size inb).set := fun s inb h => by
      rw [Rect.mem_set_unit]
      intro a
      fin_cases a
      · show s ≤ (y 0).val ∧ (y 0).val < s + 1; omega
      · show 0 ≤ (y 1).val ∧ (y 1).val < 0 + 160; omega
      · show 0 ≤ (y 2).val ∧ (y 2).val < 0 + 2048; omega
    unfold copies
    by_cases h7 : (y 0).val = 7
    · exact ⟨_, List.mem_cons_self, at_slot 7 (inb_copy 7 (by decide)) h7⟩
    by_cases h6 : (y 0).val = 6
    · exact ⟨_, (List.mem_cons_of_mem _ List.mem_cons_self), at_slot 6 (inb_copy 6 (by decide)) h6⟩
    by_cases h5 : (y 0).val = 5
    · exact ⟨_, (List.mem_cons_of_mem _ (List.mem_cons_of_mem _ List.mem_cons_self)), at_slot 5 (inb_copy 5 (by decide)) h5⟩
    by_cases h4 : (y 0).val = 4
    · exact ⟨_, (List.mem_cons_of_mem _ (List.mem_cons_of_mem _ (List.mem_cons_of_mem _ List.mem_cons_self))), at_slot 4 (inb_copy 4 (by decide)) h4⟩
    by_cases h3 : (y 0).val = 3
    · exact ⟨_, (List.mem_cons_of_mem _ (List.mem_cons_of_mem _ (List.mem_cons_of_mem _ (List.mem_cons_of_mem _ List.mem_cons_self)))), at_slot 3 (inb_copy 3 (by decide)) h3⟩
    by_cases h2 : (y 0).val = 2
    · exact ⟨_, (List.mem_cons_of_mem _ (List.mem_cons_of_mem _ (List.mem_cons_of_mem _ (List.mem_cons_of_mem _ (List.mem_cons_of_mem _ List.mem_cons_self))))), at_slot 2 (inb_copy 2 (by decide)) h2⟩
    by_cases h1 : (y 0).val = 1
    · exact ⟨_, (List.mem_cons_of_mem _ (List.mem_cons_of_mem _ (List.mem_cons_of_mem _ (List.mem_cons_of_mem _ (List.mem_cons_of_mem _ (List.mem_cons_of_mem _ List.mem_cons_self)))))), at_slot 1 (inb_copy 1 (by decide)) h1⟩
    by_cases h : (y 1).val < 32
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
      rw [Rect.mem_set_unit]
      intro a
      fin_cases a
      · show 0 ≤ (y 0).val ∧ (y 0).val < 0 + 1; omega
      · show 0 ≤ (y 1).val ∧ (y 1).val < 0 + 32; omega
      · show 0 ≤ (y 2).val ∧ (y 2).val < 0 + 2048; omega
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      rw [Rect.mem_set_unit]
      intro a
      fin_cases a
      · show 0 ≤ (y 0).val ∧ (y 0).val < 0 + 1; omega
      · show 32 ≤ (y 1).val ∧ (y 1).val < 32 + 128; omega
      · show 0 ≤ (y 2).val ∧ (y 2).val < 0 + 2048; omega

theorem shifted_canon_A :
    View.canon (kernelRun0_A.sl.HS0_9 (F := Ideal) c a2 h2 a3 h3 a4 h4 a16 x0 x1 x2) = shifted x0 x1 x2 := by
  have e2 : View.readAt (Elt Ideal) a2.view (Rect.unit ![0, 0] S128x2048.size inb_S128x2048_S128x2048_0_0).toLoadRect (h2.unread x0)
      = x0 := by rw [View.readAt_eq_ld, h2.read_unread, View.ld_unit_zero (S := S128x2048) (funext hz)]
  have e3 : View.readAt (Elt Ideal) a3.view (Rect.unit ![0, 0] S128x2048.size inb_S128x2048_S128x2048_0_0).toLoadRect (h3.unread x1)
      = x1 := by rw [View.readAt_eq_ld, h3.read_unread, View.ld_unit_zero (S := S128x2048) (funext hz)]
  have e4 : View.readAt (Elt Ideal) a4.view (Rect.unit ![0, 0, 0] S1x32x2048.size inb_S1x32x2048_S1x32x2048_0_0_0).toLoadRect
      (h4.unread x2) = x2 := by rw [View.readAt_eq_ld, h4.read_unread, View.ld_unit_zero (S := S1x32x2048) (funext hz3)]
  have hp := second_half x0 x1 x2 _ _ e2 e3
  have hq := first_half x0 x1 x2 _ e4
  exact copies_canon x0 x1 x2 (kernelRun0_A.sl.v25 c a2 h2 a3 h3 a4 h4 a16 x0 x1 x2) _ _
    (whole_copy a16 x0 x1 x2 _ _ hp hq) hp hq

theorem carried (hs : ∀ z : S1x32x2048.Idx, xs0 (ix3 0 (⟨128 + (z 1).val, by have : (z 1).val < 32 := (z 1).isLt; omega⟩ : Fin 160) (z 2)) = x2 z) :
    View.readAt (Elt Ideal) a16.view (Rect.unit (s := S8x160x2048) ![0, 128, 0] S1x32x2048.size
      inb_S8x160x2048_S1x32x2048_0_128_0).toLoadRect (h16.unread xs0) = x2 := by
  rw [View.readAt_eq_ld, h16.read_unread]
  funext z
  have z0 : (z 0).val < 1 := (z 0).isLt
  refine Eq.trans ?_ (hs z)
  refine congrArg xs0 (funext fun a => Fin.ext ?_)
  match a with
  | ⟨0, _⟩ => show 0 + 1 * (z 0).val = 0; omega
  | ⟨1, _⟩ => show 128 + 1 * (z 1).val = 128 + (z 1).val; omega
  | ⟨2, _⟩ => show 0 + 1 * (z 2).val = (z 2).val; omega

theorem shifted_canon_B (hs : ∀ z : S1x32x2048.Idx, xs0 (ix3 0 (⟨128 + (z 1).val, by have : (z 1).val < 32 := (z 1).isLt; omega⟩ : Fin 160) (z 2)) = x2 z) :
    View.canon (kernelRun0_B.sl.HS0_9 (F := Ideal) c a2 h2 a3 h3 a16 h16 x0 x1 xs0) = shifted x0 x1 x2 := by
  have e2 : View.readAt (Elt Ideal) a2.view (Rect.unit ![0, 0] S128x2048.size inb_S128x2048_S128x2048_0_0).toLoadRect (h2.unread x0)
      = x0 := by rw [View.readAt_eq_ld, h2.read_unread, View.ld_unit_zero (S := S128x2048) (funext hz)]
  have e3 : View.readAt (Elt Ideal) a3.view (Rect.unit ![0, 0] S128x2048.size inb_S128x2048_S128x2048_0_0).toLoadRect (h3.unread x1)
      = x1 := by rw [View.readAt_eq_ld, h3.read_unread, View.ld_unit_zero (S := S128x2048) (funext hz)]
  have hp := second_half x0 x1 x2 _ _ e2 e3
  have hq := first_half x0 x1 x2 _ (carried a16 h16 x2 xs0 hs)
  exact copies_canon x0 x1 x2 (kernelRun0_B.sl.v25 c a2 h2 a3 h3 a16 h16 x0 x1 xs0) _ _
    (whole_copy a16 x0 x1 x2 _ _ hp hq) hp hq

/-- The rows of the first copy that the next tile begins with. -/
theorem shifted_last (z : S1x32x2048.Idx) :
    shifted x0 x1 x2 (ix3 0 (⟨128 + (z 1).val, by have : (z 1).val < 32 := (z 1).isLt; omega⟩ : Fin 160) (z 2)) = handed x0 x1 z := by
  have z1 : (z 1).val < 32 := (z 1).isLt
  unfold shifted handed padded
  rw [if_neg (by show ¬(0 + (128 + (z 1).val)) % 160 < 32; omega)]
  refine congrArg (gated x0 x1) (ix2_congr ?_ rfl)
  show ((0 + (128 + (z 1).val)) % 160 - 32) % 128 = 96 + (z 1).val
  omega

end Cases

end Cert.ConvKernelIdeal.ConvTile

end
-- ==== Proof.ConvValue.lean ====
/- The convolution module of the prompt: what a point leaves. It gates its rows, puts them after the rows handed on to it,
   and for each of its rows adds the products of thirty-one padded rows with the taps, normalises the sum, and normalises
   once more after the activation. A point also copies its slices of two weights. -/
module

public import proofs.«01_k».proof.Proof.ConvTile

@[expose] public section

set_option maxRecDepth 16384
set_option maxHeartbeats 4000000

noncomputable section

open Idealize.ShloMosaic Idealize.ShloMosaic.TcCoe Idealize.SL.Sem

namespace Cert.ConvKernelIdeal.ConvValue

open Cert.ConvKernelIdeal Cert.ConvKernelIdeal.Gen Cert.ConvKernelIdeal.ConvTile Cert.Rows
open Cert.ConvSampleKernelIdeal.ConvTile (param params hz hz3 inb_row)
open Cert.ConvSampleKernelIdeal.ConvValue (mat acc acc_apply tail tail_apply outRow)

theorem inb_at (r k : ℕ) (hr : r ≤ 120) :
    ∀ a, (![(2 + k) % 8, r + (2 + k) / 8 % 5 * 8, 0] : Fin 3 → Nat) a + S1x8x2048.size a ≤ S8x160x2048.size a := by
  intro a
  fin_cases a
  · show (2 + k) % 8 + 1 ≤ 8; omega
  · show (r + (2 + k) / 8 % 5 * 8) + 8 ≤ 160; omega
  · show 0 + 2048 ≤ 2048; omega

section Cases

variable (c : Dev nD) (i : grid0.Coords) (a2 : Memref sig .tc .vmem S128x2048 .f32) (h2 : a2.IsWhole)
  (a3 : Memref sig .tc .vmem S128x2048 .f32) (h3 : a3.IsWhole) (a4 : Memref sig .tc .vmem S1x32x2048 .f32) (h4 : a4.IsWhole)
  (a5 : Memref sig .tc .vmem S31x2048 .f32) (h5 : a5.IsWhole) (a6 : Memref sig .tc .vmem S1x2048 .f32) (h6 : a6.IsWhole)
  (a7 : Memref sig .tc .vmem S1x2048 .f32) (h7 : a7.IsWhole) (a8 : Memref sig .tc .vmem S1x2048 .f32) (h8 : a8.IsWhole)
  (a9 : Memref sig .tc .vmem S1x2048 .f32) (h9 : a9.IsWhole) (a10 : Memref sig .tc .vmem S64x4096 .f32) (h10 : a10.IsWhole)
  (a11 : Memref sig .tc .vmem S64x2048 .f32) (h11 : a11.IsWhole) (a12 : Memref sig .tc .vmem S128x2048 .f32) (h12 : a12.IsWhole)
  (a13 : Memref sig .tc .vmem S128x2048 .bf16) (h13 : a13.IsWhole) (a14 : Memref sig .tc .vmem S64x4096 .bf16) (h14 : a14.IsWhole)
  (a15 : Memref sig .tc .vmem S64x2048 .bf16) (h15 : a15.IsWhole)
  (a16 : Memref sig .tc .vmem S8x160x2048 .f32) (h16 : a16.IsWhole) (a17 : Memref sig .tc .vmem S35x8x2048 .f32) (h17 : a17.IsWhole)
  (x0 x1 : Vec Ideal S128x2048 .f32) (x2 : Vec Ideal S1x32x2048 .f32) (x3 : Vec Ideal S31x2048 .f32)
  (x4 x5 x6 x7 : Vec Ideal S1x2048 .f32) (x8 : Vec Ideal S64x4096 .f32) (x9 : Vec Ideal S64x2048 .f32)
  (xs0 : Vec Ideal S8x160x2048 .f32) (xs1 : Vec Ideal S35x8x2048 .f32)
  (hist : Vec Ideal S1x32x2048 .f32)

/-- A row of parameters, and the eight rows a tap is multiplied with, as the later points read them. -/
def parB (k : ℕ) : Vec Ideal S1x8x2048 .f32 :=
  View.readAt (Elt Ideal) a17.view (Rect.unit (s := S35x8x2048) ![k % 35, 0, 0] S1x8x2048.size
    (inb_row (k % 35) (Nat.mod_lt _ (by decide)))).toLoadRect (h17.unread xs1)
def rowsB (r : ℕ) (hr : r ≤ 120) (k : ℕ) : Vec Ideal S1x8x2048 .f32 :=
  a16.view.readCov (kernelRun0_B.sl.HS0_9 (F := Ideal) c a2 h2 a3 h3 a16 h16 x0 x1 xs0)
    (Rect.unit (s := S8x160x2048) ![(2 + k) % 8, r + (2 + k) / 8 % 5 * 8, 0] S1x8x2048.size (inb_at r k hr)).toLoadRect

def parA (k : ℕ) : Vec Ideal S1x8x2048 .f32 :=
  a17.view.readCov (kernelRun0_A.sl.HS1_35 (F := Ideal) c a5 h5 a6 h6 a7 h7 a8 h8 a9 h9 x3 x4 x5 x6 x7)
    (Rect.unit (s := S35x8x2048) ![k % 35, 0, 0] S1x8x2048.size (inb_row (k % 35) (Nat.mod_lt _ (by decide)))).toLoadRect
def rowsA (r : ℕ) (hr : r ≤ 120) (k : ℕ) : Vec Ideal S1x8x2048 .f32 :=
  a16.view.readCov (kernelRun0_A.sl.HS0_9 (F := Ideal) c a2 h2 a3 h3 a4 h4 a16 x0 x1 x2)
    (Rect.unit (s := S8x160x2048) ![(2 + k) % 8, r + (2 + k) / 8 % 5 * 8, 0] S1x8x2048.size (inb_at r k hr)).toLoadRect

theorem parB_apply (k : ℕ) (hk : k < 35) (hs : xs1 = params x3 x4 x5 x6 x7) (z : S1x8x2048.Idx) :
    parB a17 h17 xs1 k z = param x3 x4 x5 x6 x7 k (z 2) := by
  unfold parB
  rw [View.readAt_eq_ld, h17.read_unread, hs]
  have z0 : (z 0).val < 1 := (z 0).isLt
  show param x3 x4 x5 x6 x7 (k % 35 + 1 * (z 0).val) _ = _
  rw [show k % 35 + 1 * (z 0).val = k by omega]
  exact congrArg (param x3 x4 x5 x6 x7 k) (Fin.ext (by show 0 + 1 * (z 2).val = (z 2).val; omega))

theorem parA_apply (k : ℕ) (hk : k < 35) (z : S1x8x2048.Idx) :
    parA c a5 h5 a6 h6 a7 h7 a8 h8 a9 h9 a17 x3 x4 x5 x6 x7 k z = param x3 x4 x5 x6 x7 k (z 2) := by
  unfold parA
  rw [View.readCov_eq_canon', params_canon]
  have z0 : (z 0).val < 1 := (z 0).isLt
  show param x3 x4 x5 x6 x7 (k % 35 + 1 * (z 0).val) _ = _
  rw [show k % 35 + 1 * (z 0).val = k by omega]
  exact congrArg (param x3 x4 x5 x6 x7 k) (Fin.ext (by show 0 + 1 * (z 2).val = (z 2).val; omega))

theorem rowsA_apply (r : ℕ) (hr : r ≤ 120) (k : ℕ) (hk : k < 31) (z : S1x8x2048.Idx) :
    rowsA c a2 h2 a3 h3 a4 h4 a16 x0 x1 x2 r hr k z = padded x0 x1 x2 (r + (z 1).val + 2 + k) (z 2) := by
  unfold rowsA
  rw [View.readCov_eq_canon', shifted_canon_A]
  have z0 : (z 0).val < 1 := (z 0).isLt
  have z1 : (z 1).val < 8 := (z 1).isLt
  refine padded_congr x0 x1 x2 ?_ ?_
  · show (((2 + k) % 8 + 1 * (z 0).val) + ((r + (2 + k) / 8 % 5 * 8) + 1 * (z 1).val)) % 160 = (r + (z 1).val + 2 + k) % 160
    congr 1
    omega
  · show 0 + 1 * (z 2).val = (z 2).val; omega

theorem rowsB_apply (r : ℕ) (hr : r ≤ 120) (k : ℕ) (hk : k < 31)
    (hs : ∀ z : S1x32x2048.Idx, xs0 (ix3 0 (⟨128 + (z 1).val, by have : (z 1).val < 32 := (z 1).isLt; omega⟩ : Fin 160) (z 2)) = hist z) (z : S1x8x2048.Idx) :
    rowsB c a2 h2 a3 h3 a16 h16 x0 x1 xs0 r hr k z = padded x0 x1 hist (r + (z 1).val + 2 + k) (z 2) := by
  unfold rowsB
  rw [View.readCov_eq_canon', shifted_canon_B c a2 h2 a3 h3 a16 h16 x0 x1 hist xs0 hs]
  have z0 : (z 0).val < 1 := (z 0).isLt
  have z1 : (z 1).val < 8 := (z 1).isLt
  refine padded_congr x0 x1 hist ?_ ?_
  · show (((2 + k) % 8 + 1 * (z 0).val) + ((r + (2 + k) / 8 % 5 * 8) + 1 * (z 1).val)) % 160 = (r + (z 1).val + 2 + k) % 160
    congr 1
    omega
  · show 0 + 1 * (z 2).val = (z 2).val; omega

/-- The sixteen groups of eight rows, as pieces of the second result's block. -/
def groups (p : ℕ → Vec Ideal S1x8x2048 .f32) (l : (r : ℕ) → r ≤ 120 → ℕ → Vec Ideal S1x8x2048 .f32) :
    List (View.Piece (Elt Ideal) S128x2048 .bf16) :=
  [⟨Rect.unit ![120, 0] S8x2048.size inb_S128x2048_S8x2048_120_0, tail (acc p (l 120 (by decide)) 31) (mat (p 32)) (mat (p 33)) (mat (p 34))⟩,
    ⟨Rect.unit ![112, 0] S8x2048.size inb_S128x2048_S8x2048_112_0, tail (acc p (l 112 (by decide)) 31) (mat (p 32)) (mat (p 33)) (mat (p 34))⟩,
    ⟨Rect.unit ![104, 0] S8x2048.size inb_S128x2048_S8x2048_104_0, tail (acc p (l 104 (by decide)) 31) (mat (p 32)) (mat (p 33)) (mat (p 34))⟩,
    ⟨Rect.unit ![96, 0] S8x2048.size inb_S128x2048_S8x2048_96_0, tail (acc p (l 96 (by decide)) 31) (mat (p 32)) (mat (p 33)) (mat (p 34))⟩,
    ⟨Rect.unit ![88, 0] S8x2048.size inb_S128x2048_S8x2048_88_0, tail (acc p (l 88 (by decide)) 31) (mat (p 32)) (mat (p 33)) (mat (p 34))⟩,
    ⟨Rect.unit ![80, 0] S8x2048.size inb_S128x2048_S8x2048_80_0, tail (acc p (l 80 (by decide)) 31) (mat (p 32)) (mat (p 33)) (mat (p 34))⟩,
    ⟨Rect.unit ![72, 0] S8x2048.size inb_S128x2048_S8x2048_72_0, tail (acc p (l 72 (by decide)) 31) (mat (p 32)) (mat (p 33)) (mat (p 34))⟩,
    ⟨Rect.unit ![64, 0] S8x2048.size inb_S128x2048_S8x2048_64_0, tail (acc p (l 64 (by decide)) 31) (mat (p 32)) (mat (p 33)) (mat (p 34))⟩,
    ⟨Rect.unit ![56, 0] S8x2048.size inb_S128x2048_S8x2048_56_0, tail (acc p (l 56 (by decide)) 31) (mat (p 32)) (mat (p 33)) (mat (p 34))⟩,
    ⟨Rect.unit ![48, 0] S8x2048.size inb_S128x2048_S8x2048_48_0, tail (acc p (l 48 (by decide)) 31) (mat (p 32)) (mat (p 33)) (mat (p 34))⟩,
    ⟨Rect.unit ![40, 0] S8x2048.size inb_S128x2048_S8x2048_40_0, tail (acc p (l 40 (by decide)) 31) (mat (p 32)) (mat (p 33)) (mat (p 34))⟩,
    ⟨Rect.unit ![32, 0] S8x2048.size inb_S128x2048_S8x2048_32_0, tail (acc p (l 32 (by decide)) 31) (mat (p 32)) (mat (p 33)) (mat (p 34))⟩,
    ⟨Rect.unit ![24, 0] S8x2048.size inb_S128x2048_S8x2048_24_0, tail (acc p (l 24 (by decide)) 31) (mat (p 32)) (mat (p 33)) (mat (p 34))⟩,
    ⟨Rect.unit ![16, 0] S8x2048.size inb_S128x2048_S8x2048_16_0, tail (acc p (l 16 (by decide)) 31) (mat (p 32)) (mat (p 33)) (mat (p 34))⟩,
    ⟨Rect.unit ![8, 0] S8x2048.size inb_S128x2048_S8x2048_8_0, tail (acc p (l 8 (by decide)) 31) (mat (p 32)) (mat (p 33)) (mat (p 34))⟩,
    ⟨Rect.unit ![0, 0] S8x2048.size inb_S128x2048_S8x2048_0_0, tail (acc p (l 0 (by decide)) 31) (mat (p 32)) (mat (p 33)) (mat (p 34))⟩]

/-- The second result's block. -/
def convBlock : Vec Ideal S128x2048 .bf16 := fun y =>
  outRow (fun j => (∑ k ∈ Finset.range 31, padded x0 x1 x2 ((y 0).val + 2 + k) j * param x3 x4 x5 x6 x7 k j)
      + param x3 x4 x5 x6 x7 31 j)
    (param x3 x4 x5 x6 x7 32) (param x3 x4 x5 x6 x7 33) (param x3 x4 x5 x6 x7 34) (y 1)

theorem group_apply (p : ℕ → Vec Ideal S1x8x2048 .f32) (l : ℕ → Vec Ideal S1x8x2048 .f32) (r : ℕ)
    (hp : ∀ k, k < 35 → ∀ z : S1x8x2048.Idx, p k z = param x3 x4 x5 x6 x7 k (z 2))
    (hl : ∀ k, k < 31 → ∀ z : S1x8x2048.Idx, l k z = padded x0 x1 x2 (r + (z 1).val + 2 + k) (z 2))
    (inb : ∀ a, (![r, 0] : Fin 2 → Nat) a + S8x2048.size a ≤ S128x2048.size a) (z : S8x2048.Idx) :
    tail (acc p l 31) (mat (p 32)) (mat (p 33)) (mat (p 34)) z
      = convBlock x0 x1 x2 x3 x4 x5 x6 x7 ((Rect.unit (s := S128x2048) ![r, 0] S8x2048.size inb).emb z) := by
  have e : ∀ (v : Vec Ideal S1x8x2048 .f32) (z : S8x2048.Idx), mat v z = v (ix3 0 (z 0) (z 1)) := fun v z => by pointwise
  have ea : (fun j => acc p l 31 (ix2 (z 0) j)) = fun j : Fin 2048 =>
      (∑ k ∈ Finset.range 31, padded x0 x1 x2 (r + (z 0).val + 2 + k) j * param x3 x4 x5 x6 x7 k j)
        + param x3 x4 x5 x6 x7 31 j := by
    funext j
    rw [acc_apply, hp 31 (by decide)]
    refine congrArg (· + _) (Finset.sum_congr rfl fun k hk => ?_)
    have hk' := Finset.mem_range.mp hk
    rw [hp k (by omega), hl k hk']
    rfl
  have em : ∀ k, k < 35 → (fun j : Fin 2048 => mat (p k) (ix2 (z 0) j)) = param x3 x4 x5 x6 x7 k := fun k hk => by
    funext j
    rw [e, hp k hk]
    rfl
  rw [tail_apply, ea, em 32 (by decide), em 33 (by decide), em 34 (by decide)]
  unfold convBlock
  have e0 : ((Rect.unit (s := S128x2048) ![r, 0] S8x2048.size inb).emb z 0).val = r + (z 0).val := by
    show r + 1 * (z 0).val = _; omega
  rw [e0]
  exact congrArg _ (Fin.ext (by show (z 1).val = 0 + 1 * (z 1).val; omega))

theorem groups_canon (p : ℕ → Vec Ideal S1x8x2048 .f32) (l : (r : ℕ) → r ≤ 120 → ℕ → Vec Ideal S1x8x2048 .f32)
    (hp : ∀ k, k < 35 → ∀ z : S1x8x2048.Idx, p k z = param x3 x4 x5 x6 x7 k (z 2))
    (hl : ∀ r hr k, k < 31 → ∀ z : S1x8x2048.Idx, l r hr k z = padded x0 x1 x2 (r + (z 1).val + 2 + k) (z 2)) :
    View.canon (groups p l) = convBlock x0 x1 x2 x3 x4 x5 x6 x7 := by
  funext y
  refine View.canon_apply_of_pieces (Val := Elt Ideal) (convBlock x0 x1 x2 x3 x4 x5 x6 x7) _ ?_ _ ?_
  · unfold groups
    refine List.forall_mem_cons.mpr ⟨group_apply x0 x1 x2 x3 x4 x5 x6 x7 p (l 120 (by decide)) 120 hp (hl 120 (by decide)) inb_S128x2048_S8x2048_120_0, ?_⟩
    refine List.forall_mem_cons.mpr ⟨group_apply x0 x1 x2 x3 x4 x5 x6 x7 p (l 112 (by decide)) 112 hp (hl 112 (by decide)) inb_S128x2048_S8x2048_112_0, ?_⟩
    refine List.forall_mem_cons.mpr ⟨group_apply x0 x1 x2 x3 x4 x5 x6 x7 p (l 104 (by decide)) 104 hp (hl 104 (by decide)) inb_S128x2048_S8x2048_104_0, ?_⟩
    refine List.forall_mem_cons.mpr ⟨group_apply x0 x1 x2 x3 x4 x5 x6 x7 p (l 96 (by decide)) 96 hp (hl 96 (by decide)) inb_S128x2048_S8x2048_96_0, ?_⟩
    refine List.forall_mem_cons.mpr ⟨group_apply x0 x1 x2 x3 x4 x5 x6 x7 p (l 88 (by decide)) 88 hp (hl 88 (by decide)) inb_S128x2048_S8x2048_88_0, ?_⟩
    refine List.forall_mem_cons.mpr ⟨group_apply x0 x1 x2 x3 x4 x5 x6 x7 p (l 80 (by decide)) 80 hp (hl 80 (by decide)) inb_S128x2048_S8x2048_80_0, ?_⟩
    refine List.forall_mem_cons.mpr ⟨group_apply x0 x1 x2 x3 x4 x5 x6 x7 p (l 72 (by decide)) 72 hp (hl 72 (by decide)) inb_S128x2048_S8x2048_72_0, ?_⟩
    refine List.forall_mem_cons.mpr ⟨group_apply x0 x1 x2 x3 x4 x5 x6 x7 p (l 64 (by decide)) 64 hp (hl 64 (by decide)) inb_S128x2048_S8x2048_64_0, ?_⟩
    refine List.forall_mem_cons.mpr ⟨group_apply x0 x1 x2 x3 x4 x5 x6 x7 p (l 56 (by decide)) 56 hp (hl 56 (by decide)) inb_S128x2048_S8x2048_56_0, ?_⟩
    refine List.forall_mem_cons.mpr ⟨group_apply x0 x1 x2 x3 x4 x5 x6 x7 p (l 48 (by decide)) 48 hp (hl 48 (by decide)) inb_S128x2048_S8x2048_48_0, ?_⟩
    refine List.forall_mem_cons.mpr ⟨group_apply x0 x1 x2 x3 x4 x5 x6 x7 p (l 40 (by decide)) 40 hp (hl 40 (by decide)) inb_S128x2048_S8x2048_40_0, ?_⟩
    refine List.forall_mem_cons.mpr ⟨group_apply x0 x1 x2 x3 x4 x5 x6 x7 p (l 32 (by decide)) 32 hp (hl 32 (by decide)) inb_S128x2048_S8x2048_32_0, ?_⟩
    refine List.forall_mem_cons.mpr ⟨group_apply x0 x1 x2 x3 x4 x5 x6 x7 p (l 24 (by decide)) 24 hp (hl 24 (by decide)) inb_S128x2048_S8x2048_24_0, ?_⟩
    refine List.forall_mem_cons.mpr ⟨group_apply x0 x1 x2 x3 x4 x5 x6 x7 p (l 16 (by decide)) 16 hp (hl 16 (by decide)) inb_S128x2048_S8x2048_16_0, ?_⟩
    refine List.forall_mem_cons.mpr ⟨group_apply x0 x1 x2 x3 x4 x5 x6 x7 p (l 8 (by decide)) 8 hp (hl 8 (by decide)) inb_S128x2048_S8x2048_8_0, ?_⟩
    refine List.forall_mem_cons.mpr ⟨group_apply x0 x1 x2 x3 x4 x5 x6 x7 p (l 0 (by decide)) 0 hp (hl 0 (by decide)) inb_S128x2048_S8x2048_0_0, ?_⟩
    exact fun p hp => absurd hp List.not_mem_nil
  · exact View.cover_of_tiledL (groups p l) S8x2048.size (by sl_kernel_rfl) y

theorem out_A11 (hc0 : cond0_0 i) (hc1 : cond0_1 i) (hc2 : ¬cond0_2 i) :
    out0_A_11 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9
      = convBlock x0 x1 x2 x3 x4 x5 x6 x7 := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9)]
  exact groups_canon x0 x1 x2 x3 x4 x5 x6 x7 (parA c a5 h5 a6 h6 a7 h7 a8 h8 a9 h9 a17 x3 x4 x5 x6 x7)
    (rowsA c a2 h2 a3 h3 a4 h4 a16 x0 x1 x2) (parA_apply c a5 h5 a6 h6 a7 h7 a8 h8 a9 h9 a17 x3 x4 x5 x6 x7)
    (rowsA_apply c a2 h2 a3 h3 a4 h4 a16 x0 x1 x2)

theorem out_B11 (hc0 : ¬cond0_0 i) (hc1 : ¬cond0_1 i) (hc2 : cond0_2 i)
    (hs : ∀ z : S1x32x2048.Idx, xs0 (ix3 0 (⟨128 + (z 1).val, by have : (z 1).val < 32 := (z 1).isLt; omega⟩ : Fin 160) (z 2)) = hist z)
    (hp : xs1 = params x3 x4 x5 x6 x7) :
    out0_B_11 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 xs0 xs1
      = convBlock x0 x1 hist x3 x4 x5 x6 x7 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 xs0 xs1)]
  exact groups_canon x0 x1 hist x3 x4 x5 x6 x7 (parB a17 h17 xs1)
    (rowsB c a2 h2 a3 h3 a16 h16 x0 x1 xs0) (fun k hk => parB_apply a17 h17 x3 x4 x5 x6 x7 xs1 k hk hp)
    (fun r hr k hk => rowsB_apply c a2 h2 a3 h3 a16 h16 x0 x1 xs0 hist r hr k hk hs)

theorem out_A10 (hc0 : cond0_0 i) (hc1 : cond0_1 i) (hc2 : ¬cond0_2 i) :
    out0_A_10 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9
      = gated x0 x1 := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9)]
  unfold kernelRun0_A
  dsimp only
  rw [View.canon_unit_zero (funext hz)]
  simp only [View.readAt_eq_ld, h2.read_unread, h3.read_unread, View.ld_unit_zero (S := S128x2048) (funext hz)]
  rfl

theorem out_A12 (hc0 : cond0_0 i) (hc1 : cond0_1 i) (hc2 : ¬cond0_2 i) :
    out0_A_12 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9
      = (truncf .bf16 x8 bitsLt_bf16_f32 : FVec Ideal S64x4096 .bf16) := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9)]
  unfold kernelRun0_A
  dsimp only
  rw [View.canon_unit_zero (funext hz)]
  simp only [View.readAt_eq_ld, h10.read_unread, View.ld_unit_zero (S := S64x4096) (funext hz)]
  rfl

theorem out_A13 (hc0 : cond0_0 i) (hc1 : cond0_1 i) (hc2 : ¬cond0_2 i) :
    out0_A_13 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9
      = (truncf .bf16 x9 bitsLt_bf16_f32 : FVec Ideal S64x2048 .bf16) := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9)]
  unfold kernelRun0_A
  dsimp only
  rw [View.canon_unit_zero (funext hz)]
  simp only [View.readAt_eq_ld, h11.read_unread, View.ld_unit_zero (S := S64x2048) (funext hz)]
  rfl

theorem out_B10 (hc0 : ¬cond0_0 i) (hc1 : ¬cond0_1 i) (hc2 : cond0_2 i) :
    out0_B_10 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 xs0 xs1
      = gated x0 x1 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 xs0 xs1)]
  unfold kernelRun0_B
  dsimp only
  rw [View.canon_unit_zero (funext hz)]
  simp only [View.readAt_eq_ld, h2.read_unread, h3.read_unread, View.ld_unit_zero (S := S128x2048) (funext hz)]
  rfl

theorem out_B12 (hc0 : ¬cond0_0 i) (hc1 : ¬cond0_1 i) (hc2 : cond0_2 i) :
    out0_B_12 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 xs0 xs1
      = (truncf .bf16 x8 bitsLt_bf16_f32 : FVec Ideal S64x4096 .bf16) := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 xs0 xs1)]
  unfold kernelRun0_B
  dsimp only
  rw [View.canon_unit_zero (funext hz)]
  simp only [View.readAt_eq_ld, h10.read_unread, View.ld_unit_zero (S := S64x4096) (funext hz)]
  rfl

theorem out_B13 (hc0 : ¬cond0_0 i) (hc1 : ¬cond0_1 i) (hc2 : cond0_2 i) :
    out0_B_13 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 xs0 xs1
      = (truncf .bf16 x9 bitsLt_bf16_f32 : FVec Ideal S64x2048 .bf16) := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 xs0 xs1)]
  unfold kernelRun0_B
  dsimp only
  rw [View.canon_unit_zero (funext hz)]
  simp only [View.readAt_eq_ld, h11.read_unread, View.ld_unit_zero (S := S64x2048) (funext hz)]
  rfl

theorem sout_A0 (hc0 : cond0_0 i) (hc1 : cond0_1 i) (hc2 : ¬cond0_2 i) :
    sout0_A_0 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9
      = shifted x0 x1 x2 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9)]
  exact shifted_canon_A c a2 h2 a3 h3 a4 h4 a16 x0 x1 x2

theorem sout_B0 (hc0 : ¬cond0_0 i) (hc1 : ¬cond0_1 i) (hc2 : cond0_2 i)
    (hs : ∀ z : S1x32x2048.Idx, xs0 (ix3 0 (⟨128 + (z 1).val, by have : (z 1).val < 32 := (z 1).isLt; omega⟩ : Fin 160) (z 2)) = hist z) :
    sout0_B_0 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 xs0 xs1
      = shifted x0 x1 hist := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 xs0 xs1)]
  exact shifted_canon_B c a2 h2 a3 h3 a16 h16 x0 x1 hist xs0 hs

theorem sout_A1 (hc0 : cond0_0 i) (hc1 : cond0_1 i) (hc2 : ¬cond0_2 i) :
    sout0_A_1 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9
      = params x3 x4 x5 x6 x7 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9)]
  exact params_canon c a5 h5 a6 h6 a7 h7 a8 h8 a9 h9 x3 x4 x5 x6 x7

theorem sout_B1 (hc0 : ¬cond0_0 i) (hc1 : ¬cond0_1 i) (hc2 : cond0_2 i) :
    sout0_B_1 c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 xs0 xs1
      = xs1 := by
  unfold sout0_B_1
  rfl

end Cases

end Cert.ConvKernelIdeal.ConvValue

end
-- ==== Proof.ConvArray.lean ====
/- The convolution module of the prompt: the four arrays the program leaves, read at an index in terms of its arguments. -/
module

public import proofs.«01_k».proof.Proof.ConvValue
public import proofs.«01_k».proof.Proof.ConvSampleArray
public import Idealize.ShloMosaic.Lib.KernelVsHost

@[expose] public section

set_option maxRecDepth 16384
set_option maxHeartbeats 4000000

noncomputable section

open Idealize.ShloMosaic Idealize.ShloMosaic.TcCoe Idealize.SL.Sem

namespace Cert.ConvKernelIdeal.ConvValue

open Cert.ConvKernelIdeal Cert.ConvKernelIdeal.Gen Cert.ConvKernelIdeal.ConvTile Cert.Rows
open Cert.ConvSampleKernelIdeal.ConvTile (param params)
open Cert.ConvSampleKernelIdeal.ConvValue (outRow drop_row drop_taps)

/-! ## The mathematics -/

/-- A row of the gated values: a value of the first block of columns times the logistic of its fellow in the second. -/
def gateAt (z : Fin 8192 → Fin 10240 → EReal) (r : Fin 8192) (j : Fin 2048) : EReal :=
  z r ⟨j.val, by omega⟩ * Ideal.logistic (z r ⟨2048 + j.val, by omega⟩)

/-- Row `n` of the stream: thirty rows of zeros, then the gated rows. -/
def streamRow (z : Fin 8192 → Fin 10240 → EReal) (n : ℕ) (j : Fin 2048) : EReal :=
  if n < 30 then 0 else gateAt z ⟨(n - 30) % 8192, Nat.mod_lt _ (by decide)⟩ j

/-- The causal sum: thirty-one rows of the stream, each under its tap, and a bias. -/
def convAt (z : Fin 8192 → Fin 10240 → EReal) (w : Fin 31 → Fin 2048 → EReal) (b : Fin 2048 → EReal) (q : Fin 8192) (j : Fin 2048) : EReal :=
  (∑ k : Fin 31, streamRow z (q.val + k.val) j * w k j) + b j

/-! ## The arrays before the launch -/

variable (m : (ℓ : Loc nD τ sig) → Buf (Elt Ideal) ℓ) (ρ : Dev nD → PrngReg) (c : Dev nD)

/-- The argument arrays as the kernel indexes them. -/
abbrev Z (r : Fin 8192) (k : Fin 10240) : EReal := (m ((c : Thread nD τ).loc main_arg0) : Vec Ideal S8192x10240 .f32) (ix2 r k)
abbrev W (k : Fin 31) (j : Fin 2048) : EReal := (m ((c : Thread nD τ).loc main_arg1) : Vec Ideal S1x31x2048 .f32) (ix3 0 k j)
abbrev Bs (j : Fin 2048) : EReal := (m ((c : Thread nD τ).loc main_arg2) : Vec Ideal S1x2048 .f32) (ix2 0 j)
abbrev Gl (j : Fin 2048) : EReal := (m ((c : Thread nD τ).loc main_arg3) : Vec Ideal S1x2048 .f32) (ix2 0 j)
abbrev Bl (j : Fin 2048) : EReal := (m ((c : Thread nD τ).loc main_arg4) : Vec Ideal S1x2048 .f32) (ix2 0 j)
abbrev Go (j : Fin 2048) : EReal := (m ((c : Thread nD τ).loc main_arg5) : Vec Ideal S1x2048 .f32) (ix2 0 j)
abbrev Wo (r k : Fin 4096) : EReal := (m ((c : Thread nD τ).loc main_arg6) : Vec Ideal S4096x4096 .f32) (ix2 r k)
abbrev Wq (r : Fin 4096) (k : Fin 2048) : EReal := (m ((c : Thread nD τ).loc main_arg7) : Vec Ideal S4096x2048 .f32) (ix2 r k)

theorem V_v0 (y : S1x32x2048.Idx) : (V m c main_v0 : Vec Ideal S1x32x2048 .f32) y = (0 : EReal) := by
  have e : V m c main_v0 = (broadcastInDim S1x32x2048 ![] bcast_S_S1x32x2048 (constant (F := Ideal) S_ .f32 0x00000000#32) : Vec Ideal S1x32x2048 .f32) := by
    unfold V hostOps0
    show StableHlo.after _ _ (Proc.devRef .tc main_v0) = _
    after_results
  rw [e]
  pointwise

theorem V_v1 (y : S31x2048.Idx) : (V m c main_v1 : Vec Ideal S31x2048 .f32) y = W m c (y 0) (y 1) := by
  have e : V m c main_v1 = (shapeCast S31x2048 (m ((c : Thread nD τ).loc main_arg1)) shapeCasts_S1x31x2048_S31x2048 : Vec Ideal S31x2048 .f32) := by
    unfold V hostOps0
    show StableHlo.after _ _ (Proc.devRef .tc main_v1) = _
    after_results
    rfl
  rw [e]
  exact drop_taps _ _

theorem V_v3 (y : S1x2048.Idx) : (V m c main_v3 : Vec Ideal S1x2048 .f32) y = Bs m c (y 1) := by
  have e : V m c main_v3 = (shapeCast _ (shapeCast _ (m ((c : Thread nD τ).loc main_arg2)) shapeCasts_S1x2048_S2048 : Vec Ideal S2048 .f32) shapeCasts_S2048_S1x2048 : Vec Ideal S1x2048 .f32) := by
    unfold V hostOps0
    show StableHlo.after _ _ (Proc.devRef .tc main_v3) = _
    after_results
    rfl
  rw [e]
  exact drop_row _ _

theorem V_v5 (y : S1x2048.Idx) : (V m c main_v5 : Vec Ideal S1x2048 .f32) y = Gl m c (y 1) := by
  have e : V m c main_v5 = (shapeCast _ (shapeCast _ (m ((c : Thread nD τ).loc main_arg3)) shapeCasts_S1x2048_S2048 : Vec Ideal S2048 .f32) shapeCasts_S2048_S1x2048 : Vec Ideal S1x2048 .f32) := by
    unfold V hostOps0
    show StableHlo.after _ _ (Proc.devRef .tc main_v5) = _
    after_results
    rfl
  rw [e]
  exact drop_row _ _

theorem V_v7 (y : S1x2048.Idx) : (V m c main_v7 : Vec Ideal S1x2048 .f32) y = Bl m c (y 1) := by
  have e : V m c main_v7 = (shapeCast _ (shapeCast _ (m ((c : Thread nD τ).loc main_arg4)) shapeCasts_S1x2048_S2048 : Vec Ideal S2048 .f32) shapeCasts_S2048_S1x2048 : Vec Ideal S1x2048 .f32) := by
    unfold V hostOps0
    show StableHlo.after _ _ (Proc.devRef .tc main_v7) = _
    after_results
    rfl
  rw [e]
  exact drop_row _ _

theorem V_v9 (y : S1x2048.Idx) : (V m c main_v9 : Vec Ideal S1x2048 .f32) y = Go m c (y 1) := by
  have e : V m c main_v9 = (shapeCast _ (shapeCast _ (m ((c : Thread nD τ).loc main_arg5)) shapeCasts_S1x2048_S2048 : Vec Ideal S2048 .f32) shapeCasts_S2048_S1x2048 : Vec Ideal S1x2048 .f32) := by
    unfold V hostOps0
    show StableHlo.after _ _ (Proc.devRef .tc main_v9) = _
    after_results
    rfl
  rw [e]
  exact drop_row _ _

/-! ## The blocks -/

theorem facts_in : ∀ t : Fin cfg0.N, win0_0.index t 0 = t.val ∧ win0_0.index t 1 = 0 ∧ win0_1.index t 0 = t.val ∧ win0_1.index t 1 = 1
    ∧ win0_3.index t 0 = 0 ∧ win0_3.index t 1 = 0
    ∧ win0_4.index t 1 = 0 ∧ win0_5.index t 1 = 0 ∧ win0_6.index t 1 = 0 ∧ win0_7.index t 1 = 0
    ∧ win0_8.index t 0 = t.val ∧ win0_8.index t 1 = 0 ∧ win0_9.index t 0 = t.val ∧ win0_9.index t 1 = 0 :=
  (by decide +kernel : ∀ t : Fin grid0.N, _)

theorem facts_out : ∀ t : Fin cfg0.N, win0_10.index t 0 = t.val ∧ win0_10.index t 1 = 0 ∧ win0_11.index t 0 = t.val ∧ win0_11.index t 1 = 0
    ∧ win0_12.index t 0 = t.val ∧ win0_12.index t 1 = 0 ∧ win0_13.index t 0 = t.val ∧ win0_13.index t 1 = 0 :=
  (by decide +kernel : ∀ t : Fin grid0.N, _)

theorem pt_lt (t : Fin cfg0.N) : t.val < 64 := lt_of_lt_of_eq t.isLt (show cfg0.N = 64 from N_0)

/-- A row of a point's tile, and a row of its slices of the weights. -/
def rowAt (t : Fin cfg0.N) (q : Fin 128) : Fin 8192 := ⟨128 * t.val + q.val, by have := pt_lt t; omega⟩
def slabAt (t : Fin cfg0.N) (q : Fin 64) : Fin 4096 := ⟨64 * t.val + q.val, by have := pt_lt t; omega⟩

theorem iblk0 (t : Fin cfg0.N) (y : S128x2048.Idx) :
    (iblk m c 0 t : Vec Ideal S128x2048 .f32) y = Z m c (rowAt t (y 0)) ⟨(y 1).val, by have : (y 1).val < 2048 := (y 1).isLt; omega⟩ := by
  obtain ⟨i0, i1, -⟩ := facts_in t
  unfold iblk
  rw [View.read_apply]
  refine (congrFun (V_main_arg0 m c) _).trans ?_
  refine congrArg (m ((c : Thread nD τ).loc main_arg0) : Vec Ideal S8192x10240 .f32) (ix2_congr ?_ ?_)
  · show win0_0.index t 0 * 128 + 1 * (y 0).val = 128 * t.val + (y 0).val; rw [i0]; omega
  · show win0_0.index t 1 * 2048 + 1 * (y 1).val = (y 1).val; rw [i1]; omega

theorem iblk1 (t : Fin cfg0.N) (y : S128x2048.Idx) :
    (iblk m c 1 t : Vec Ideal S128x2048 .f32) y = Z m c (rowAt t (y 0)) ⟨2048 + (y 1).val, by have : (y 1).val < 2048 := (y 1).isLt; omega⟩ := by
  obtain ⟨-, -, i0, i1, -⟩ := facts_in t
  unfold iblk
  rw [View.read_apply]
  refine (congrFun (V_main_arg0 m c) _).trans ?_
  refine congrArg (m ((c : Thread nD τ).loc main_arg0) : Vec Ideal S8192x10240 .f32) (ix2_congr ?_ ?_)
  · show win0_1.index t 0 * 128 + 1 * (y 0).val = 128 * t.val + (y 0).val; rw [i0]; omega
  · show win0_1.index t 1 * 2048 + 1 * (y 1).val = 2048 + (y 1).val; rw [i1]; omega

theorem iblk2 (t : Fin cfg0.N) (y : S1x32x2048.Idx) : (iblk m c 2 t : Vec Ideal S1x32x2048 .f32) y = (0 : EReal) := by
  unfold iblk
  rw [View.read_apply]
  exact V_v0 m c _

theorem iblk3 (t : Fin cfg0.N) (y : S31x2048.Idx) : (iblk m c 3 t : Vec Ideal S31x2048 .f32) y = W m c (y 0) (y 1) := by
  obtain ⟨-, -, -, -, i0, i1, -⟩ := facts_in t
  unfold iblk
  rw [View.read_apply]
  refine (V_v1 m c _).trans ?_
  refine congr (congrArg (W m c) (Fin.ext ?_)) (Fin.ext ?_)
  · show win0_3.index t 0 * 31 + 1 * (y 0).val = (y 0).val; rw [i0]; omega
  · show win0_3.index t 1 * 2048 + 1 * (y 1).val = (y 1).val; rw [i1]; omega

theorem iblk4 (t : Fin cfg0.N) (y : S1x2048.Idx) : (iblk m c 4 t : Vec Ideal S1x2048 .f32) y = Bs m c (y 1) := by
  obtain ⟨-, -, -, -, -, -, i1, -⟩ := facts_in t
  unfold iblk
  rw [View.read_apply]
  refine (V_v3 m c _).trans (congrArg (Bs m c) (Fin.ext ?_))
  show win0_4.index t 1 * 2048 + 1 * (y 1).val = (y 1).val; rw [i1]; omega

theorem iblk5 (t : Fin cfg0.N) (y : S1x2048.Idx) : (iblk m c 5 t : Vec Ideal S1x2048 .f32) y = Gl m c (y 1) := by
  obtain ⟨-, -, -, -, -, -, -, i1, -⟩ := facts_in t
  unfold iblk
  rw [View.read_apply]
  refine (V_v5 m c _).trans (congrArg (Gl m c) (Fin.ext ?_))
  show win0_5.index t 1 * 2048 + 1 * (y 1).val = (y 1).val; rw [i1]; omega

theorem iblk6 (t : Fin cfg0.N) (y : S1x2048.Idx) : (iblk m c 6 t : Vec Ideal S1x2048 .f32) y = Bl m c (y 1) := by
  obtain ⟨-, -, -, -, -, -, -, -, i1, -⟩ := facts_in t
  unfold iblk
  rw [View.read_apply]
  refine (V_v7 m c _).trans (congrArg (Bl m c) (Fin.ext ?_))
  show win0_6.index t 1 * 2048 + 1 * (y 1).val = (y 1).val; rw [i1]; omega

theorem iblk7 (t : Fin cfg0.N) (y : S1x2048.Idx) : (iblk m c 7 t : Vec Ideal S1x2048 .f32) y = Go m c (y 1) := by
  obtain ⟨-, -, -, -, -, -, -, -, -, i1, -⟩ := facts_in t
  unfold iblk
  rw [View.read_apply]
  refine (V_v9 m c _).trans (congrArg (Go m c) (Fin.ext ?_))
  show win0_7.index t 1 * 2048 + 1 * (y 1).val = (y 1).val; rw [i1]; omega

theorem iblk8 (t : Fin cfg0.N) (y : S64x4096.Idx) : (iblk m c 8 t : Vec Ideal S64x4096 .f32) y = Wo m c (slabAt t (y 0)) (y 1) := by
  obtain ⟨-, -, -, -, -, -, -, -, -, -, i0, i1, -⟩ := facts_in t
  unfold iblk
  rw [View.read_apply]
  refine (congrFun (V_main_arg6 m c) _).trans ?_
  refine congrArg (m ((c : Thread nD τ).loc main_arg6) : Vec Ideal S4096x4096 .f32) (ix2_congr ?_ ?_)
  · show win0_8.index t 0 * 64 + 1 * (y 0).val = 64 * t.val + (y 0).val; rw [i0]; omega
  · show win0_8.index t 1 * 4096 + 1 * (y 1).val = (y 1).val; rw [i1]; omega

theorem iblk9 (t : Fin cfg0.N) (y : S64x2048.Idx) : (iblk m c 9 t : Vec Ideal S64x2048 .f32) y = Wq m c (slabAt t (y 0)) (y 1) := by
  obtain ⟨-, -, -, -, -, -, -, -, -, -, -, -, i0, i1⟩ := facts_in t
  unfold iblk
  rw [View.read_apply]
  refine (congrFun (V_main_arg7 m c) _).trans ?_
  refine congrArg (m ((c : Thread nD τ).loc main_arg7) : Vec Ideal S4096x2048 .f32) (ix2_congr ?_ ?_)
  · show win0_9.index t 0 * 64 + 1 * (y 0).val = 64 * t.val + (y 0).val; rw [i0]; omega
  · show win0_9.index t 1 * 2048 + 1 * (y 1).val = (y 1).val; rw [i1]; omega

/-! ## What a point leaves -/

theorem params_iblk (t t' : Fin cfg0.N) :
    params (iblk m c 3 t) (iblk m c 4 t) (iblk m c 5 t) (iblk m c 6 t) (iblk m c 7 t)
      = params (iblk m c 3 t') (iblk m c 4 t') (iblk m c 5 t') (iblk m c 6 t') (iblk m c 7 t') := by
  funext y
  unfold params param
  simp only [iblk3, iblk4, iblk5, iblk6, iblk7]

/-- The rows a point puts before its own: zeros before the first, then the last of the point before. -/
def before : (n : ℕ) → n < cfg0.N → Vec Ideal S1x32x2048 .f32
  | 0, h => iblk m c 2 ⟨0, h⟩
  | n + 1, h => handed (iblk m c 0 ⟨n, Nat.lt_of_succ_lt h⟩) (iblk m c 1 ⟨n, Nat.lt_of_succ_lt h⟩)

/-- A point leaves its gated rows, its finished rows, its slices of the weights, and in its two buffers the copies of its padded
    rows and the parameters. -/
theorem outs_eq : ∀ (n : ℕ) (h : n < cfg0.N), outsAt0 m c n h
    = (gated (iblk m c 0 ⟨n, h⟩) (iblk m c 1 ⟨n, h⟩),
        convBlock (iblk m c 0 ⟨n, h⟩) (iblk m c 1 ⟨n, h⟩) (before m c n h) (iblk m c 3 ⟨n, h⟩) (iblk m c 4 ⟨n, h⟩) (iblk m c 5 ⟨n, h⟩)
          (iblk m c 6 ⟨n, h⟩) (iblk m c 7 ⟨n, h⟩),
        (truncf .bf16 (iblk m c 8 ⟨n, h⟩ : FVec Ideal S64x4096 .f32) bitsLt_bf16_f32 : FVec Ideal S64x4096 .bf16),
        (truncf .bf16 (iblk m c 9 ⟨n, h⟩ : FVec Ideal S64x2048 .f32) bitsLt_bf16_f32 : FVec Ideal S64x2048 .bf16),
        shifted (iblk m c 0 ⟨n, h⟩) (iblk m c 1 ⟨n, h⟩) (before m c n h),
        params (iblk m c 3 ⟨n, h⟩) (iblk m c 4 ⟨n, h⟩) (iblk m c 5 ⟨n, h⟩) (iblk m c 6 ⟨n, h⟩) (iblk m c 7 ⟨n, h⟩))
  | 0, h => by
    rw [outsAt0_A m c ⟨0, h⟩ (Nat.zero_mod _) (Nat.zero_mod _) (by show ¬1 ≤ 0; omega), out_A10, out_A11, out_A12, out_A13, sout_A0, sout_A1]
    rfl
  | n + 1, h => by
    have hb : n + 1 < 64 := lt_of_lt_of_eq h (show cfg0.N = 64 from N_0)
    have h0 : ¬(n + 1) % 64 = 0 := by omega
    have hp : (outsAt0 m c ((⟨n + 1, h⟩ : Fin cfg0.N).val - 1) (Nat.lt_of_le_of_lt (Nat.sub_le _ _) (⟨n + 1, h⟩ : Fin cfg0.N).isLt)).2.2.2.2.2
        = params (iblk m c 3 ⟨n + 1, h⟩) (iblk m c 4 ⟨n + 1, h⟩) (iblk m c 5 ⟨n + 1, h⟩) (iblk m c 6 ⟨n + 1, h⟩) (iblk m c 7 ⟨n + 1, h⟩) :=
      (congrArg (fun o => o.2.2.2.2.2) (outs_eq n (Nat.lt_of_succ_lt h))).trans (params_iblk m c _ _)
    have hs : ∀ z : S1x32x2048.Idx, (outsAt0 m c ((⟨n + 1, h⟩ : Fin cfg0.N).val - 1)
        (Nat.lt_of_le_of_lt (Nat.sub_le _ _) (⟨n + 1, h⟩ : Fin cfg0.N).isLt)).2.2.2.2.1
          (ix3 0 (⟨128 + (z 1).val, by have : (z 1).val < 32 := (z 1).isLt; omega⟩ : Fin 160) (z 2)) = before m c (n + 1) h z := fun z =>
      (congrFun (congrArg (fun o => o.2.2.2.2.1) (outs_eq n (Nat.lt_of_succ_lt h))) _).trans (shifted_last _ _ _ z)
    rw [outsAt0_B m c ⟨n + 1, h⟩ h0 h0 (by show 1 ≤ n + 1; omega), out_B10, out_B12, out_B13,
      out_B11 _ _ _ _ _ _ _ _ _ _ _ _ _ _ _ _ _ _ _ _ _ _ _ _ _ _ _ _ _ _ _ _ _ _ _ _ _ _ _ _ _ _ _ _ _ _ _ _ _ _ hs hp, sout_B0 _ _ _ _ _ _ _ _ _ _ _ _ _ _ _ _ _ _ _ _ _ _ _ _ _ _ _ _ _ _ _ _ _ _ _ _ _ _ _ _ _ _ _ _ _ _ _ _ _ _ hs, sout_B1]
    exact congrArg (fun p => (_, _, _, _, _, p)) hp

theorem gated_apply (x0 x1 : Vec Ideal S128x2048 .f32) (y : S128x2048.Idx) : gated x0 x1 y = x0 y * Ideal.logistic (x1 y) := by
  unfold gated
  pointwise [k0_pay46]

theorem gated_iblk (t : Fin cfg0.N) (y : S128x2048.Idx) :
    gated (iblk m c 0 t) (iblk m c 1 t) y = gateAt (Z m c) (rowAt t (y 0)) (y 1) := by
  rw [gated_apply, iblk0, iblk1]
  rfl

/-- The rows before a point's own are the stream's. -/
theorem before_at : ∀ (n : ℕ) (h : n < cfg0.N) (z : S1x32x2048.Idx) (k : ℕ) (hk : k < 30) (hz : (z 1).val = k + 2),
    before m c n h z = streamRow (Z m c) (128 * n + k) (z 2)
  | 0, h, z, k, hk, hz => by
    refine (iblk2 m c ⟨0, h⟩ z).trans ?_
    unfold streamRow
    rw [if_pos (by omega)]
  | n + 1, h, z, k, hk, hz => by
    have hb : n + 1 < 64 := lt_of_lt_of_eq h (show cfg0.N = 64 from N_0)
    refine (gated_iblk m c ⟨n, Nat.lt_of_succ_lt h⟩ (ix2 (⟨96 + (z 1).val, by have : (z 1).val < 32 := (z 1).isLt; omega⟩ : Fin 128) (z 2))).trans ?_
    unfold streamRow
    rw [if_neg (by omega)]
    refine congrArg (fun r => gateAt (Z m c) r (z 2)) (Fin.ext ?_)
    show 128 * n + (96 + (z 1).val) = (128 * (n + 1) + k - 30) % 8192
    omega

/-- The padded rows past the two in front are the stream's. -/
theorem padded_iblk (t : Fin cfg0.N) (n : ℕ) (hn : n < 158) (j : Fin 2048) :
    padded (iblk m c 0 t) (iblk m c 1 t) (before m c t.val t.isLt) (n + 2) j = streamRow (Z m c) (128 * t.val + n) j := by
  have ht := pt_lt t
  unfold padded
  by_cases h : n < 30
  · rw [if_pos (by omega)]
    refine (before_at m c t.val t.isLt _ n h ?_).trans rfl
    show (n + 2) % 32 = n + 2
    omega
  · rw [if_neg (by omega), gated_iblk]
    unfold streamRow
    rw [if_neg (by omega)]
    refine congrArg (fun r => gateAt (Z m c) r j) (Fin.ext ?_)
    show 128 * t.val + ((n + 2) % 160 - 32) % 128 = (128 * t.val + n - 30) % 8192
    omega

theorem conv_iblk (t : Fin cfg0.N) (y : S128x2048.Idx) :
    convBlock (iblk m c 0 t) (iblk m c 1 t) (before m c t.val t.isLt) (iblk m c 3 t) (iblk m c 4 t) (iblk m c 5 t) (iblk m c 6 t) (iblk m c 7 t) y
      = outRow (convAt (Z m c) (W m c) (Bs m c) (rowAt t (y 0))) (Gl m c) (Bl m c) (Go m c) (y 1) := by
  have y0 : (y 0).val < 128 := (y 0).isLt
  unfold convBlock
  dsimp only
  refine congrFun (congr (congr (congr (congrArg outRow (funext fun j => ?_)) (funext fun j => ?_)) (funext fun j => ?_)) (funext fun j => ?_)) _
  · unfold convAt
    rw [Finset.sum_range]
    refine congr (congrArg HAdd.hAdd (Finset.sum_congr rfl fun k _ => ?_)) ?_
    · have hk : k.val < 31 := k.isLt
      refine congr (congrArg HMul.hMul ?_) ?_
      · refine Eq.trans ?_ ((padded_iblk m c t ((y 0).val + k.val) (by omega) j).trans ?_)
        · exact padded_congr _ _ _ (by omega) rfl
        · exact congrArg (fun n => streamRow (Z m c) n j) (by show 128 * t.val + ((y 0).val + k.val) = 128 * t.val + (y 0).val + k.val; omega)
      · unfold param
        rw [dif_pos hk, iblk3]
        rfl
    · unfold param
      rw [dif_neg (by decide), if_pos rfl, iblk4]
      rfl
  · unfold param
    rw [dif_neg (by decide), if_neg (by decide), if_pos rfl, iblk5]
    rfl
  · unfold param
    rw [dif_neg (by decide), if_neg (by decide), if_neg (by decide), if_pos rfl, iblk6]
    rfl
  · unfold param
    rw [dif_neg (by decide), if_neg (by decide), if_neg (by decide), if_neg (by decide), iblk7]
    rfl

/-! ## The four arrays -/

/-- The first result: the gated rows. -/
def G10 : Buf (Elt Ideal) ((c : Thread nD τ).loc main_v10_0) := fun (i : S8192x2048.Idx) => gateAt (Z m c) (i 0) (i 1)

/-- The second result: the causal sums of a row, normalised, activated, and normalised again. -/
def G11 : Buf (Elt Ideal) ((c : Thread nD τ).loc main_v10_1) := fun (i : S8192x2048.Idx) =>
  outRow (convAt (Z m c) (W m c) (Bs m c) (i 0)) (Gl m c) (Bl m c) (Go m c) (i 1)

/-- The other two: the weights. -/
def G12 : Buf (Elt Ideal) ((c : Thread nD τ).loc main_v10_2) := fun (i : S4096x4096.Idx) => Wo m c (i 0) (i 1)
def G13 : Buf (Elt Ideal) ((c : Thread nD τ).loc main_v10_3) := fun (i : S4096x2048.Idx) => Wq m c (i 0) (i 1)

theorem flushed10 (t : Fin cfg0.N) : (dats m 0 c).flushed 10 t = ((cfg0.win 10).blk t).view.read (Elt Ideal) (G10 m c) := by
  obtain ⟨i0, i1, -⟩ := facts_out t
  show (cfg0.win 10).cut (grid0.coords t) ((dats m 0 c).after 10 t) = _
  rw [after0_10, outs_eq]
  funext (y : S128x2048.Idx)
  rw [View.read_apply]
  show gated (iblk m c 0 t) (iblk m c 1 t) y = G10 m c (((cfg0.win 10).blk t).view.emb y)
  have r : rowAt t (y 0) = ((cfg0.win 10).blk t).view.emb y 0 :=
    Fin.ext (by show 128 * t.val + (y 0).val = win0_10.index t 0 * 128 + 1 * (y 0).val; rw [i0]; omega)
  have e : (y 1 : Fin 2048) = ((cfg0.win 10).blk t).view.emb y 1 :=
    Fin.ext (by show (y 1).val = win0_10.index t 1 * 2048 + 1 * (y 1).val; rw [i1]; omega)
  rw [gated_iblk]
  unfold G10
  dsimp only
  rw [← r, ← e]

theorem covered10 (i : S8192x2048.Idx) : ∃ t : Fin cfg0.N, (cfg0.win 10).flush t = true ∧ i ∈ ((cfg0.win 10).blk t).view.set := by
  have h0 : (i 0).val < 8192 := (i 0).isLt
  have h1 : (i 1).val < 2048 := (i 1).isLt
  let t : Fin cfg0.N := ⟨(i 0).val / 128, by rw [show cfg0.N = 64 from N_0]; omega⟩
  obtain ⟨i0, i1, -⟩ := facts_out t
  have tv : t.val = (i 0).val / 128 := rfl
  refine ⟨t, flush0_10 t, ?_⟩
  show i ∈ ((View.whole main_v10_0).slice (win0_10.rect t)).set
  rw [View.set_slice_whole, Rect.mem_set_unit]
  intro a
  match a with
  | ⟨0, _⟩ => exact ⟨by show win0_10.index t 0 * 128 ≤ (i 0).val; rw [i0]; omega, by show (i 0).val < win0_10.index t 0 * 128 + 128; rw [i0]; omega⟩
  | ⟨1, _⟩ => exact ⟨by show win0_10.index t 1 * 2048 ≤ (i 1).val; rw [i1]; omega, by show (i 1).val < win0_10.index t 1 * 2048 + 2048; rw [i1]; omega⟩

theorem final10 : (dats m 0 c).arrAt 10 cfg0.N = G10 m c := (dats m 0 c).arrAt_eq_of_cover 10 _ (fun t _ => flushed10 m c t) covered10

theorem flushed11 (t : Fin cfg0.N) : (dats m 0 c).flushed 11 t = ((cfg0.win 11).blk t).view.read (Elt Ideal) (G11 m c) := by
  obtain ⟨-, -, i0, i1, -⟩ := facts_out t
  show (cfg0.win 11).cut (grid0.coords t) ((dats m 0 c).after 11 t) = _
  rw [after0_11, outs_eq]
  funext (y : S128x2048.Idx)
  rw [View.read_apply]
  show convBlock (iblk m c 0 t) (iblk m c 1 t) (before m c t.val t.isLt) (iblk m c 3 t) (iblk m c 4 t) (iblk m c 5 t) (iblk m c 6 t) (iblk m c 7 t) y = G11 m c (((cfg0.win 11).blk t).view.emb y)
  have r : rowAt t (y 0) = ((cfg0.win 11).blk t).view.emb y 0 :=
    Fin.ext (by show 128 * t.val + (y 0).val = win0_11.index t 0 * 128 + 1 * (y 0).val; rw [i0]; omega)
  have e : (y 1 : Fin 2048) = ((cfg0.win 11).blk t).view.emb y 1 :=
    Fin.ext (by show (y 1).val = win0_11.index t 1 * 2048 + 1 * (y 1).val; rw [i1]; omega)
  rw [conv_iblk]
  unfold G11
  dsimp only
  rw [← r, ← e]

theorem covered11 (i : S8192x2048.Idx) : ∃ t : Fin cfg0.N, (cfg0.win 11).flush t = true ∧ i ∈ ((cfg0.win 11).blk t).view.set := by
  have h0 : (i 0).val < 8192 := (i 0).isLt
  have h1 : (i 1).val < 2048 := (i 1).isLt
  let t : Fin cfg0.N := ⟨(i 0).val / 128, by rw [show cfg0.N = 64 from N_0]; omega⟩
  obtain ⟨-, -, i0, i1, -⟩ := facts_out t
  have tv : t.val = (i 0).val / 128 := rfl
  refine ⟨t, flush0_11 t, ?_⟩
  show i ∈ ((View.whole main_v10_1).slice (win0_11.rect t)).set
  rw [View.set_slice_whole, Rect.mem_set_unit]
  intro a
  match a with
  | ⟨0, _⟩ => exact ⟨by show win0_11.index t 0 * 128 ≤ (i 0).val; rw [i0]; omega, by show (i 0).val < win0_11.index t 0 * 128 + 128; rw [i0]; omega⟩
  | ⟨1, _⟩ => exact ⟨by show win0_11.index t 1 * 2048 ≤ (i 1).val; rw [i1]; omega, by show (i 1).val < win0_11.index t 1 * 2048 + 2048; rw [i1]; omega⟩

theorem final11 : (dats m 0 c).arrAt 11 cfg0.N = G11 m c := (dats m 0 c).arrAt_eq_of_cover 11 _ (fun t _ => flushed11 m c t) covered11

theorem flushed12 (t : Fin cfg0.N) : (dats m 0 c).flushed 12 t = ((cfg0.win 12).blk t).view.read (Elt Ideal) (G12 m c) := by
  obtain ⟨-, -, -, -, i0, i1, -⟩ := facts_out t
  show (cfg0.win 12).cut (grid0.coords t) ((dats m 0 c).after 12 t) = _
  rw [after0_12, outs_eq]
  funext (y : S64x4096.Idx)
  rw [View.read_apply]
  show (iblk m c 8 t : Vec Ideal S64x4096 .f32) y = G12 m c (((cfg0.win 12).blk t).view.emb y)
  have r : slabAt t (y 0) = ((cfg0.win 12).blk t).view.emb y 0 :=
    Fin.ext (by show 64 * t.val + (y 0).val = win0_12.index t 0 * 64 + 1 * (y 0).val; rw [i0]; omega)
  have e : (y 1 : Fin 4096) = ((cfg0.win 12).blk t).view.emb y 1 :=
    Fin.ext (by show (y 1).val = win0_12.index t 1 * 4096 + 1 * (y 1).val; rw [i1]; omega)
  rw [iblk8]
  unfold G12
  dsimp only
  rw [← r, ← e]

theorem covered12 (i : S4096x4096.Idx) : ∃ t : Fin cfg0.N, (cfg0.win 12).flush t = true ∧ i ∈ ((cfg0.win 12).blk t).view.set := by
  have h0 : (i 0).val < 4096 := (i 0).isLt
  have h1 : (i 1).val < 4096 := (i 1).isLt
  let t : Fin cfg0.N := ⟨(i 0).val / 64, by rw [show cfg0.N = 64 from N_0]; omega⟩
  obtain ⟨-, -, -, -, i0, i1, -⟩ := facts_out t
  have tv : t.val = (i 0).val / 64 := rfl
  refine ⟨t, flush0_12 t, ?_⟩
  show i ∈ ((View.whole main_v10_2).slice (win0_12.rect t)).set
  rw [View.set_slice_whole, Rect.mem_set_unit]
  intro a
  match a with
  | ⟨0, _⟩ => exact ⟨by show win0_12.index t 0 * 64 ≤ (i 0).val; rw [i0]; omega, by show (i 0).val < win0_12.index t 0 * 64 + 64; rw [i0]; omega⟩
  | ⟨1, _⟩ => exact ⟨by show win0_12.index t 1 * 4096 ≤ (i 1).val; rw [i1]; omega, by show (i 1).val < win0_12.index t 1 * 4096 + 4096; rw [i1]; omega⟩

theorem final12 : (dats m 0 c).arrAt 12 cfg0.N = G12 m c := (dats m 0 c).arrAt_eq_of_cover 12 _ (fun t _ => flushed12 m c t) covered12

theorem flushed13 (t : Fin cfg0.N) : (dats m 0 c).flushed 13 t = ((cfg0.win 13).blk t).view.read (Elt Ideal) (G13 m c) := by
  obtain ⟨-, -, -, -, -, -, i0, i1⟩ := facts_out t
  show (cfg0.win 13).cut (grid0.coords t) ((dats m 0 c).after 13 t) = _
  rw [after0_13, outs_eq]
  funext (y : S64x2048.Idx)
  rw [View.read_apply]
  show (iblk m c 9 t : Vec Ideal S64x2048 .f32) y = G13 m c (((cfg0.win 13).blk t).view.emb y)
  have r : slabAt t (y 0) = ((cfg0.win 13).blk t).view.emb y 0 :=
    Fin.ext (by show 64 * t.val + (y 0).val = win0_13.index t 0 * 64 + 1 * (y 0).val; rw [i0]; omega)
  have e : (y 1 : Fin 2048) = ((cfg0.win 13).blk t).view.emb y 1 :=
    Fin.ext (by show (y 1).val = win0_13.index t 1 * 2048 + 1 * (y 1).val; rw [i1]; omega)
  rw [iblk9]
  unfold G13
  dsimp only
  rw [← r, ← e]

theorem covered13 (i : S4096x2048.Idx) : ∃ t : Fin cfg0.N, (cfg0.win 13).flush t = true ∧ i ∈ ((cfg0.win 13).blk t).view.set := by
  have h0 : (i 0).val < 4096 := (i 0).isLt
  have h1 : (i 1).val < 2048 := (i 1).isLt
  let t : Fin cfg0.N := ⟨(i 0).val / 64, by rw [show cfg0.N = 64 from N_0]; omega⟩
  obtain ⟨-, -, -, -, -, -, i0, i1⟩ := facts_out t
  have tv : t.val = (i 0).val / 64 := rfl
  refine ⟨t, flush0_13 t, ?_⟩
  show i ∈ ((View.whole main_v10_3).slice (win0_13.rect t)).set
  rw [View.set_slice_whole, Rect.mem_set_unit]
  intro a
  match a with
  | ⟨0, _⟩ => exact ⟨by show win0_13.index t 0 * 64 ≤ (i 0).val; rw [i0]; omega, by show (i 0).val < win0_13.index t 0 * 64 + 64; rw [i0]; omega⟩
  | ⟨1, _⟩ => exact ⟨by show win0_13.index t 1 * 2048 ≤ (i 1).val; rw [i1]; omega, by show (i 1).val < win0_13.index t 1 * 2048 + 2048; rw [i1]; omega⟩

theorem final13 : (dats m 0 c).arrAt 13 cfg0.N = G13 m c := (dats m 0 c).arrAt_eq_of_cover 13 _ (fun t _ => flushed13 m c t) covered13

/-- The run, with the four results named and the arguments unchanged. -/
theorem run : θ_run defs (onTc (τ := τ) (main (F := Ideal))) ⟨m, fun _ => 0, ρ⟩ fun r => ∀ c : Dev nD,
      r.2.mem ((c : Thread nD τ).loc main_v10_0) = G10 m c
      ∧ r.2.mem ((c : Thread nD τ).loc main_v10_1) = G11 m c
      ∧ r.2.mem ((c : Thread nD τ).loc main_v10_2) = G12 m c
      ∧ r.2.mem ((c : Thread nD τ).loc main_v10_3) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h.1 c).1 10).trans (final10 m c), ((h.1 c).1 11).trans (final11 m c),
      ((h.1 c).1 12).trans (final12 m c), ((h.1 c).1 13).trans (final13 m c), h.2.1 c⟩)
    (θ_run_and (run_main m ρ) (frame m ρ))

end Cert.ConvKernelIdeal.ConvValue

end
-- ==== Proof.ConvRef.lean ====
/- The convolution module of the prompt as the reference writes it: its four results at an index. -/
module

public import proofs.«01_k».proof.Proof.ConvArray
public import proofs.«01_k».proof.Proof.Gen.ConvReferenceIdeal.Read

@[expose] public section

set_option maxRecDepth 16384
set_option maxHeartbeats 4000000

noncomputable section

open Idealize.ShloMosaic Idealize.ShloMosaic.TcCoe Idealize.SL.Sem

namespace Cert.ConvReferenceIdeal.RefValue

open Cert.ConvReferenceIdeal Cert.ConvReferenceIdeal.Gen Cert.ConvReferenceIdeal.Read Cert.Rows
open Cert.ConvKernelIdeal.ConvValue (gateAt streamRow convAt)
open Cert.ConvSampleKernelIdeal.ConvValue (rowLen eps mean centred lnRow act outRow)

variable (x0 : (⟨S8192x10240, .f32⟩ : BufTy).Contents (Elt Ideal)) (x1 : (⟨S1x31x2048, .f32⟩ : BufTy).Contents (Elt Ideal))
  (x2 x3 x4 x5 : (⟨S1x2048, .f32⟩ : BufTy).Contents (Elt Ideal))
  (x6 : (⟨S4096x4096, .f32⟩ : BufTy).Contents (Elt Ideal)) (x7 : (⟨S4096x2048, .f32⟩ : BufTy).Contents (Elt Ideal))

/-- The arguments by their coordinates. -/
abbrev rZ (r : Fin 8192) (k : Fin 10240) : EReal := x0 (ix2 r k)
abbrev rW (k : Fin 31) (j : Fin 2048) : EReal := x1 (ix3 0 k j)
abbrev row1 (x : (⟨S1x2048, .f32⟩ : BufTy).Contents (Elt Ideal)) (j : Fin 2048) : EReal := x (ix2 0 j)

/-! ## The gated rows and the stream -/

theorem first_apply (i : S8192x2048.Idx) : val_main_v8 (F := Ideal) x0 i = gateAt (rZ x0) (i 0) (i 1) := by
  pointwise [val_main_v8, val_main_v7, val_main_v6, val_main_v5, val_main_v4, val_main_v3, val_main_v2, val_main_v1, val_main_v0,
    val_main_cst_apply, val_main_cst_0_apply]
  rfl

theorem v9_at (y : S30x2048.Idx) : val_main_v9 (F := Ideal) y = (0 : EReal) := by
  rw [val_main_v9_apply, val_main_cst_1_apply]
  pointwise

theorem v10_at (y : S8222x2048.Idx) : val_main_v10 (F := Ideal) x0 y = streamRow (rZ x0) (y 0).val (y 1) := by
  have h0 : (y 0).val < 8222 := (y 0).isLt
  unfold val_main_v10 streamRow
  by_cases h : (y 0).val < 30
  · rw [if_pos h]
    refine (concatenate_pair_apply_left (s₁ := S30x2048) (s₂ := S8192x2048) 0 _ _ _ y rfl (ix2 (⟨(y 0).val, h⟩ : Fin 30) (y 1)) ?_).trans (v9_at _)
    intro b
    match b with
    | ⟨0, _⟩ => rfl
    | ⟨1, _⟩ => rfl
  · rw [if_neg h]
    refine (concatenate_pair_apply_right (s₁ := S30x2048) (s₂ := S8192x2048) 0 _ _ _ y rfl rfl (ix2 (⟨(y 0).val - 30, by omega⟩ : Fin 8192) (y 1)) ?_ ?_).trans
      ((first_apply x0 _).trans ?_)
    · intro b hb
      match b with
      | ⟨0, _⟩ => exact absurd rfl hb
      | ⟨1, _⟩ => rfl
    · show (y 0).val - 30 + 30 = (y 0).val
      omega
    · refine congrArg (fun r => gateAt (rZ x0) r (y 1)) (Fin.ext ?_)
      show (y 0).val - 30 = ((y 0).val - 30) % 8192
      omega

/-! ## The rows each window holds -/

theorem toInt_row {k : ℕ} (hk : k < 8222) : (BitVec.ofNat 32 k).toInt = k := by
  rw [BitVec.toInt_eq_toNat_of_lt (by rw [BitVec.toNat_ofNat]; omega), BitVec.toNat_ofNat]
  omega

theorem wrap_row {k : ℕ} (hk : k < 8222) : Scalar.select (IntOp.cmpi .slt (BitVec.ofNat 32 k) 0#32)
    (IntOp.addi (BitVec.ofNat 32 k) 8222#32) (BitVec.ofNat 32 k) = BitVec.ofNat 32 k := by
  have e : IntOp.cmpi .slt (BitVec.ofNat 32 k) 0#32 = 0#1 := by
    have h : (BitVec.ofNat 32 k).slt 0#32 = false := by
      rw [BitVec.slt, toInt_row hk]
      exact decide_eq_false (by show ¬((k : ℤ) < 0); omega)
    show BitVec.ofBool ((BitVec.ofNat 32 k).slt 0#32) = 0#1
    rw [h]
    rfl
  rw [e]
  rfl

theorem v17_at (i : S8192x31.Idx) : val_main_v17 (F := Ideal) i = BitVec.ofNat 32 ((i 0).val + (i 1).val) := by
  rw [val_main_v17_apply, val_main_v15_apply, val_main_v16_apply, val_main_v12_apply, val_main_v14_apply, val_main_v11_apply,
    val_main_v13_apply, BitVec.ofNat_add]
  rfl

theorem v23_at (i : S8192x31x1.Idx) : val_main_v23 (F := Ideal) i = BitVec.ofNat 32 ((i 0).val + (i 1).val) := by
  have h0 : (i 0).val < 8192 := (i 0).isLt
  have h1 : (i 1).val < 31 := (i 1).isLt
  rw [val_main_v23_apply, val_main_v22_apply, val_main_v19_apply, val_main_v21_apply, v17_at, val_main_v18_apply,
    val_main_v20_apply, val_main_c_apply, val_main_c_2_apply]
  exact wrap_row (k := (i 0).val + (i 1).val) (by omega)

theorem gather_window (x : Vec Ideal S8222x2048 .f32) (idx : IVec S8192x31x1 32) (y : S8192x31x2048.Idx) (k : ℕ) (hk : k < 8222)
    (h : idx (ix3 (y 0) (y 1) 0) = BitVec.ofNat 32 k) :
    Host.gather gather_S8222x2048_S8192x31x1_S8192x31x2048_2_0_n_n_0_2_12048 x idx y = x (ix2 ⟨k, hk⟩ (y 2)) := by
  unfold Host.gather
  refine congrArg x (funext fun a => Fin.ext ?_)
  match a with
  | ⟨0, _⟩ =>
    show GatherDims.start _ y idx 0 + GatherDims.batchCoord _ y 0 + GatherDims.offCoord _ y 0 = k
    have e1 : GatherDims.start gather_S8222x2048_S8192x31x1_S8192x31x2048_2_0_n_n_0_2_12048 y idx 0
        = min (idx (ix3 (y 0) (y 1) 0)).toInt.toNat 8221 := by
      have hs : ∀ h, GatherDims.siIdx gather_S8222x2048_S8192x31x1_S8192x31x2048_2_0_n_n_0_2_12048 y ⟨0, h⟩ = ix3 (y 0) (y 1) 0 := fun _ => by
        funext b
        match b with
        | ⟨0, _⟩ => rfl
        | ⟨1, _⟩ => rfl
        | ⟨2, _⟩ => rfl
      show min (idx (GatherDims.siIdx gather_S8222x2048_S8192x31x1_S8192x31x2048_2_0_n_n_0_2_12048 y ⟨0, _⟩)).toInt.toNat 8221 = _
      exact congrArg (fun w => min (idx w).toInt.toNat 8221) (hs _)
    have e2 : GatherDims.batchCoord gather_S8222x2048_S8192x31x1_S8192x31x2048_2_0_n_n_0_2_12048 y 0 = 0 := rfl
    have e3 : GatherDims.offCoord gather_S8222x2048_S8192x31x1_S8192x31x2048_2_0_n_n_0_2_12048 y 0 = 0 := rfl
    rw [e1, e2, e3, h, toInt_row hk, Int.toNat_natCast]
    omega
  | ⟨1, _⟩ =>
    show GatherDims.start _ y idx 1 + GatherDims.batchCoord _ y 1 + GatherDims.offCoord _ y 1 = (y 2).val
    have e1 : GatherDims.start gather_S8222x2048_S8192x31x1_S8192x31x2048_2_0_n_n_0_2_12048 y idx 1 = 0 := rfl
    have e2 : GatherDims.batchCoord gather_S8222x2048_S8192x31x1_S8192x31x2048_2_0_n_n_0_2_12048 y 1 = 0 := rfl
    have e3 : GatherDims.offCoord gather_S8222x2048_S8192x31x1_S8192x31x2048_2_0_n_n_0_2_12048 y 1 = (y 2).val := rfl
    rw [e1, e2, e3]; omega

theorem v24_at (y : S8192x31x2048.Idx) :
    val_main_v24 (F := Ideal) x0 y = streamRow (rZ x0) ((y 0).val + (y 1).val) (y 2) := by
  have h0 : (y 0).val < 8192 := (y 0).isLt
  have h1 : (y 1).val < 31 := (y 1).isLt
  unfold val_main_v24
  exact (gather_window _ _ y ((y 0).val + (y 1).val) (by omega) (v23_at _)).trans (v10_at x0 _)

/-! ## The sums, and what becomes of them -/

theorem v27_at (y : S8192x31x2048.Idx) : val_main_v27 (F := Ideal) x1 y = rW x1 (y 1) (y 2) := by
  pointwise [val_main_v27, val_main_v26, val_main_v25]

theorem v32_at (y : S8192x2048.Idx) : val_main_v32 (F := Ideal) x2 y = row1 x2 (y 1) := by
  pointwise [val_main_v32, val_main_v31, val_main_v30]

theorem v33_at (y : S8192x2048.Idx) :
    val_main_v33 (F := Ideal) x0 x1 x2 y = convAt (rZ x0) (rW x1) (row1 x2) (y 0) (y 1) := by
  rw [val_main_v33_apply, val_main_v29_apply, v32_at, val_main_cst_3_apply]
  have z : Ideal.ofBits FTy.f32 0x00000000#32 = 0 := by pointwise
  have s : ∑ k : Fin 31, val_main_v28 (F := Ideal) x0 x1 (idx_main_v29 y k)
      = ∑ k : Fin 31, streamRow (rZ x0) ((y 0).val + k.val) (y 1) * rW x1 k (y 1) :=
    Finset.sum_congr rfl fun k _ => by
      rw [val_main_v28_apply, v24_at, v27_at]
      rfl
  rw [s]
  unfold convAt
  refine congrArg (· + row1 x2 (y 1)) ?_
  exact (congrArg (· + _) z).trans (zero_add _)

/-- A row of the sums. -/
abbrev sums (q : Fin 8192) (j : Fin 2048) : EReal := val_main_v33 (F := Ideal) x0 x1 x2 (ix2 q j)

theorem v41_at (q : Fin 8192) (j : Fin 2048) :
    val_main_v41 (F := Ideal) x0 x1 x2 (ix2 q j) = centred (sums x0 x1 x2 q) j := by
  pointwise [val_main_v41, val_main_v40, val_main_v39, val_main_v38, val_main_v37, val_main_v36, val_main_cst_4_apply, val_main_cst_5_apply]
  rfl

theorem v48_at (q : Fin 8192) (j : Fin 2048) :
    val_main_v48 (F := Ideal) x0 x1 x2 (ix2 q j) = centred (sums x0 x1 x2 q) j := by
  pointwise [val_main_v48, val_main_v47, val_main_v39, val_main_v38, val_main_v37, val_main_v36, val_main_cst_4_apply, val_main_cst_5_apply]
  rfl

theorem v52_at (q : Fin 8192) (j : Fin 2048) :
    val_main_v52 (F := Ideal) x0 x1 x2 (ix2 q j) = scale rowLen eps (centred (sums x0 x1 x2 q)) := by
  refine Eq.trans (b := scale rowLen eps (fun k => val_main_v41 (F := Ideal) x0 x1 x2 (ix2 q k))) ?_
    (congrArg (scale rowLen eps) (funext fun k => v41_at x0 x1 x2 q k))
  pointwise [val_main_v52, val_main_v51, val_main_v50, val_main_v49, val_main_v46, val_main_v45, val_main_v44, val_main_v43, val_main_v42,
    val_main_cst_6_apply, val_main_cst_7_apply, val_main_cst_8_apply]
  rfl

theorem v55_at (q : Fin 8192) (j : Fin 2048) : val_main_v55 (F := Ideal) x3 (ix2 q j) = row1 x3 j := by
  pointwise [val_main_v55, val_main_v54, val_main_v34]

theorem v58_at (q : Fin 8192) (j : Fin 2048) : val_main_v58 (F := Ideal) x4 (ix2 q j) = row1 x4 j := by
  pointwise [val_main_v58, val_main_v57, val_main_v35]

theorem v73_at (q : Fin 8192) (j : Fin 2048) : val_main_v73 (F := Ideal) x5 (ix2 q j) = row1 x5 j := by
  pointwise [val_main_v73, val_main_v72, val_main_v61]

theorem v59_at (q : Fin 8192) (j : Fin 2048) :
    val_main_v59 (F := Ideal) x0 x1 x2 x3 x4 (ix2 q j) = lnRow (sums x0 x1 x2 q) (row1 x3) (row1 x4) j := by
  rw [val_main_v59_apply, val_main_v56_apply, val_main_v53_apply, v48_at, v52_at, v55_at, v58_at]
  rfl

theorem v60_at (q : Fin 8192) (j : Fin 2048) :
    val_main_v60 (F := Ideal) x0 x1 x2 x3 x4 (ix2 q j) = act (lnRow (sums x0 x1 x2 q) (row1 x3) (row1 x4) j) := by
  refine Eq.trans (b := act (val_main_v59 (F := Ideal) x0 x1 x2 x3 x4 (ix2 q j))) ?_ (congrArg act (v59_at x0 x1 x2 x3 x4 q j))
  pointwise [val_main_v60, val_main_call0_v5, val_main_call0_v4, val_main_call0_v3, val_main_call0_v2, val_main_call0_v1,
    val_main_call0_v0, val_main_call0_cst_apply, val_main_call0_cst_0_apply]
  rfl

theorem v70_at (q : Fin 8192) (j : Fin 2048) :
    val_main_v70 (F := Ideal) x0 x1 x2 x3 x4 (ix2 q j)
      = scale rowLen eps (fun k => act (lnRow (sums x0 x1 x2 q) (row1 x3) (row1 x4) k)) := by
  refine Eq.trans (b := scale rowLen eps (fun k => val_main_v60 (F := Ideal) x0 x1 x2 x3 x4 (ix2 q k))) ?_
    (congrArg (scale rowLen eps) (funext fun k => v60_at x0 x1 x2 x3 x4 q k))
  pointwise [val_main_v70, val_main_v69, val_main_v68, val_main_v67, val_main_v66, val_main_v65, val_main_v64, val_main_v63, val_main_v62,
    val_main_cst_9_apply, val_main_cst_10_apply, val_main_cst_11_apply]
  rfl

theorem v74_at (q : Fin 8192) (j : Fin 2048) : val_main_v74 (F := Ideal) x0 x1 x2 x3 x4 x5 (ix2 q j)
    = outRow (sums x0 x1 x2 q) (row1 x3) (row1 x4) (row1 x5) j := by
  rw [val_main_v74_apply, val_main_v71_apply, v60_at, v70_at, v73_at]
  rfl

theorem second_apply (i : S8192x2048.Idx) : val_main_v75 (F := Ideal) x0 x1 x2 x3 x4 x5 i
    = outRow (convAt (rZ x0) (rW x1) (row1 x2) (i 0)) (row1 x3) (row1 x4) (row1 x5) (i 1) := by
  have e : i = ix2 (i 0) (i 1) := ix2_congr rfl rfl
  refine (show val_main_v75 (F := Ideal) x0 x1 x2 x3 x4 x5 i = val_main_v74 (F := Ideal) x0 x1 x2 x3 x4 x5 i from rfl).trans ?_
  refine (congrArg (val_main_v74 (F := Ideal) x0 x1 x2 x3 x4 x5) e).trans ?_
  refine (v74_at x0 x1 x2 x3 x4 x5 (i 0) (i 1)).trans ?_
  refine congrArg (fun a => outRow a (row1 x3) (row1 x4) (row1 x5) (i 1)) (funext fun j => ?_)
  exact v33_at x0 x1 x2 _

theorem third_apply (i : S4096x4096.Idx) : val_main_v76 (F := Ideal) x6 i = x6 (ix2 (i 0) (i 1)) :=
  (show val_main_v76 (F := Ideal) x6 i = x6 i from rfl).trans (congrArg x6 (ix2_congr rfl rfl))

theorem fourth_apply (i : S4096x2048.Idx) : val_main_v77 (F := Ideal) x7 i = x7 (ix2 (i 0) (i 1)) :=
  (show val_main_v77 (F := Ideal) x7 i = x7 i from rfl).trans (congrArg x7 (ix2_congr rfl rfl))

end Cert.ConvReferenceIdeal.RefValue

end
-- ==== Proof.ConvClaims.lean ====
/- The convolution module of the prompt: its claims. -/
module

public import proofs.«01_k».proof.Defs
public import proofs.«01_k».proof.Proof.ConvArray
public import proofs.«01_k».proof.Proof.ConvRef
public import proofs.«01_k».proof.Proof.Gen.ConvKernel.Frame
public import Idealize.ShloMosaic.Lib.Quiescent

@[expose] public section

set_option maxRecDepth 16384

noncomputable section

open Idealize.ShloMosaic Idealize.ShloMosaic.TcCoe Idealize.SL.Sem

namespace Cert.Proof.ConvClaims

theorem frame_p : Cert.quiescent_ConvKernel := fun m ρ _ => Cert.ConvKernel.Gen.frame m ρ
theorem frame_pi : Cert.quiescent_ConvKernelIdeal := fun m ρ _ => Cert.ConvKernelIdeal.Gen.frame m ρ
theorem frame_ri : Cert.quiescent_ConvReferenceIdeal := fun m ρ _ =>
  (θ_run Cert.ConvReferenceIdeal.defs _ _).mono (fun r h => ⟨fun c => (h c).2.2.2.2,
      Idealize.ShloMosaic.sem_eq_zero_of_no_sems (by decide) r.2⟩)
    (Cert.ConvReferenceIdeal.Value.run (F := Ideal) m ρ)
theorem preserves : Cert.preserves_ConvKernel_ConvKernelIdeal := trivial

/-- The kernel's four result arrays and the reference's are equal at every index, from equal arguments. -/
theorem algebraic : Cert.algebraic_ConvKernelIdeal_ConvReferenceIdeal := by
  intro m ρ m' ρ' _ hag
  refine ⟨fun c => Cert.ConvKernelIdeal.ConvValue.G10 m c, fun c => Cert.ConvKernelIdeal.ConvValue.G11 m c,
    fun c => Cert.ConvKernelIdeal.ConvValue.G12 m c, fun c => Cert.ConvKernelIdeal.ConvValue.G13 m c,
    Cert.ConvKernelIdeal.ConvValue.run m ρ, ?_⟩
  refine (θ_run Cert.ConvReferenceIdeal.defs _ _).mono (fun _ h c => ⟨(h c).1.trans ?_, (h c).2.1.trans ?_, (h c).2.2.1.trans ?_,
      (h c).2.2.2.1.trans ?_, (h c).2.2.2.2⟩)
    (Cert.ConvReferenceIdeal.Value.run (F := Ideal) m' ρ')
  · obtain ⟨h0, h1, h2, h3, h4, h5, h6, h7⟩ := hag c
    rw [Cert.ConvReferenceIdeal.Read.val_main_v8_eq, h0]
    funext i
    exact Cert.ConvReferenceIdeal.RefValue.first_apply _ i
  · obtain ⟨h0, h1, h2, h3, h4, h5, h6, h7⟩ := hag c
    rw [Cert.ConvReferenceIdeal.Read.val_main_v75_eq, h0, h1, h2, h3, h4, h5]
    funext i
    exact Cert.ConvReferenceIdeal.RefValue.second_apply _ _ _ _ _ _ i
  · obtain ⟨h0, h1, h2, h3, h4, h5, h6, h7⟩ := hag c
    rw [Cert.ConvReferenceIdeal.Read.val_main_v76_eq, h6]
    funext i
    exact Cert.ConvReferenceIdeal.RefValue.third_apply _ i
  · obtain ⟨h0, h1, h2, h3, h4, h5, h6, h7⟩ := hag c
    rw [Cert.ConvReferenceIdeal.Read.val_main_v77_eq, h7]
    funext i
    exact Cert.ConvReferenceIdeal.RefValue.fourth_apply _ i

end Cert.Proof.ConvClaims

end
-- ==== Proof.BandSample.lean ====
/- The attention of the samples as mathematics: the scores of a query against the 512 cached rows of its stream and the 32
   new ones, and an average over two groups of places with one maximum and one sum. -/
module

public import proofs.«01_k».proof.Proof.BandScores

@[expose] public section

noncomputable section

open Idealize.ShloMosaic

namespace Cert.Band

/-- The average of two groups of values, weighted by the exponentials of their scores below the larger of the two maxima. -/
def twoAverage {n k : ℕ} (s v : Fin n → EReal) (s' v' : Fin k → EReal) : EReal :=
  Ideal.div ((∑ x, Ideal.exp (s x - max (top s) (top s')) * v x) + ∑ x, Ideal.exp (s' x - max (top s) (top s')) * v' x)
    ((∑ x, Ideal.exp (s x - max (top s) (top s'))) + ∑ x, Ideal.exp (s' x - max (top s) (top s')))

theorem top_two {n k : ℕ} (s : Fin (n + k) → EReal) :
    max (top fun j => s (Fin.castAdd k j)) (top fun j => s (Fin.natAdd n j)) = top s := by
  rw [top_eq_sup, top_eq_sup, top_eq_sup]
  apply le_antisymm
  · exact max_le (Finset.sup_le fun j _ => Finset.le_sup (f := s) (Finset.mem_univ _))
      (Finset.sup_le fun j _ => Finset.le_sup (f := s) (Finset.mem_univ _))
  · refine Finset.sup_le fun x _ => ?_
    refine Fin.addCases (fun j => ?_) (fun j => ?_) x
    · exact le_max_of_le_left (Finset.le_sup (f := fun j => s (Fin.castAdd k j)) (Finset.mem_univ j))
    · exact le_max_of_le_right (Finset.le_sup (f := fun j => s (Fin.natAdd n j)) (Finset.mem_univ j))

/-- Two groups of places make one. -/
theorem two_average {n k : ℕ} (s v : Fin (n + k) → EReal) :
    twoAverage (fun j => s (Fin.castAdd k j)) (fun j => v (Fin.castAdd k j)) (fun j => s (Fin.natAdd n j))
      (fun j => v (Fin.natAdd n j)) = average s v := by
  unfold twoAverage average weight
  rw [top_two, Fin.sum_univ_add, Fin.sum_univ_add]

variable (Z : Fin 1024 → Fin 10240 → EReal) (C : Fin 32 → Fin 512 → Fin 16 → Fin 128 → EReal) (rel : Fin 16 → Fin 513 → EReal)

/-- Row `j` of stream `b`, the cached rows before the new ones: component `d` of head `h`, in the new rows column `e`. -/
def streamRow (b : Fin 32) (h : Fin 16) (d : Fin 128) (e : Fin 10240) (j : Fin 544) : EReal :=
  if hj : j.val < 512 then C b ⟨j.val, hj⟩ h d else Z ⟨32 * b.val + (j.val - 512), by omega⟩ e

def streamOf (r : Fin 1024) : Fin 32 := ⟨r.val / 32, by omega⟩

/-- The score of query `r` of head `h` against row `j` of its stream. -/
def streamScore (r : Fin 1024) (h : Fin 16) (j : Fin 544) : EReal :=
  (∑ d : Fin 128, Z r (qCol h d) * sc * streamRow Z C (streamOf r) h d (kCol h d) j)
    + rel h ⟨biasAt (r.val % 32) j.val, biasAt_lt _ _⟩

/-- The value of row `j` of the stream of query `r`. -/
def streamValue (r : Fin 1024) (h : Fin 16) (d : Fin 128) (j : Fin 544) : EReal :=
  streamRow Z C (streamOf r) h d (vCol h d) j

theorem streamRow_cached (b : Fin 32) (h : Fin 16) (d : Fin 128) (e : Fin 10240) (j : Fin 512) :
    streamRow Z C b h d e (Fin.castAdd 32 j : Fin 544) = C b j h d := by
  unfold streamRow
  exact dif_pos j.isLt

theorem streamRow_new (b : Fin 32) (h : Fin 16) (d : Fin 128) (e : Fin 10240) (j : Fin 32) :
    streamRow Z C b h d e (Fin.natAdd 512 j : Fin 544) = Z ⟨32 * b.val + j.val, by omega⟩ e := by
  unfold streamRow
  rw [dif_neg (by show ¬512 + j.val < 512; omega)]
  exact congrArg (Z · e) (Fin.ext (by show 32 * b.val + (512 + j.val - 512) = 32 * b.val + j.val; omega))

end Cert.Band

end
-- ==== Proof.AttnSampleTile.lean ====
/- The attention of the samples, one head of one stream: what its arithmetic is at an element. -/
module

public import proofs.«01_k».proof.Proof.BandMath
public import proofs.«01_k».proof.Proof.BandSample
public import proofs.«01_k».proof.Proof.RowScale
public import proofs.«01_k».proof.Proof.Gen.AttnSampleKernelIdeal.Skeleton
public import Idealize.ShloMosaic.Lib.Tactic

@[expose] public section

set_option maxRecDepth 16384

noncomputable section

open Idealize.ShloMosaic Idealize.ShloMosaic.TcCoe Idealize.SL.Sem

namespace Cert.AttnSampleKernelIdeal.StreamValue

open Cert.AttnSampleKernelIdeal Cert.AttnSampleKernelIdeal.Gen Cert.Rows

/-- What a query is multiplied by. -/
abbrev sc : EReal := Ideal.ofBits FTy.f32 0x3DB504F3#32

/-- A head's queries against the cached and the new rows of its stream. -/
def head (q : Vec Ideal S32x128 .f32) (kc vc : Vec Ideal S1x512x128 .f32) (kn vn : Vec Ideal S32x128 .f32)
    (bc : Vec Ideal S1x32x512 .f32) (bn : Vec Ideal S1x32x32 .f32) : Vec Ideal S32x128 .f32 := fun y =>
  Band.twoAverage (fun x : Fin 512 => (∑ d : Fin 128, q (ix2 (y 0) d) * sc * kc (ix3 0 x d)) + bc (ix3 0 (y 0) x))
    (fun x => vc (ix3 0 x (y 1)))
    (fun x : Fin 32 => (∑ d : Fin 128, q (ix2 (y 0) d) * sc * kn (ix2 x d)) + bn (ix3 0 (y 0) x))
    (fun x => vn (ix2 x (y 1)))

/-- A head's arithmetic as it stands in the program. -/
def raw (q : Vec Ideal S32x128 .f32) (kc vc : Vec Ideal S1x512x128 .f32) (kn vn : Vec Ideal S32x128 .f32)
    (bc : Vec Ideal S1x32x512 .f32) (bn : Vec Ideal S1x32x32 .f32) : Vec Ideal S32x128 .f32 :=
  k0_pay27 (k0_pay21 vc) (k0_pay22 vn) (k0_pay24 q kn bn) (k0_pay25 q kc kn bc bn) (k0_pay26 q kc kn bc bn)

section
variable (q : Vec Ideal S32x128 .f32) (kc vc : Vec Ideal S1x512x128 .f32) (kn vn : Vec Ideal S32x128 .f32)
    (bc : Vec Ideal S1x32x512 .f32) (bn : Vec Ideal S1x32x32 .f32)

theorem cached_scores (y : S32x512.Idx) : k0_pay23 q kc bc y
    = (∑ d : Fin 128, q (ix2 (y 0) d) * sc * kc (ix3 0 (y 1) d)) + bc (ix3 0 (y 0) (y 1)) := by
  pointwise [k0_pay23, k0_pay20]

theorem new_scores (y : S32x32.Idx) : k0_pay24 q kn bn y
    = (∑ d : Fin 128, q (ix2 (y 0) d) * sc * kn (ix2 (y 1) d)) + bn (ix3 0 (y 0) (y 1)) := by
  pointwise [k0_pay24, k0_pay20]

theorem raw_eq : raw q kc vc kn vn bc bn = head q kc vc kn vn bc bn := by
  funext y
  unfold raw
  pointwise [k0_pay27, k0_pay21, k0_pay22, k0_pay25, k0_pay26]
  simp only [cached_scores, new_scores]
  rw [Band.negInf]
  rfl

end

/-! ## The biases -/

/-- Each head's row of biases, rolled by the query's number. -/
def band (f : Vec Ideal S16x1x1024 .f32) : Vec Ideal S16x32x1024 .f32 := fun y =>
  f (ix3 (y 0) 0 ⟨((y 2).val + 1024 - (y 1).val) % 1024, Nat.mod_lt _ (by decide)⟩)

theorem roll_apply (f : Vec Ideal S1x1x1024 .f32) (y : S1x32x1024.Idx) :
    k0_pay2 f y = f (ix3 0 0 ⟨((y 2).val + 1024 - (y 1).val) % 1024, Nat.mod_lt _ (by decide)⟩) := by
  have h1 : (y 1).val < 32 := (y 1).isLt
  refine Eq.trans (b := f (ix3 0 0 ⟨((y 2).val + 1024 - (y 1).val % 1024) % 1024, Nat.mod_lt _ (by decide)⟩)) ?_ ?_
  · pointwise [k0_pay2]
  · simp only [Nat.mod_eq_of_lt (show (y 1).val < 1024 by omega)]

section
variable (q : Vec Ideal S32x128 .f32) (kc vc : Vec Ideal S1x512x128 .f32) (kn vn : Vec Ideal S32x128 .f32)
    (bc : Vec Ideal S1x32x512 .f32) (bn : Vec Ideal S1x32x32 .f32) (f : Vec Ideal S1x1x1024 .f32)

/-! The program cuts the heads' arithmetic in different places: it is the same of every head. -/

theorem head0 : k0_pay27 (k0_pay21 vc) (k0_pay22 vn) (k0_pay24 q kn bn) (k0_pay25 q kc kn bc bn) (k0_pay26 q kc kn bc bn)
    = raw q kc vc kn vn bc bn := rfl
theorem head1 : k0_pay33 (k0_pay29 vc) (k0_pay30 vn) (k0_pay31 q kc bc) (k0_pay32 q kn) bn
    = raw q kc vc kn vn bc bn := rfl
theorem head2 : k0_pay37 (k0_pay34 q) (k0_pay35 kc) (k0_pay36 vc) kn vn bc bn
    = raw q kc vc kn vn bc bn := rfl
theorem head3 : k0_pay49 (k0_pay40 vc) (k0_pay41 vn) (k0_pay46 q (k0_pay38 (F := Ideal)) kc kn bc bn) (k0_pay47 q (k0_pay38 (F := Ideal)) kc kn bc bn) (k0_pay48 q (k0_pay38 (F := Ideal)) kc kn bc bn) (constant S32x128 .f32 0x00000000#32)
    = raw q kc vc kn vn bc bn := rfl
theorem head4 : k0_pay57 (k0_pay51 vc) (k0_pay52 vn) (k0_pay53 q kc bc) (k0_pay54 q kn bn) (k0_pay55 q kc bc) (k0_pay56 q kn bn)
    = raw q kc vc kn vn bc bn := rfl
theorem head5 : k0_pay63 (k0_pay58 q) (k0_pay59 vc) (k0_pay60 kn) (k0_pay61 vn) (k0_pay62 q kc) bc bn
    = raw q kc vc kn vn bc bn := rfl
theorem head6 : k0_pay66 (k0_pay64 q) (k0_pay65 kc) vc kn vn bc bn
    = raw q kc vc kn vn bc bn := rfl
theorem head7 : k0_pay77 (k0_pay68 vc) (k0_pay69 vn) (k0_pay73 q kc kn bc bn) (k0_pay74 q kc kn bc bn) (k0_pay75 q kc kn bc bn) (k0_pay76 q kc kn bc bn)
    = raw q kc vc kn vn bc bn := rfl
theorem head8 : k0_pay84 (k0_pay79 vc) (k0_pay80 vn) (k0_pay81 q kc bc) (k0_pay82 q kn bn) (k0_pay83 q kc bc)
    = raw q kc vc kn vn bc bn := rfl
theorem head9 : k0_pay90 (k0_pay85 q) (k0_pay86 vc) (k0_pay87 kn) (k0_pay88 vn) (k0_pay89 q kc) bc bn
    = raw q kc vc kn vn bc bn := rfl
theorem head10 : k0_pay93 (k0_pay91 q) (k0_pay92 kc) vc kn vn bc bn
    = raw q kc vc kn vn bc bn := rfl
theorem head11 : k0_pay102 (k0_pay95 vc) (k0_pay96 vn) (k0_pay100 q kc kn bc bn) (k0_pay101 q kc kn bc bn)
    = raw q kc vc kn vn bc bn := rfl
theorem head12 : k0_pay108 (k0_pay104 vc) (k0_pay105 vn) (k0_pay106 q kc bc) (k0_pay107 q kn) bn
    = raw q kc vc kn vn bc bn := rfl
theorem head13 : k0_pay113 (k0_pay109 q) (k0_pay110 kc) (k0_pay111 vc) (k0_pay112 kn) vn bc bn
    = raw q kc vc kn vn bc bn := rfl
theorem head14 : k0_pay123 (k0_pay120 (k0_pay114 q) kc kn bc bn) (k0_pay121 (k0_pay114 q) kc vc kn bc bn) (k0_pay122 (k0_pay114 q) kc kn vn bc bn)
    = raw q kc vc kn vn bc bn := rfl
theorem head15 : k0_pay1 (k0_pay125 vc) (k0_pay126 vn) (k0_pay128 q kn bn) (k0_pay129 q kc kn bc bn) (k0_pay130 q kc kn bc bn)
    = raw q kc vc kn vn bc bn := rfl

theorem roll0 : k0_pay2 f = k0_pay2 f := rfl
theorem roll1 : k0_pay3 f = k0_pay2 f := rfl
theorem roll2 : k0_pay4 f = k0_pay2 f := rfl
theorem roll3 : k0_pay6 (k0_pay5 f) = k0_pay2 f := rfl
theorem roll4 : k0_pay7 f = k0_pay2 f := rfl
theorem roll5 : k0_pay8 f = k0_pay2 f := rfl
theorem roll6 : k0_pay9 f = k0_pay2 f := rfl
theorem roll7 : k0_pay11 (k0_pay10 f) (0#32) = k0_pay2 f := rfl
theorem roll8 : k0_pay12 f = k0_pay2 f := rfl
theorem roll9 : k0_pay13 f = k0_pay2 f := rfl
theorem roll10 : k0_pay14 f = k0_pay2 f := rfl
theorem roll11 : k0_pay15 f = k0_pay2 f := rfl
theorem roll12 : k0_pay16 f = k0_pay2 f := rfl
theorem roll13 : k0_pay17 f = k0_pay2 f := rfl
theorem roll14 : k0_pay18 f = k0_pay2 f := rfl
theorem roll15 : k0_pay19 f = k0_pay2 f := rfl

end

end Cert.AttnSampleKernelIdeal.StreamValue

end
-- ==== Proof.AttnSampleValue.lean ====
/- The attention of the samples: what a point of the grid leaves. The first point lays every head's biases out, rolled by the
   query's number, and the others find them there; each point is one stream's queries against its cached and new rows. -/
module

public import proofs.«01_k».proof.Proof.AttnSampleTile
public import proofs.«01_k».proof.Proof.Gen.AttnSampleKernelIdeal.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

namespace Cert.AttnSampleKernelIdeal.StreamValue

open Cert.AttnSampleKernelIdeal Cert.AttnSampleKernelIdeal.Gen Cert.AttnSampleKernelIdeal.Value Cert.Rows

/-- Two rank-three indices with equal coordinates are equal. -/
theorem ix3_congr {n0 n1 n2 : ℕ} {y z : (⟨3, ![n0, n1, n2]⟩ : Shape).Idx} (h0 : (y 0).val = (z 0).val)
    (h1 : (y 1).val = (z 1).val) (h2 : (y 2).val = (z 2).val) : y = z := by
  funext a
  apply Fin.ext
  match a with
  | ⟨0, _⟩ => exact h0
  | ⟨1, _⟩ => exact h1
  | ⟨2, _⟩ => exact h2

/-- What a load of contents `x` reads. -/
abbrev ldAt {S : Shape} {e : EltTy} (x : S.Idx → Elt Ideal e) (r : LoadRect S) : r.shape.Idx → Elt Ideal e := fun j => x (r.idx j)

/-- The head of a column. -/
def headOf (e : Fin 2048) : Fin 16 := ⟨e.val / 128, by omega⟩
/-- Component `d` of head `h`. -/
def colOf (h : Fin 16) (d : Fin 128) : Fin 2048 := ⟨128 * h.val + d.val, by omega⟩
/-- Where the cache holds row `j` of head `h`. -/
def cacheRow (j : Fin 512) (h : Fin 16) : Fin 8192 := ⟨16 * j.val + h.val, by omega⟩

/-- A stream's queries against its cached and its new rows. -/
def block (q k v : Vec Ideal S32x2048 .f32) (ck cv : Vec Ideal S1x8192x128 .f32) (b : Vec Ideal S16x32x1024 .f32) :
    Vec Ideal S32x2048 .f32 := fun y =>
  Band.twoAverage (fun x : Fin 512 => (∑ d : Fin 128, q (ix2 (y 0) (colOf (headOf (y 1)) d)) * sc
        * ck (ix3 0 (cacheRow x (headOf (y 1))) d)) + b (ix3 (headOf (y 1)) (y 0) ⟨x.val, by omega⟩))
    (fun x => cv (ix3 0 (cacheRow x (headOf (y 1))) ⟨(y 1).val % 128, Nat.mod_lt _ (by decide)⟩))
    (fun x : Fin 32 => (∑ d : Fin 128, q (ix2 (y 0) (colOf (headOf (y 1)) d)) * sc
        * k (ix2 x (colOf (headOf (y 1)) d))) + b (ix3 (headOf (y 1)) (y 0) ⟨512 + x.val, by omega⟩))
    (fun x => v (ix2 x (y 1)))

/-- A head of a stream is the stream's columns at its place. -/
theorem piece (h : Fin 16) (q k v : Vec Ideal S32x2048 .f32) (ck cv : Vec Ideal S1x8192x128 .f32) (b : Vec Ideal S16x32x1024 .f32)
    (hin : ∀ z, ![0, 128 * h.val] z + S32x128.size z ≤ S32x2048.size z)
    (hc : ∀ z, S1x512x128.size z = 0 ∨ ![0, h.val, 0] z + ![1, 16, 1] z * (S1x512x128.size z - 1) < S1x8192x128.size z)
    (hb : ∀ z, ![h.val, 0, 0] z + S1x32x512.size z ≤ S16x32x1024.size z)
    (hn : ∀ z, ![h.val, 0, 512] z + S1x32x32.size z ≤ S16x32x1024.size z)
    (x : S32x128.Idx) :
    head (View.ld (Val := Elt Ideal) q (Rect.unit (s := S32x2048) ![0, 128 * h.val] S32x128.size hin))
      (ldAt ck (⟨![0, h.val, 0], S1x512x128.size, ![1, 16, 1], hc⟩ : LoadRect S1x8192x128))
      (ldAt cv (⟨![0, h.val, 0], S1x512x128.size, ![1, 16, 1], hc⟩ : LoadRect S1x8192x128))
      (View.ld (Val := Elt Ideal) k (Rect.unit (s := S32x2048) ![0, 128 * h.val] S32x128.size hin))
      (View.ld (Val := Elt Ideal) v (Rect.unit (s := S32x2048) ![0, 128 * h.val] S32x128.size hin))
      (View.ld (Val := Elt Ideal) b (Rect.unit (s := S16x32x1024) ![h.val, 0, 0] S1x32x512.size hb))
      (View.ld (Val := Elt Ideal) b (Rect.unit (s := S16x32x1024) ![h.val, 0, 512] S1x32x32.size hn)) x
      = block q k v ck cv b ((Rect.unit (s := S32x2048) ![0, 128 * h.val] S32x128.size hin).emb x) := by
  have hx0 : (x 0).val < 32 := (x 0).isLt
  have hx1 : (x 1).val < 128 := (x 1).isLt
  have e0 : ((Rect.unit (s := S32x2048) ![0, 128 * h.val] S32x128.size hin).emb x 0).val = (x 0).val := by
    show 0 + 1 * (x 0).val = _; omega
  have e1 : ((Rect.unit (s := S32x2048) ![0, 128 * h.val] S32x128.size hin).emb x 1).val = 128 * h.val + (x 1).val := by
    show 128 * h.val + 1 * (x 1).val = _; omega
  have hh : headOf ((Rect.unit (s := S32x2048) ![0, 128 * h.val] S32x128.size hin).emb x 1) = h :=
    Fin.ext (by show ((Rect.unit (s := S32x2048) ![0, 128 * h.val] S32x128.size hin).emb x 1).val / 128 = h.val; rw [e1]; omega)
  have em : ((Rect.unit (s := S32x2048) ![0, 128 * h.val] S32x128.size hin).emb x 1).val % 128 = (x 1).val := by rw [e1]; omega
  unfold head block
  rw [hh]
  congr 1
  · funext k'
    refine congr (congrArg _ (Finset.sum_congr rfl fun d _ => ?_)) (congrArg b (ix3_congr ?_ ?_ ?_))
    · refine congr (congrArg _ (congrArg (· * sc) (congrArg q (ix2_congr ?_ ?_)))) (congrArg ck (ix3_congr ?_ ?_ ?_))
      · show 0 + 1 * (x 0).val = _; rw [Nat.zero_add, Nat.one_mul]; exact e0.symm
      · show 128 * h.val + 1 * d.val = 128 * h.val + d.val; omega
      · rfl
      · show h.val + 16 * k'.val = 16 * k'.val + h.val; omega
      · show 0 + 1 * d.val = d.val; omega
    · show h.val + 1 * 0 = h.val; omega
    · show 0 + 1 * (x 0).val = _; rw [Nat.zero_add, Nat.one_mul]; exact e0.symm
    · show 0 + 1 * k'.val = k'.val; omega
  · funext k'
    refine congrArg cv (ix3_congr ?_ ?_ ?_)
    · rfl
    · show h.val + 16 * k'.val = 16 * k'.val + h.val; omega
    · show 0 + 1 * (x 1).val = _; rw [Nat.zero_add, Nat.one_mul]; exact em.symm
  · funext k'
    refine congr (congrArg _ (Finset.sum_congr rfl fun d _ => ?_)) (congrArg b (ix3_congr ?_ ?_ ?_))
    · refine congr (congrArg _ (congrArg (· * sc) (congrArg q (ix2_congr ?_ ?_)))) (congrArg k (ix2_congr ?_ ?_))
      · show 0 + 1 * (x 0).val = _; rw [Nat.zero_add, Nat.one_mul]; exact e0.symm
      · show 128 * h.val + 1 * d.val = 128 * h.val + d.val; omega
      · show 0 + 1 * k'.val = k'.val; omega
      · show 128 * h.val + 1 * d.val = 128 * h.val + d.val; omega
    · show h.val + 1 * 0 = h.val; omega
    · show 0 + 1 * (x 0).val = _; rw [Nat.zero_add, Nat.one_mul]; exact e0.symm
    · show 512 + 1 * k'.val = 512 + k'.val; omega
  · funext k'
    refine congrArg v (ix2_congr ?_ ?_)
    · show 0 + 1 * k'.val = k'.val; omega
    · show 128 * h.val + 1 * (x 1).val = _; rw [Nat.one_mul]; exact e1.symm

/-- A head's row of biases, rolled, is the head's part of the table. -/
theorem rolled (h : Fin 16) (f : Vec Ideal S16x1x1024 .f32) (P : Vec Ideal S1x32x1024 .f32) (r : Vec Ideal S1x1x1024 .f32)
    (hf : ∀ z, ![h.val, 0, 0] z + S1x1x1024.size z ≤ S16x1x1024.size z)
    (hb : ∀ z, ![h.val, 0, 0] z + S1x32x1024.size z ≤ S16x32x1024.size z) (hP : P = k0_pay2 r)
    (hr : r = View.ld (Val := Elt Ideal) f (Rect.unit (s := S16x1x1024) ![h.val, 0, 0] S1x1x1024.size hf))
    (x : S1x32x1024.Idx) :
    P x = band f ((Rect.unit (s := S16x32x1024) ![h.val, 0, 0] S1x32x1024.size hb).emb x) := by
  rw [hP, roll_apply, hr]
  unfold band
  have hx : (x 0).val < 1 := (x 0).isLt
  refine congrArg f (ix3_congr ?_ ?_ ?_)
  · show h.val + 1 * 0 = h.val + 1 * (x 0).val; omega
  · rfl
  · show 0 + 1 * (((x 2).val + 1024 - (x 1).val) % 1024) = ((0 + 1 * (x 2).val) + 1024 - (0 + 1 * (x 1).val)) % 1024
    rw [Nat.zero_add, Nat.one_mul, Nat.zero_add, Nat.one_mul, Nat.zero_add, Nat.one_mul]

/-- A head's loads, however the biases are held. -/
theorem stored (h : Fin 16) (q k v : Vec Ideal S32x2048 .f32) (ck cv : Vec Ideal S1x8192x128 .f32) (b : Vec Ideal S16x32x1024 .f32)
    (P lq lk lv : Vec Ideal S32x128 .f32) (lck lcv : Vec Ideal S1x512x128 .f32) (lb : Vec Ideal S1x32x512 .f32)
    (ln : Vec Ideal S1x32x32 .f32)
    (hin : ∀ z, ![0, 128 * h.val] z + S32x128.size z ≤ S32x2048.size z)
    (hc : ∀ z, S1x512x128.size z = 0 ∨ ![0, h.val, 0] z + ![1, 16, 1] z * (S1x512x128.size z - 1) < S1x8192x128.size z)
    (hb : ∀ z, ![h.val, 0, 0] z + S1x32x512.size z ≤ S16x32x1024.size z)
    (hn : ∀ z, ![h.val, 0, 512] z + S1x32x32.size z ≤ S16x32x1024.size z)
    (hP : P = raw lq lck lcv lk lv lb ln)
    (eq : lq = View.ld (Val := Elt Ideal) q (Rect.unit (s := S32x2048) ![0, 128 * h.val] S32x128.size hin))
    (eck : lck = ldAt ck (⟨![0, h.val, 0], S1x512x128.size, ![1, 16, 1], hc⟩ : LoadRect S1x8192x128))
    (ecv : lcv = ldAt cv (⟨![0, h.val, 0], S1x512x128.size, ![1, 16, 1], hc⟩ : LoadRect S1x8192x128))
    (ek : lk = View.ld (Val := Elt Ideal) k (Rect.unit (s := S32x2048) ![0, 128 * h.val] S32x128.size hin))
    (ev : lv = View.ld (Val := Elt Ideal) v (Rect.unit (s := S32x2048) ![0, 128 * h.val] S32x128.size hin))
    (eb : lb = View.ld (Val := Elt Ideal) b (Rect.unit (s := S16x32x1024) ![h.val, 0, 0] S1x32x512.size hb))
    (en : ln = View.ld (Val := Elt Ideal) b (Rect.unit (s := S16x32x1024) ![h.val, 0, 512] S1x32x32.size hn))
    (x : S32x128.Idx) :
    P x = block q k v ck cv b ((Rect.unit (s := S32x2048) ![0, 128 * h.val] S32x128.size hin).emb x) := by
  rw [hP, raw_eq, eq, eck, ecv, ek, ev, eb, en]
  exact piece h q k v ck cv b hin hc hb hn x

/-! ## What the two cases of the body leave -/

section Cases

variable (c : Dev nD) (i : grid0.Coords) (a1 : Memref sig .tc .vmem S32x2048 .f32) (h1 : a1.IsWhole)
  (a2 : Memref sig .tc .vmem S32x2048 .f32) (h2 : a2.IsWhole) (a3 : Memref sig .tc .vmem S32x2048 .f32) (h3 : a3.IsWhole)
  (a4 : Memref sig .tc .vmem S1x8192x128 .f32) (h4 : a4.IsWhole) (a5 : Memref sig .tc .vmem S1x8192x128 .f32) (h5 : a5.IsWhole)
  (a6 : Memref sig .tc .vmem S16x1x1024 .f32) (h6 : a6.IsWhole) (a7 : Memref sig .tc .vmem S32x2048 .f32) (h7 : a7.IsWhole)
  (a8 : Memref sig .tc .vmem S16x32x1024 .f32) (h8 : a8.IsWhole)
  (x0 x1 x2 : Vec Ideal S32x2048 .f32) (x3 x4 : Vec Ideal S1x8192x128 .f32) (x5 : Vec Ideal S16x1x1024 .f32)

include h6 in
theorem canon_b (hcov : ∀ y : S16x32x1024.Idx, ∃ p ∈ kernelRun0_A.sl.HS0_16 (F := Ideal) c a6 h6 x5, y ∈ p.fst.set) :
    View.canon (kernelRun0_A.sl.HS0_16 (F := Ideal) c a6 h6 x5) = band x5 := by
  funext y
  refine View.canon_apply_of_pieces (Val := Elt Ideal) (band x5) _ ?_ y (hcov y)
  have hf : ∀ (o : Fin 3 → ℕ) (hin : ∀ z, o z + S1x1x1024.size z ≤ S16x1x1024.size z),
      View.readAt (Elt Ideal) a6.view (Rect.unit (s := S16x1x1024) o S1x1x1024.size hin).toLoadRect (h6.unread x5)
        = View.ld (Val := Elt Ideal) x5 (Rect.unit (s := S16x1x1024) o S1x1x1024.size hin) := fun o hin => by
    rw [View.readAt_eq_ld, h6.read_unread]
  unfold kernelRun0_A.sl.HS0_16
  intro p hp
  rcases List.mem_cons.mp hp with rfl | hp
  · exact rolled 15 x5 _ _ inb_S16x1x1024_S1x1x1024_15_0_0 inb_S16x32x1024_S1x32x1024_15_0_0 (by rfl) (hf _ _)
  rcases List.mem_cons.mp hp with rfl | hp
  · exact rolled 14 x5 _ _ inb_S16x1x1024_S1x1x1024_14_0_0 inb_S16x32x1024_S1x32x1024_14_0_0 (by rfl) (hf _ _)
  rcases List.mem_cons.mp hp with rfl | hp
  · exact rolled 13 x5 _ _ inb_S16x1x1024_S1x1x1024_13_0_0 inb_S16x32x1024_S1x32x1024_13_0_0 (by rfl) (hf _ _)
  rcases List.mem_cons.mp hp with rfl | hp
  · exact rolled 12 x5 _ _ inb_S16x1x1024_S1x1x1024_12_0_0 inb_S16x32x1024_S1x32x1024_12_0_0 (by rfl) (hf _ _)
  rcases List.mem_cons.mp hp with rfl | hp
  · exact rolled 11 x5 _ _ inb_S16x1x1024_S1x1x1024_11_0_0 inb_S16x32x1024_S1x32x1024_11_0_0 (by rfl) (hf _ _)
  rcases List.mem_cons.mp hp with rfl | hp
  · exact rolled 10 x5 _ _ inb_S16x1x1024_S1x1x1024_10_0_0 inb_S16x32x1024_S1x32x1024_10_0_0 (by rfl) (hf _ _)
  rcases List.mem_cons.mp hp with rfl | hp
  · exact rolled 9 x5 _ _ inb_S16x1x1024_S1x1x1024_9_0_0 inb_S16x32x1024_S1x32x1024_9_0_0 (by rfl) (hf _ _)
  rcases List.mem_cons.mp hp with rfl | hp
  · exact rolled 8 x5 _ _ inb_S16x1x1024_S1x1x1024_8_0_0 inb_S16x32x1024_S1x32x1024_8_0_0 (by rfl) (hf _ _)
  rcases List.mem_cons.mp hp with rfl | hp
  · exact rolled 7 x5 _ _ inb_S16x1x1024_S1x1x1024_7_0_0 inb_S16x32x1024_S1x32x1024_7_0_0 (by rfl) (hf _ _)
  rcases List.mem_cons.mp hp with rfl | hp
  · exact rolled 6 x5 _ _ inb_S16x1x1024_S1x1x1024_6_0_0 inb_S16x32x1024_S1x32x1024_6_0_0 (by rfl) (hf _ _)
  rcases List.mem_cons.mp hp with rfl | hp
  · exact rolled 5 x5 _ _ inb_S16x1x1024_S1x1x1024_5_0_0 inb_S16x32x1024_S1x32x1024_5_0_0 (by rfl) (hf _ _)
  rcases List.mem_cons.mp hp with rfl | hp
  · exact rolled 4 x5 _ _ inb_S16x1x1024_S1x1x1024_4_0_0 inb_S16x32x1024_S1x32x1024_4_0_0 (by rfl) (hf _ _)
  rcases List.mem_cons.mp hp with rfl | hp
  · exact rolled 3 x5 _ _ inb_S16x1x1024_S1x1x1024_3_0_0 inb_S16x32x1024_S1x32x1024_3_0_0 (by rfl) (hf _ _)
  rcases List.mem_cons.mp hp with rfl | hp
  · exact rolled 2 x5 _ _ inb_S16x1x1024_S1x1x1024_2_0_0 inb_S16x32x1024_S1x32x1024_2_0_0 (by rfl) (hf _ _)
  rcases List.mem_cons.mp hp with rfl | hp
  · exact rolled 1 x5 _ _ inb_S16x1x1024_S1x1x1024_1_0_0 inb_S16x32x1024_S1x32x1024_1_0_0 (by rfl) (hf _ _)
  obtain rfl := List.mem_singleton.mp hp
  exact rolled 0 x5 _ _ inb_S16x1x1024_S1x1x1024_0_0_0 inb_S16x32x1024_S1x32x1024_0_0_0 (by rfl) (hf _ _)

theorem sout_A (hc : cond0_0 i) :
    sout0_A_0 c i a1 h1 a2 h2 a3 h3 a4 h4 a5 h5 a6 h6 a7 h7 a8 h8 hc x0 x1 x2 x3 x4 x5 = band x5 := by
  have hcov := scover0_A_0 c i a1 h1 a2 h2 a3 h3 a4 h4 a5 h5 a6 h6 a7 h7 a8 h8 hc x0 x1 x2 x3 x4 x5
  unfold sout0_A_0
  rw [View.read_writes_eq_canon _ _ _ hcov]
  unfold kernelRun0_A at hcov ⊢
  exact canon_b c a6 h6 x5 hcov

theorem sout_B (hc : ¬cond0_0 i) (s0 : Vec Ideal S16x32x1024 .f32) :
    sout0_B_0 c i a1 h1 a2 h2 a3 h3 a4 h4 a5 h5 a6 h6 a7 h7 a8 h8 hc x0 x1 x2 x3 x4 x5 s0 = s0 := by
  unfold sout0_B_0; rfl

/-- Loads of a block as it stands in an argument. -/
theorem cols_ld (a : Memref sig .tc .vmem S32x2048 .f32) (ha : a.IsWhole) (x : Vec Ideal S32x2048 .f32) (o : Fin 2 → ℕ)
    (hin : ∀ z, o z + S32x128.size z ≤ S32x2048.size z) :
    View.readAt (Elt Ideal) a.view (Rect.unit (s := S32x2048) o S32x128.size hin).toLoadRect (ha.unread x)
      = View.ld (Val := Elt Ideal) x (Rect.unit (s := S32x2048) o S32x128.size hin) := by
  rw [View.readAt_eq_ld, ha.read_unread]

theorem cache_ld (a : Memref sig .tc .vmem S1x8192x128 .f32) (ha : a.IsWhole) (x : Vec Ideal S1x8192x128 .f32)
    (r : LoadRect S1x8192x128) :
    View.readAt (Elt Ideal) a.view r (ha.unread x) = ldAt x r := by
  show ldAt (a.view.read (Elt Ideal) (ha.unread x)) r = _
  rw [ha.read_unread]

theorem out_B (hc : ¬cond0_0 i) (s0 : Vec Ideal S16x32x1024 .f32) :
    out0_B_6 c i a1 h1 a2 h2 a3 h3 a4 h4 a5 h5 a6 h6 a7 h7 a8 h8 hc x0 x1 x2 x3 x4 x5 s0 = block x0 x1 x2 x3 x4 s0 := by
  have hcov := cover0_B_6 c i a1 h1 a2 h2 a3 h3 a4 h4 a5 h5 a6 h6 a7 h7 a8 h8 hc x0 x1 x2 x3 x4 x5 s0
  unfold out0_B_6
  rw [View.read_writes_eq_canon _ _ _ hcov]
  funext y
  refine View.canon_apply_of_pieces (Val := Elt Ideal) (block x0 x1 x2 x3 x4 s0) _ ?_ y (hcov y)
  have hb : ∀ r : LoadRect S16x32x1024, View.readAt (Elt Ideal) a8.view r (h8.unread s0) = ldAt s0 r := fun r => by
    show ldAt (a8.view.read (Elt Ideal) (h8.unread s0)) r = _
    rw [h8.read_unread]
  unfold kernelRun0_B
  dsimp only
  intro p hp
  rcases List.mem_cons.mp hp with rfl | hp
  · exact stored 15 x0 x1 x2 x3 x4 _ _ _ _ _ _ _ _ _ inb_S32x2048_S32x128_0_1920 inb_S1x8192x128_S1x512x128_0_15_0_s_1_16_1
      inb_S16x32x1024_S1x32x512_15_0_0 inb_S16x32x1024_S1x32x32_15_0_512 (by exact head15 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 14 x0 x1 x2 x3 x4 _ _ _ _ _ _ _ _ _ inb_S32x2048_S32x128_0_1792 inb_S1x8192x128_S1x512x128_0_14_0_s_1_16_1
      inb_S16x32x1024_S1x32x512_14_0_0 inb_S16x32x1024_S1x32x32_14_0_512 (by exact head14 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 13 x0 x1 x2 x3 x4 _ _ _ _ _ _ _ _ _ inb_S32x2048_S32x128_0_1664 inb_S1x8192x128_S1x512x128_0_13_0_s_1_16_1
      inb_S16x32x1024_S1x32x512_13_0_0 inb_S16x32x1024_S1x32x32_13_0_512 (by exact head13 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 12 x0 x1 x2 x3 x4 _ _ _ _ _ _ _ _ _ inb_S32x2048_S32x128_0_1536 inb_S1x8192x128_S1x512x128_0_12_0_s_1_16_1
      inb_S16x32x1024_S1x32x512_12_0_0 inb_S16x32x1024_S1x32x32_12_0_512 (by exact head12 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 11 x0 x1 x2 x3 x4 _ _ _ _ _ _ _ _ _ inb_S32x2048_S32x128_0_1408 inb_S1x8192x128_S1x512x128_0_11_0_s_1_16_1
      inb_S16x32x1024_S1x32x512_11_0_0 inb_S16x32x1024_S1x32x32_11_0_512 (by exact head11 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 10 x0 x1 x2 x3 x4 _ _ _ _ _ _ _ _ _ inb_S32x2048_S32x128_0_1280 inb_S1x8192x128_S1x512x128_0_10_0_s_1_16_1
      inb_S16x32x1024_S1x32x512_10_0_0 inb_S16x32x1024_S1x32x32_10_0_512 (by exact head10 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 9 x0 x1 x2 x3 x4 _ _ _ _ _ _ _ _ _ inb_S32x2048_S32x128_0_1152 inb_S1x8192x128_S1x512x128_0_9_0_s_1_16_1
      inb_S16x32x1024_S1x32x512_9_0_0 inb_S16x32x1024_S1x32x32_9_0_512 (by exact head9 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 8 x0 x1 x2 x3 x4 _ _ _ _ _ _ _ _ _ inb_S32x2048_S32x128_0_1024 inb_S1x8192x128_S1x512x128_0_8_0_s_1_16_1
      inb_S16x32x1024_S1x32x512_8_0_0 inb_S16x32x1024_S1x32x32_8_0_512 (by exact head8 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 7 x0 x1 x2 x3 x4 _ _ _ _ _ _ _ _ _ inb_S32x2048_S32x128_0_896 inb_S1x8192x128_S1x512x128_0_7_0_s_1_16_1
      inb_S16x32x1024_S1x32x512_7_0_0 inb_S16x32x1024_S1x32x32_7_0_512 (by exact head7 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 6 x0 x1 x2 x3 x4 _ _ _ _ _ _ _ _ _ inb_S32x2048_S32x128_0_768 inb_S1x8192x128_S1x512x128_0_6_0_s_1_16_1
      inb_S16x32x1024_S1x32x512_6_0_0 inb_S16x32x1024_S1x32x32_6_0_512 (by exact head6 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 5 x0 x1 x2 x3 x4 _ _ _ _ _ _ _ _ _ inb_S32x2048_S32x128_0_640 inb_S1x8192x128_S1x512x128_0_5_0_s_1_16_1
      inb_S16x32x1024_S1x32x512_5_0_0 inb_S16x32x1024_S1x32x32_5_0_512 (by exact head5 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 4 x0 x1 x2 x3 x4 _ _ _ _ _ _ _ _ _ inb_S32x2048_S32x128_0_512 inb_S1x8192x128_S1x512x128_0_4_0_s_1_16_1
      inb_S16x32x1024_S1x32x512_4_0_0 inb_S16x32x1024_S1x32x32_4_0_512 (by exact head4 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 3 x0 x1 x2 x3 x4 _ _ _ _ _ _ _ _ _ inb_S32x2048_S32x128_0_384 inb_S1x8192x128_S1x512x128_0_3_0_s_1_16_1
      inb_S16x32x1024_S1x32x512_3_0_0 inb_S16x32x1024_S1x32x32_3_0_512 (by exact head3 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 2 x0 x1 x2 x3 x4 _ _ _ _ _ _ _ _ _ inb_S32x2048_S32x128_0_256 inb_S1x8192x128_S1x512x128_0_2_0_s_1_16_1
      inb_S16x32x1024_S1x32x512_2_0_0 inb_S16x32x1024_S1x32x32_2_0_512 (by exact head2 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 1 x0 x1 x2 x3 x4 _ _ _ _ _ _ _ _ _ inb_S32x2048_S32x128_0_128 inb_S1x8192x128_S1x512x128_0_1_0_s_1_16_1
      inb_S16x32x1024_S1x32x512_1_0_0 inb_S16x32x1024_S1x32x32_1_0_512 (by exact head1 _ _ _ _ _ _ _)
      (cols_ld a1 h1 x0 _ _) (cache_ld a4 h4 x3 _) (cache_ld a5 h5 x4 _) (cols_ld a2 h2 x1 _ _) (cols_ld a3 h3 x2 _ _) (hb _) (hb _)
  obtain rfl := List.mem_singleton.mp hp
  exact stored 0 x0 x1 x2 x3 x4 _ _ _ _ _ _ _ _ _ inb_S32x2048_S32x128_0_0 inb_S1x8192x128_S1x512x128_0_0_0_s_1_16_1
      inb_S16x32x1024_S1x32x512_0_0_0 inb_S16x32x1024_S1x32x32_0_0_512 (by exact head0 _ _ _ _ _ _ _)
      (cols_ld a1 h1 x0 _ _) (cache_ld a4 h4 x3 _) (cache_ld a5 h5 x4 _) (cols_ld a2 h2 x1 _ _) (cols_ld a3 h3 x2 _ _) (hb _) (hb _)

theorem out_A (hc : cond0_0 i) :
    out0_A_6 c i a1 h1 a2 h2 a3 h3 a4 h4 a5 h5 a6 h6 a7 h7 a8 h8 hc x0 x1 x2 x3 x4 x5 = block x0 x1 x2 x3 x4 (band x5) := by
  have hcov := cover0_A_6 c i a1 h1 a2 h2 a3 h3 a4 h4 a5 h5 a6 h6 a7 h7 a8 h8 hc x0 x1 x2 x3 x4 x5
  unfold out0_A_6
  rw [View.read_writes_eq_canon _ _ _ hcov]
  funext y
  refine View.canon_apply_of_pieces (Val := Elt Ideal) (block x0 x1 x2 x3 x4 (band x5)) _ ?_ y (hcov y)
  have cb := scover0_A_0 c i a1 h1 a2 h2 a3 h3 a4 h4 a5 h5 a6 h6 a7 h7 a8 h8 hc x0 x1 x2 x3 x4 x5
  unfold kernelRun0_A at cb
  have hb : ∀ r : LoadRect S16x32x1024, View.readCov a8.view (kernelRun0_A.sl.HS0_16 (F := Ideal) c a6 h6 x5) r
      = ldAt (band x5) r := fun r => by
    rw [View.readCov_eq_canon _ _ _ fun _ => cb _, canon_b c a6 h6 x5 cb]
  unfold kernelRun0_A
  dsimp only
  intro p hp
  rcases List.mem_cons.mp hp with rfl | hp
  · exact stored 15 x0 x1 x2 x3 x4 _ _ _ _ _ _ _ _ _ inb_S32x2048_S32x128_0_1920 inb_S1x8192x128_S1x512x128_0_15_0_s_1_16_1
      inb_S16x32x1024_S1x32x512_15_0_0 inb_S16x32x1024_S1x32x32_15_0_512 (by exact head15 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 14 x0 x1 x2 x3 x4 _ _ _ _ _ _ _ _ _ inb_S32x2048_S32x128_0_1792 inb_S1x8192x128_S1x512x128_0_14_0_s_1_16_1
      inb_S16x32x1024_S1x32x512_14_0_0 inb_S16x32x1024_S1x32x32_14_0_512 (by exact head14 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 13 x0 x1 x2 x3 x4 _ _ _ _ _ _ _ _ _ inb_S32x2048_S32x128_0_1664 inb_S1x8192x128_S1x512x128_0_13_0_s_1_16_1
      inb_S16x32x1024_S1x32x512_13_0_0 inb_S16x32x1024_S1x32x32_13_0_512 (by exact head13 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 12 x0 x1 x2 x3 x4 _ _ _ _ _ _ _ _ _ inb_S32x2048_S32x128_0_1536 inb_S1x8192x128_S1x512x128_0_12_0_s_1_16_1
      inb_S16x32x1024_S1x32x512_12_0_0 inb_S16x32x1024_S1x32x32_12_0_512 (by exact head12 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 11 x0 x1 x2 x3 x4 _ _ _ _ _ _ _ _ _ inb_S32x2048_S32x128_0_1408 inb_S1x8192x128_S1x512x128_0_11_0_s_1_16_1
      inb_S16x32x1024_S1x32x512_11_0_0 inb_S16x32x1024_S1x32x32_11_0_512 (by exact head11 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 10 x0 x1 x2 x3 x4 _ _ _ _ _ _ _ _ _ inb_S32x2048_S32x128_0_1280 inb_S1x8192x128_S1x512x128_0_10_0_s_1_16_1
      inb_S16x32x1024_S1x32x512_10_0_0 inb_S16x32x1024_S1x32x32_10_0_512 (by exact head10 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 9 x0 x1 x2 x3 x4 _ _ _ _ _ _ _ _ _ inb_S32x2048_S32x128_0_1152 inb_S1x8192x128_S1x512x128_0_9_0_s_1_16_1
      inb_S16x32x1024_S1x32x512_9_0_0 inb_S16x32x1024_S1x32x32_9_0_512 (by exact head9 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 8 x0 x1 x2 x3 x4 _ _ _ _ _ _ _ _ _ inb_S32x2048_S32x128_0_1024 inb_S1x8192x128_S1x512x128_0_8_0_s_1_16_1
      inb_S16x32x1024_S1x32x512_8_0_0 inb_S16x32x1024_S1x32x32_8_0_512 (by exact head8 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 7 x0 x1 x2 x3 x4 _ _ _ _ _ _ _ _ _ inb_S32x2048_S32x128_0_896 inb_S1x8192x128_S1x512x128_0_7_0_s_1_16_1
      inb_S16x32x1024_S1x32x512_7_0_0 inb_S16x32x1024_S1x32x32_7_0_512 (by exact head7 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 6 x0 x1 x2 x3 x4 _ _ _ _ _ _ _ _ _ inb_S32x2048_S32x128_0_768 inb_S1x8192x128_S1x512x128_0_6_0_s_1_16_1
      inb_S16x32x1024_S1x32x512_6_0_0 inb_S16x32x1024_S1x32x32_6_0_512 (by exact head6 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 5 x0 x1 x2 x3 x4 _ _ _ _ _ _ _ _ _ inb_S32x2048_S32x128_0_640 inb_S1x8192x128_S1x512x128_0_5_0_s_1_16_1
      inb_S16x32x1024_S1x32x512_5_0_0 inb_S16x32x1024_S1x32x32_5_0_512 (by exact head5 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 4 x0 x1 x2 x3 x4 _ _ _ _ _ _ _ _ _ inb_S32x2048_S32x128_0_512 inb_S1x8192x128_S1x512x128_0_4_0_s_1_16_1
      inb_S16x32x1024_S1x32x512_4_0_0 inb_S16x32x1024_S1x32x32_4_0_512 (by exact head4 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 3 x0 x1 x2 x3 x4 _ _ _ _ _ _ _ _ _ inb_S32x2048_S32x128_0_384 inb_S1x8192x128_S1x512x128_0_3_0_s_1_16_1
      inb_S16x32x1024_S1x32x512_3_0_0 inb_S16x32x1024_S1x32x32_3_0_512 (by exact head3 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 2 x0 x1 x2 x3 x4 _ _ _ _ _ _ _ _ _ inb_S32x2048_S32x128_0_256 inb_S1x8192x128_S1x512x128_0_2_0_s_1_16_1
      inb_S16x32x1024_S1x32x512_2_0_0 inb_S16x32x1024_S1x32x32_2_0_512 (by exact head2 _ _ _ _ _ _ _)
      (cols_ld a1 h1 x0 _ _) (cache_ld a4 h4 x3 _) (cache_ld a5 h5 x4 _) (cols_ld a2 h2 x1 _ _) (cols_ld a3 h3 x2 _ _) (hb _) (hb _)
  rcases List.mem_cons.mp hp with rfl | hp
  · exact stored 1 x0 x1 x2 x3 x4 _ _ _ _ _ _ _ _ _ inb_S32x2048_S32x128_0_128 inb_S1x8192x128_S1x512x128_0_1_0_s_1_16_1
      inb_S16x32x1024_S1x32x512_1_0_0 inb_S16x32x1024_S1x32x32_1_0_512 (by exact head1 _ _ _ _ _ _ _)
      (cols_ld a1 h1 x0 _ _) (cache_ld a4 h4 x3 _) (cache_ld a5 h5 x4 _) (cols_ld a2 h2 x1 _ _) (cols_ld a3 h3 x2 _ _) (hb _) (hb _)
  obtain rfl := List.mem_singleton.mp hp
  exact stored 0 x0 x1 x2 x3 x4 _ _ _ _ _ _ _ _ _ inb_S32x2048_S32x128_0_0 inb_S1x8192x128_S1x512x128_0_0_0_s_1_16_1
      inb_S16x32x1024_S1x32x512_0_0_0 inb_S16x32x1024_S1x32x32_0_0_512 (by exact head0 _ _ _ _ _ _ _)
      (cols_ld a1 h1 x0 _ _) (cache_ld a4 h4 x3 _) (cache_ld a5 h5 x4 _) (cols_ld a2 h2 x1 _ _) (cols_ld a3 h3 x2 _ _) (hb _) (hb _)

end Cases

end Cert.AttnSampleKernelIdeal.StreamValue

end
-- ==== Proof.AttnSampleArray.lean ====
/- The attention of the samples: the array the program leaves, at an index, as the average over the rows of the query's
   stream. -/
module

public import proofs.«01_k».proof.Proof.AttnSampleValue
public import proofs.«01_k».proof.Proof.BandSample

@[expose] public section

set_option maxRecDepth 16384

noncomputable section

open Idealize.ShloMosaic Idealize.ShloMosaic.TcCoe Idealize.SL.Sem

namespace Cert.AttnSampleKernelIdeal.StreamValue

open Cert.AttnSampleKernelIdeal Cert.AttnSampleKernelIdeal.Gen Cert.AttnSampleKernelIdeal.Value Cert.Rows

/-! ## The table of biases along a row -/

/-- Where entry `n` of a head's row of biases comes from. -/
def rowIdx (n : ℕ) : ℕ := if n ≤ 256 then 512 else if n ≤ 768 then 768 - n else 512

theorem rowIdx_lt (n : ℕ) : rowIdx n < 513 := by unfold rowIdx; split <;> [skip; split] <;> omega

theorem lit_eq : ∀ n : Fin 1024, lit0t n.val = BitVec.ofNat 32 (rowIdx n.val) := by decide +kernel

theorem lit_at (y : S1024.Idx) : lit0 (S1024.rowMajor y) = BitVec.ofNat 32 (rowIdx (y 0).val) := by
  refine Eq.trans ?_ (lit_eq (y 0))
  have e : (S1024.rowMajor y).val = (y 0).val := by
    exact Shape.rowMajor_val_one y
  show lit0t (S1024.rowMajor y).val = _
  rw [e]

theorem starts (x1 x2 : IVec S1024 32) (y : S1024x1.Idx) :
    broadcastInDim S1024x1 ![0] bcast_S1024_S1024x1_0 (select (constantI S1024 1 0#1) x1 x2) y = x2 (ix1 (y 0)) := by
  pointwise

theorem toNat_small {k : ℕ} (hk : k < 513) : min (BitVec.ofNat 32 k).toInt.toNat 512 = k := by
  rw [BitVec.toInt_eq_toNat_of_lt (by rw [BitVec.toNat_ofNat]; omega), BitVec.toNat_ofNat]
  simp only [Int.toNat_natCast]
  omega

theorem gather_bias (x : Vec Ideal S16x513 .f32) (idx : IVec S1024x1 32) (y : S16x1024.Idx) (k : ℕ) (hk : k < 513)
    (h : idx (ix2 (y 1) 0) = BitVec.ofNat 32 k) :
    Host.gather gather_S16x513_S1024x1_S16x1024_0_1_n_n_1_1_161 x idx y = x (ix2 (y 0) ⟨k, hk⟩) := by
  unfold Host.gather
  refine congrArg x (funext fun a => Fin.ext ?_)
  match a with
  | ⟨0, _⟩ =>
    show GatherDims.start _ y idx 0 + GatherDims.batchCoord _ y 0 + GatherDims.offCoord _ y 0 = (y 0).val
    have e1 : GatherDims.start gather_S16x513_S1024x1_S16x1024_0_1_n_n_1_1_161 y idx 0 = 0 := rfl
    have e2 : GatherDims.batchCoord gather_S16x513_S1024x1_S16x1024_0_1_n_n_1_1_161 y 0 = 0 := rfl
    have e3 : GatherDims.offCoord gather_S16x513_S1024x1_S16x1024_0_1_n_n_1_1_161 y 0 = (y 0).val := rfl
    rw [e1, e2, e3]; omega
  | ⟨1, _⟩ =>
    show GatherDims.start _ y idx 1 + GatherDims.batchCoord _ y 1 + GatherDims.offCoord _ y 1 = k
    have e1 : GatherDims.start gather_S16x513_S1024x1_S16x1024_0_1_n_n_1_1_161 y idx 1 = min (idx (ix2 (y 1) 0)).toInt.toNat 512 := by
      have hs : ∀ h, GatherDims.siIdx gather_S16x513_S1024x1_S16x1024_0_1_n_n_1_1_161 y ⟨0, h⟩ = ix2 (y 1) 0 := fun _ => by
        funext b
        match b with
        | ⟨0, _⟩ => rfl
        | ⟨1, _⟩ => rfl
      show min (idx (GatherDims.siIdx gather_S16x513_S1024x1_S16x1024_0_1_n_n_1_1_161 y ⟨0, _⟩)).toInt.toNat 512 = _
      exact congrArg (fun w => min (idx w).toInt.toNat 512) (hs _)
    have e2 : GatherDims.batchCoord gather_S16x513_S1024x1_S16x1024_0_1_n_n_1_1_161 y 1 = 0 := rfl
    have e3 : GatherDims.offCoord gather_S16x513_S1024x1_S16x1024_0_1_n_n_1_1_161 y 1 = 0 := rfl
    rw [e1, e2, e3, h, toNat_small hk]; rfl

theorem drop_rel (x : Vec Ideal S1x16x513 .f32) (y : S16x513.Idx) :
    shapeCast S16x513 x shapeCasts_S1x16x513_S16x513 y = x (ix3 0 (y 0) (y 1)) := by pointwise
theorem add_axis (x : Vec Ideal S16x1024 .f32) (y : S16x1x1024.Idx) :
    shapeCast S16x1x1024 x shapeCasts_S16x1024_S16x1x1024 y = x (ix2 (y 0) (y 2)) := by pointwise

/-! ## The caches -/

theorem drop_axis (x : Vec Ideal S1x32x512x16x128 .f32) (y : S32x512x16x128.Idx) :
    shapeCast S32x512x16x128 x shapeCasts_S1x32x512x16x128_S32x512x16x128 y = x (ix5 0 (y 0) (y 1) (y 2) (y 3)) := by
  refine shapeCast_apply x _ y _ ?_
  rewrite [Shape.rowMajor_val_five, Shape.rowMajor_val_four]
  show (((0 * 32 + (y 0).val) * 512 + (y 1).val) * 16 + (y 2).val) * 128 + (y 3).val
    = (((y 0).val * 512 + (y 1).val) * 16 + (y 2).val) * 128 + (y 3).val
  omega

theorem join_heads (x : Vec Ideal S32x512x16x128 .f32) (y : S32x8192x128.Idx) :
    shapeCast S32x8192x128 x shapeCasts_S32x512x16x128_S32x8192x128 y
      = x (ix4 (y 0) ⟨(y 1).val / 16, by have : (y 1).val < 8192 := (y 1).isLt; omega⟩ ⟨(y 1).val % 16, Nat.mod_lt _ (by decide)⟩ (y 2)) := by
  refine shapeCast_apply x _ y _ ?_
  rewrite [Shape.rowMajor_val_four, Shape.rowMajor_val_three]
  show (((y 0).val * 512 + (y 1).val / 16) * 16 + (y 1).val % 16) * 128 + (y 2).val
    = ((y 0).val * 8192 + (y 1).val) * 128 + (y 2).val
  omega

/-! ## The blocks -/

variable (m : (ℓ : Loc nD τ sig) → Buf (Elt Ideal) ℓ) (c : Dev nD)

/-- The four arguments as the kernel indexes them. -/
abbrev Z (r : Fin 1024) (e : Fin 10240) : EReal := (m ((c : Thread nD τ).loc main_arg0) : Vec Ideal S1024x10240 .f32) (ix2 r e)
abbrev CK (b : Fin 32) (j : Fin 512) (h : Fin 16) (d : Fin 128) : EReal :=
  (m ((c : Thread nD τ).loc main_arg1) : Vec Ideal S1x32x512x16x128 .f32) (ix5 0 b j h d)
abbrev CV (b : Fin 32) (j : Fin 512) (h : Fin 16) (d : Fin 128) : EReal :=
  (m ((c : Thread nD τ).loc main_arg2) : Vec Ideal S1x32x512x16x128 .f32) (ix5 0 b j h d)
abbrev rel (h : Fin 16) (n : Fin 513) : EReal := (m ((c : Thread nD τ).loc main_arg3) : Vec Ideal S1x16x513 .f32) (ix3 0 h n)

theorem V_v6 (y : S16x1x1024.Idx) :
    (V m c main_v6 : Vec Ideal S16x1x1024 .f32) y = rel m c (y 0) ⟨rowIdx (y 2).val, rowIdx_lt _⟩ := by
  have e : V m c main_v6 = (shapeCast S16x1x1024 (Host.gather gather_S16x513_S1024x1_S16x1024_0_1_n_n_1_1_161
      (shapeCast S16x513 (m ((c : Thread nD τ).loc main_arg3)) shapeCasts_S1x16x513_S16x513 : Vec Ideal S16x513 .f32)
      (broadcastInDim S1024x1 ![0] bcast_S1024_S1024x1_0 (select (constantI S1024 1 0#1)
        (addi (fun i => lit0 (S1024.rowMajor i)) (broadcastInDim S1024 ![] bcast_S_S1024 (constantI S_ 32 513#32)))
        (fun i => lit0 (S1024.rowMajor i)))) : Vec Ideal S16x1024 .f32) shapeCasts_S16x1024_S16x1x1024 : Vec Ideal S16x1x1024 .f32) := by
    show StableHlo.after hostOps0 _ (Proc.devRef .tc main_v6) = _
    after_results
    rfl
  rw [e, add_axis]
  refine (gather_bias _ _ (ix2 (y 0) (y 2)) (rowIdx (y 2).val) (rowIdx_lt _) ?_).trans (drop_rel _ _)
  exact (starts _ (fun i => lit0 (S1024.rowMajor i)) _).trans (lit_at _)

theorem V_v8 (y : S32x8192x128.Idx) : (V m c main_v8 : Vec Ideal S32x8192x128 .f32) y
    = CK m c (y 0) ⟨(y 1).val / 16, by have : (y 1).val < 8192 := (y 1).isLt; omega⟩ ⟨(y 1).val % 16, Nat.mod_lt _ (by decide)⟩ (y 2) := by
  have e : V m c main_v8 = (shapeCast S32x8192x128 (shapeCast S32x512x16x128 (m ((c : Thread nD τ).loc main_arg1))
      shapeCasts_S1x32x512x16x128_S32x512x16x128 : Vec Ideal S32x512x16x128 .f32) shapeCasts_S32x512x16x128_S32x8192x128 : Vec Ideal S32x8192x128 .f32) := by
    show StableHlo.after hostOps0 _ (Proc.devRef .tc main_v8) = _
    after_results
    rfl
  rw [e, join_heads]
  exact drop_axis _ _

theorem V_v10 (y : S32x8192x128.Idx) : (V m c main_v10 : Vec Ideal S32x8192x128 .f32) y
    = CV m c (y 0) ⟨(y 1).val / 16, by have : (y 1).val < 8192 := (y 1).isLt; omega⟩ ⟨(y 1).val % 16, Nat.mod_lt _ (by decide)⟩ (y 2) := by
  have e : V m c main_v10 = (shapeCast S32x8192x128 (shapeCast S32x512x16x128 (m ((c : Thread nD τ).loc main_arg2))
      shapeCasts_S1x32x512x16x128_S32x512x16x128 : Vec Ideal S32x512x16x128 .f32) shapeCasts_S32x512x16x128_S32x8192x128 : Vec Ideal S32x8192x128 .f32) := by
    show StableHlo.after hostOps0 _ (Proc.devRef .tc main_v10) = _
    after_results
    rfl
  rw [e, join_heads]
  exact drop_axis _ _

theorem index_facts : ∀ t : Fin cfg0.N, win0_0.index t 0 = t.val ∧ win0_0.index t 1 = 2
    ∧ win0_1.index t 0 = t.val ∧ win0_1.index t 1 = 3 ∧ win0_2.index t 0 = t.val ∧ win0_2.index t 1 = 4
    ∧ win0_3.index t 0 = t.val ∧ win0_3.index t 1 = 0 ∧ win0_3.index t 2 = 0
    ∧ win0_4.index t 0 = t.val ∧ win0_4.index t 1 = 0 ∧ win0_4.index t 2 = 0
    ∧ win0_5.index t 0 = 0 ∧ win0_5.index t 1 = 0 ∧ win0_5.index t 2 = 0 :=
  (by decide +kernel : ∀ t : Fin grid0.N, _)

theorem stream_lt {t : ℕ} (ht : t < cfg0.N) : t < 32 := lt_of_lt_of_eq ht (show cfg0.N = 32 from N_0)

/-- Row `p` of the block of a point. -/
def rowOf (t : Fin cfg0.N) (p : Fin 32) : Fin 1024 := ⟨32 * t.val + p.val, by have := stream_lt t.isLt; omega⟩

theorem iblk0 (t : Fin cfg0.N) (y : S32x2048.Idx) : (iblk m c 0 t : Vec Ideal S32x2048 .f32) y
    = Z m c (rowOf t (y 0)) ⟨4096 + (y 1).val, by have : (y 1).val < 2048 := (y 1).isLt; omega⟩ := by
  obtain ⟨i0, i1, -⟩ := index_facts t
  unfold iblk
  rw [View.read_apply]
  refine (congrFun (V_main_arg0 m c) _).trans ?_
  refine congrArg (m ((c : Thread nD τ).loc main_arg0) : Vec Ideal S1024x10240 .f32) (ix2_congr ?_ ?_)
  · show win0_0.index t 0 * 32 + 1 * (y 0).val = 32 * t.val + (y 0).val; rw [i0]; omega
  · show win0_0.index t 1 * 2048 + 1 * (y 1).val = 4096 + (y 1).val; rw [i1]; omega

theorem iblk1 (t : Fin cfg0.N) (y : S32x2048.Idx) : (iblk m c 1 t : Vec Ideal S32x2048 .f32) y
    = Z m c (rowOf t (y 0)) ⟨6144 + (y 1).val, by have : (y 1).val < 2048 := (y 1).isLt; omega⟩ := by
  obtain ⟨-, -, i0, i1, -⟩ := index_facts t
  unfold iblk
  rw [View.read_apply]
  refine (congrFun (V_main_arg0 m c) _).trans ?_
  refine congrArg (m ((c : Thread nD τ).loc main_arg0) : Vec Ideal S1024x10240 .f32) (ix2_congr ?_ ?_)
  · show win0_1.index t 0 * 32 + 1 * (y 0).val = 32 * t.val + (y 0).val; rw [i0]; omega
  · show win0_1.index t 1 * 2048 + 1 * (y 1).val = 6144 + (y 1).val; rw [i1]; omega

theorem iblk2 (t : Fin cfg0.N) (y : S32x2048.Idx) : (iblk m c 2 t : Vec Ideal S32x2048 .f32) y
    = Z m c (rowOf t (y 0)) ⟨8192 + (y 1).val, by have : (y 1).val < 2048 := (y 1).isLt; omega⟩ := by
  obtain ⟨-, -, -, -, i0, i1, -⟩ := index_facts t
  unfold iblk
  rw [View.read_apply]
  refine (congrFun (V_main_arg0 m c) _).trans ?_
  refine congrArg (m ((c : Thread nD τ).loc main_arg0) : Vec Ideal S1024x10240 .f32) (ix2_congr ?_ ?_)
  · show win0_2.index t 0 * 32 + 1 * (y 0).val = 32 * t.val + (y 0).val; rw [i0]; omega
  · show win0_2.index t 1 * 2048 + 1 * (y 1).val = 8192 + (y 1).val; rw [i1]; omega

theorem iblk3 (t : Fin cfg0.N) (j : Fin 512) (h : Fin 16) (d : Fin 128) :
    (iblk m c 3 t : Vec Ideal S1x8192x128 .f32) (ix3 0 (cacheRow j h) d) = CK m c ⟨t.val, stream_lt t.isLt⟩ j h d := by
  obtain ⟨-, -, -, -, -, -, i0, i1, i2, -⟩ := index_facts t
  have hh := h.isLt
  unfold iblk
  rw [View.read_apply]
  refine (V_v8 m c _).trans ?_
  refine congr (congr (congr (congrArg (CK m c) (Fin.ext ?_)) (Fin.ext ?_)) (Fin.ext ?_)) (Fin.ext ?_)
  · show win0_3.index t 0 * 1 + 1 * 0 = t.val; rw [i0]; omega
  · show (win0_3.index t 1 * 8192 + 1 * (16 * j.val + h.val)) / 16 = j.val; rw [i1]; omega
  · show (win0_3.index t 1 * 8192 + 1 * (16 * j.val + h.val)) % 16 = h.val; rw [i1]; omega
  · show win0_3.index t 2 * 128 + 1 * d.val = d.val; rw [i2]; omega

theorem iblk4 (t : Fin cfg0.N) (j : Fin 512) (h : Fin 16) (d : Fin 128) :
    (iblk m c 4 t : Vec Ideal S1x8192x128 .f32) (ix3 0 (cacheRow j h) d) = CV m c ⟨t.val, stream_lt t.isLt⟩ j h d := by
  obtain ⟨-, -, -, -, -, -, -, -, -, i0, i1, i2, -⟩ := index_facts t
  have hh := h.isLt
  unfold iblk
  rw [View.read_apply]
  refine (V_v10 m c _).trans ?_
  refine congr (congr (congr (congrArg (CV m c) (Fin.ext ?_)) (Fin.ext ?_)) (Fin.ext ?_)) (Fin.ext ?_)
  · show win0_4.index t 0 * 1 + 1 * 0 = t.val; rw [i0]; omega
  · show (win0_4.index t 1 * 8192 + 1 * (16 * j.val + h.val)) / 16 = j.val; rw [i1]; omega
  · show (win0_4.index t 1 * 8192 + 1 * (16 * j.val + h.val)) % 16 = h.val; rw [i1]; omega
  · show win0_4.index t 2 * 128 + 1 * d.val = d.val; rw [i2]; omega

theorem iblk5 (t : Fin cfg0.N) (y : S16x1x1024.Idx) :
    (iblk m c 5 t : Vec Ideal S16x1x1024 .f32) y = rel m c (y 0) ⟨rowIdx (y 2).val, rowIdx_lt _⟩ := by
  obtain ⟨-, -, -, -, -, -, -, -, -, -, -, -, i0, i1, i2⟩ := index_facts t
  unfold iblk
  rw [View.read_apply]
  refine (V_v6 m c _).trans ?_
  refine congr (congrArg (rel m c) (Fin.ext ?_)) (Fin.ext (congrArg rowIdx ?_))
  · show win0_5.index t 0 * 16 + 1 * (y 0).val = (y 0).val; rw [i0]; omega
  · show win0_5.index t 2 * 1024 + 1 * (y 2).val = (y 2).val; rw [i2]; omega

/-! ## The fold over the grid -/

theorem biases_eq (t t' : Fin cfg0.N) : (iblk m c 5 t : Vec Ideal S16x1x1024 .f32) = iblk m c 5 t' := by
  funext y; simp only [iblk5]

theorem outs_eq : ∀ (n : ℕ) (h : n < cfg0.N), outsAt0 m c n h
    = (block (iblk m c 0 ⟨n, h⟩) (iblk m c 1 ⟨n, h⟩) (iblk m c 2 ⟨n, h⟩) (iblk m c 3 ⟨n, h⟩) (iblk m c 4 ⟨n, h⟩) (band (iblk m c 5 ⟨n, h⟩)),
        band (iblk m c 5 ⟨n, h⟩))
  | 0, h => by rw [outsAt0_A m c ⟨0, h⟩ (Nat.zero_mod _), out_A, sout_A]
  | n + 1, h => by
    by_cases h0 : (n + 1) % 32 = 0
    · rw [outsAt0_A m c ⟨n + 1, h⟩ h0, out_A, sout_A]
    · rw [outsAt0_B m c ⟨n + 1, h⟩ h0, out_B, sout_B]
      have e : (outsAt0 m c n (Nat.lt_of_succ_lt h)).2 = band (iblk m c 5 ⟨n + 1, h⟩) := by
        rw [outs_eq n (Nat.lt_of_succ_lt h), biases_eq m c ⟨n, _⟩ ⟨n + 1, h⟩]
      show (block _ _ _ _ _ (outsAt0 m c n _).2, (outsAt0 m c n _).2) = _
      rw [e]

theorem bias_place (p : Fin 32) (x : ℕ) (hx : x < 544) : rowIdx ((x + 1024 - p.val) % 1024) = Band.biasAt p.val x := by
  have hp := p.isLt
  have e : (x + 1024 - p.val) % 1024 = if p.val ≤ x then x - p.val else 1024 + x - p.val := by split <;> omega
  rw [e]
  unfold rowIdx Band.biasAt
  split_ifs <;> omega

theorem band_at (t : Fin cfg0.N) (h : Fin 16) (p : Fin 32) (x : ℕ) (hx : x < 544) (z : x < 1024) :
    band (iblk m c 5 t) (ix3 h p ⟨x, z⟩) = rel m c h ⟨Band.biasAt p.val x, Band.biasAt_lt _ _⟩ := by
  unfold band
  rw [iblk5]
  exact congrArg (rel m c h) (Fin.ext (bias_place p x hx))

theorem stream_rowOf (t : Fin cfg0.N) (p : Fin 32) : Band.streamOf (rowOf t p) = ⟨t.val, stream_lt t.isLt⟩ :=
  Fin.ext (by show (32 * t.val + p.val) / 32 = t.val; omega)

theorem place_rowOf (t : Fin cfg0.N) (p : Fin 32) : (rowOf t p).val % 32 = p.val := by
  show (32 * t.val + p.val) % 32 = p.val; omega

theorem query_at (t : Fin cfg0.N) (p : Fin 32) (h : Fin 16) (d : Fin 128) :
    (iblk m c 0 t : Vec Ideal S32x2048 .f32) (ix2 p (colOf h d)) = Z m c (rowOf t p) (Band.qCol h d) := by
  rw [iblk0]
  refine congrArg (Z m c (rowOf t p)) (Fin.ext ?_)
  show 4096 + (128 * h.val + d.val) = 4096 + 128 * h.val + d.val; omega

theorem key_at (t : Fin cfg0.N) (p : Fin 32) (h : Fin 16) (d : Fin 128) :
    (iblk m c 1 t : Vec Ideal S32x2048 .f32) (ix2 p (colOf h d)) = Z m c (rowOf t p) (Band.kCol h d) := by
  rw [iblk1]
  refine congrArg (Z m c (rowOf t p)) (Fin.ext ?_)
  show 6144 + (128 * h.val + d.val) = 6144 + 128 * h.val + d.val; omega

theorem bias_at (t : Fin cfg0.N) (p : Fin 32) (h : Fin 16) (x : ℕ) (hx : x < 544) (z : x < 1024) :
    band (iblk m c 5 t) (ix3 h p ⟨x, z⟩) = rel m c h ⟨Band.biasAt ((rowOf t p).val % 32) x, Band.biasAt_lt _ _⟩ := by
  rw [band_at m c t h p x hx z]
  exact congrArg (rel m c h) (Fin.ext (congrArg (Band.biasAt · x) (place_rowOf t p).symm))

/-- The scaled product of a query's head with a row. -/
abbrev dotRow (q : Vec Ideal S32x2048 .f32) (k : Fin 128 → EReal) (p : Fin 32) (h : Fin 16) : EReal :=
  ∑ d : Fin 128, q (ix2 p (colOf h d)) * sc * k d

theorem cached_score (t : Fin cfg0.N) (p : Fin 32) (h : Fin 16) (j : Fin 512) (z : j.val < 1024) :
    dotRow (iblk m c 0 t) (fun d => (iblk m c 3 t : Vec Ideal S1x8192x128 .f32) (ix3 0 (cacheRow j h) d)) p h + band (iblk m c 5 t) (ix3 h p ⟨j.val, z⟩)
      = Band.streamScore (Z m c) (CK m c) (rel m c) (rowOf t p) h (Fin.castAdd 32 j : Fin 544) := by
  rw [bias_at m c t p h j.val (by omega) z]
  unfold Band.streamScore dotRow
  refine congrArg (· + _) (Finset.sum_congr rfl fun d _ => ?_)
  rw [query_at]
  dsimp only
  rw [iblk3, Band.streamRow_cached, stream_rowOf]
  rfl

theorem new_score (t : Fin cfg0.N) (p : Fin 32) (h : Fin 16) (j : Fin 32) (z : 512 + j.val < 1024) :
    dotRow (iblk m c 0 t) (fun d => (iblk m c 1 t : Vec Ideal S32x2048 .f32) (ix2 j (colOf h d))) p h + band (iblk m c 5 t) (ix3 h p ⟨512 + j.val, z⟩)
      = Band.streamScore (Z m c) (CK m c) (rel m c) (rowOf t p) h (Fin.natAdd 512 j : Fin 544) := by
  rw [bias_at m c t p h (512 + j.val) (by omega) z]
  unfold Band.streamScore dotRow
  refine congrArg (· + _) (Finset.sum_congr rfl fun d _ => ?_)
  rw [query_at]
  dsimp only
  rw [key_at, Band.streamRow_new, stream_rowOf]
  rfl

theorem new_value (t : Fin cfg0.N) (p : Fin 32) (h : Fin 16) (d : Fin 128) (e : Fin 2048) (he : e.val = 128 * h.val + d.val) (j : Fin 32) :
    (iblk m c 2 t : Vec Ideal S32x2048 .f32) (ix2 j e)
      = Band.streamValue (Z m c) (CV m c) (rowOf t p) h d (Fin.natAdd 512 j : Fin 544) := by
  unfold Band.streamValue
  rw [iblk2, Band.streamRow_new, stream_rowOf]
  refine congrArg (Z m c (rowOf t j)) (Fin.ext ?_)
  show 8192 + e.val = 8192 + 128 * h.val + d.val; omega

theorem cached_value (t : Fin cfg0.N) (p : Fin 32) (h : Fin 16) (d : Fin 128) (j : Fin 512) :
    (iblk m c 4 t : Vec Ideal S1x8192x128 .f32) (ix3 0 (cacheRow j h) d)
      = Band.streamValue (Z m c) (CV m c) (rowOf t p) h d (Fin.castAdd 32 j : Fin 544) := by
  unfold Band.streamValue
  rw [iblk4, Band.streamRow_cached, stream_rowOf]

/-- A point's block, at an index. -/
theorem block_at (t : Fin cfg0.N) (y : S32x2048.Idx) (h : Fin 16) (d : Fin 128) (hy : (y 1).val = 128 * h.val + d.val) :
    block (iblk m c 0 t) (iblk m c 1 t) (iblk m c 2 t) (iblk m c 3 t) (iblk m c 4 t) (band (iblk m c 5 t)) y
      = Band.average (Band.streamScore (Z m c) (CK m c) (rel m c) (rowOf t (y 0)) h) (Band.streamValue (Z m c) (CV m c) (rowOf t (y 0)) h d) := by
  have hdl := d.isLt
  have hh : headOf (y 1) = h := Fin.ext (by show (y 1).val / 128 = h.val; omega)
  have hm : ∀ z, (⟨(y 1).val % 128, z⟩ : Fin 128) = d := fun _ => Fin.ext (by show (y 1).val % 128 = d.val; omega)
  refine Eq.trans ?_ (Band.two_average (n := 512) (k := 32) (Band.streamScore (Z m c) (CK m c) (rel m c) (rowOf t (y 0)) h)
    (Band.streamValue (Z m c) (CV m c) (rowOf t (y 0)) h d))
  unfold block
  rw [hh]
  refine congr (congr (congr (congrArg Band.twoAverage (funext fun j => ?_)) (funext fun j => ?_)) (funext fun j => ?_)) (funext fun j => ?_)
  · exact cached_score m c t (y 0) h j _
  · rw [hm]; exact cached_value m c t (y 0) h d j
  · exact new_score m c t (y 0) h j _
  · exact new_value m c t (y 0) h d (y 1) hy j

/-- THE ARRAY the program leaves, at an index. -/
theorem G6_apply (i : S1024x2048.Idx) (h : Fin 16) (d : Fin 128) (hd : (i 1).val = 128 * h.val + d.val) :
    (G6 m c : Vec Ideal S1024x2048 .f32) i
      = Band.average (Band.streamScore (Z m c) (CK m c) (rel m c) (i 0) h) (Band.streamValue (Z m c) (CV m c) (i 0) h d) := by
  have hi0 : (i 0).val < 1024 := (i 0).isLt
  have hi1 : (i 1).val < 2048 := (i 1).isLt
  have hv : pt6Of i = (i 0).val / 32 := by
    show 1 * ((i 0).val / 32 - 0) + 1 * ((i 1).val / 2048 - 0) = _; omega
  have hp : pt6Of i < cfg0.N := by rw [show cfg0.N = 32 from N_0, hv]; omega
  have hr : rowOf ⟨pt6Of i, hp⟩ (loc6Of i 0) = i 0 := Fin.ext (by
    show 32 * pt6Of i + (i 0).val % 32 = (i 0).val; rw [hv]; omega)
  unfold G6
  rw [dif_pos hp, ← outsAt0_sweep m c _ hp, outs_eq]
  dsimp only
  refine (block_at m c ⟨pt6Of i, hp⟩ (loc6Of i) h d ?_).trans ?_
  · show (i 1).val % 2048 = _; omega
  · rw [hr]

end Cert.AttnSampleKernelIdeal.StreamValue

end
-- ==== Proof.AttnSampleRef.lean ====
/- The attention of the samples as the reference writes it: its array at an index. -/
module

public import proofs.«01_k».proof.Proof.RowScale
public import proofs.«01_k».proof.Proof.BandSample
public import proofs.«01_k».proof.Proof.Gen.AttnSampleReferenceIdeal.Read
public import Idealize.ShloMosaic.Lib.Tactic

@[expose] public section

set_option maxRecDepth 16384

noncomputable section

open Idealize.ShloMosaic Idealize.ShloMosaic.TcCoe Idealize.SL.Sem

namespace Cert.AttnSampleReferenceIdeal.StreamRef

open Cert.AttnSampleReferenceIdeal Cert.AttnSampleReferenceIdeal.Gen Cert.AttnSampleReferenceIdeal.Read Cert.Rows Cert.Band

theorem ix3_congr {n0 n1 n2 : ℕ} {y z : (⟨3, ![n0, n1, n2]⟩ : Shape).Idx} (h0 : (y 0).val = (z 0).val)
    (h1 : (y 1).val = (z 1).val) (h2 : (y 2).val = (z 2).val) : y = z := by
  funext a
  apply Fin.ext
  match a with
  | ⟨0, _⟩ => exact h0
  | ⟨1, _⟩ => exact h1
  | ⟨2, _⟩ => exact h2

/-! ## The places the indices name -/

/-- The place in the table of biases, as the program computes it from a query's distance to a row. -/
abbrev placeOf (d : BitVec 32) : BitVec 32 :=
  IntOp.addi (IntOp.minsi 256#32 (IntOp.maxsi 4294967040#32 d)) 256#32

theorem place_table : ∀ t : Fin 575,
    Scalar.select (IntOp.cmpi .slt (placeOf (BitVec.ofNat 32 t.val - 31#32)) 0#32)
      (IntOp.addi (placeOf (BitVec.ofNat 32 t.val - 31#32)) 513#32) (placeOf (BitVec.ofNat 32 t.val - 31#32))
      = BitVec.ofNat 32 (if 287 ≤ t.val then 512 else t.val + 225) := by decide +kernel

theorem distance (p : Fin 32) (j : Fin 544) :
    IntOp.subi (IntOp.addi (BitVec.ofNat 32 p.val) 512#32) (BitVec.ofNat 32 j.val) = BitVec.ofNat 32 (543 + p.val - j.val) - 31#32 := by
  have := p.isLt
  have := j.isLt
  show BitVec.ofNat 32 p.val + 512#32 - BitVec.ofNat 32 j.val = _
  apply BitVec.eq_of_toNat_eq
  simp only [BitVec.toNat_sub, BitVec.toNat_add, BitVec.toNat_ofNat]
  omega

theorem placeOf_eq (p : Fin 32) (j : Fin 544) :
    Scalar.select (IntOp.cmpi .slt (placeOf (IntOp.subi (IntOp.addi (BitVec.ofNat 32 p.val) 512#32) (BitVec.ofNat 32 j.val))) 0#32)
      (IntOp.addi (placeOf (IntOp.subi (IntOp.addi (BitVec.ofNat 32 p.val) 512#32) (BitVec.ofNat 32 j.val))) 513#32)
      (placeOf (IntOp.subi (IntOp.addi (BitVec.ofNat 32 p.val) 512#32) (BitVec.ofNat 32 j.val))) = BitVec.ofNat 32 (biasAt p.val j.val) := by
  have hp := p.isLt
  have hj := j.isLt
  rw [distance]
  refine (place_table ⟨543 + p.val - j.val, by omega⟩).trans (congrArg _ ?_)
  unfold biasAt
  dsimp only
  split_ifs <;> omega

theorem v21_at (i : S32x544.Idx) :
    val_main_v21 (F := Ideal) i = placeOf (IntOp.subi (IntOp.addi (BitVec.ofNat 32 (i 0).val) 512#32) (BitVec.ofNat 32 (i 1).val)) := by
  rw [val_main_v21_apply, val_main_v19_apply, val_main_v20_apply, val_main_call0_v4_apply, val_main_call0_v3_apply,
    val_main_call0_v2_apply, val_main_call0_v1_apply, val_main_call0_v0_apply, val_main_c_2_apply, val_main_c_1_apply,
    val_main_c_0_apply, val_main_v18_apply, val_main_v16_apply, val_main_v17_apply, val_main_v13_apply, val_main_v11_apply,
    val_main_v12_apply, val_main_v10_apply, val_main_v15_apply, val_main_v14_apply, val_main_c_apply]

theorem v28_at (i : S32x544x1.Idx) : val_main_v28 (F := Ideal) i = BitVec.ofNat 32 (biasAt (i 0).val (i 1).val) := by
  rw [val_main_v28_apply, val_main_v27_apply, val_main_v24_apply, val_main_v26_apply, val_main_v23_apply, val_main_v25_apply,
    val_main_c_3_apply, val_main_c_4_apply, v21_at]
  exact placeOf_eq (i 0) (i 1)

theorem toNat_small {k n : ℕ} (hk : k ≤ n) (hn : n < 10000) : min (BitVec.ofNat 32 k).toInt.toNat n = k := by
  rw [BitVec.toInt_eq_toNat_of_lt (by rw [BitVec.toNat_ofNat]; omega), BitVec.toNat_ofNat]
  simp only [Int.toNat_natCast]
  omega

theorem gather_bias (x : Vec Ideal S16x513 .f32) (idx : IVec S32x544x1 32) (y : S16x32x544.Idx) (k : ℕ) (hk : k < 513)
    (h : idx (ix3 (y 1) (y 2) 0) = BitVec.ofNat 32 k) :
    Host.gather gather_S16x513_S32x544x1_S16x32x544_0_1_n_n_1_2_161 x idx y = x (ix2 (y 0) ⟨k, hk⟩) := by
  unfold Host.gather
  refine congrArg x (funext fun a => Fin.ext ?_)
  match a with
  | ⟨0, _⟩ =>
    show GatherDims.start _ y idx 0 + GatherDims.batchCoord _ y 0 + GatherDims.offCoord _ y 0 = (y 0).val
    have e1 : GatherDims.start gather_S16x513_S32x544x1_S16x32x544_0_1_n_n_1_2_161 y idx 0 = 0 := rfl
    have e2 : GatherDims.batchCoord gather_S16x513_S32x544x1_S16x32x544_0_1_n_n_1_2_161 y 0 = 0 := rfl
    have e3 : GatherDims.offCoord gather_S16x513_S32x544x1_S16x32x544_0_1_n_n_1_2_161 y 0 = (y 0).val := rfl
    rw [e1, e2, e3]; omega
  | ⟨1, _⟩ =>
    show GatherDims.start _ y idx 1 + GatherDims.batchCoord _ y 1 + GatherDims.offCoord _ y 1 = k
    have e1 : GatherDims.start gather_S16x513_S32x544x1_S16x32x544_0_1_n_n_1_2_161 y idx 1 = min (idx (ix3 (y 1) (y 2) 0)).toInt.toNat 512 := by
      have hs : ∀ h, GatherDims.siIdx gather_S16x513_S32x544x1_S16x32x544_0_1_n_n_1_2_161 y ⟨0, h⟩ = ix3 (y 1) (y 2) 0 := fun _ => by
        funext b
        match b with
        | ⟨0, _⟩ => rfl
        | ⟨1, _⟩ => rfl
        | ⟨2, _⟩ => rfl
      show min (idx (GatherDims.siIdx gather_S16x513_S32x544x1_S16x32x544_0_1_n_n_1_2_161 y ⟨0, _⟩)).toInt.toNat 512 = _
      exact congrArg (fun w => min (idx w).toInt.toNat 512) (hs _)
    have e2 : GatherDims.batchCoord gather_S16x513_S32x544x1_S16x32x544_0_1_n_n_1_2_161 y 1 = 0 := rfl
    have e3 : GatherDims.offCoord gather_S16x513_S32x544x1_S16x32x544_0_1_n_n_1_2_161 y 1 = 0 := rfl
    rw [e1, e2, e3, h, toNat_small (by omega) (by decide)]; rfl

/-! ## Queries, keys, values and biases -/

variable (x0 : Vec Ideal S1024x10240 .f32) (x1 x2 : Vec Ideal S1x32x512x16x128 .f32) (x3 : Vec Ideal S1x16x513 .f32)

/-- The arguments as the reference indexes them. -/
abbrev Z (r : Fin 1024) (e : Fin 10240) : EReal := x0 (ix2 r e)
abbrev C (b : Fin 32) (j : Fin 512) (h : Fin 16) (d : Fin 128) : EReal := x1 (ix5 0 b j h d)
abbrev rel (h : Fin 16) (n : Fin 513) : EReal := x3 (ix3 0 h n)

/-- The row of the query at place `p` of stream `b`. -/
def qRow (b : Fin 32) (p : Fin 32) : Fin 1024 := ⟨32 * b.val + p.val, by omega⟩

theorem stream_qRow (b p : Fin 32) : streamOf (qRow b p) = b := Fin.ext (by show (32 * b.val + p.val) / 32 = b.val; omega)
theorem place_qRow (b p : Fin 32) : (qRow b p).val % 32 = p.val := by show (32 * b.val + p.val) % 32 = p.val; omega

theorem behind (a : Vec Ideal S32x512x16x128 .f32) (b : Vec Ideal S32x32x16x128 .f32) (y : S32x544x16x128.Idx) :
    concatenate S32x544x16x128 1 [⟨S32x512x16x128, a⟩, ⟨S32x32x16x128, b⟩] concatenates_S32x512x16x128_S32x32x16x128_S32x544x16x128_d1 y
      = if h : (y 1).val < 512 then a (ix4 (y 0) ⟨(y 1).val, h⟩ (y 2) (y 3))
        else b (ix4 (y 0) ⟨(y 1).val - 512, by have : (y 1).val < 544 := (y 1).isLt; omega⟩ (y 2) (y 3)) := by
  pointwise

theorem v1_at (y : S32x32x16x128.Idx) : val_main_v1 (F := Ideal) x0 y = Z x0 (qRow (y 0) (y 1)) (qCol (y 2) (y 3)) := by
  rw [val_main_v1_apply, val_main_v0_apply]
  have h0 : (y 0).val < 32 := (y 0).isLt
  have h1 : (y 1).val < 32 := (y 1).isLt
  have h2 : (y 2).val < 16 := (y 2).isLt
  have h3 : (y 3).val < 128 := (y 3).isLt
  refine congrArg x0 (ix2_congr ?_ ?_)
  · simp only [idx_main_v0, idx_main_v1]; show _ = 32 * (y 0).val + (y 1).val; omega
  · simp only [idx_main_v0, idx_main_v1]; show _ = 4096 + 128 * (y 2).val + (y 3).val; omega

theorem v3_at (y : S32x32x16x128.Idx) : val_main_v3 (F := Ideal) x0 y = Z x0 (qRow (y 0) (y 1)) (kCol (y 2) (y 3)) := by
  rw [val_main_v3_apply, val_main_v2_apply]
  have h0 : (y 0).val < 32 := (y 0).isLt
  have h1 : (y 1).val < 32 := (y 1).isLt
  have h2 : (y 2).val < 16 := (y 2).isLt
  have h3 : (y 3).val < 128 := (y 3).isLt
  refine congrArg x0 (ix2_congr ?_ ?_)
  · simp only [idx_main_v2, idx_main_v3]; show _ = 32 * (y 0).val + (y 1).val; omega
  · simp only [idx_main_v2, idx_main_v3]; show _ = 6144 + 128 * (y 2).val + (y 3).val; omega

theorem v5_at (y : S32x32x16x128.Idx) : val_main_v5 (F := Ideal) x0 y = Z x0 (qRow (y 0) (y 1)) (vCol (y 2) (y 3)) := by
  rw [val_main_v5_apply, val_main_v4_apply]
  have h0 : (y 0).val < 32 := (y 0).isLt
  have h1 : (y 1).val < 32 := (y 1).isLt
  have h2 : (y 2).val < 16 := (y 2).isLt
  have h3 : (y 3).val < 128 := (y 3).isLt
  refine congrArg x0 (ix2_congr ?_ ?_)
  · simp only [idx_main_v4, idx_main_v5]; show _ = 32 * (y 0).val + (y 1).val; omega
  · simp only [idx_main_v4, idx_main_v5]; show _ = 8192 + 128 * (y 2).val + (y 3).val; omega

theorem v6_at (y : S32x512x16x128.Idx) : val_main_v6 (F := Ideal) x1 y = C x1 (y 0) (y 1) (y 2) (y 3) := by
  rw [val_main_v6_apply]
  have h0 : (y 0).val < 32 := (y 0).isLt
  have h1 : (y 1).val < 512 := (y 1).isLt
  have h2 : (y 2).val < 16 := (y 2).isLt
  have h3 : (y 3).val < 128 := (y 3).isLt
  refine congrArg x1 (funext fun a => Fin.ext ?_)
  match a with
  | ⟨0, _⟩ => rfl
  | ⟨1, _⟩ => show ((((y 0).val * 512 + (y 1).val) * 16 + (y 2).val) * 128 + (y 3).val) / 1048576 % 32 = (y 0).val; omega
  | ⟨2, _⟩ => show ((((y 0).val * 512 + (y 1).val) * 16 + (y 2).val) * 128 + (y 3).val) / 2048 % 512 = (y 1).val; omega
  | ⟨3, _⟩ => show ((((y 0).val * 512 + (y 1).val) * 16 + (y 2).val) * 128 + (y 3).val) / 128 % 16 = (y 2).val; omega
  | ⟨4, _⟩ => show ((((y 0).val * 512 + (y 1).val) * 16 + (y 2).val) * 128 + (y 3).val) % 128 = (y 3).val; omega

theorem v8_at (y : S32x512x16x128.Idx) : val_main_v8 (F := Ideal) x2 y = C x2 (y 0) (y 1) (y 2) (y 3) := by
  rw [val_main_v8_apply]
  have h0 : (y 0).val < 32 := (y 0).isLt
  have h1 : (y 1).val < 512 := (y 1).isLt
  have h2 : (y 2).val < 16 := (y 2).isLt
  have h3 : (y 3).val < 128 := (y 3).isLt
  refine congrArg x2 (funext fun a => Fin.ext ?_)
  match a with
  | ⟨0, _⟩ => rfl
  | ⟨1, _⟩ => show ((((y 0).val * 512 + (y 1).val) * 16 + (y 2).val) * 128 + (y 3).val) / 1048576 % 32 = (y 0).val; omega
  | ⟨2, _⟩ => show ((((y 0).val * 512 + (y 1).val) * 16 + (y 2).val) * 128 + (y 3).val) / 2048 % 512 = (y 1).val; omega
  | ⟨3, _⟩ => show ((((y 0).val * 512 + (y 1).val) * 16 + (y 2).val) * 128 + (y 3).val) / 128 % 16 = (y 2).val; omega
  | ⟨4, _⟩ => show ((((y 0).val * 512 + (y 1).val) * 16 + (y 2).val) * 128 + (y 3).val) % 128 = (y 3).val; omega

theorem v7_at (y : S32x544x16x128.Idx) :
    val_main_v7 (F := Ideal) x0 x1 y = streamRow (Z x0) (C x1) (y 0) (y 2) (y 3) (kCol (y 2) (y 3)) (y 1) := by
  unfold val_main_v7 streamRow
  rw [behind]
  exact dite_congr rfl (fun _ => v6_at x1 _) (fun _ => v3_at x0 _)

theorem v9_at (y : S32x544x16x128.Idx) :
    val_main_v9 (F := Ideal) x0 x2 y = streamRow (Z x0) (C x2) (y 0) (y 2) (y 3) (vCol (y 2) (y 3)) (y 1) := by
  unfold val_main_v9 streamRow
  rw [behind]
  exact dite_congr rfl (fun _ => v8_at x2 _) (fun _ => v5_at x0 _)

theorem v31_at (y : S32x32x16x128.Idx) :
    val_main_v31 (F := Ideal) x0 y = Z x0 (qRow (y 0) (y 1)) (qCol (y 2) (y 3)) * sc := by
  rw [val_main_v31_apply, v1_at, val_main_v30_apply, val_main_cst_apply]
  rfl

theorem v29_at (y : S16x32x544.Idx) :
    val_main_v29 (F := Ideal) x3 y = rel x3 (y 0) ⟨biasAt (y 1).val (y 2).val, biasAt_lt _ _⟩ := by
  unfold val_main_v29
  refine (gather_bias _ _ y _ (biasAt_lt (y 1).val (y 2).val) (v28_at _)).trans ?_
  rw [val_main_v22_apply]
  refine congrArg x3 (ix3_congr ?_ ?_ ?_)
  all_goals
    have h0 : (y 0).val < 16 := (y 0).isLt
    have h3 := biasAt_lt (y 1).val (y 2).val
    simp only [idx_main_v22]
  · show _ = 0; omega
  · show ((y 0).val * 513 + biasAt (y 1).val (y 2).val) / 513 % 16 = (y 0).val; omega
  · show ((y 0).val * 513 + biasAt (y 1).val (y 2).val) % 513 = biasAt (y 1).val (y 2).val; omega

/-! ## Scores and weights -/

theorem v35_at (y : S32x16x32x544.Idx) :
    val_main_v35 (F := Ideal) x0 x1 x3 y = streamScore (Z x0) (C x1) (rel x3) (qRow (y 0) (y 2)) (y 1) (y 3) := by
  rw [val_main_v35_apply, val_main_v32_apply, val_main_v34_apply, val_main_v33_apply, v29_at]
  unfold streamScore
  refine congr (congrArg _ (Finset.sum_congr rfl fun d _ => ?_)) ?_
  · rw [v31_at, v7_at]
    exact congrArg (fun b : Fin 32 => Z x0 (qRow (y 0) (y 2)) (qCol (y 1) d) * sc
      * streamRow (Z x0) (C x1) b (y 1) d (kCol (y 1) d) (y 3)) (stream_qRow (y 0) (y 2)).symm
  · refine congrArg (rel x3 (y 1)) (Fin.ext ?_)
    exact congrArg (biasAt · (y 3).val) (place_qRow (y 0) (y 2)).symm

theorem max_row (z : Vec Ideal S32x16x32x544 .f32) (i : S32x16x32.Idx) :
    (Host.reduce (FloatOps.maximumf (F := Ideal) (φ := .f32)) z (val_main_cst_5 (F := Ideal)) reducesTo_S32x16x32x544_S32x16x32_d3 h_S_ : Vec Ideal S32x16x32 .f32) i
      = top (fun k : Fin 544 => z (ix4 (i 0) (i 1) (i 2) k)) := by
  pointwise [val_main_cst_5]
  rw [negInf]
  rfl

theorem v38_at (i : S32x16x32.Idx) :
    val_main_v38 (F := Ideal) x0 x1 x3 i = top (streamScore (Z x0) (C x1) (rel x3) (qRow (i 0) (i 2)) (i 1)) := by
  rw [val_main_v38_apply, val_main_v37_apply, val_main_cst_6_apply]
  have e : val_main_v36 (F := Ideal) x0 x1 x3 i = top (streamScore (Z x0) (C x1) (rel x3) (qRow (i 0) (i 2)) (i 1)) := by
    unfold val_main_v36
    refine (max_row _ i).trans (congrArg top (funext fun k => ?_))
    exact v35_at x0 x1 x3 _
  rw [e]
  show max (Ideal.ofBits FTy.f32 0xFF800000#32) _ = _
  rw [negInf]
  exact max_eq_right bot_le

theorem v42_at (y : S32x16x32x544.Idx) :
    val_main_v42 (F := Ideal) x0 x1 x3 y = weight (streamScore (Z x0) (C x1) (rel x3) (qRow (y 0) (y 2)) (y 1)) (y 3) := by
  rw [val_main_v42_apply, val_main_v41_apply, val_main_v40_apply, val_main_v39_apply, v38_at, v35_at]
  rfl

theorem v43_at (i : S32x16x32.Idx) :
    val_main_v43 (F := Ideal) x0 x1 x3 i = ∑ k, weight (streamScore (Z x0) (C x1) (rel x3) (qRow (i 0) (i 2)) (i 1)) k := by
  rw [val_main_v43_apply, val_main_cst_7_apply]
  refine (congrArg (· + _) (Ideal.ofBits_zero_f32 : (FloatOps.ofBits (F := Ideal) .f32 0x00000000#32 : EReal) = 0)).trans ?_
  rw [zero_add]
  exact Finset.sum_congr rfl fun k _ => v42_at x0 x1 x3 _

theorem v46_at (y : S32x16x32x544.Idx) :
    val_main_v46 (F := Ideal) x0 x1 x3 y = Ideal.div (weight (streamScore (Z x0) (C x1) (rel x3) (qRow (y 0) (y 2)) (y 1)) (y 3))
      (∑ k, weight (streamScore (Z x0) (C x1) (rel x3) (qRow (y 0) (y 2)) (y 1)) k) := by
  rw [val_main_v46_apply, val_main_v45_apply, val_main_v44_apply, v43_at, v42_at]
  rfl

/-- THE REFERENCE'S ARRAY, at an index. -/
theorem ref_apply (i : S1024x2048.Idx) (h : Fin 16) (d : Fin 128) (hd : (i 1).val = 128 * h.val + d.val) :
    val_main_v49 (F := Ideal) x0 x1 x2 x3 i = ∑ j, streamValue (Z x0) (C x2) (i 0) h d j
      * Ideal.div (weight (streamScore (Z x0) (C x1) (rel x3) (i 0) h) j) (∑ k, weight (streamScore (Z x0) (C x1) (rel x3) (i 0) h) k) := by
  have hi0 : (i 0).val < 1024 := (i 0).isLt
  have hi1 : (i 1).val < 2048 := (i 1).isLt
  have hdl := d.isLt
  rw [val_main_v49_apply, val_main_v48_apply, val_main_v47_apply]
  have e0 : (((i 0).val * 2048 + (i 1).val) / 65536) = (i 0).val / 32 := by omega
  have e2 : (((i 0).val * 2048 + (i 1).val) / 128 % 16) = h.val := by omega
  have e3 : (((i 0).val * 2048 + (i 1).val) % 128) = d.val := by omega
  refine Finset.sum_congr rfl fun j _ => ?_
  rw [v9_at, v46_at]
  have hr : qRow (ridx_main_v47 (idx_main_v48 (idx_main_v49 i)) j 0) (ridx_main_v47 (idx_main_v48 (idx_main_v49 i)) j 2) = i 0 :=
    Fin.ext (by
      show 32 * (((i 0).val * 2048 + (i 1).val) / 65536) + ((i 0).val * 2048 + (i 1).val) / 2048 % 32 = (i 0).val
      omega)
  have hh : (ridx_main_v47 (idx_main_v48 (idx_main_v49 i)) j 1) = h := Fin.ext e2
  have hb : (lidx_main_v47 (idx_main_v48 (idx_main_v49 i)) j 0) = streamOf (i 0) := Fin.ext e0
  have hl : (lidx_main_v47 (idx_main_v48 (idx_main_v49 i)) j 2) = h := Fin.ext e2
  have hm : (lidx_main_v47 (idx_main_v48 (idx_main_v49 i)) j 3) = d := Fin.ext e3
  rw [hr, hh, hb, hl, hm]
  rfl

end Cert.AttnSampleReferenceIdeal.StreamRef

end
-- ==== Proof.BandSampleReal.lean ====
/- The scores of the attention of the samples are real numbers when the queries, the keys, the cached keys and the biases
   are; and the precondition says that they are. -/
module

public import proofs.«01_k».proof.Proof.BandReal
public import proofs.«01_k».proof.Proof.BandSample
public import proofs.«01_k».proof.Proof.Gen.Pre_finite_sample_scores
public import Idealize.ShloMosaic.Lib.ReduceAll
public import Idealize.ShloMosaic.Lib.Pointwise

@[expose] public section

noncomputable section

open Idealize.ShloMosaic

namespace Cert.Band

theorem streamScore_real (Z : Fin 1024 → Fin 10240 → EReal) (C : Fin 32 → Fin 512 → Fin 16 → Fin 128 → EReal)
    (rel : Fin 16 → Fin 513 → EReal) (hZ : ∀ r e, 4096 ≤ e.val → e.val < 8192 → IsReal (Z r e))
    (hC : ∀ b j h d, IsReal (C b j h d)) (hrel : ∀ h n, IsReal (rel h n))
    (r : Fin 1024) (h : Fin 16) (j : Fin 544) : IsReal (streamScore Z C rel r h j) := by
  have hh := h.isLt
  unfold streamScore
  refine IsReal.add (IsReal.sum _ fun d => IsReal.mul (IsReal.mul (hZ _ _ ?_ ?_) sc_real) ?_) (hrel _ _)
  · have hd := d.isLt; simp only [qCol]; omega
  · have hd := d.isLt; simp only [qCol]; omega
  · have hd := d.isLt
    unfold streamRow
    split
    · exact hC _ _ _ _
    · refine hZ _ _ ?_ ?_ <;> simp only [kCol] <;> omega

/-- The attention as the kernel averages it and as the reference does, when the scores are real. -/
theorem average_streamScore (Z : Fin 1024 → Fin 10240 → EReal) (C : Fin 32 → Fin 512 → Fin 16 → Fin 128 → EReal)
    (rel : Fin 16 → Fin 513 → EReal) (hZ : ∀ r e, 4096 ≤ e.val → e.val < 8192 → IsReal (Z r e))
    (hC : ∀ b j h d, IsReal (C b j h d)) (hrel : ∀ h n, IsReal (rel h n))
    (r : Fin 1024) (h : Fin 16) (v : Fin 544 → EReal) :
    average (streamScore Z C rel r h) v
      = ∑ j, v j * Ideal.div (weight (streamScore Z C rel r h) j) (∑ k, weight (streamScore Z C rel r h) k) :=
  average_eq_sum _ _ (fun j => .inr (streamScore_real Z C rel hZ hC hrel r h j)) (⟨0, by omega⟩ : Fin 544)
    (streamScore_real Z C rel hZ hC hrel r h _)

end Cert.Band

namespace Cert.Pre_finite_sample_scores

open Cert.Pre_finite_sample_scores.Gen

instance : Subsingleton S_.Idx := ⟨fun a b => funext fun k => k.elim0⟩

/-- The precondition, read: the queries and the keys are real numbers, and so are the cached keys and the biases. -/
theorem real_of_fn (x0 : FVec Ideal S1024x10240 .f32) (x1 x2 : FVec Ideal S1x32x512x16x128 .f32) (x3 : FVec Ideal S1x16x513 .f32)
    (h : fn (F := Ideal) x0 x1 x2 x3 = fun _ => 1#1) :
    (∀ (r : Fin 1024) (e : Fin 10240), 4096 ≤ e.val → e.val < 8192 → Cert.Band.IsReal (x0 (ix2 r e)))
      ∧ (∀ (b : Fin 32) (j : Fin 512) (g : Fin 16) (d : Fin 128), Cert.Band.IsReal (x1 (ix5 0 b j g d)))
      ∧ ∀ (g : Fin 16) (n : Fin 513), Cert.Band.IsReal (x3 (ix3 0 g n)) := by
  have e := congrFun h (fun k => k.elim0)
  obtain ⟨hab, hc⟩ := IntOp.andi_eq_one.1 e
  obtain ⟨ha, hb⟩ := IntOp.andi_eq_one.1 hab
  refine ⟨fun r c hc hc' => Cert.Band.real_of_bit _ ?_, fun b j g d => Cert.Band.real_of_bit _ ?_,
    fun g n => Cert.Band.real_of_bit _ ?_⟩
  · have hz := Host.reduce_andi_all _ _ _ _ _ ha (ix2 r ⟨c.val - 4096, by omega⟩)
    refine Eq.trans ?_ hz
    refine congrArg (fun w => FloatOps.cmpf .olt (FloatOps.hostAbsf (F := Ideal) (φ := .f32) (x0 w)) (FloatOps.ofBits (F := Ideal) .f32 0x7F800000#32)) ?_
    funext k
    fin_cases k <;> apply Fin.ext
    · simp
    · simp; omega
  · exact Host.reduce_andi_all _ _ _ _ _ hb (ix5 0 b j g d)
  · exact Host.reduce_andi_all _ _ _ _ _ hc (ix3 0 g n)

end Cert.Pre_finite_sample_scores

end
-- ==== Proof.AttnSampleClaims.lean ====
/- The attention of the samples: its frames, and the equality of the kernel's result array and the reference's where the
   scores are finite. -/
module

public import proofs.«01_k».proof.Defs
public import proofs.«01_k».proof.Proof.AttnSampleArray
public import proofs.«01_k».proof.Proof.AttnSampleRef
public import proofs.«01_k».proof.Proof.BandSampleReal
public import proofs.«01_k».proof.Proof.Gen.AttnSampleKernel.Frame
public import proofs.«01_k».proof.Proof.Gen.AttnSampleReferenceIdeal.Run
public import Idealize.ShloMosaic.Lib.Quiescent

@[expose] public section

set_option maxRecDepth 16384

noncomputable section

open Idealize.ShloMosaic Idealize.ShloMosaic.TcCoe Idealize.SL.Sem

namespace Cert.Proof.AttnSampleClaims

theorem frame_p : Cert.quiescent_AttnSampleKernel := fun m ρ _ => Cert.AttnSampleKernel.Gen.frame m ρ
theorem frame_pi : Cert.quiescent_AttnSampleKernelIdeal := fun m ρ _ => Cert.AttnSampleKernelIdeal.Gen.frame m ρ
theorem frame_ri : Cert.quiescent_AttnSampleReferenceIdeal := fun m ρ _ =>
  (θ_run Cert.AttnSampleReferenceIdeal.defs _ _).mono (fun r h => ⟨fun c => (h c).2,
      Idealize.ShloMosaic.sem_eq_zero_of_no_sems (by decide) r.2⟩)
    (Cert.AttnSampleReferenceIdeal.Value.run (F := Ideal) m ρ)
theorem frame_pi_pre : Cert.quiescent_AttnSampleKernelIdeal_pre_finite_sample_scores := fun m ρ _ => frame_pi m ρ trivial
theorem frame_ri_pre : Cert.quiescent_AttnSampleReferenceIdeal_pre_finite_sample_scores := fun m ρ _ => frame_ri m ρ trivial
theorem preserves : Cert.preserves_AttnSampleKernel_AttnSampleKernelIdeal := trivial

/-- The kernel's result array and the reference's are equal at every index, from equal arguments. -/
theorem algebraic : Cert.algebraic_AttnSampleKernelIdeal_AttnSampleReferenceIdeal_pre_finite_sample_scores := by
  intro m ρ m' ρ' hpre hag
  refine ⟨fun c => Cert.AttnSampleKernelIdeal.Value.G6 m c, Cert.AttnSampleKernelIdeal.Value.run m ρ, ?_⟩
  refine (θ_run Cert.AttnSampleReferenceIdeal.defs _ _).mono (fun _ h c => ⟨(h c).1.trans ?_, (h c).2⟩)
    (Cert.AttnSampleReferenceIdeal.Value.run (F := Ideal) m' ρ')
  obtain ⟨h0, h1, h2, h3⟩ := hag c
  obtain ⟨hZ, hC, hrel⟩ := Cert.Pre_finite_sample_scores.real_of_fn _ _ _ _ (hpre c)
  rw [Cert.AttnSampleReferenceIdeal.Read.val_main_v49_eq, h0, h1, h2, h3]
  funext i
  have hi : (i 1).val < 2048 := (i 1).isLt
  have hd : (i 1).val = 128 * ((i 1).val / 128) + (i 1).val % 128 := by omega
  refine (Cert.AttnSampleReferenceIdeal.StreamRef.ref_apply _ _ _ _ i ⟨(i 1).val / 128, by omega⟩ ⟨(i 1).val % 128, by omega⟩ hd).trans ?_
  refine Eq.trans ?_ (Cert.AttnSampleKernelIdeal.StreamValue.G6_apply m c i ⟨(i 1).val / 128, by omega⟩ ⟨(i 1).val % 128, by omega⟩ hd).symm
  exact (Cert.Band.average_streamScore _ _ _ hZ hC hrel _ _ _).symm

end Cert.Proof.AttnSampleClaims

end
-- ==== Proof.lean ====
/- The claim: the frames, the rewrites and the equalities with the references, call by call. -/
module

public import proofs.«01_k».proof.Defs
public import proofs.«01_k».proof.Proof.AttnClaims
public import proofs.«01_k».proof.Proof.InClaims
public import proofs.«01_k».proof.Proof.InSampleClaims
public import proofs.«01_k».proof.Proof.MergeClaims
public import proofs.«01_k».proof.Proof.QueryClaims
public import proofs.«01_k».proof.Proof.ConvSampleClaims
public import proofs.«01_k».proof.Proof.ConvClaims
public import proofs.«01_k».proof.Proof.AttnSampleClaims

@[expose] public section

noncomputable section

namespace Cert.Proof

open Idealize.ShloMosaic Idealize.SL.Sem

theorem claim : Cert.Claim :=
  ⟨Cert.AttnKernel.Gen.facts, Cert.AttnKernelIdeal.Gen.facts, Cert.AttnReferenceIdeal.Gen.facts,
    Cert.InKernel.Gen.facts, Cert.InKernelIdeal.Gen.facts, Cert.InReferenceIdeal.Gen.facts,
    Cert.InSampleKernel.Gen.facts, Cert.InSampleKernelIdeal.Gen.facts, Cert.InSampleReferenceIdeal.Gen.facts,
    Cert.MergeKernel.Gen.facts, Cert.MergeKernelIdeal.Gen.facts, Cert.MergeReferenceIdeal.Gen.facts,
    Cert.QueryKernel.Gen.facts, Cert.QueryKernelIdeal.Gen.facts, Cert.QueryReferenceIdeal.Gen.facts,
    Cert.ConvSampleKernel.Gen.facts, Cert.ConvSampleKernelIdeal.Gen.facts, Cert.ConvSampleReferenceIdeal.Gen.facts,
    Cert.ConvKernel.Gen.facts, Cert.ConvKernelIdeal.Gen.facts, Cert.ConvReferenceIdeal.Gen.facts,
    Cert.AttnSampleKernel.Gen.facts, Cert.AttnSampleKernelIdeal.Gen.facts, Cert.AttnSampleReferenceIdeal.Gen.facts,
    Cert.Pre_finite_scores.Gen.facts, Cert.Pre_finite_sample_scores.Gen.facts,
    AttnFrames.frame_p, AttnFrames.frame_pi, AttnClaims.frame_pi_pre, AttnFrames.frame_ri, AttnClaims.frame_ri_pre,
    InClaims.frame_p, InClaims.frame_pi, InClaims.frame_ri,
    InSampleClaims.frame_p, InSampleClaims.frame_pi, InSampleClaims.frame_ri,
    MergeClaims.frame_p, MergeClaims.frame_pi, MergeClaims.frame_ri,
    QueryClaims.frame_p, QueryClaims.frame_pi, QueryClaims.frame_ri,
    ConvSampleClaims.frame_p, ConvSampleClaims.frame_pi, ConvSampleClaims.frame_ri,
    ConvClaims.frame_p, ConvClaims.frame_pi, ConvClaims.frame_ri,
    AttnSampleClaims.frame_p, AttnSampleClaims.frame_pi, AttnSampleClaims.frame_pi_pre,
    AttnSampleClaims.frame_ri, AttnSampleClaims.frame_ri_pre,
    AttnFrames.preserves_p, AttnClaims.algebraic,
    InClaims.preserves, InClaims.algebraic, InSampleClaims.preserves, InSampleClaims.algebraic,
    MergeClaims.preserves, MergeClaims.algebraic,
    QueryClaims.preserves, QueryClaims.algebraic,
    ConvSampleClaims.preserves, ConvSampleClaims.algebraic,
    ConvClaims.preserves, ConvClaims.algebraic,
    AttnSampleClaims.preserves, AttnSampleClaims.algebraic⟩

end Cert.Proof

end
